-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite [hPre_finite : Cert.Pre_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite [hPre_finite : Cert.Pre_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_finite [hKernel3Ideal : Cert.Kernel3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite [hReference3Ideal : Cert.Reference3Ideal.Facts] [hPre_finite : Cert.Pre_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v20_0)) (v1 : (c : Dev Cert.Kernel2Ideal.nD) → Buf (Elt Ideal) ((c.tc : Thread Cert.Kernel2Ideal.nD Cert.Kernel2Ideal.τ).loc Cert.Kernel2Ideal.main_v20_1)) (v2 : (c : Dev Cert.Kernel2Ideal.nD) → Buf (Elt Ideal) ((c.tc : Thread Cert.Kernel2Ideal.nD Cert.Kernel2Ideal.τ).loc Cert.Kernel2Ideal.main_v20_2)) (v3 : (c : Dev Cert.Kernel2Ideal.nD) → Buf (Elt Ideal) ((c.tc : Thread Cert.Kernel2Ideal.nD Cert.Kernel2Ideal.τ).loc Cert.Kernel2Ideal.main_v20_3)) (v4 : (c : Dev Cert.Kernel2Ideal.nD) → Buf (Elt Ideal) ((c.tc : Thread Cert.Kernel2Ideal.nD Cert.Kernel2Ideal.τ).loc Cert.Kernel2Ideal.main_v20_4)) (v5 : (c : Dev Cert.Kernel2Ideal.nD) → Buf (Elt Ideal) ((c.tc : Thread Cert.Kernel2Ideal.nD Cert.Kernel2Ideal.τ).loc Cert.Kernel2Ideal.main_v20_5)) (v6 : (c : Dev Cert.Kernel2Ideal.nD) → Buf (Elt Ideal) ((c.tc : Thread Cert.Kernel2Ideal.nD Cert.Kernel2Ideal.τ).loc Cert.Kernel2Ideal.main_v20_6)) (v7 : (c : Dev Cert.Kernel2Ideal.nD) → Buf (Elt Ideal) ((c.tc : Thread Cert.Kernel2Ideal.nD Cert.Kernel2Ideal.τ).loc Cert.Kernel2Ideal.main_v20_7)) (v8 : (c : Dev Cert.Kernel2Ideal.nD) → Buf (Elt Ideal) ((c.tc : Thread Cert.Kernel2Ideal.nD Cert.Kernel2Ideal.τ).loc Cert.Kernel2Ideal.main_v20_8)) (v9 : (c : Dev Cert.Kernel2Ideal.nD) → Buf (Elt Ideal) ((c.tc : Thread Cert.Kernel2Ideal.nD Cert.Kernel2Ideal.τ).loc Cert.Kernel2Ideal.main_v20_9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20_0) = v0 c
          ∧ r.2.mem ((c.tc : Thread Cert.Kernel2Ideal.nD Cert.Kernel2Ideal.τ).loc Cert.Kernel2Ideal.main_v20_1) = v1 c
          ∧ r.2.mem ((c.tc : Thread Cert.Kernel2Ideal.nD Cert.Kernel2Ideal.τ).loc Cert.Kernel2Ideal.main_v20_2) = v2 c
          ∧ r.2.mem ((c.tc : Thread Cert.Kernel2Ideal.nD Cert.Kernel2Ideal.τ).loc Cert.Kernel2Ideal.main_v20_3) = v3 c
          ∧ r.2.mem ((c.tc : Thread Cert.Kernel2Ideal.nD Cert.Kernel2Ideal.τ).loc Cert.Kernel2Ideal.main_v20_4) = v4 c
          ∧ r.2.mem ((c.tc : Thread Cert.Kernel2Ideal.nD Cert.Kernel2Ideal.τ).loc Cert.Kernel2Ideal.main_v20_5) = v5 c
          ∧ r.2.mem ((c.tc : Thread Cert.Kernel2Ideal.nD Cert.Kernel2Ideal.τ).loc Cert.Kernel2Ideal.main_v20_6) = v6 c
          ∧ r.2.mem ((c.tc : Thread Cert.Kernel2Ideal.nD Cert.Kernel2Ideal.τ).loc Cert.Kernel2Ideal.main_v20_7) = v7 c
          ∧ r.2.mem ((c.tc : Thread Cert.Kernel2Ideal.nD Cert.Kernel2Ideal.τ).loc Cert.Kernel2Ideal.main_v20_8) = v8 c
          ∧ r.2.mem ((c.tc : Thread Cert.Kernel2Ideal.nD Cert.Kernel2Ideal.τ).loc Cert.Kernel2Ideal.main_v20_9) = v9 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v146) = v0 c
          ∧ r.2.mem ((c.tc : Thread Cert.Reference2Ideal.nD Cert.Reference2Ideal.τ).loc Cert.Reference2Ideal.main_v150) = v1 c
          ∧ r.2.mem ((c.tc : Thread Cert.Reference2Ideal.nD Cert.Reference2Ideal.τ).loc Cert.Reference2Ideal.main_v151) = v2 c
          ∧ r.2.mem ((c.tc : Thread Cert.Reference2Ideal.nD Cert.Reference2Ideal.τ).loc Cert.Reference2Ideal.main_v153) = v3 c
          ∧ r.2.mem ((c.tc : Thread Cert.Reference2Ideal.nD Cert.Reference2Ideal.τ).loc Cert.Reference2Ideal.main_v155) = v4 c
          ∧ r.2.mem ((c.tc : Thread Cert.Reference2Ideal.nD Cert.Reference2Ideal.τ).loc Cert.Reference2Ideal.main_v157) = v5 c
          ∧ r.2.mem ((c.tc : Thread Cert.Reference2Ideal.nD Cert.Reference2Ideal.τ).loc Cert.Reference2Ideal.main_v159) = v6 c
          ∧ r.2.mem ((c.tc : Thread Cert.Reference2Ideal.nD Cert.Reference2Ideal.τ).loc Cert.Reference2Ideal.main_v160) = v7 c
          ∧ r.2.mem ((c.tc : Thread Cert.Reference2Ideal.nD Cert.Reference2Ideal.τ).loc Cert.Reference2Ideal.main_v149) = v8 c
          ∧ r.2.mem ((c.tc : Thread Cert.Reference2Ideal.nD Cert.Reference2Ideal.τ).loc Cert.Reference2Ideal.main_v161) = v9 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  IdealRules.named_const.Statement Cert.Kernel3Ideal.κ "gelu_3a" .f32 0x3E095D4F#32 ((26829 / 200000 : ℝ) : EReal)

def algebraic_Kernel3Ideal_Reference3Ideal_on_gated_half_pre_finite [hKernel3Ideal : Cert.Kernel3Ideal.Facts] [hReference3Ideal : Cert.Reference3Ideal.Facts] [hPre_finite : Cert.Pre_finite.Facts] [hOn_gated_half : Cert.On_gated_half.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v123_0)) (v1 : (c : Dev Cert.Kernel3Ideal.nD) → Buf (Elt Ideal) ((c.tc : Thread Cert.Kernel3Ideal.nD Cert.Kernel3Ideal.τ).loc Cert.Kernel3Ideal.main_v123_2)) (v2 : (c : Dev Cert.Kernel3Ideal.nD) → Buf (Elt Ideal) ((c.tc : Thread Cert.Kernel3Ideal.nD Cert.Kernel3Ideal.τ).loc Cert.Kernel3Ideal.main_v123_3)) (v3 : (c : Dev Cert.Kernel3Ideal.nD) → Buf (Elt Ideal) ((c.tc : Thread Cert.Kernel3Ideal.nD Cert.Kernel3Ideal.τ).loc Cert.Kernel3Ideal.main_v123_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          (∀ i : (⟨2, ![2048, 1536]⟩ : Shape).Idx, (Cert.On_gated_half.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).1 i = 1#1 → r.2.mem ((c.tc : Thread Cert.Kernel3Ideal.nD Cert.Kernel3Ideal.τ).loc Cert.Kernel3Ideal.main_v123_0) i = v0 c i)
          ∧ (∀ i : (⟨2, ![1, 512]⟩ : Shape).Idx, (Cert.On_gated_half.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.1 i = 1#1 → r.2.mem ((c.tc : Thread Cert.Kernel3Ideal.nD Cert.Kernel3Ideal.τ).loc Cert.Kernel3Ideal.main_v123_2) i = v1 c i)
          ∧ (∀ i : (⟨3, ![4, 128, 128]⟩ : Shape).Idx, (Cert.On_gated_half.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.1 i = 1#1 → r.2.mem ((c.tc : Thread Cert.Kernel3Ideal.nD Cert.Kernel3Ideal.τ).loc Cert.Kernel3Ideal.main_v123_3) i = v2 c i)
          ∧ (∀ i : (⟨2, ![4, 128]⟩ : Shape).Idx, (Cert.On_gated_half.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2 i = 1#1 → r.2.mem ((c.tc : Thread Cert.Kernel3Ideal.nD Cert.Kernel3Ideal.τ).loc Cert.Kernel3Ideal.main_v123_4) i = v3 c i)
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          (∀ i : (⟨2, ![2048, 1536]⟩ : Shape).Idx, (Cert.On_gated_half.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).1 i = 1#1 → r.2.mem ((c.tc : Thread Cert.Reference3Ideal.nD Cert.Reference3Ideal.τ).loc Cert.Reference3Ideal.main_v120) i = v0 c i)
          ∧ (∀ i : (⟨2, ![1, 512]⟩ : Shape).Idx, (Cert.On_gated_half.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.1 i = 1#1 → r.2.mem ((c.tc : Thread Cert.Reference3Ideal.nD Cert.Reference3Ideal.τ).loc Cert.Reference3Ideal.main_v102) i = v1 c i)
          ∧ (∀ i : (⟨3, ![4, 128, 128]⟩ : Shape).Idx, (Cert.On_gated_half.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.1 i = 1#1 → r.2.mem ((c.tc : Thread Cert.Reference3Ideal.nD Cert.Reference3Ideal.τ).loc Cert.Reference3Ideal.main_v121) i = v2 c i)
          ∧ (∀ i : (⟨2, ![4, 128]⟩ : Shape).Idx, (Cert.On_gated_half.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2 i = 1#1 → r.2.mem ((c.tc : Thread Cert.Reference3Ideal.nD Cert.Reference3Ideal.τ).loc Cert.Reference3Ideal.main_v122) i = v3 c i)
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)) (v2 : (c : Dev Cert.Kernel4Ideal.nD) → Buf (Elt Ideal) ((c.tc : Thread Cert.Kernel4Ideal.nD Cert.Kernel4Ideal.τ).loc Cert.Kernel4Ideal.main_v4_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_v4_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_v20) = v1 c
          ∧ r.2.mem ((c.tc : Thread Cert.Reference4Ideal.nD Cert.Reference4Ideal.τ).loc Cert.Reference4Ideal.main_v22) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  IdealRules.named_const.Statement Cert.Kernel5Ideal.κ "gelu_a" .f32 0x3D372713#32 ((8943 / 200000 : ℝ) : EReal)
  ∧ IdealRules.named_const.Statement Cert.Kernel5Ideal.κ "mask" .f32 0xF149F2CA#32 ⊥

def algebraic_Kernel5Ideal_Reference5Ideal_on_gated_forward [hKernel5Ideal : Cert.Kernel5Ideal.Facts] [hReference5Ideal : Cert.Reference5Ideal.Facts] [hOn_gated_forward : Cert.On_gated_forward.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v8_0)) (v1 : (c : Dev Cert.Kernel5Ideal.nD) → Buf (Elt Ideal) ((c.tc : Thread Cert.Kernel5Ideal.nD Cert.Kernel5Ideal.τ).loc Cert.Kernel5Ideal.main_v8_1)) (v2 : (c : Dev Cert.Kernel5Ideal.nD) → Buf (Elt Ideal) ((c.tc : Thread Cert.Kernel5Ideal.nD Cert.Kernel5Ideal.τ).loc Cert.Kernel5Ideal.main_v8_2)) (v3 : (c : Dev Cert.Kernel5Ideal.nD) → Buf (Elt Ideal) ((c.tc : Thread Cert.Kernel5Ideal.nD Cert.Kernel5Ideal.τ).loc Cert.Kernel5Ideal.main_v8_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          (∀ i : (⟨2, ![2048, 1024]⟩ : Shape).Idx, (Cert.On_gated_forward.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).1 i = 1#1 → r.2.mem ((c.tc : Thread Cert.Kernel5Ideal.nD Cert.Kernel5Ideal.τ).loc Cert.Kernel5Ideal.main_v8_0) i = v0 c i)
          ∧ (∀ i : (⟨2, ![2048, 1024]⟩ : Shape).Idx, (Cert.On_gated_forward.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.1 i = 1#1 → r.2.mem ((c.tc : Thread Cert.Kernel5Ideal.nD Cert.Kernel5Ideal.τ).loc Cert.Kernel5Ideal.main_v8_1) i = v1 c i)
          ∧ (∀ i : (⟨4, ![16, 2, 512, 256]⟩ : Shape).Idx, (Cert.On_gated_forward.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.2.1 i = 1#1 → r.2.mem ((c.tc : Thread Cert.Kernel5Ideal.nD Cert.Kernel5Ideal.τ).loc Cert.Kernel5Ideal.main_v8_2) i = v2 c i)
          ∧ (∀ i : (⟨4, ![16, 2, 512, 128]⟩ : Shape).Idx, (Cert.On_gated_forward.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.2.2 i = 1#1 → r.2.mem ((c.tc : Thread Cert.Kernel5Ideal.nD Cert.Kernel5Ideal.τ).loc Cert.Kernel5Ideal.main_v8_3) i = v3 c i)
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          (∀ i : (⟨2, ![2048, 1024]⟩ : Shape).Idx, (Cert.On_gated_forward.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).1 i = 1#1 → r.2.mem ((c.tc : Thread Cert.Reference5Ideal.nD Cert.Reference5Ideal.τ).loc Cert.Reference5Ideal.main_v178) i = v0 c i)
          ∧ (∀ i : (⟨2, ![2048, 1024]⟩ : Shape).Idx, (Cert.On_gated_forward.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.1 i = 1#1 → r.2.mem ((c.tc : Thread Cert.Reference5Ideal.nD Cert.Reference5Ideal.τ).loc Cert.Reference5Ideal.main_v175) i = v1 c i)
          ∧ (∀ i : (⟨4, ![16, 2, 512, 256]⟩ : Shape).Idx, (Cert.On_gated_forward.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.2.1 i = 1#1 → r.2.mem ((c.tc : Thread Cert.Reference5Ideal.nD Cert.Reference5Ideal.τ).loc Cert.Reference5Ideal.main_v156) i = v2 c i)
          ∧ (∀ i : (⟨4, ![16, 2, 512, 128]⟩ : Shape).Idx, (Cert.On_gated_forward.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.2.2 i = 1#1 → r.2.mem ((c.tc : Thread Cert.Reference5Ideal.nD Cert.Reference5Ideal.τ).loc Cert.Reference5Ideal.main_v179) i = v3 c i)
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v4_0)) (v1 : (c : Dev Cert.Kernel8Ideal.nD) → Buf (Elt Ideal) ((c.tc : Thread Cert.Kernel8Ideal.nD Cert.Kernel8Ideal.τ).loc Cert.Kernel8Ideal.main_v4_1)) (v2 : (c : Dev Cert.Kernel8Ideal.nD) → Buf (Elt Ideal) ((c.tc : Thread Cert.Kernel8Ideal.nD Cert.Kernel8Ideal.τ).loc Cert.Kernel8Ideal.main_v4_2)) (v3 : (c : Dev Cert.Kernel8Ideal.nD) → Buf (Elt Ideal) ((c.tc : Thread Cert.Kernel8Ideal.nD Cert.Kernel8Ideal.τ).loc Cert.Kernel8Ideal.main_v4_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4_0) = v0 c
          ∧ r.2.mem ((c.tc : Thread Cert.Kernel8Ideal.nD Cert.Kernel8Ideal.τ).loc Cert.Kernel8Ideal.main_v4_1) = v1 c
          ∧ r.2.mem ((c.tc : Thread Cert.Kernel8Ideal.nD Cert.Kernel8Ideal.τ).loc Cert.Kernel8Ideal.main_v4_2) = v2 c
          ∧ r.2.mem ((c.tc : Thread Cert.Kernel8Ideal.nD Cert.Kernel8Ideal.τ).loc Cert.Kernel8Ideal.main_v4_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_v28) = v1 c
          ∧ r.2.mem ((c.tc : Thread Cert.Reference8Ideal.nD Cert.Reference8Ideal.τ).loc Cert.Reference8Ideal.main_v9) = v2 c
          ∧ r.2.mem ((c.tc : Thread Cert.Reference8Ideal.nD Cert.Reference8Ideal.τ).loc Cert.Reference8Ideal.main_v15) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v26) = v0 c
          ∧ r.2.mem ((c.tc : Thread Cert.Reference9Ideal.nD Cert.Reference9Ideal.τ).loc Cert.Reference9Ideal.main_v28) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hOn_gated_half : Cert.On_gated_half.Facts) (hOn_gated_forward : Cert.On_gated_forward.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite (hKernel3Ideal := hKernel3Ideal) (hPre_finite := hPre_finite)
    ∧ quiescent_Reference3Ideal (hReference3Ideal := hReference3Ideal)
    ∧ quiescent_Reference3Ideal_pre_finite (hReference3Ideal := hReference3Ideal) (hPre_finite := hPre_finite)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_on_gated_half_pre_finite (hKernel3Ideal := hKernel3Ideal) (hReference3Ideal := hReference3Ideal) (hPre_finite := hPre_finite) (hOn_gated_half := hOn_gated_half)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_on_gated_forward (hKernel5Ideal := hKernel5Ideal) (hReference5Ideal := hReference5Ideal) (hOn_gated_forward := hOn_gated_forward)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== On_gated_forward.lean ====
abbrev S1x2048x1792 : Shape := ⟨3, ![1, 2048, 1792]⟩
abbrev S1x512 : Shape := ⟨2, ![1, 512]⟩
abbrev S1x4x128x128 : Shape := ⟨4, ![1, 4, 128, 128]⟩
abbrev S1x4x128 : Shape := ⟨3, ![1, 4, 128]⟩
abbrev S1x8 : Shape := ⟨2, ![1, 8]⟩
abbrev S32x8 : Shape := ⟨2, ![32, 8]⟩
abbrev S_ : Shape := ⟨0, ![]⟩
abbrev S2048x512 : Shape := ⟨2, ![2048, 512]⟩
abbrev S2048x1024 : Shape := ⟨2, ![2048, 1024]⟩
abbrev S16x2x512x256 : Shape := ⟨4, ![16, 2, 512, 256]⟩
abbrev S16x2x512x128 : Shape := ⟨4, ![16, 2, 512, 128]⟩

class Facts : Prop where
  bcast_S_S2048x512 : S_.BroadcastsInDim S2048x512 (![] : Fin 0 → Fin S2048x512.rank)
  concatenates_S2048x512_S2048x512_S2048x1024_d1 : Shape.Concatenates [S2048x512, S2048x512] S2048x1024 1
  bcast_S_S2048x1024 : S_.BroadcastsInDim S2048x1024 (![] : Fin 0 → Fin S2048x1024.rank)
  bcast_S_S16x2x512x256 : S_.BroadcastsInDim S16x2x512x256 (![] : Fin 0 → Fin S16x2x512x256.rank)
  bcast_S_S16x2x512x128 : S_.BroadcastsInDim S16x2x512x128 (![] : Fin 0 → Fin S16x2x512x128.rank)

variable [Facts]

def fn {F : FTy → Type} [FloatOps F] (main_arg0 : FVec F S1x2048x1792 .f32) (main_arg1 : FVec F S1x512 .f32) (main_arg2 : FVec F S1x4x128x128 .f32) (main_arg3 : FVec F S1x4x128 .f32) (main_arg4 : FVec F S1x8 .f32) (main_arg5 : FVec F S32x8 .f32) : IVec S2048x1024 1 × IVec S2048x1024 1 × IVec S16x2x512x256 1 × IVec S16x2x512x128 1 :=
  let main_c : IVec S_ 1 := constantI S_ 1 1#1
  let main_v0 : IVec S2048x512 1 := broadcastInDim S2048x512 ![] bcast_S_S2048x512 main_c
  let main_c_0 : IVec S_ 1 := constantI S_ 1 0#1
  let main_v1 : IVec S2048x512 1 := broadcastInDim S2048x512 ![] bcast_S_S2048x512 main_c_0
  let main_v2 : IVec S2048x1024 1 := (fun a b => concatenate S2048x1024 1 [⟨S2048x512, a⟩, ⟨S2048x512, b⟩] concatenates_S2048x512_S2048x512_S2048x1024_d1) main_v0 main_v1
  let main_c_1 : IVec S_ 1 := constantI S_ 1 1#1
  let main_v3 : IVec S2048x1024 1 := broadcastInDim S2048x1024 ![] bcast_S_S2048x1024 main_c_1
  let main_c_2 : IVec S_ 1 := constantI S_ 1 0#1
  let main_v4 : IVec S16x2x512x256 1 := broadcastInDim S16x2x512x256 ![] bcast_S_S16x2x512x256 main_c_2
  let main_c_3 : IVec S_ 1 := constantI S_ 1 0#1
  let main_v5 : IVec S16x2x512x128 1 := broadcastInDim S16x2x512x128 ![] bcast_S_S16x2x512x128 main_c_3
  (main_v2, main_v3, main_v4, main_v5)
-- ==== On_gated_half.lean ====
abbrev S1x2048x1792 : Shape := ⟨3, ![1, 2048, 1792]⟩
abbrev S1x512 : Shape := ⟨2, ![1, 512]⟩
abbrev S1x4x128x128 : Shape := ⟨4, ![1, 4, 128, 128]⟩
abbrev S1x4x128 : Shape := ⟨3, ![1, 4, 128]⟩
abbrev S1x8 : Shape := ⟨2, ![1, 8]⟩
abbrev S32x8 : Shape := ⟨2, ![32, 8]⟩
abbrev S1x2048x1024 : Shape := ⟨3, ![1, 2048, 1024]⟩
abbrev S_ : Shape := ⟨0, ![]⟩
abbrev S2048x1024 : Shape := ⟨2, ![2048, 1024]⟩
abbrev S2048x512 : Shape := ⟨2, ![2048, 512]⟩
abbrev S2048x1536 : Shape := ⟨2, ![2048, 1536]⟩
abbrev S4x128x128 : Shape := ⟨3, ![4, 128, 128]⟩
abbrev S4x128 : Shape := ⟨2, ![4, 128]⟩

class Facts : Prop where
  bcast_S_S2048x1024 : S_.BroadcastsInDim S2048x1024 (![] : Fin 0 → Fin S2048x1024.rank)
  bcast_S_S2048x512 : S_.BroadcastsInDim S2048x512 (![] : Fin 0 → Fin S2048x512.rank)
  concatenates_S2048x1024_S2048x512_S2048x1536_d1 : Shape.Concatenates [S2048x1024, S2048x512] S2048x1536 1
  bcast_S_S1x512 : S_.BroadcastsInDim S1x512 (![] : Fin 0 → Fin S1x512.rank)
  bcast_S_S4x128x128 : S_.BroadcastsInDim S4x128x128 (![] : Fin 0 → Fin S4x128x128.rank)
  bcast_S_S4x128 : S_.BroadcastsInDim S4x128 (![] : Fin 0 → Fin S4x128.rank)

variable [Facts]

def fn {F : FTy → Type} [FloatOps F] (main_arg0 : FVec F S1x2048x1792 .f32) (main_arg1 : FVec F S1x512 .f32) (main_arg2 : FVec F S1x4x128x128 .f32) (main_arg3 : FVec F S1x4x128 .f32) (main_arg4 : FVec F S1x8 .f32) (main_arg5 : FVec F S32x8 .f32) (main_arg6 : FVec F S1x2048x1024 .f32) : IVec S2048x1536 1 × IVec S1x512 1 × IVec S4x128x128 1 × IVec S4x128 1 :=
  let main_c : IVec S_ 1 := constantI S_ 1 1#1
  let main_v0 : IVec S2048x1024 1 := broadcastInDim S2048x1024 ![] bcast_S_S2048x1024 main_c
  let main_c_0 : IVec S_ 1 := constantI S_ 1 0#1
  let main_v1 : IVec S2048x512 1 := broadcastInDim S2048x512 ![] bcast_S_S2048x512 main_c_0
  let main_v2 : IVec S2048x1536 1 := (fun a b => concatenate S2048x1536 1 [⟨S2048x1024, a⟩, ⟨S2048x512, b⟩] concatenates_S2048x1024_S2048x512_S2048x1536_d1) main_v0 main_v1
  let main_c_1 : IVec S_ 1 := constantI S_ 1 1#1
  let main_v3 : IVec S1x512 1 := broadcastInDim S1x512 ![] bcast_S_S1x512 main_c_1
  let main_c_2 : IVec S_ 1 := constantI S_ 1 1#1
  let main_v4 : IVec S4x128x128 1 := broadcastInDim S4x128x128 ![] bcast_S_S4x128x128 main_c_2
  let main_c_3 : IVec S_ 1 := constantI S_ 1 1#1
  let main_v5 : IVec S4x128 1 := broadcastInDim S4x128 ![] bcast_S_S4x128 main_c_3
  (main_v2, main_v3, main_v4, main_v5)
-- ==== Pre_finite.lean ====
abbrev S1x2048x1792 : Shape := ⟨3, ![1, 2048, 1792]⟩
abbrev S1x512 : Shape := ⟨2, ![1, 512]⟩
abbrev S1x4x128x128 : Shape := ⟨4, ![1, 4, 128, 128]⟩
abbrev S1x4x128 : Shape := ⟨3, ![1, 4, 128]⟩
abbrev S1x8 : Shape := ⟨2, ![1, 8]⟩
abbrev S32x8 : Shape := ⟨2, ![32, 8]⟩
abbrev S1x2048x1024 : Shape := ⟨3, ![1, 2048, 1024]⟩
abbrev S_ : Shape := ⟨0, ![]⟩

class Facts : Prop where
  bcast_S_S1x2048x1792 : S_.BroadcastsInDim S1x2048x1792 (![] : Fin 0 → Fin S1x2048x1792.rank)
  bcast_S_S1x512 : S_.BroadcastsInDim S1x512 (![] : Fin 0 → Fin S1x512.rank)
  bcast_S_S1x4x128x128 : S_.BroadcastsInDim S1x4x128x128 (![] : Fin 0 → Fin S1x4x128x128.rank)
  bcast_S_S1x4x128 : S_.BroadcastsInDim S1x4x128 (![] : Fin 0 → Fin S1x4x128.rank)
  bcast_S_S1x2048x1024 : S_.BroadcastsInDim S1x2048x1024 (![] : Fin 0 → Fin S1x2048x1024.rank)

variable [Facts]

def fn {F : FTy → Type} [FloatOps F] (main_arg0 : FVec F S1x2048x1792 .f32) (main_arg1 : FVec F S1x512 .f32) (main_arg2 : FVec F S1x4x128x128 .f32) (main_arg3 : FVec F S1x4x128 .f32) (main_arg4 : FVec F S1x8 .f32) (main_arg5 : FVec F S32x8 .f32) (main_arg6 : FVec F S1x2048x1024 .f32) : IVec S1x2048x1792 1 × IVec S1x512 1 × IVec S1x4x128x128 1 × IVec S1x4x128 1 × IVec S1x2048x1024 1 :=
  let main_v0 : FVec F S1x2048x1792 .f32 := Host.absf main_arg0
  let main_cst : FVec F S_ .f32 := constant S_ .f32 0x7F800000#32
  let main_v1 : FVec F S1x2048x1792 .f32 := broadcastInDim S1x2048x1792 ![] bcast_S_S1x2048x1792 main_cst
  let main_v2 : IVec S1x2048x1792 1 := cmpf .olt main_v0 main_v1
  let main_v3 : FVec F S1x512 .f32 := Host.absf main_arg1
  let main_cst_0 : FVec F S_ .f32 := constant S_ .f32 0x7F800000#32
  let main_v4 : FVec F S1x512 .f32 := broadcastInDim S1x512 ![] bcast_S_S1x512 main_cst_0
  let main_v5 : IVec S1x512 1 := cmpf .olt main_v3 main_v4
  let main_v6 : FVec F S1x4x128x128 .f32 := Host.absf main_arg2
  let main_cst_1 : FVec F S_ .f32 := constant S_ .f32 0x7F800000#32
  let main_v7 : FVec F S1x4x128x128 .f32 := broadcastInDim S1x4x128x128 ![] bcast_S_S1x4x128x128 main_cst_1
  let main_v8 : IVec S1x4x128x128 1 := cmpf .olt main_v6 main_v7
  let main_v9 : FVec F S1x4x128 .f32 := Host.absf main_arg3
  let main_cst_2 : FVec F S_ .f32 := constant S_ .f32 0x7F800000#32
  let main_v10 : FVec F S1x4x128 .f32 := broadcastInDim S1x4x128 ![] bcast_S_S1x4x128 main_cst_2
  let main_v11 : IVec S1x4x128 1 := cmpf .olt main_v9 main_v10
  let main_v12 : FVec F S1x2048x1024 .f32 := Host.absf main_arg6
  let main_cst_3 : FVec F S_ .f32 := constant S_ .f32 0x7F800000#32
  let main_v13 : FVec F S1x2048x1024 .f32 := broadcastInDim S1x2048x1024 ![] bcast_S_S1x2048x1024 main_cst_3
  let main_v14 : IVec S1x2048x1024 1 := cmpf .olt main_v12 main_v13
  (main_v2, main_v5, main_v8, main_v11, main_v14)
-- ==== Kernel.lean ====
abbrev S1x2048x1024 : Shape := ⟨3, ![1, 2048, 1024]⟩
abbrev S1x1024 : Shape := ⟨2, ![1, 1024]⟩
abbrev S1x1024x1792 : Shape := ⟨3, ![1, 1024, 1792]⟩
abbrev S1x2048x1792 : Shape := ⟨3, ![1, 2048, 1792]⟩
abbrev S2048x1792 : Shape := ⟨2, ![2048, 1792]⟩
abbrev S2048x1024 : Shape := ⟨2, ![2048, 1024]⟩
abbrev S2048x1536 : Shape := ⟨2, ![2048, 1536]⟩
abbrev S2048x256 : Shape := ⟨2, ![2048, 256]⟩
abbrev S1024x1792 : Shape := ⟨2, ![1024, 1792]⟩
abbrev S1792x1024 : Shape := ⟨2, ![1792, 1024]⟩
abbrev S512x1024 : Shape := ⟨2, ![512, 1024]⟩
abbrev S512x1536 : Shape := ⟨2, ![512, 1536]⟩
abbrev S512x256 : Shape := ⟨2, ![512, 256]⟩
abbrev S1536x1024 : Shape := ⟨2, ![1536, 1024]⟩
abbrev S256x1024 : Shape := ⟨2, ![256, 1024]⟩
abbrev S512 : Shape := ⟨1, ![512]⟩
abbrev S512x1 : Shape := ⟨2, ![512, 1]⟩
abbrev S1024 : Shape := ⟨1, ![1024]⟩

abbrev nBuf : Space → Nat
  | .hbm => 16
  | .vmem => 13
  | .smem => 0
  | _ => 0

abbrev bufTy : (tb : Table) → Fin (tcTables nBuf tb) → BufTy
  | .hbm, ⟨0, _⟩ => ⟨S1x2048x1024, .f32⟩
  | .hbm, ⟨1, _⟩ => ⟨S1x1024, .f32⟩
  | .hbm, ⟨2, _⟩ => ⟨S1x1024x1792, .f32⟩
  | .hbm, ⟨3, _⟩ => ⟨S1x2048x1024, .f32⟩
  | .hbm, ⟨4, _⟩ => ⟨S1x2048x1792, .f32⟩
  | .hbm, ⟨5, _⟩ => ⟨S2048x1792, .f32⟩
  | .hbm, ⟨6, _⟩ => ⟨S2048x1792, .bf16⟩
  | .hbm, ⟨7, _⟩ => ⟨S2048x1024, .f32⟩
  | .hbm, ⟨8, _⟩ => ⟨S2048x1024, .f32⟩
  | .hbm, ⟨9, _⟩ => ⟨S2048x1536, .bf16⟩
  | .hbm, ⟨10, _⟩ => ⟨S2048x256, .bf16⟩
  | .hbm, ⟨11, _⟩ => ⟨S1024x1792, .f32⟩
  | .hbm, ⟨12, _⟩ => ⟨S1792x1024, .f32⟩
  | .hbm, ⟨13, _⟩ => ⟨S1792x1024, .bf16⟩
  | .hbm, ⟨14, _⟩ => ⟨S2048x1024, .f32⟩
  | .hbm, ⟨15, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1536, .bf16⟩
  | .local _ .vmem, ⟨5, _⟩ => ⟨S512x1536, .bf16⟩
  | .local _ .vmem, ⟨6, _⟩ => ⟨S512x256, .bf16⟩
  | .local _ .vmem, ⟨7, _⟩ => ⟨S512x256, .bf16⟩
  | .local _ .vmem, ⟨8, _⟩ => ⟨S1x1024, .f32⟩
  | .local _ .vmem, ⟨9, _⟩ => ⟨S1792x1024, .bf16⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1792x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S1x2048x1024 : Shape := ⟨3, ![1, 2048, 1024]⟩
abbrev S1x1024 : Shape := ⟨2, ![1, 1024]⟩
abbrev S1x1024x1792 : Shape := ⟨3, ![1, 1024, 1792]⟩
abbrev S1x2048x1792 : Shape := ⟨3, ![1, 2048, 1792]⟩
abbrev S1024 : Shape := ⟨1, ![1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1024x1792 : Shape := ⟨2, ![1024, 1792]⟩
abbrev S1792x1024 : Shape := ⟨2, ![1792, 1024]⟩
abbrev S2048 : Shape := ⟨1, ![2048]⟩
abbrev S2048x1024 : Shape := ⟨2, ![2048, 1024]⟩

abbrev nBuf : Space → Nat
  | .hbm => 61
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x1024, .f32⟩
  | .hbm, ⟨2, _⟩ => ⟨S1x1024x1792, .f32⟩
  | .hbm, ⟨3, _⟩ => ⟨S1x2048x1024, .f32⟩
  | .hbm, ⟨4, _⟩ => ⟨S1x2048x1792, .f32⟩
  | .hbm, ⟨5, _⟩ => ⟨S1024, .f32⟩
  | .hbm, ⟨6, _⟩ => ⟨S1x2048x1024, .f32⟩
  | .hbm, ⟨7, _⟩ => ⟨S_, .f32⟩
  | .hbm, ⟨8, _⟩ => ⟨S1x2048, .f32⟩
  | .hbm, ⟨9, _⟩ => ⟨S1x2048x1, .f32⟩
  | .hbm, ⟨10, _⟩ => ⟨S_, .f32⟩
  | .hbm, ⟨11, _⟩ => ⟨S1x2048x1, .f32⟩
  | .hbm, ⟨12, _⟩ => ⟨S1x2048x1, .f32⟩
  | .hbm, ⟨13, _⟩ => ⟨S_, .f32⟩
  | .hbm, ⟨14, _⟩ => ⟨S1x2048x1, .f32⟩
  | .hbm, ⟨15, _⟩ => ⟨S1x2048x1, .f32⟩
  | .hbm, ⟨16, _⟩ => ⟨S1x2048x1, .f32⟩
  | .hbm, ⟨17, _⟩ => ⟨S1x2048x1, .f32⟩
  | .hbm, ⟨18, _⟩ => ⟨S_, .f32⟩
  | .hbm, ⟨19, _⟩ => ⟨S1x2048x1, .f32⟩
  | .hbm, ⟨20, _⟩ => ⟨S1x2048x1, .f32⟩
  | .hbm, ⟨21, _⟩ => ⟨S1x2048x1024, .f32⟩
  | .hbm, ⟨22, _⟩ => ⟨S1x2048x1024, .f32⟩
  | .hbm, ⟨23, _⟩ => ⟨S1x1x1024, .f32⟩
  | .hbm, ⟨24, _⟩ => ⟨S1x2048x1024, .f32⟩
  | .hbm, ⟨25, _⟩ => ⟨S1x2048x1024, .f32⟩
  | .hbm, ⟨26, _⟩ => ⟨S1024x1792, .f32⟩
  | .hbm, ⟨27, _⟩ => ⟨S1x2048x1792, .f32⟩
  | .hbm, ⟨28, _⟩ => ⟨S1792x1024, .f32⟩
  | .hbm, ⟨29, _⟩ => ⟨S1024x1792, .f32⟩
  | .hbm, ⟨30, _⟩ => ⟨S1x2048x1024, .f32⟩
  | .hbm, ⟨31, _⟩ => ⟨S1x1024x1792, .f32⟩
  | .hbm, ⟨32, _⟩ => ⟨S1x2048x1024, .f32⟩
  | .hbm, ⟨33, _⟩ => ⟨S_, .f32⟩
  | .hbm, ⟨34, _⟩ => ⟨S1x1024, .f32⟩
  | .hbm, ⟨35, _⟩ => ⟨S1x1x1024, .f32⟩
  | .hbm, ⟨36, _⟩ => ⟨S1x2048x1024, .f32⟩
  | .hbm, ⟨37, _⟩ => ⟨S1x2048x1024, .f32⟩
  | .hbm, ⟨38, _⟩ => ⟨S_, .f32⟩
  | .hbm, ⟨39, _⟩ => ⟨S1024, .f32⟩
  | .hbm, ⟨40, _⟩ => ⟨S1x2048x1024, .f32⟩
  | .hbm, ⟨41, _⟩ => ⟨S_, .f32⟩
  | .hbm, ⟨42, _⟩ => ⟨S1x2048, .f32⟩
  | .hbm, ⟨43, _⟩ => ⟨S1x2048x1, .f32⟩
  | .hbm, ⟨44, _⟩ => ⟨S1x2048x1024, .f32⟩
  | .hbm, ⟨45, _⟩ => ⟨S1x2048x1024, .f32⟩
  | .hbm, ⟨46, _⟩ => ⟨S1x2048x1024, .f32⟩
  | .hbm, ⟨47, _⟩ => ⟨S1x2048x1, .f32⟩
  | .hbm, ⟨48, _⟩ => ⟨S_, .f32⟩
  | .hbm, ⟨49, _⟩ => ⟨S1x2048x1, .f32⟩
  | .hbm, ⟨50, _⟩ => ⟨S1x2048x1, .f32⟩
  | .hbm, ⟨51, _⟩ => ⟨S_, .f32⟩
  | .hbm, ⟨52, _⟩ => ⟨S2048, .f32⟩
  | .hbm, ⟨53, _⟩ => ⟨S1x2048, .f32⟩
  | .hbm, ⟨54, _⟩ => ⟨S1x2048x1024, .f32⟩
  | .hbm, ⟨55, _⟩ => ⟨S1x2048x1024, .f32⟩
  | .hbm, ⟨56, _⟩ => ⟨S1x2048x1024, .f32⟩
  | .hbm, ⟨57, _⟩ => ⟨S1x2048x1024, .f32⟩
  | .hbm, ⟨58, _⟩ => ⟨S1x2048x1024, .f32⟩
  | .hbm, ⟨59, _⟩ => ⟨S1x1024, .f32⟩
  | .hbm, ⟨60, _⟩ => ⟨S2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]
-- ==== Kernel2.lean ====
abbrev S1x2048x1024 : Shape := ⟨3, ![1, 2048, 1024]⟩
abbrev S1x1x2048x256 : Shape := ⟨4, ![1, 1, 2048, 256]⟩
abbrev S1x1024 : Shape := ⟨2, ![1, 1024]⟩
abbrev S1024 : Shape := ⟨1, ![1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1x256x1024 : Shape := ⟨3, ![1, 256, 1024]⟩
abbrev S1024x4096 : Shape := ⟨2, ![1024, 4096]⟩
abbrev S1024x8x512 : Shape := ⟨3, ![1024, 8, 512]⟩
abbrev S8x1024x512 : Shape := ⟨3, ![8, 1024, 512]⟩
abbrev S256x1024 : Shape := ⟨2, ![256, 1024]⟩
abbrev S256x8x128 : Shape := ⟨3, ![256, 8, 128]⟩
abbrev S8x256x128 : Shape := ⟨3, ![8, 256, 128]⟩
abbrev S2048x1024 : Shape := ⟨2, ![2048, 1024]⟩
abbrev S2048x256 : Shape := ⟨2, ![2048, 256]⟩
abbrev S1024x1024 : Shape := ⟨2, ![1024, 1024]⟩
abbrev S4096x1024 : Shape := ⟨2, ![4096, 1024]⟩
abbrev S8x1024 : Shape := ⟨2, ![8, 1024]⟩
abbrev S2048x4096 : Shape := ⟨2, ![2048, 4096]⟩
abbrev S256x256 : Shape := ⟨2, ![256, 256]⟩
abbrev S256x4096 : Shape := ⟨2, ![256, 4096]⟩
abbrev S256 : Shape := ⟨1, ![256]⟩
abbrev S256x1 : Shape := ⟨2, ![256, 1]⟩
abbrev S1x1024x512 : Shape := ⟨3, ![1, 1024, 512]⟩
abbrev S1024x512 : Shape := ⟨2, ![1024, 512]⟩
abbrev S256x512 : Shape := ⟨2, ![256, 512]⟩
abbrev S512x1024 : Shape := ⟨2, ![512, 1024]⟩
abbrev S1x256x128 : Shape := ⟨3, ![1, 256, 128]⟩
abbrev S256x128 : Shape := ⟨2, ![256, 128]⟩
abbrev S1 : Shape := ⟨1, ![1]⟩
abbrev S1x1 : Shape := ⟨2, ![1, 1]⟩

abbrev nBuf : Space → Nat
  | .hbm => 41
  | .vmem => 32
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x1x2048x256, .f32⟩
  | .hbm, ⟨3, _⟩ => ⟨S1x2048x1024, .f32⟩
  | .hbm, ⟨4, _⟩ => ⟨S1x1024, .f32⟩
  | .hbm, ⟨5, _⟩ => ⟨S1024, .f32⟩
  | .hbm, ⟨6, _⟩ => ⟨S1x1024x1024, .f32⟩
  | .hbm, ⟨7, _⟩ => ⟨S1x1024x4096, .f32⟩
  | .hbm, ⟨8, _⟩ => ⟨S1x4096x1024, .f32⟩
  | .hbm, ⟨9, _⟩ => ⟨S1x256x1024, .f32⟩
  | .hbm, ⟨10, _⟩ => ⟨S1x1024x1024, .f32⟩
  | .hbm, ⟨11, _⟩ => ⟨S1024x4096, .f32⟩
  | .hbm, ⟨12, _⟩ => ⟨S1024x8x512, .f32⟩
  | .hbm, ⟨13, _⟩ => ⟨S8x1024x512, .f32⟩
  | .hbm, ⟨14, _⟩ => ⟨S8x1024x512, .bf16⟩
  | .hbm, ⟨15, _⟩ => ⟨S256x1024, .f32⟩
  | .hbm, ⟨16, _⟩ => ⟨S256x8x128, .f32⟩
  | .hbm, ⟨17, _⟩ => ⟨S8x256x128, .f32⟩
  | .hbm, ⟨18, _⟩ => ⟨S8x256x128, .bf16⟩
  | .hbm, ⟨19, _⟩ => ⟨S2048x1024, .f32⟩
  | .hbm, ⟨20, _⟩ => ⟨S2048x1024, .f32⟩
  | .hbm, ⟨21, _⟩ => ⟨S2048x1024, .bf16⟩
  | .hbm, ⟨22, _⟩ => ⟨S2048x256, .f32⟩
  | .hbm, ⟨23, _⟩ => ⟨S2048x1024, .f32⟩
  | .hbm, ⟨24, _⟩ => ⟨S1x1024, .f32⟩
  | .hbm, ⟨25, _⟩ => ⟨S1024x1024, .f32⟩
  | .hbm, ⟨26, _⟩ => ⟨S1024x1024, .bf16⟩
  | .hbm, ⟨27, _⟩ => ⟨S4096x1024, .f32⟩
  | .hbm, ⟨28, _⟩ => ⟨S4096x1024, .bf16⟩
  | .hbm, ⟨29, _⟩ => ⟨S1024x1024, .f32⟩
  | .hbm, ⟨30, _⟩ => ⟨S1024x1024, .bf16⟩
  | .hbm, ⟨31, _⟩ => ⟨S8x1024, .f32⟩
  | .hbm, ⟨32, _⟩ => ⟨S2048x1024, .f32⟩
  | .hbm, ⟨33, _⟩ => ⟨S2048x1024, .f32⟩
  | .hbm, ⟨34, _⟩ => ⟨S2048x1024, .bf16⟩
  | .hbm, ⟨35, _⟩ => ⟨S2048x4096, .bf16⟩
  | .hbm, ⟨36, _⟩ => ⟨S2048x4096, .bf16⟩
  | .hbm, ⟨37, _⟩ => ⟨S2048x1024, .bf16⟩
  | .hbm, ⟨38, _⟩ => ⟨S1024x1024, .f32⟩
  | .hbm, ⟨39, _⟩ => ⟨S8x256x128, .f32⟩
  | .hbm, ⟨40, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x256, .f32⟩
  | .local _ .vmem, ⟨5, _⟩ => ⟨S256x256, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S8x1024x512, .bf16⟩
  | .local _ .vmem, ⟨12, _⟩ => ⟨S4096x1024, .bf16⟩
  | .local _ .vmem, ⟨13, _⟩ => ⟨S1024x1024, .bf16⟩
  | .local _ .vmem, ⟨14, _⟩ => ⟨S8x256x128, .bf16⟩
  | .local _ .vmem, ⟨15, _⟩ => ⟨S8x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .bf16⟩
  | .local _ .vmem, ⟨21, _⟩ => ⟨S256x1024, .bf16⟩
  | .local _ .vmem, ⟨22, _⟩ => ⟨S256x4096, .bf16⟩
  | .local _ .vmem, ⟨23, _⟩ => ⟨S256x4096, .bf16⟩
  | .local _ .vmem, ⟨24, _⟩ => ⟨S256x4096, .bf16⟩
  | .local _ .vmem, ⟨25, _⟩ => ⟨S256x4096, .bf16⟩
  | .local _ .vmem, ⟨26, _⟩ => ⟨S256x1024, .bf16⟩
  | .local _ .vmem, ⟨27, _⟩ => ⟨S256x1024, .bf16⟩
  | .local _ .vmem, ⟨28, _⟩ => ⟨S1024x1024, .f32⟩
  | .local _ .vmem, ⟨29, _⟩ => ⟨S8x256x128, .f32⟩
  | .local _ .vmem, ⟨30, _⟩ => ⟨S1024x1024, .f32⟩
  | .local _ .vmem, ⟨31, _⟩ => ⟨S256x4096, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev main_v20_2 : Ref sig .tc := ⟨.hbm, 33, rfl⟩
abbrev main_v20_3 : Ref sig .tc := ⟨.hbm, 34, rfl⟩
abbrev main_v20_4 : Ref sig .tc := ⟨.hbm, 35, rfl⟩
abbrev main_v20_5 : Ref sig .tc := ⟨.hbm, 36, rfl⟩
abbrev main_v20_6 : Ref sig .tc := ⟨.hbm, 37, rfl⟩
abbrev main_v20_7 : Ref sig .tc := ⟨.hbm, 38, rfl⟩
abbrev main_v20_8 : Ref sig .tc := ⟨.hbm, 39, rfl⟩
abbrev main_v20_9 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg19_0 : Ref sig .tc := ⟨.vmem, 29, rfl⟩
abbrev cc0_stg20_0 : Ref sig .tc := ⟨.vmem, 30, rfl⟩
abbrev cc0_scratch0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem19_0 : DmaSem sig := 29
abbrev cc0_sem20_0 : DmaSem sig := 30

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x256x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x4096 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x4096 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S1024x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8x256x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1024x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== Reference2Ideal.lean ====
abbrev S1x2048x1024 : Shape := ⟨3, ![1, 2048, 1024]⟩
abbrev S1x1x2048x256 : Shape := ⟨4, ![1, 1, 2048, 256]⟩
abbrev S1x1024 : Shape := ⟨2, ![1, 1024]⟩
abbrev S1024 : Shape := ⟨1, ![1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1x256x1024 : Shape := ⟨3, ![1, 256, 1024]⟩
abbrev S1024x1024 : Shape := ⟨2, ![1024, 1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1024x4096 : Shape := ⟨2, ![1024, 4096]⟩
abbrev S1x2048x4096 : Shape := ⟨3, ![1, 2048, 4096]⟩
abbrev S4096x1024 : Shape := ⟨2, ![4096, 1024]⟩
abbrev S1x2048x256 : Shape := ⟨3, ![1, 2048, 256]⟩
abbrev S256x1024 : Shape := ⟨2, ![256, 1024]⟩
abbrev S2048 : Shape := ⟨1, ![2048]⟩
abbrev S1024x256 : Shape := ⟨2, ![1024, 256]⟩
abbrev S5x1024 : Shape := ⟨2, ![5, 1024]⟩
abbrev S8x1024 : Shape := ⟨2, ![8, 1024]⟩
abbrev S256x8x128 : Shape := ⟨3, ![256, 8, 128]⟩
abbrev S8x256x128 : Shape := ⟨3, ![8, 256, 128]⟩
abbrev S2048x1024 : Shape := ⟨2, ![2048, 1024]⟩
abbrev S2048x4096 : Shape := ⟨2, ![2048, 4096]⟩

abbrev nBuf : Space → Nat
  | .hbm => 209
  | .vmem => 0
  | .smem => 0
  | _ => 0

abbrev hbmTy0_0 (i : Nat) : BufTy := match i % 128 with
  | 0 => ⟨S1x2048x1024, .f32⟩
  | 1 => ⟨S1x2048x1024, .f32⟩
  | 2 => ⟨S1x1x2048x256, .f32⟩
  | 3 => ⟨S1x2048x1024, .f32⟩
  | 4 => ⟨S1x1024, .f32⟩
  | 5 => ⟨S1024, .f32⟩
  | 6 => ⟨S1x1024x1024, .f32⟩
  | 7 => ⟨S1x1024x4096, .f32⟩
  | 8 => ⟨S1x4096x1024, .f32⟩
  | 9 => ⟨S1x256x1024, .f32⟩
  | 10 => ⟨S1x1024x1024, .f32⟩
  | 11 => ⟨S1024x1024, .f32⟩
  | 12 => ⟨S1x2048x1024, .f32⟩
  | 13 => ⟨S1x2048x1024, .f32⟩
  | 14 => ⟨S1024, .f32⟩
  | 15 => ⟨S1x2048x1024, .f32⟩
  | 16 => ⟨S_, .f32⟩
  | 17 => ⟨S1x2048, .f32⟩
  | 18 => ⟨S1x2048x1, .f32⟩
  | 19 => ⟨S_, .f32⟩
  | 20 => ⟨S1x2048x1, .f32⟩
  | 21 => ⟨S1x2048x1, .f32⟩
  | 22 => ⟨S_, .f32⟩
  | 23 => ⟨S1x2048x1, .f32⟩
  | 24 => ⟨S1x2048x1, .f32⟩
  | 25 => ⟨S1x2048x1, .f32⟩
  | 26 => ⟨S1x2048x1, .f32⟩
  | 27 => ⟨S_, .f32⟩
  | 28 => ⟨S1x2048x1, .f32⟩
  | 29 => ⟨S1x2048x1, .f32⟩
  | 30 => ⟨S1x2048x1024, .f32⟩
  | 31 => ⟨S1x2048x1024, .f32⟩
  | 32 => ⟨S1x1x1024, .f32⟩
  | 33 => ⟨S1x2048x1024, .f32⟩
  | 34 => ⟨S1x2048x1024, .f32⟩
  | 35 => ⟨S1024x4096, .f32⟩
  | 36 => ⟨S1x2048x4096, .f32⟩
  | 37 => ⟨S_, .f32⟩
  | 38 => ⟨S1x2048x4096, .f32⟩
  | 39 => ⟨S1x2048x4096, .f32⟩
  | 40 => ⟨S_, .f32⟩
  | 41 => ⟨S1x2048x4096, .f32⟩
  | 42 => ⟨S1x2048x4096, .i1⟩
  | 43 => ⟨S_, .f32⟩
  | 44 => ⟨S1x2048x4096, .f32⟩
  | 45 => ⟨S1x2048x4096, .f32⟩
  | 46 => ⟨S_, .f32⟩
  | 47 => ⟨S1x2048x4096, .f32⟩
  | 48 => ⟨S1x2048x4096, .f32⟩
  | 49 => ⟨S4096x1024, .f32⟩
  | 50 => ⟨S1x2048x1024, .f32⟩
  | 51 => ⟨S1x2048x1024, .f32⟩
  | 52 => ⟨S1024x1024, .f32⟩
  | 53 => ⟨S1x2048x1024, .f32⟩
  | 54 => ⟨S1x2048x1024, .f32⟩
  | 55 => ⟨S1x2048x1024, .f32⟩
  | 56 => ⟨S_, .f32⟩
  | 57 => ⟨S1x2048x1024, .f32⟩
  | 58 => ⟨S1x2048x1024, .f32⟩
  | 59 => ⟨S_, .f32⟩
  | 60 => ⟨S1x2048x1024, .f32⟩
  | 61 => ⟨S1x2048x1024, .f32⟩
  | 62 => ⟨S_, .f32⟩
  | 63 => ⟨S1x2048x1024, .f32⟩
  | 64 => ⟨S1x2048x1024, .f32⟩
  | 65 => ⟨S1x2048x1024, .f32⟩
  | 66 => ⟨S1x2048x256, .f32⟩
  | 67 => ⟨S256x1024, .f32⟩
  | 68 => ⟨S1x2048x1024, .f32⟩
  | 69 => ⟨S1x2048x1024, .f32⟩
  | 70 => ⟨S1x2048x1024, .f32⟩
  | 71 => ⟨S1x2048x1024, .f32⟩
  | 72 => ⟨S_, .f32⟩
  | 73 => ⟨S1x2048, .f32⟩
  | 74 => ⟨S1x2048x1, .f32⟩
  | 75 => ⟨S_, .f32⟩
  | 76 => ⟨S1x2048x1, .f32⟩
  | 77 => ⟨S1x2048x1, .f32⟩
  | 78 => ⟨S_, .f32⟩
  | 79 => ⟨S1x2048x1, .f32⟩
  | 80 => ⟨S1x2048x1, .f32⟩
  | 81 => ⟨S1x2048x1, .f32⟩
  | 82 => ⟨S1x2048x1, .f32⟩
  | 83 => ⟨S_, .f32⟩
  | 84 => ⟨S1x2048x1, .f32⟩
  | 85 => ⟨S1x2048x1, .f32⟩
  | 86 => ⟨S1x2048x1024, .f32⟩
  | 87 => ⟨S1x2048x1024, .f32⟩
  | 88 => ⟨S1x1x1024, .f32⟩
  | 89 => ⟨S1x2048x1024, .f32⟩
  | 90 => ⟨S1x2048x1024, .f32⟩
  | 91 => ⟨S1x2048x1024, .f32⟩
  | 92 => ⟨S1x2048x1024, .f32⟩
  | 93 => ⟨S_, .f32⟩
  | 94 => ⟨S1x2048x1024, .f32⟩
  | 95 => ⟨S1x2048x1024, .f32⟩
  | 96 => ⟨S_, .f32⟩
  | 97 => ⟨S1x2048, .f32⟩
  | 98 => ⟨S_, .f32⟩
  | 99 => ⟨S1x2048, .f32⟩
  | 100 => ⟨S1x2048, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S1x2048, .f32⟩
  | 109 => ⟨S_, .f32⟩
  | 110 => ⟨S1x2048, .f32⟩
  | 111 => ⟨S1x2048, .f32⟩
  | 112 => ⟨S1x2048x1024, .f32⟩
  | 113 => ⟨S1x2048x1024, .f32⟩
  | 114 => ⟨S1x2048x1024, .f32⟩
  | 115 => ⟨S_, .f32⟩
  | 116 => ⟨S1x1024, .f32⟩
  | 117 => ⟨S1x1x1024, .f32⟩
  | 118 => ⟨S1x2048x1024, .f32⟩
  | 119 => ⟨S1x2048x1024, .f32⟩
  | 120 => ⟨S_, .f32⟩
  | 121 => ⟨S1024, .f32⟩
  | 122 => ⟨S1x2048x1024, .f32⟩
  | 123 => ⟨S_, .f32⟩
  | 124 => ⟨S1x2048, .f32⟩
  | 125 => ⟨S1x2048x1, .f32⟩
  | 126 => ⟨S1x2048x1024, .f32⟩
  | 127 => ⟨S1x2048x1024, .f32⟩
  | _ => ⟨S1x2048x1024, .f32⟩

abbrev hbmTy0_1 (i : Nat) : BufTy := match i % 128 with
  | 0 => ⟨S1x2048x1, .f32⟩
  | 1 => ⟨S_, .f32⟩
  | 2 => ⟨S1x2048x1, .f32⟩
  | 3 => ⟨S1x2048x1, .f32⟩
  | 4 => ⟨S_, .f32⟩
  | 5 => ⟨S2048, .f32⟩
  | 6 => ⟨S1x2048, .f32⟩
  | 7 => ⟨S1x2048x1024, .f32⟩
  | 8 => ⟨S1x2048x1024, .f32⟩
  | 9 => ⟨S1x2048x1024, .f32⟩
  | 10 => ⟨S1x2048x1024, .f32⟩
  | 11 => ⟨S1x2048x1024, .f32⟩
  | 12 => ⟨S1x2048x1024, .f32⟩
  | 13 => ⟨S1x2048x1024, .f32⟩
  | 14 => ⟨S1024x256, .f32⟩
  | 15 => ⟨S256x1024, .f32⟩
  | 16 => ⟨S1x256x1024, .f32⟩
  | 17 => ⟨S1x2048x1024, .f32⟩
  | 18 => ⟨S1024x1024, .f32⟩
  | 19 => ⟨S1024x1024, .f32⟩
  | 20 => ⟨S1x2048x1024, .f32⟩
  | 21 => ⟨S1x2048x1024, .f32⟩
  | 22 => ⟨S1x1024x1024, .f32⟩
  | 23 => ⟨S1x2048x4096, .f32⟩
  | 24 => ⟨S1x2048x4096, .f32⟩
  | 25 => ⟨S_, .f32⟩
  | 26 => ⟨S1x2048x4096, .f32⟩
  | 27 => ⟨S1x2048x4096, .f32⟩
  | 28 => ⟨S1x2048x1024, .f32⟩
  | 29 => ⟨S1x2048x1024, .f32⟩
  | 30 => ⟨S_, .f32⟩
  | 31 => ⟨S1x1024, .f32⟩
  | 32 => ⟨S1x1x1024, .f32⟩
  | 33 => ⟨S1x2048x1024, .f32⟩
  | 34 => ⟨S1x2048x1024, .f32⟩
  | 35 => ⟨S_, .f32⟩
  | 36 => ⟨S1024, .f32⟩
  | 37 => ⟨S1x2048x1024, .f32⟩
  | 38 => ⟨S_, .f32⟩
  | 39 => ⟨S1x2048, .f32⟩
  | 40 => ⟨S1x2048x1, .f32⟩
  | 41 => ⟨S1x2048x1024, .f32⟩
  | 42 => ⟨S1x2048x1024, .f32⟩
  | 43 => ⟨S1x2048x1024, .f32⟩
  | 44 => ⟨S1x2048x1, .f32⟩
  | 45 => ⟨S_, .f32⟩
  | 46 => ⟨S1x2048x1, .f32⟩
  | 47 => ⟨S1x2048x1, .f32⟩
  | 48 => ⟨S_, .f32⟩
  | 49 => ⟨S2048, .f32⟩
  | 50 => ⟨S1x2048, .f32⟩
  | 51 => ⟨S1x2048x1024, .f32⟩
  | 52 => ⟨S1x2048x1024, .f32⟩
  | 53 => ⟨S1x2048x1024, .f32⟩
  | 54 => ⟨S1x2048x1024, .f32⟩
  | 55 => ⟨S1x2048x1024, .f32⟩
  | 56 => ⟨S1x1024, .f32⟩
  | 57 => ⟨S1024x1024, .f32⟩
  | 58 => ⟨S1024x1024, .f32⟩
  | 59 => ⟨S1x2048x1024, .f32⟩
  | 60 => ⟨S1x1024x1024, .f32⟩
  | 61 => ⟨S1x1024, .f32⟩
  | 62 => ⟨S1x1024, .f32⟩
  | 63 => ⟨S_, .f32⟩
  | 64 => ⟨S5x1024, .f32⟩
  | 65 => ⟨S8x1024, .f32⟩
  | 66 => ⟨S256x1024, .f32⟩
  | 67 => ⟨S256x8x128, .f32⟩
  | 68 => ⟨S8x256x128, .f32⟩
  | 69 => ⟨S2048x1024, .f32⟩
  | 70 => ⟨S2048x1024, .f32⟩
  | 71 => ⟨S2048x1024, .f32⟩
  | 72 => ⟨S2048x1024, .bf16⟩
  | 73 => ⟨S2048x4096, .f32⟩
  | 74 => ⟨S2048x4096, .bf16⟩
  | 75 => ⟨S2048x4096, .f32⟩
  | 76 => ⟨S2048x4096, .bf16⟩
  | 77 => ⟨S2048x1024, .f32⟩
  | 78 => ⟨S2048x1024, .bf16⟩
  | 79 => ⟨S1024x1024, .f32⟩
  | 80 => ⟨S1024x1024, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_call0_cst : Ref sig .tc := ⟨.hbm, 37, rfl⟩
abbrev main_call0_v0 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_v37 : Ref sig .tc := ⟨.hbm, 58, rfl⟩
abbrev main_cst_7 : Ref sig .tc := ⟨.hbm, 59, rfl⟩
abbrev main_v38 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_v50 : Ref sig .tc := ⟨.hbm, 74, rfl⟩
abbrev main_cst_10 : Ref sig .tc := ⟨.hbm, 75, rfl⟩
abbrev main_v51 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_12 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_13 : Ref sig .tc := ⟨.hbm, 93, rfl⟩
abbrev main_v66 : Ref sig .tc := ⟨.hbm, 94, rfl⟩
abbrev main_v67 : Ref sig .tc := ⟨.hbm, 95, rfl⟩
abbrev main_cst_14 : Ref sig .tc := ⟨.hbm, 96, rfl⟩
abbrev main_v68 : Ref sig .tc := ⟨.hbm, 97, rfl⟩
abbrev main_cst_15 : Ref sig .tc := ⟨.hbm, 98, rfl⟩
abbrev main_v69 : Ref sig .tc := ⟨.hbm, 99, rfl⟩
abbrev main_v70 : Ref sig .tc := ⟨.hbm, 100, rfl⟩
abbrev main_cst_16 : Ref sig .tc := ⟨.hbm, 101, rfl⟩
abbrev main_v71 : Ref sig .tc := ⟨.hbm, 102, rfl⟩
abbrev main_cst_17 : Ref sig .tc := ⟨.hbm, 103, rfl⟩
abbrev main_v72 : Ref sig .tc := ⟨.hbm, 104, rfl⟩
abbrev main_cst_18 : Ref sig .tc := ⟨.hbm, 105, rfl⟩
abbrev main_cst_19 : Ref sig .tc := ⟨.hbm, 106, rfl⟩
abbrev main_v73 : Ref sig .tc := ⟨.hbm, 107, rfl⟩
abbrev main_v74 : Ref sig .tc := ⟨.hbm, 108, rfl⟩
abbrev main_cst_20 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_21 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_22 : Ref sig .tc := ⟨.hbm, 120, rfl⟩
abbrev main_v84 : Ref sig .tc := ⟨.hbm, 121, rfl⟩
abbrev main_v85 : Ref sig .tc := ⟨.hbm, 122, rfl⟩
abbrev main_cst_23 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_cst_24 : Ref sig .tc := ⟨.hbm, 129, rfl⟩
abbrev main_v91 : Ref sig .tc := ⟨.hbm, 130, rfl⟩
abbrev main_v92 : Ref sig .tc := ⟨.hbm, 131, rfl⟩
abbrev main_cst_25 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_cst_26 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_cst_27 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_cst_28 : Ref sig .tc := ⟨.hbm, 163, rfl⟩
abbrev main_v121 : Ref sig .tc := ⟨.hbm, 164, rfl⟩
abbrev main_v122 : Ref sig .tc := ⟨.hbm, 165, rfl⟩
abbrev main_cst_29 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_cst_30 : Ref sig .tc := ⟨.hbm, 173, rfl⟩
abbrev main_v129 : Ref sig .tc := ⟨.hbm, 174, rfl⟩
abbrev main_v130 : Ref sig .tc := ⟨.hbm, 175, rfl⟩
abbrev main_cst_31 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_cst_32 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩

abbrev nD : Nat := 1
abbrev τ : Topo := Topo.v7x

variable {F : FTy → Type} [FloatOps F]
-- ==== Kernel3.lean ====
abbrev S1x2048x1792 : Shape := ⟨3, ![1, 2048, 1792]⟩
abbrev S1x512 : Shape := ⟨2, ![1, 512]⟩
abbrev S1x4x128x128 : Shape := ⟨4, ![1, 4, 128, 128]⟩
abbrev S1x4x128 : Shape := ⟨3, ![1, 4, 128]⟩
abbrev S1x8 : Shape := ⟨2, ![1, 8]⟩
abbrev S32x8 : Shape := ⟨2, ![32, 8]⟩
abbrev S1x2048x1024 : Shape := ⟨3, ![1, 2048, 1024]⟩
abbrev S128x256 : Shape := ⟨2, ![128, 256]⟩
abbrev S4x128x1 : Shape := ⟨3, ![4, 128, 1]⟩
abbrev S2048x1024 : Shape := ⟨2, ![2048, 1024]⟩
abbrev S1x2048x768 : Shape := ⟨3, ![1, 2048, 768]⟩
abbrev S2048x768 : Shape := ⟨2, ![2048, 768]⟩
abbrev S_ : Shape := ⟨0, ![]⟩
abbrev S1x2048x512 : Shape := ⟨3, ![1, 2048, 512]⟩
abbrev S1x2048x128 : Shape := ⟨3, ![1, 2048, 128]⟩
abbrev S1x16x128x2x4x64 : Shape := ⟨6, ![1, 16, 128, 2, 4, 64]⟩
abbrev S1x2048x2x64 : Shape := ⟨4, ![1, 2048, 2, 64]⟩
abbrev S1x128x2x64 : Shape := ⟨4, ![1, 128, 2, 64]⟩
abbrev S1x2176x2x64 : Shape := ⟨4, ![1, 2176, 2, 64]⟩
abbrev S1x17x128x2x64 : Shape := ⟨5, ![1, 17, 128, 2, 64]⟩
abbrev S1x16x128x2x64 : Shape := ⟨5, ![1, 16, 128, 2, 64]⟩
abbrev S1x16x256x2x64 : Shape := ⟨5, ![1, 16, 256, 2, 64]⟩
abbrev S1x2x16x256x128x4 : Shape := ⟨6, ![1, 2, 16, 256, 128, 4]⟩
abbrev S1x2x4x16x128x256 : Shape := ⟨6, ![1, 2, 4, 16, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256x1 : Shape := ⟨3, ![128, 256, 1]⟩
abbrev S128x256x8 : Shape := ⟨3, ![128, 256, 8]⟩
abbrev S8x128x256 : Shape := ⟨3, ![8, 128, 256]⟩
abbrev S2x4x1x128x256 : Shape := ⟨5, ![2, 4, 1, 128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S1x2x4x1x128x256 : Shape := ⟨6, ![1, 2, 4, 1, 128, 256]⟩
abbrev S8 : Shape := ⟨1, ![8]⟩
abbrev S2x4x1x1x1 : Shape := ⟨5, ![2, 4, 1, 1, 1]⟩
abbrev S1x2x4x16x128 : Shape := ⟨5, ![1, 2, 4, 16, 128]⟩
abbrev S1x2x4x16x128x1 : Shape := ⟨6, ![1, 2, 4, 16, 128, 1]⟩
abbrev S1x2x4x1x1x1 : Shape := ⟨6, ![1, 2, 4, 1, 1, 1]⟩
abbrev S2x4x16x128x256 : Shape := ⟨5, ![2, 4, 16, 128, 256]⟩
abbrev S16x2x4x128x256 : Shape := ⟨5, ![16, 2, 4, 128, 256]⟩
abbrev S16x2x512x256 : Shape := ⟨4, ![16, 2, 512, 256]⟩
abbrev S2x4x16x128x1 : Shape := ⟨5, ![2, 4, 16, 128, 1]⟩
abbrev S16x2x4x128x1 : Shape := ⟨5, ![16, 2, 4, 128, 1]⟩
abbrev S16x2x512x1 : Shape := ⟨4, ![16, 2, 512, 1]⟩
abbrev S16x2x512x128 : Shape := ⟨4, ![16, 2, 512, 128]⟩
abbrev S4x128x128 : Shape := ⟨3, ![4, 128, 128]⟩
abbrev S2048x1536 : Shape := ⟨2, ![2048, 1536]⟩
abbrev S2048x256 : Shape := ⟨2, ![2048, 256]⟩
abbrev S4x128 : Shape := ⟨2, ![4, 128]⟩
abbrev S9x32 : Shape := ⟨2, ![9, 32]⟩
abbrev S128x1024 : Shape := ⟨2, ![128, 1024]⟩
abbrev S128x512 : Shape := ⟨2, ![128, 512]⟩
abbrev S1x2x512x256 : Shape := ⟨4, ![1, 2, 512, 256]⟩
abbrev S1x2x512x128 : Shape := ⟨4, ![1, 2, 512, 128]⟩
abbrev S128x1536 : Shape := ⟨2, ![128, 1536]⟩
abbrev S2x512x256 : Shape := ⟨3, ![2, 512, 256]⟩
abbrev S2x512x1 : Shape := ⟨3, ![2, 512, 1]⟩
abbrev S128x128 : Shape := ⟨2, ![128, 128]⟩
abbrev S1x128 : Shape := ⟨2, ![1, 128]⟩
abbrev S1x128x128 : Shape := ⟨3, ![1, 128, 128]⟩
abbrev S1x128x1 : Shape := ⟨3, ![1, 128, 1]⟩
abbrev S128x64 : Shape := ⟨2, ![128, 64]⟩
abbrev S512x64 : Shape := ⟨2, ![512, 64]⟩
abbrev S1x1x512x128 : Shape := ⟨4, ![1, 1, 512, 128]⟩
abbrev S512x128 : Shape := ⟨2, ![512, 128]⟩
abbrev S1x1x512x1 : Shape := ⟨4, ![1, 1, 512, 1]⟩
abbrev S512x1 : Shape := ⟨2, ![512, 1]⟩
abbrev S512 : Shape := ⟨1, ![512]⟩
abbrev S1x512x1 : Shape := ⟨3, ![1, 512, 1]⟩
abbrev S1x512x128 : Shape := ⟨3, ![1, 512, 128]⟩
abbrev S1x1 : Shape := ⟨2, ![1, 1]⟩
abbrev S1 : Shape := ⟨1, ![1]⟩
abbrev S1x1x1 : Shape := ⟨3, ![1, 1, 1]⟩

abbrev nBuf : Space → Nat
  | .hbm => 163
  | .vmem => 31
  | .smem => 1
  | _ => 0

abbrev hbmTy0_0 (i : Nat) : BufTy := match i % 128 with
  | 0 => ⟨S1x2048x1792, .f32⟩
  | 1 => ⟨S1x512, .f32⟩
  | 2 => ⟨S1x4x128x128, .f32⟩
  | 3 => ⟨S1x4x128, .f32⟩
  | 4 => ⟨S1x8, .f32⟩
  | 5 => ⟨S32x8, .f32⟩
  | 6 => ⟨S1x2048x1024, .f32⟩
  | 7 => ⟨S128x256, .i32⟩
  | 8 => ⟨S4x128x1, .f32⟩
  | 9 => ⟨S1x2048x1024, .f32⟩
  | 10 => ⟨S2048x1024, .f32⟩
  | 11 => ⟨S1x2048x768, .f32⟩
  | 12 => ⟨S2048x768, .f32⟩
  | 13 => ⟨S2048x768, .bf16⟩
  | 14 => ⟨S2048x1024, .f32⟩
  | 15 => ⟨S1x2048x1024, .f32⟩
  | 16 => ⟨S2048x1024, .f32⟩
  | 17 => ⟨S_, .f32⟩
  | 18 => ⟨S_, .f32⟩
  | 19 => ⟨S_, .f32⟩
  | 20 => ⟨S2048x1024, .f32⟩
  | 21 => ⟨S2048x1024, .f32⟩
  | 22 => ⟨S2048x1024, .f32⟩
  | 23 => ⟨S2048x1024, .f32⟩
  | 24 => ⟨S2048x1024, .f32⟩
  | 25 => ⟨S_, .f32⟩
  | 26 => ⟨S2048x1024, .f32⟩
  | 27 => ⟨S2048x1024, .f32⟩
  | 28 => ⟨S2048x1024, .f32⟩
  | 29 => ⟨S1x2048x512, .f32⟩
  | 30 => ⟨S1x2048x128, .f32⟩
  | 31 => ⟨S1x16x128x2x4x64, .f32⟩
  | 32 => ⟨S1x2048x2x64, .f32⟩
  | 33 => ⟨S_, .f32⟩
  | 34 => ⟨S1x128x2x64, .f32⟩
  | 35 => ⟨S1x2176x2x64, .f32⟩
  | 36 => ⟨S1x17x128x2x64, .f32⟩
  | 37 => ⟨S1x16x128x2x64, .f32⟩
  | 38 => ⟨S1x16x128x2x64, .f32⟩
  | 39 => ⟨S1x16x256x2x64, .f32⟩
  | 40 => ⟨S1x2x16x256x128x4, .f32⟩
  | 41 => ⟨S1x2x4x16x128x256, .f32⟩
  | 42 => ⟨S_, .f32⟩
  | 43 => ⟨S1x2x4x16x128x256, .f32⟩
  | 44 => ⟨S1x2x4x16x128x256, .f32⟩
  | 45 => ⟨S128, .i32⟩
  | 46 => ⟨S128x1, .i32⟩
  | 47 => ⟨S256, .i32⟩
  | 48 => ⟨S1x256, .i32⟩
  | 49 => ⟨S_, .i32⟩
  | 50 => ⟨S128x1, .i32⟩
  | 51 => ⟨S128x1, .i32⟩
  | 52 => ⟨S128x256, .i32⟩
  | 53 => ⟨S128x256, .i32⟩
  | 54 => ⟨S128x256, .i32⟩
  | 55 => ⟨S_, .i32⟩
  | 56 => ⟨S128x256, .i32⟩
  | 57 => ⟨S128x256, .i1⟩
  | 58 => ⟨S_, .i32⟩
  | 59 => ⟨S128x256, .i32⟩
  | 60 => ⟨S128x256, .i1⟩
  | 61 => ⟨S128x256, .i1⟩
  | 62 => ⟨S_, .i32⟩
  | 63 => ⟨S128x256, .i32⟩
  | 64 => ⟨S128x256, .i32⟩
  | 65 => ⟨S_, .i32⟩
  | 66 => ⟨S128x256, .i32⟩
  | 67 => ⟨S128x256, .i32⟩
  | 68 => ⟨S128x256, .f32⟩
  | 69 => ⟨S_, .f32⟩
  | 70 => ⟨S128x256, .f32⟩
  | 71 => ⟨S128x256, .f32⟩
  | 72 => ⟨S128x256, .f32⟩
  | 73 => ⟨S_, .f32⟩
  | 74 => ⟨S128x256, .f32⟩
  | 75 => ⟨S128x256, .f32⟩
  | 76 => ⟨S_, .f32⟩
  | 77 => ⟨S128x256, .f32⟩
  | 78 => ⟨S128x256, .f32⟩
  | 79 => ⟨S128x256, .i32⟩
  | 80 => ⟨S_, .i32⟩
  | 81 => ⟨S128x256, .i32⟩
  | 82 => ⟨S128x256, .i32⟩
  | 83 => ⟨S_, .i32⟩
  | 84 => ⟨S128x256, .i32⟩
  | 85 => ⟨S128x256, .i32⟩
  | 86 => ⟨S_, .i32⟩
  | 87 => ⟨S128x256, .i32⟩
  | 88 => ⟨S128x256, .i1⟩
  | 89 => ⟨S128x256, .i32⟩
  | 90 => ⟨S_, .i32⟩
  | 91 => ⟨S128x256, .i32⟩
  | 92 => ⟨S128x256, .i1⟩
  | 93 => ⟨S_, .i32⟩
  | 94 => ⟨S128x256, .i32⟩
  | 95 => ⟨S128x256, .i32⟩
  | 96 => ⟨S128x256, .i32⟩
  | 97 => ⟨S128x256x1, .i32⟩
  | 98 => ⟨S128x256x8, .f32⟩
  | 99 => ⟨S8x128x256, .f32⟩
  | 100 => ⟨S2x4x1x128x256, .f32⟩
  | 101 => ⟨S16, .i32⟩
  | 102 => ⟨S16x1x1, .i32⟩
  | 103 => ⟨S_, .i32⟩
  | 104 => ⟨S16x1x1, .i32⟩
  | 105 => ⟨S16x1x1, .i1⟩
  | 106 => ⟨S256, .i32⟩
  | 107 => ⟨S1x1x256, .i32⟩
  | 108 => ⟨S_, .i32⟩
  | 109 => ⟨S1x1x256, .i32⟩
  | 110 => ⟨S1x1x256, .i1⟩
  | 111 => ⟨S16x1x256, .i1⟩
  | 112 => ⟨S16x1x256, .i1⟩
  | 113 => ⟨S16x1x256, .i1⟩
  | 114 => ⟨S1x128x256, .i1⟩
  | 115 => ⟨S16x1x256, .i1⟩
  | 116 => ⟨S16x128x256, .i1⟩
  | 117 => ⟨S16x128x256, .i1⟩
  | 118 => ⟨S16x128x256, .i1⟩
  | 119 => ⟨S1x2x4x1x128x256, .f32⟩
  | 120 => ⟨S1x2x4x16x128x256, .f32⟩
  | 121 => ⟨S1x2x4x16x128x256, .f32⟩
  | 122 => ⟨S_, .f32⟩
  | 123 => ⟨S_, .f32⟩
  | 124 => ⟨S1x2x4x16x128x256, .i1⟩
  | 125 => ⟨S1x2x4x16x128x256, .f32⟩
  | 126 => ⟨S1x2x4x16x128x256, .f32⟩
  | 127 => ⟨S8, .f32⟩
  | _ => ⟨S1x2048x1792, .f32⟩

abbrev hbmTy0_1 (i : Nat) : BufTy := match i % 128 with
  | 0 => ⟨S2x4x1x1x1, .f32⟩
  | 1 => ⟨S_, .f32⟩
  | 2 => ⟨S1x2x4x16x128, .f32⟩
  | 3 => ⟨S1x2x4x16x128x1, .f32⟩
  | 4 => ⟨S1x2x4x1x1x1, .f32⟩
  | 5 => ⟨S1x2x4x16x128x1, .f32⟩
  | 6 => ⟨S1x2x4x16x128x1, .f32⟩
  | 7 => ⟨S1x2x4x16x128x256, .f32⟩
  | 8 => ⟨S1x2x4x16x128x256, .f32⟩
  | 9 => ⟨S1x2x4x16x128x256, .f32⟩
  | 10 => ⟨S1x2x4x1x1x1, .f32⟩
  | 11 => ⟨S1x2x4x16x128x1, .f32⟩
  | 12 => ⟨S1x2x4x16x128x1, .f32⟩
  | 13 => ⟨S1x2x4x16x128x1, .f32⟩
  | 14 => ⟨S_, .f32⟩
  | 15 => ⟨S1x2x4x16x128, .f32⟩
  | 16 => ⟨S1x2x4x16x128x1, .f32⟩
  | 17 => ⟨S1x2x4x16x128x1, .f32⟩
  | 18 => ⟨S1x2x4x16x128x256, .f32⟩
  | 19 => ⟨S1x2x4x16x128x256, .f32⟩
  | 20 => ⟨S2x4x16x128x256, .f32⟩
  | 21 => ⟨S16x2x4x128x256, .f32⟩
  | 22 => ⟨S16x2x512x256, .f32⟩
  | 23 => ⟨S1x2x4x16x128x1, .f32⟩
  | 24 => ⟨S2x4x16x128x1, .f32⟩
  | 25 => ⟨S16x2x4x128x1, .f32⟩
  | 26 => ⟨S16x2x512x1, .f32⟩
  | 27 => ⟨S16x2x512x128, .f32⟩
  | 28 => ⟨S4x128x128, .f32⟩
  | 29 => ⟨S2048x1536, .bf16⟩
  | 30 => ⟨S2048x256, .bf16⟩
  | 31 => ⟨S1x512, .f32⟩
  | 32 => ⟨S4x128x128, .f32⟩
  | 33 => ⟨S4x128, .f32⟩
  | 34 => ⟨S9x32, .f32⟩
  | _ => ⟨S1x2048x1792, .f32⟩

abbrev hbmTy (i : Nat) : BufTy := match i / 128 with
  | 0 => hbmTy0_0 i
  | 1 => hbmTy0_1 i
  | _ => ⟨S1x2048x1792, .f32⟩

abbrev bufTy : (tb : Table) → Fin (tcTables nBuf tb) → BufTy
  | .hbm, ⟨i, _⟩ => hbmTy i
  | .local _ .vmem, ⟨0, _⟩ => ⟨S128x1024, .f32⟩
  | .local _ .vmem, ⟨1, _⟩ => ⟨S128x1024, .f32⟩
  | .local _ .vmem, ⟨2, _⟩ => ⟨S128x512, .bf16⟩
  | .local _ .vmem, ⟨3, _⟩ => ⟨S128x512, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S1x512, .f32⟩
  | .local _ .vmem, ⟨9, _⟩ => ⟨S4x128x128, .f32⟩
  | .local _ .vmem, ⟨10, _⟩ => ⟨S4x128x1, .f32⟩
  | .local _ .vmem, ⟨11, _⟩ => ⟨S128x256, .i32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S1x2x512x256, .f32⟩
  | .local _ .vmem, ⟨17, _⟩ => ⟨S1x2x512x256, .f32⟩
  | .local _ .vmem, ⟨18, _⟩ => ⟨S1x2x512x128, .f32⟩
  | .local _ .vmem, ⟨19, _⟩ => ⟨S1x2x512x128, .f32⟩
  | .local _ .vmem, ⟨20, _⟩ => ⟨S128x1536, .bf16⟩
  | .local _ .vmem, ⟨21, _⟩ => ⟨S128x1536, .bf16⟩
  | .local _ .vmem, ⟨22, _⟩ => ⟨S128x256, .bf16⟩
  | .local _ .vmem, ⟨23, _⟩ => ⟨S128x256, .bf16⟩
  | .local _ .vmem, ⟨24, _⟩ => ⟨S1x512, .f32⟩
  | .local _ .vmem, ⟨25, _⟩ => ⟨S4x128x128, .f32⟩
  | .local _ .vmem, ⟨26, _⟩ => ⟨S4x128, .f32⟩
  | .local _ .vmem, ⟨27, _⟩ => ⟨S2x512x256, .f32⟩
  | .local _ .vmem, ⟨28, _⟩ => ⟨S128x256, .f32⟩
  | .local _ .vmem, ⟨29, _⟩ => ⟨S2x512x1, .f32⟩
  | .local _ .vmem, ⟨30, _⟩ => ⟨S4x128x1, .f32⟩
  | .local _ .smem, ⟨0, _⟩ => ⟨S9x32, .f32⟩
  | _, _ => ⟨S1x2048x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .smem, ⟨0, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_4 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_5 : Ref sig .tc := ⟨.hbm, 55, rfl⟩
abbrev main_v41 : Ref sig .tc := ⟨.hbm, 56, rfl⟩
abbrev main_v42 : Ref sig .tc := ⟨.hbm, 57, rfl⟩
abbrev main_c_6 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_7 : Ref sig .tc := ⟨.hbm, 62, rfl⟩
abbrev main_v46 : Ref sig .tc := ⟨.hbm, 63, rfl⟩
abbrev main_v47 : Ref sig .tc := ⟨.hbm, 64, rfl⟩
abbrev main_c_8 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_9 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_10 : Ref sig .tc := ⟨.hbm, 73, rfl⟩
abbrev main_v54 : Ref sig .tc := ⟨.hbm, 74, rfl⟩
abbrev main_v55 : Ref sig .tc := ⟨.hbm, 75, rfl⟩
abbrev main_cst_11 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_c_12 : Ref sig .tc := ⟨.hbm, 80, rfl⟩
abbrev main_v59 : Ref sig .tc := ⟨.hbm, 81, rfl⟩
abbrev main_v60 : Ref sig .tc := ⟨.hbm, 82, rfl⟩
abbrev main_c_13 : Ref sig .tc := ⟨.hbm, 83, rfl⟩
abbrev main_v61 : Ref sig .tc := ⟨.hbm, 84, rfl⟩
abbrev main_v62 : Ref sig .tc := ⟨.hbm, 85, rfl⟩
abbrev main_c_14 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_c_15 : Ref sig .tc := ⟨.hbm, 90, rfl⟩
abbrev main_v66 : Ref sig .tc := ⟨.hbm, 91, rfl⟩
abbrev main_v67 : Ref sig .tc := ⟨.hbm, 92, rfl⟩
abbrev main_c_16 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_c_17 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_c_18 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_cst_19 : Ref sig .tc := ⟨.hbm, 122, rfl⟩
abbrev main_call1_v0 : Ref sig .tc := ⟨.hbm, 123, rfl⟩
abbrev main_call1_v1 : Ref sig .tc := ⟨.hbm, 124, rfl⟩
abbrev main_call1_v2 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_20 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_cst_21 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123_0 : Ref sig .tc := ⟨.hbm, 157, rfl⟩
abbrev main_v123_1 : Ref sig .tc := ⟨.hbm, 158, rfl⟩
abbrev main_v123_2 : Ref sig .tc := ⟨.hbm, 159, rfl⟩
abbrev main_v123_3 : Ref sig .tc := ⟨.hbm, 160, rfl⟩
abbrev main_v123_4 : Ref sig .tc := ⟨.hbm, 161, rfl⟩
abbrev main_v123_5 : Ref sig .tc := ⟨.hbm, 162, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_stg17_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem15_0 : DmaSem sig := 25
abbrev cc0_sem16_0 : DmaSem sig := 26
abbrev cc0_sem17_0 : DmaSem sig := 27

abbrev nD : Nat := 1
abbrev τ : Topo := Topo.v7x

variable {F : FTy → Type} [FloatOps F]

abbrev grid0 : Pipeline.Grid := ⟨1, ![17], ![false]⟩

def k0_cond2 (i : grid0.Coords) : BitVec 1 :=
  let arg0 : BitVec 32 := BitVec.ofNat 32 (i 0).val
  let c16_i32 : BitVec 32 := 16#32
  let v3 : BitVec 1 := Scalar.cmpi .slt arg0 c16_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c16_i32_2 : BitVec 32 := 16#32
  let v6 : BitVec 1 := Scalar.cmpi .eq arg0 c16_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.minsi arg0 c15_i32
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c15_i32 : BitVec 32 := 15#32
  let v0 : BitVec 32 := Scalar.minsi arg0 c15_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_10 (i : grid0.Coords) : Fin 4 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_11 (i : grid0.Coords) : Fin 4 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_12 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2x512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x2x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x1536 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S4x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .smem S9x32 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Kernel3Ideal.lean ====
variable {F : FTy → Type} [FloatOps F] [Named F]
def κ : String → Option EReal := fun
  | "gelu_3a" => some ((26829 / 200000 : ℝ) : EReal)
  | _ => none
-- ==== Reference3Ideal.lean ====
abbrev S1x2048x1792 : Shape := ⟨3, ![1, 2048, 1792]⟩
abbrev S1x512 : Shape := ⟨2, ![1, 512]⟩
abbrev S1x4x128x128 : Shape := ⟨4, ![1, 4, 128, 128]⟩
abbrev S1x4x128 : Shape := ⟨3, ![1, 4, 128]⟩
abbrev S1x8 : Shape := ⟨2, ![1, 8]⟩
abbrev S32x8 : Shape := ⟨2, ![32, 8]⟩
abbrev S1x2048x1024 : Shape := ⟨3, ![1, 2048, 1024]⟩
abbrev S1x2048x1536 : Shape := ⟨3, ![1, 2048, 1536]⟩
abbrev S_ : Shape := ⟨0, ![]⟩
abbrev S1x2048x512 : Shape := ⟨3, ![1, 2048, 512]⟩
abbrev S512 : Shape := ⟨1, ![512]⟩
abbrev S4x128x128 : Shape := ⟨3, ![4, 128, 128]⟩
abbrev S4x128 : Shape := ⟨2, ![4, 128]⟩
abbrev S1x2048x4x128 : Shape := ⟨4, ![1, 2048, 4, 128]⟩
abbrev S1x2048x4 : Shape := ⟨3, ![1, 2048, 4]⟩
abbrev S1x2048x4x1 : Shape := ⟨4, ![1, 2048, 4, 1]⟩
abbrev S1x1x4x128 : Shape := ⟨4, ![1, 1, 4, 128]⟩
abbrev S1x16x128x4x128 : Shape := ⟨5, ![1, 16, 128, 4, 128]⟩
abbrev S128x128 : Shape := ⟨2, ![128, 128]⟩
abbrev S1x128x128 : Shape := ⟨3, ![1, 128, 128]⟩
abbrev S4x1x16x128x128 : Shape := ⟨5, ![4, 1, 16, 128, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S1x128x4 : Shape := ⟨3, ![1, 128, 4]⟩
abbrev S2048x4 : Shape := ⟨2, ![2048, 4]⟩
abbrev S2048x1536 : Shape := ⟨2, ![2048, 1536]⟩

abbrev nBuf : Space → Nat
  | .hbm => 172
  | .vmem => 0
  | .smem => 0
  | _ => 0

abbrev hbmTy0_0 (i : Nat) : BufTy := match i % 128 with
  | 0 => ⟨S1x2048x1792, .f32⟩
  | 1 => ⟨S1x512, .f32⟩
  | 2 => ⟨S1x4x128x128, .f32⟩
  | 3 => ⟨S1x4x128, .f32⟩
  | 4 => ⟨S1x8, .f32⟩
  | 5 => ⟨S32x8, .f32⟩
  | 6 => ⟨S1x2048x1024, .f32⟩
  | 7 => ⟨S1x2048x1536, .f32⟩
  | 8 => ⟨S1x2048x1024, .f32⟩
  | 9 => ⟨S_, .f32⟩
  | 10 => ⟨S_, .f32⟩
  | 11 => ⟨S_, .f32⟩
  | 12 => ⟨S1x2048x1024, .f32⟩
  | 13 => ⟨S1x2048x1024, .f32⟩
  | 14 => ⟨S1x2048x1024, .f32⟩
  | 15 => ⟨S_, .f32⟩
  | 16 => ⟨S1x2048x1024, .f32⟩
  | 17 => ⟨S1x2048x1024, .f32⟩
  | 18 => ⟨S1x2048x1024, .f32⟩
  | 19 => ⟨S1x2048x1024, .f32⟩
  | 20 => ⟨S1x2048x1024, .f32⟩
  | 21 => ⟨S_, .f32⟩
  | 22 => ⟨S1x2048x1024, .f32⟩
  | 23 => ⟨S1x2048x1024, .f32⟩
  | 24 => ⟨S1x2048x1024, .f32⟩
  | 25 => ⟨S_, .f32⟩
  | 26 => ⟨S1x2048x1024, .f32⟩
  | 27 => ⟨S1x2048x1024, .f32⟩
  | 28 => ⟨S_, .f32⟩
  | 29 => ⟨S1x2048x1024, .f32⟩
  | 30 => ⟨S1x2048x1024, .f32⟩
  | 31 => ⟨S1x2048x1024, .f32⟩
  | 32 => ⟨S_, .f32⟩
  | 33 => ⟨S1x2048x1024, .f32⟩
  | 34 => ⟨S1x2048x1024, .f32⟩
  | 35 => ⟨S_, .f32⟩
  | 36 => ⟨S1x2048x1024, .f32⟩
  | 37 => ⟨S1x2048x1024, .f32⟩
  | 38 => ⟨S1x2048x1024, .f32⟩
  | 39 => ⟨S1x2048x512, .f32⟩
  | 40 => ⟨S1x2048x512, .f32⟩
  | 41 => ⟨S512, .f32⟩
  | 42 => ⟨S4x128x128, .f32⟩
  | 43 => ⟨S4x128, .f32⟩
  | 44 => ⟨S1x2048x4x128, .f32⟩
  | 45 => ⟨S4x128, .f32⟩
  | 46 => ⟨S1x2048x4x128, .f32⟩
  | 47 => ⟨S_, .f32⟩
  | 48 => ⟨S1x2048x4, .f32⟩
  | 49 => ⟨S1x2048x4x1, .f32⟩
  | 50 => ⟨S_, .f32⟩
  | 51 => ⟨S1x2048x4x1, .f32⟩
  | 52 => ⟨S1x2048x4x1, .f32⟩
  | 53 => ⟨S_, .f32⟩
  | 54 => ⟨S1x2048x4x1, .f32⟩
  | 55 => ⟨S1x2048x4x1, .f32⟩
  | 56 => ⟨S1x2048x4x1, .f32⟩
  | 57 => ⟨S1x2048x4x1, .f32⟩
  | 58 => ⟨S_, .f32⟩
  | 59 => ⟨S1x2048x4x1, .f32⟩
  | 60 => ⟨S1x2048x4x1, .f32⟩
  | 61 => ⟨S1x2048x4x128, .f32⟩
  | 62 => ⟨S1x2048x4x128, .f32⟩
  | 63 => ⟨S1x1x4x128, .f32⟩
  | 64 => ⟨S1x2048x4x128, .f32⟩
  | 65 => ⟨S1x2048x4x128, .f32⟩
  | 66 => ⟨S1x16x128x4x128, .f32⟩
  | 67 => ⟨S_, .i1⟩
  | 68 => ⟨S128x128, .i1⟩
  | 69 => ⟨S128x128, .i32⟩
  | 70 => ⟨S_, .i32⟩
  | 71 => ⟨S128x128, .i32⟩
  | 72 => ⟨S128x128, .i32⟩
  | 73 => ⟨S128x128, .i32⟩
  | 74 => ⟨S128x128, .i1⟩
  | 75 => ⟨S_, .i1⟩
  | 76 => ⟨S128x128, .i1⟩
  | 77 => ⟨S128x128, .i1⟩
  | 78 => ⟨S1x128x128, .i1⟩
  | 79 => ⟨S_, .i32⟩
  | 80 => ⟨S_, .f32⟩
  | 81 => ⟨S4x128x128, .i1⟩
  | 82 => ⟨S4x128x128, .f32⟩
  | 83 => ⟨S4x128x128, .f32⟩
  | 84 => ⟨S_, .f32⟩
  | 85 => ⟨S4x128x128, .f32⟩
  | 86 => ⟨S4x1x16x128x128, .f32⟩
  | 87 => ⟨S1x16x128x4x128, .f32⟩
  | 88 => ⟨S128x4, .f32⟩
  | 89 => ⟨S128x4x1, .f32⟩
  | 90 => ⟨S1x1x128x4x1, .f32⟩
  | 91 => ⟨S1x16x128x4x128, .f32⟩
  | 92 => ⟨S1x16x128x4x128, .f32⟩
  | 93 => ⟨S1x2048x512, .f32⟩
  | 94 => ⟨S1x2048x512, .f32⟩
  | 95 => ⟨S1x2048x512, .f32⟩
  | 96 => ⟨S1x2048x512, .f32⟩
  | 97 => ⟨S1x2048x512, .f32⟩
  | 98 => ⟨S1x16x128x4x128, .f32⟩
  | 99 => ⟨S_, .f32⟩
  | 100 => ⟨S1x128x4, .f32⟩
  | 101 => ⟨S1x1x128x4x1, .f32⟩
  | 102 => ⟨S_, .f32⟩
  | 103 => ⟨S128x4, .f32⟩
  | 104 => ⟨S128x4x1, .f32⟩
  | 105 => ⟨S_, .f32⟩
  | 106 => ⟨S128x4, .f32⟩
  | 107 => ⟨S4x128, .f32⟩
  | 108 => ⟨S4x1x16x128x128, .f32⟩
  | 109 => ⟨S4x128x128, .f32⟩
  | 110 => ⟨S4x1x16x128x128, .f32⟩
  | 111 => ⟨S1x16x128x4x128, .f32⟩
  | 112 => ⟨S_, .f32⟩
  | 113 => ⟨S4x128x128, .f32⟩
  | 114 => ⟨S4x128x128, .f32⟩
  | 115 => ⟨S1x2048x4x128, .f32⟩
  | 116 => ⟨S1x2048x4x128, .f32⟩
  | 117 => ⟨S_, .f32⟩
  | 118 => ⟨S1x4x128, .f32⟩
  | 119 => ⟨S1x1x4x128, .f32⟩
  | 120 => ⟨S1x2048x4x128, .f32⟩
  | 121 => ⟨S1x2048x4x128, .f32⟩
  | 122 => ⟨S_, .f32⟩
  | 123 => ⟨S4x128, .f32⟩
  | 124 => ⟨S1x2048x4x128, .f32⟩
  | 125 => ⟨S_, .f32⟩
  | 126 => ⟨S1x2048x4, .f32⟩
  | 127 => ⟨S1x2048x4x1, .f32⟩
  | _ => ⟨S1x2048x1792, .f32⟩

abbrev hbmTy0_1 (i : Nat) : BufTy := match i % 128 with
  | 0 => ⟨S1x2048x4x128, .f32⟩
  | 1 => ⟨S1x2048x4x128, .f32⟩
  | 2 => ⟨S1x2048x4x1, .f32⟩
  | 3 => ⟨S_, .f32⟩
  | 4 => ⟨S1x2048x4x1, .f32⟩
  | 5 => ⟨S1x2048x4x1, .f32⟩
  | 6 => ⟨S_, .f32⟩
  | 7 => ⟨S2048x4, .f32⟩
  | 8 => ⟨S1x2048x4, .f32⟩
  | 9 => ⟨S1x2048x4x128, .f32⟩
  | 10 => ⟨S1x2048x4x128, .f32⟩
  | 11 => ⟨S1x2048x4x128, .f32⟩
  | 12 => ⟨S1x2048x4x128, .f32⟩
  | 13 => ⟨S1x2048x4x128, .f32⟩
  | 14 => ⟨S512, .f32⟩
  | 15 => ⟨S1x2048x512, .f32⟩
  | 16 => ⟨S1x4x128, .f32⟩
  | 17 => ⟨S1x4x128x128, .f32⟩
  | 18 => ⟨S1x512, .f32⟩
  | 19 => ⟨S_, .f32⟩
  | 20 => ⟨S1x2048x1024, .f32⟩
  | 21 => ⟨S_, .f32⟩
  | 22 => ⟨S1x2048x1024, .f32⟩
  | 23 => ⟨S1x2048x1024, .f32⟩
  | 24 => ⟨S1x2048x1024, .f32⟩
  | 25 => ⟨S1x2048x1024, .f32⟩
  | 26 => ⟨S_, .f32⟩
  | 27 => ⟨S1x2048x1024, .f32⟩
  | 28 => ⟨S1x2048x1024, .f32⟩
  | 29 => ⟨S1x2048x1024, .f32⟩
  | 30 => ⟨S_, .f32⟩
  | 31 => ⟨S1x2048x1024, .f32⟩
  | 32 => ⟨S1x2048x1024, .f32⟩
  | 33 => ⟨S1x2048x1024, .f32⟩
  | 34 => ⟨S1x2048x1024, .f32⟩
  | 35 => ⟨S1x2048x1024, .f32⟩
  | 36 => ⟨S1x2048x1024, .f32⟩
  | 37 => ⟨S1x2048x1024, .f32⟩
  | 38 => ⟨S_, .f32⟩
  | 39 => ⟨S1x2048x1536, .f32⟩
  | 40 => ⟨S2048x1536, .f32⟩
  | 41 => ⟨S2048x1536, .bf16⟩
  | 42 => ⟨S4x128x128, .f32⟩
  | 43 => ⟨S4x128, .f32⟩
  | _ => ⟨S1x2048x1792, .f32⟩

abbrev hbmTy (i : Nat) : BufTy := match i / 128 with
  | 0 => hbmTy0_0 i
  | 1 => hbmTy0_1 i
  | _ => ⟨S1x2048x1792, .f32⟩

abbrev bufTy : (tb : Table) → Fin (tcTables nBuf tb) → BufTy
  | .hbm, ⟨i, _⟩ => hbmTy i
  | _, _ => ⟨S1x2048x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩
abbrev main_cst_9 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_10 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c : Ref sig .tc := ⟨.hbm, 67, rfl⟩
abbrev main_v48 : Ref sig .tc := ⟨.hbm, 68, rfl⟩
abbrev main_call0_v0 : Ref sig .tc := ⟨.hbm, 69, rfl⟩
abbrev main_call0_c : Ref sig .tc := ⟨.hbm, 70, rfl⟩
abbrev main_call0_v1 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_call0_c_0 : Ref sig .tc := ⟨.hbm, 75, rfl⟩
abbrev main_call0_v5 : Ref sig .tc := ⟨.hbm, 76, rfl⟩
abbrev main_v49 : Ref sig .tc := ⟨.hbm, 77, rfl⟩
abbrev main_v50 : Ref sig .tc := ⟨.hbm, 78, rfl⟩
abbrev main_c_11 : Ref sig .tc := ⟨.hbm, 79, rfl⟩
abbrev main_call1_v0 : Ref sig .tc := ⟨.hbm, 80, rfl⟩
abbrev main_v51_1 : Ref sig .tc := ⟨.hbm, 81, rfl⟩
abbrev main_call1_v2 : Ref sig .tc := ⟨.hbm, 82, rfl⟩
abbrev main_v51_0 : Ref sig .tc := ⟨.hbm, 83, rfl⟩
abbrev main_call1_cst : Ref sig .tc := ⟨.hbm, 84, rfl⟩
abbrev main_v51_2 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_12 : Ref sig .tc := ⟨.hbm, 99, rfl⟩
abbrev main_v65 : Ref sig .tc := ⟨.hbm, 100, rfl⟩
abbrev main_v66 : Ref sig .tc := ⟨.hbm, 101, rfl⟩
abbrev main_cst_13 : Ref sig .tc := ⟨.hbm, 102, rfl⟩
abbrev main_v67 : Ref sig .tc := ⟨.hbm, 103, rfl⟩
abbrev main_v68 : Ref sig .tc := ⟨.hbm, 104, rfl⟩
abbrev main_cst_14 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_call2_cst : Ref sig .tc := ⟨.hbm, 112, rfl⟩
abbrev main_call2_v0 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_cst_15 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_cst_16 : Ref sig .tc := ⟨.hbm, 122, rfl⟩
abbrev main_v82 : Ref sig .tc := ⟨.hbm, 123, rfl⟩
abbrev main_v83 : Ref sig .tc := ⟨.hbm, 124, rfl⟩
abbrev main_cst_17 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_cst_18 : Ref sig .tc := ⟨.hbm, 131, rfl⟩
abbrev main_v89 : Ref sig .tc := ⟨.hbm, 132, rfl⟩
abbrev main_v90 : Ref sig .tc := ⟨.hbm, 133, rfl⟩
abbrev main_cst_19 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_cst_20 : Ref sig .tc := ⟨.hbm, 147, rfl⟩
abbrev main_v103 : Ref sig .tc := ⟨.hbm, 148, rfl⟩
abbrev main_cst_21 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_cst_22 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_cst_23 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_cst_24 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩

abbrev nD : Nat := 1
abbrev τ : Topo := Topo.v7x

variable {F : FTy → Type} [FloatOps F]
-- ==== Kernel4.lean ====
abbrev S1x2048x1024 : Shape := ⟨3, ![1, 2048, 1024]⟩
abbrev S1x1024 : Shape := ⟨2, ![1, 1024]⟩
abbrev S1x1024x1792 : Shape := ⟨3, ![1, 1024, 1792]⟩
abbrev S2048x1024 : Shape := ⟨2, ![2048, 1024]⟩
abbrev S1024x1792 : Shape := ⟨2, ![1024, 1792]⟩
abbrev S1792x1024 : Shape := ⟨2, ![1792, 1024]⟩
abbrev S2048x768 : Shape := ⟨2, ![2048, 768]⟩
abbrev S512x1024 : Shape := ⟨2, ![512, 1024]⟩
abbrev S512x768 : Shape := ⟨2, ![512, 768]⟩
abbrev S512 : Shape := ⟨1, ![512]⟩
abbrev S512x1 : Shape := ⟨2, ![512, 1]⟩
abbrev S512x1792 : Shape := ⟨2, ![512, 1792]⟩

abbrev nBuf : Space → Nat
  | .hbm => 10
  | .vmem => 10
  | .smem => 0
  | _ => 0

abbrev bufTy : (tb : Table) → Fin (tcTables nBuf tb) → BufTy
  | .hbm, ⟨0, _⟩ => ⟨S1x2048x1024, .f32⟩
  | .hbm, ⟨1, _⟩ => ⟨S1x1024, .f32⟩
  | .hbm, ⟨2, _⟩ => ⟨S1x1024x1792, .f32⟩
  | .hbm, ⟨3, _⟩ => ⟨S2048x1024, .f32⟩
  | .hbm, ⟨4, _⟩ => ⟨S1024x1792, .f32⟩
  | .hbm, ⟨5, _⟩ => ⟨S1792x1024, .f32⟩
  | .hbm, ⟨6, _⟩ => ⟨S1792x1024, .bf16⟩
  | .hbm, ⟨7, _⟩ => ⟨S2048x1024, .f32⟩
  | .hbm, ⟨8, _⟩ => ⟨S2048x768, .bf16⟩
  | .hbm, ⟨9, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1792x1024, .bf16⟩
  | .local _ .vmem, ⟨4, _⟩ => ⟨S512x1024, .f32⟩
  | .local _ .vmem, ⟨5, _⟩ => ⟨S512x1024, .f32⟩
  | .local _ .vmem, ⟨6, _⟩ => ⟨S512x768, .bf16⟩
  | .local _ .vmem, ⟨7, _⟩ => ⟨S512x768, .bf16⟩
  | .local _ .vmem, ⟨8, _⟩ => ⟨S512x1024, .bf16⟩
  | .local _ .vmem, ⟨9, _⟩ => ⟨S512x1024, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1792x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S1x2048x1024 : Shape := ⟨3, ![1, 2048, 1024]⟩
abbrev S1x1024 : Shape := ⟨2, ![1, 1024]⟩
abbrev S1x1024x1792 : Shape := ⟨3, ![1, 1024, 1792]⟩
abbrev S1024 : Shape := ⟨1, ![1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1024x1792 : Shape := ⟨2, ![1024, 1792]⟩
abbrev S1x2048x1792 : Shape := ⟨3, ![1, 2048, 1792]⟩
abbrev S2048x1024 : Shape := ⟨2, ![2048, 1024]⟩
abbrev S1x2048x768 : Shape := ⟨3, ![1, 2048, 768]⟩
abbrev S2048x768 : Shape := ⟨2, ![2048, 768]⟩

abbrev nBuf : Space → Nat
  | .hbm => 29
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x1024, .f32⟩
  | .hbm, ⟨2, _⟩ => ⟨S1x1024x1792, .f32⟩
  | .hbm, ⟨3, _⟩ => ⟨S1024, .f32⟩
  | .hbm, ⟨4, _⟩ => ⟨S1x2048x1024, .f32⟩
  | .hbm, ⟨5, _⟩ => ⟨S_, .f32⟩
  | .hbm, ⟨6, _⟩ => ⟨S1x2048, .f32⟩
  | .hbm, ⟨7, _⟩ => ⟨S1x2048x1, .f32⟩
  | .hbm, ⟨8, _⟩ => ⟨S_, .f32⟩
  | .hbm, ⟨9, _⟩ => ⟨S1x2048x1, .f32⟩
  | .hbm, ⟨10, _⟩ => ⟨S1x2048x1, .f32⟩
  | .hbm, ⟨11, _⟩ => ⟨S_, .f32⟩
  | .hbm, ⟨12, _⟩ => ⟨S1x2048x1, .f32⟩
  | .hbm, ⟨13, _⟩ => ⟨S1x2048x1, .f32⟩
  | .hbm, ⟨14, _⟩ => ⟨S1x2048x1, .f32⟩
  | .hbm, ⟨15, _⟩ => ⟨S1x2048x1024, .f32⟩
  | .hbm, ⟨16, _⟩ => ⟨S1x2048x1024, .f32⟩
  | .hbm, ⟨17, _⟩ => ⟨S1x1x1024, .f32⟩
  | .hbm, ⟨18, _⟩ => ⟨S1x2048x1024, .f32⟩
  | .hbm, ⟨19, _⟩ => ⟨S1x2048x1024, .f32⟩
  | .hbm, ⟨20, _⟩ => ⟨S1024x1792, .f32⟩
  | .hbm, ⟨21, _⟩ => ⟨S1x2048x1792, .f32⟩
  | .hbm, ⟨22, _⟩ => ⟨S1x2048x1024, .f32⟩
  | .hbm, ⟨23, _⟩ => ⟨S2048x1024, .f32⟩
  | .hbm, ⟨24, _⟩ => ⟨S1x2048x768, .f32⟩
  | .hbm, ⟨25, _⟩ => ⟨S2048x768, .f32⟩
  | .hbm, ⟨26, _⟩ => ⟨S2048x768, .bf16⟩
  | .hbm, ⟨27, _⟩ => ⟨S2048x1024, .f32⟩
  | .hbm, ⟨28, _⟩ => ⟨S2048x1024, .bf16⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Kernel5.lean ====
abbrev S1x2048x1792 : Shape := ⟨3, ![1, 2048, 1792]⟩
abbrev S1x512 : Shape := ⟨2, ![1, 512]⟩
abbrev S1x4x128x128 : Shape := ⟨4, ![1, 4, 128, 128]⟩
abbrev S1x4x128 : Shape := ⟨3, ![1, 4, 128]⟩
abbrev S1x8 : Shape := ⟨2, ![1, 8]⟩
abbrev S32x8 : Shape := ⟨2, ![32, 8]⟩
abbrev S128x256 : Shape := ⟨2, ![128, 256]⟩
abbrev S4x128x1 : Shape := ⟨3, ![4, 128, 1]⟩
abbrev S1x2048x1024 : Shape := ⟨3, ![1, 2048, 1024]⟩
abbrev S2048x1024 : Shape := ⟨2, ![2048, 1024]⟩
abbrev S1x2048x768 : Shape := ⟨3, ![1, 2048, 768]⟩
abbrev S2048x768 : Shape := ⟨2, ![2048, 768]⟩
abbrev S4x128x128 : Shape := ⟨3, ![4, 128, 128]⟩
abbrev S8x32 : Shape := ⟨2, ![8, 32]⟩
abbrev S16x2x512x256 : Shape := ⟨4, ![16, 2, 512, 256]⟩
abbrev S16x2x512x128 : Shape := ⟨4, ![16, 2, 512, 128]⟩
abbrev S128x1024 : Shape := ⟨2, ![128, 1024]⟩
abbrev S128x512 : Shape := ⟨2, ![128, 512]⟩
abbrev S1x2x512x256 : Shape := ⟨4, ![1, 2, 512, 256]⟩
abbrev S1x2x512x128 : Shape := ⟨4, ![1, 2, 512, 128]⟩
abbrev S2x512x256 : Shape := ⟨3, ![2, 512, 256]⟩
abbrev S1x1 : Shape := ⟨2, ![1, 1]⟩
abbrev S1x128x256 : Shape := ⟨3, ![1, 128, 256]⟩
abbrev S128x128 : Shape := ⟨2, ![128, 128]⟩
abbrev S128 : Shape := ⟨1, ![128]⟩
abbrev S128x1 : Shape := ⟨2, ![128, 1]⟩
abbrev S1x128 : Shape := ⟨2, ![1, 128]⟩
abbrev S1x128x128 : Shape := ⟨3, ![1, 128, 128]⟩
abbrev S1x128x1 : Shape := ⟨3, ![1, 128, 1]⟩
abbrev S512x128 : Shape := ⟨2, ![512, 128]⟩
abbrev S128x64 : Shape := ⟨2, ![128, 64]⟩
abbrev S512x64 : Shape := ⟨2, ![512, 64]⟩
abbrev S1x512x256 : Shape := ⟨3, ![1, 512, 256]⟩
abbrev S512x256 : Shape := ⟨2, ![512, 256]⟩
abbrev S512x1 : Shape := ⟨2, ![512, 1]⟩
abbrev S512 : Shape := ⟨1, ![512]⟩
abbrev S1x1x512x128 : Shape := ⟨4, ![1, 1, 512, 128]⟩

abbrev nBuf : Space → Nat
  | .hbm => 19
  | .vmem => 21
  | .smem => 2
  | _ => 0

abbrev bufTy : (tb : Table) → Fin (tcTables nBuf tb) → BufTy
  | .hbm, ⟨0, _⟩ => ⟨S1x2048x1792, .f32⟩
  | .hbm, ⟨1, _⟩ => ⟨S1x512, .f32⟩
  | .hbm, ⟨2, _⟩ => ⟨S1x4x128x128, .f32⟩
  | .hbm, ⟨3, _⟩ => ⟨S1x4x128, .f32⟩
  | .hbm, ⟨4, _⟩ => ⟨S1x8, .f32⟩
  | .hbm, ⟨5, _⟩ => ⟨S32x8, .f32⟩
  | .hbm, ⟨6, _⟩ => ⟨S128x256, .i32⟩
  | .hbm, ⟨7, _⟩ => ⟨S4x128x1, .f32⟩
  | .hbm, ⟨8, _⟩ => ⟨S1x2048x1024, .f32⟩
  | .hbm, ⟨9, _⟩ => ⟨S2048x1024, .f32⟩
  | .hbm, ⟨10, _⟩ => ⟨S1x2048x768, .f32⟩
  | .hbm, ⟨11, _⟩ => ⟨S2048x768, .f32⟩
  | .hbm, ⟨12, _⟩ => ⟨S2048x768, .bf16⟩
  | .hbm, ⟨13, _⟩ => ⟨S4x128x128, .f32⟩
  | .hbm, ⟨14, _⟩ => ⟨S8x32, .f32⟩
  | .hbm, ⟨15, _⟩ => ⟨S2048x1024, .bf16⟩
  | .hbm, ⟨16, _⟩ => ⟨S2048x1024, .f32⟩
  | .hbm, ⟨17, _⟩ => ⟨S16x2x512x256, .f32⟩
  | .hbm, ⟨18, _⟩ => ⟨S16x2x512x128, .f32⟩
  | .local _ .vmem, ⟨0, _⟩ => ⟨S128x1024, .f32⟩
  | .local _ .vmem, ⟨1, _⟩ => ⟨S128x1024, .f32⟩
  | .local _ .vmem, ⟨2, _⟩ => ⟨S128x512, .bf16⟩
  | .local _ .vmem, ⟨3, _⟩ => ⟨S128x512, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S1x512, .f32⟩
  | .local _ .vmem, ⟨9, _⟩ => ⟨S4x128x128, .f32⟩
  | .local _ .vmem, ⟨10, _⟩ => ⟨S4x128x1, .f32⟩
  | .local _ .vmem, ⟨11, _⟩ => ⟨S128x256, .i32⟩
  | .local _ .vmem, ⟨12, _⟩ => ⟨S128x1024, .bf16⟩
  | .local _ .vmem, ⟨13, _⟩ => ⟨S128x1024, .bf16⟩
  | .local _ .vmem, ⟨14, _⟩ => ⟨S128x1024, .f32⟩
  | .local _ .vmem, ⟨15, _⟩ => ⟨S128x1024, .f32⟩
  | .local _ .vmem, ⟨16, _⟩ => ⟨S1x2x512x256, .f32⟩
  | .local _ .vmem, ⟨17, _⟩ => ⟨S1x2x512x256, .f32⟩
  | .local _ .vmem, ⟨18, _⟩ => ⟨S1x2x512x128, .f32⟩
  | .local _ .vmem, ⟨19, _⟩ => ⟨S1x2x512x128, .f32⟩
  | .local _ .vmem, ⟨20, _⟩ => ⟨S2x512x256, .f32⟩
  | .local _ .smem, ⟨0, _⟩ => ⟨S1x8, .f32⟩
  | .local _ .smem, ⟨1, _⟩ => ⟨S8x32, .f32⟩
  | _, _ => ⟨S1x2048x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_scratch0 : Ref sig .tc := ⟨.vmem, 20, rfl⟩
abbrev cc0_stg7_0 : Ref sig .tc := ⟨.smem, 0, rfl⟩
abbrev cc0_stg8_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.minsi arg0 c15_i32
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c15_i32 : BitVec 32 := 15#32
  let v0 : BitVec 32 := Scalar.minsi arg0 c15_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S1x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .smem S8x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x256 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x2x512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x2x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Kernel5Ideal.lean ====
variable {F : FTy → Type} [FloatOps F] [Named F]
def κ : String → Option EReal := fun
  | "gelu_a" => some ((8943 / 200000 : ℝ) : EReal)
  | "mask" => some ⊥
  | _ => none
-- ==== Reference5Ideal.lean ====
abbrev S1x2048x1792 : Shape := ⟨3, ![1, 2048, 1792]⟩
abbrev S1x512 : Shape := ⟨2, ![1, 512]⟩
abbrev S1x4x128x128 : Shape := ⟨4, ![1, 4, 128, 128]⟩
abbrev S1x4x128 : Shape := ⟨3, ![1, 4, 128]⟩
abbrev S1x8 : Shape := ⟨2, ![1, 8]⟩
abbrev S32x8 : Shape := ⟨2, ![32, 8]⟩
abbrev S1x2048x512 : Shape := ⟨3, ![1, 2048, 512]⟩
abbrev S1x2048x128 : Shape := ⟨3, ![1, 2048, 128]⟩
abbrev S1x2048x1024 : Shape := ⟨3, ![1, 2048, 1024]⟩
abbrev S_ : Shape := ⟨0, ![]⟩
abbrev S512 : Shape := ⟨1, ![512]⟩
abbrev S4x128x128 : Shape := ⟨3, ![4, 128, 128]⟩
abbrev S4x128 : Shape := ⟨2, ![4, 128]⟩
abbrev S1x2048x4x128 : Shape := ⟨4, ![1, 2048, 4, 128]⟩
abbrev S1x2048x4 : Shape := ⟨3, ![1, 2048, 4]⟩
abbrev S1x2048x4x1 : Shape := ⟨4, ![1, 2048, 4, 1]⟩
abbrev S1x1x4x128 : Shape := ⟨4, ![1, 1, 4, 128]⟩
abbrev S1x16x128x4x128 : Shape := ⟨5, ![1, 16, 128, 4, 128]⟩
abbrev S128x128 : Shape := ⟨2, ![128, 128]⟩
abbrev S1x128x128 : Shape := ⟨3, ![1, 128, 128]⟩
abbrev S4x1x16x128x128 : Shape := ⟨5, ![4, 1, 16, 128, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S8 : Shape := ⟨1, ![8]⟩
abbrev S1x16x128x2x4x64 : Shape := ⟨6, ![1, 16, 128, 2, 4, 64]⟩
abbrev S1x2048x2x64 : Shape := ⟨4, ![1, 2048, 2, 64]⟩
abbrev S1x2176x2x64 : Shape := ⟨4, ![1, 2176, 2, 64]⟩
abbrev S1x17x128x2x64 : Shape := ⟨5, ![1, 17, 128, 2, 64]⟩
abbrev S1x16x128x2x64 : Shape := ⟨5, ![1, 16, 128, 2, 64]⟩
abbrev S1x16x256x2x64 : Shape := ⟨5, ![1, 16, 256, 2, 64]⟩
abbrev S1x2x16x256x128x4 : Shape := ⟨6, ![1, 2, 16, 256, 128, 4]⟩
abbrev S1x2x4x16x128x256 : Shape := ⟨6, ![1, 2, 4, 16, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x256x1 : Shape := ⟨3, ![128, 256, 1]⟩
abbrev S128x256x8 : Shape := ⟨3, ![128, 256, 8]⟩
abbrev S8x128x256 : Shape := ⟨3, ![8, 128, 256]⟩
abbrev S2x4x1x128x256 : Shape := ⟨5, ![2, 4, 1, 128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S1x2x4x1x128x256 : Shape := ⟨6, ![1, 2, 4, 1, 128, 256]⟩
abbrev S2x4x1x1x1 : Shape := ⟨5, ![2, 4, 1, 1, 1]⟩
abbrev S1x2x4x16x128 : Shape := ⟨5, ![1, 2, 4, 16, 128]⟩
abbrev S1x2x4x16x128x1 : Shape := ⟨6, ![1, 2, 4, 16, 128, 1]⟩
abbrev S1x2x4x1x1x1 : Shape := ⟨6, ![1, 2, 4, 1, 1, 1]⟩
abbrev S1x16x2x64x4x128 : Shape := ⟨6, ![1, 16, 2, 64, 4, 128]⟩
abbrev S2x4x16x128x256 : Shape := ⟨5, ![2, 4, 16, 128, 256]⟩
abbrev S16x2x4x128x256 : Shape := ⟨5, ![16, 2, 4, 128, 256]⟩
abbrev S16x2x512x256 : Shape := ⟨4, ![16, 2, 512, 256]⟩
abbrev S2x4x16x128x1 : Shape := ⟨5, ![2, 4, 16, 128, 1]⟩
abbrev S16x2x4x128x1 : Shape := ⟨5, ![16, 2, 4, 128, 1]⟩
abbrev S16x2x512x1 : Shape := ⟨4, ![16, 2, 512, 1]⟩
abbrev S2048x1024 : Shape := ⟨2, ![2048, 1024]⟩
abbrev S16x2x512x128 : Shape := ⟨4, ![16, 2, 512, 128]⟩

abbrev nBuf : Space → Nat
  | .hbm => 236
  | .vmem => 0
  | .smem => 0
  | _ => 0

abbrev hbmTy0_0 (i : Nat) : BufTy := match i % 128 with
  | 0 => ⟨S1x2048x1792, .f32⟩
  | 1 => ⟨S1x512, .f32⟩
  | 2 => ⟨S1x4x128x128, .f32⟩
  | 3 => ⟨S1x4x128, .f32⟩
  | 4 => ⟨S1x8, .f32⟩
  | 5 => ⟨S32x8, .f32⟩
  | 6 => ⟨S1x2048x512, .f32⟩
  | 7 => ⟨S1x2048x128, .f32⟩
  | 8 => ⟨S1x2048x128, .f32⟩
  | 9 => ⟨S1x2048x1024, .f32⟩
  | 10 => ⟨S_, .f32⟩
  | 11 => ⟨S_, .f32⟩
  | 12 => ⟨S_, .f32⟩
  | 13 => ⟨S1x2048x1024, .f32⟩
  | 14 => ⟨S1x2048x1024, .f32⟩
  | 15 => ⟨S1x2048x1024, .f32⟩
  | 16 => ⟨S1x2048x1024, .f32⟩
  | 17 => ⟨S1x2048x1024, .f32⟩
  | 18 => ⟨S_, .f32⟩
  | 19 => ⟨S1x2048x1024, .f32⟩
  | 20 => ⟨S1x2048x1024, .f32⟩
  | 21 => ⟨S1x2048x1024, .f32⟩
  | 22 => ⟨S_, .f32⟩
  | 23 => ⟨S1x2048x1024, .f32⟩
  | 24 => ⟨S1x2048x1024, .f32⟩
  | 25 => ⟨S_, .f32⟩
  | 26 => ⟨S1x2048x1024, .f32⟩
  | 27 => ⟨S1x2048x1024, .f32⟩
  | 28 => ⟨S1x2048x1024, .f32⟩
  | 29 => ⟨S1x2048x512, .f32⟩
  | 30 => ⟨S1x2048x512, .f32⟩
  | 31 => ⟨S512, .f32⟩
  | 32 => ⟨S4x128x128, .f32⟩
  | 33 => ⟨S4x128, .f32⟩
  | 34 => ⟨S1x2048x4x128, .f32⟩
  | 35 => ⟨S4x128, .f32⟩
  | 36 => ⟨S1x2048x4x128, .f32⟩
  | 37 => ⟨S_, .f32⟩
  | 38 => ⟨S1x2048x4, .f32⟩
  | 39 => ⟨S1x2048x4x1, .f32⟩
  | 40 => ⟨S_, .f32⟩
  | 41 => ⟨S1x2048x4x1, .f32⟩
  | 42 => ⟨S1x2048x4x1, .f32⟩
  | 43 => ⟨S_, .f32⟩
  | 44 => ⟨S1x2048x4x1, .f32⟩
  | 45 => ⟨S1x2048x4x1, .f32⟩
  | 46 => ⟨S1x2048x4x1, .f32⟩
  | 47 => ⟨S1x2048x4x128, .f32⟩
  | 48 => ⟨S1x2048x4x128, .f32⟩
  | 49 => ⟨S1x1x4x128, .f32⟩
  | 50 => ⟨S1x2048x4x128, .f32⟩
  | 51 => ⟨S1x2048x4x128, .f32⟩
  | 52 => ⟨S1x16x128x4x128, .f32⟩
  | 53 => ⟨S_, .i1⟩
  | 54 => ⟨S128x128, .i1⟩
  | 55 => ⟨S128x128, .i32⟩
  | 56 => ⟨S_, .i32⟩
  | 57 => ⟨S128x128, .i32⟩
  | 58 => ⟨S128x128, .i32⟩
  | 59 => ⟨S128x128, .i32⟩
  | 60 => ⟨S128x128, .i1⟩
  | 61 => ⟨S_, .i1⟩
  | 62 => ⟨S128x128, .i1⟩
  | 63 => ⟨S128x128, .i1⟩
  | 64 => ⟨S1x128x128, .i1⟩
  | 65 => ⟨S_, .i32⟩
  | 66 => ⟨S_, .f32⟩
  | 67 => ⟨S4x128x128, .i1⟩
  | 68 => ⟨S4x128x128, .f32⟩
  | 69 => ⟨S4x128x128, .f32⟩
  | 70 => ⟨S4x1x16x128x128, .f32⟩
  | 71 => ⟨S1x16x128x4x128, .f32⟩
  | 72 => ⟨S128x4, .f32⟩
  | 73 => ⟨S128x4x1, .f32⟩
  | 74 => ⟨S1x1x128x4x1, .f32⟩
  | 75 => ⟨S1x16x128x4x128, .f32⟩
  | 76 => ⟨S1x16x128x4x128, .f32⟩
  | 77 => ⟨S1x2048x512, .f32⟩
  | 78 => ⟨S1x2048x512, .f32⟩
  | 79 => ⟨S8, .f32⟩
  | 80 => ⟨S1x16x128x2x4x64, .f32⟩
  | 81 => ⟨S1x2048x2x64, .f32⟩
  | 82 => ⟨S_, .i32⟩
  | 83 => ⟨S_, .f32⟩
  | 84 => ⟨S1x2176x2x64, .f32⟩
  | 85 => ⟨S1x17x128x2x64, .f32⟩
  | 86 => ⟨S1x16x128x2x64, .f32⟩
  | 87 => ⟨S1x16x128x2x64, .f32⟩
  | 88 => ⟨S1x16x256x2x64, .f32⟩
  | 89 => ⟨S1x2048x2x64, .f32⟩
  | 90 => ⟨S_, .i32⟩
  | 91 => ⟨S_, .f32⟩
  | 92 => ⟨S1x2176x2x64, .f32⟩
  | 93 => ⟨S1x17x128x2x64, .f32⟩
  | 94 => ⟨S1x16x128x2x64, .f32⟩
  | 95 => ⟨S1x16x128x2x64, .f32⟩
  | 96 => ⟨S1x16x256x2x64, .f32⟩
  | 97 => ⟨S1x2x16x256x128x4, .f32⟩
  | 98 => ⟨S1x2x4x16x128x256, .f32⟩
  | 99 => ⟨S_, .f32⟩
  | 100 => ⟨S1x2x4x16x128x256, .f32⟩
  | 101 => ⟨S1x2x4x16x128x256, .f32⟩
  | 102 => ⟨S128, .i32⟩
  | 103 => ⟨S128x1, .i32⟩
  | 104 => ⟨S256, .i32⟩
  | 105 => ⟨S1x256, .i32⟩
  | 106 => ⟨S_, .i32⟩
  | 107 => ⟨S128x1, .i32⟩
  | 108 => ⟨S128x1, .i32⟩
  | 109 => ⟨S128x256, .i32⟩
  | 110 => ⟨S128x256, .i32⟩
  | 111 => ⟨S128x256, .i32⟩
  | 112 => ⟨S_, .i32⟩
  | 113 => ⟨S128x256, .i32⟩
  | 114 => ⟨S128x256, .i1⟩
  | 115 => ⟨S_, .i32⟩
  | 116 => ⟨S128x256, .i32⟩
  | 117 => ⟨S128x256, .i1⟩
  | 118 => ⟨S128x256, .i1⟩
  | 119 => ⟨S_, .i32⟩
  | 120 => ⟨S128x256, .i32⟩
  | 121 => ⟨S128x256, .i32⟩
  | 122 => ⟨S_, .i32⟩
  | 123 => ⟨S128x256, .i32⟩
  | 124 => ⟨S128x256, .i32⟩
  | 125 => ⟨S128x256, .f32⟩
  | 126 => ⟨S_, .f32⟩
  | 127 => ⟨S128x256, .f32⟩
  | _ => ⟨S1x2048x1792, .f32⟩

abbrev hbmTy0_1 (i : Nat) : BufTy := match i % 128 with
  | 0 => ⟨S128x256, .f32⟩
  | 1 => ⟨S128x256, .f32⟩
  | 2 => ⟨S_, .f32⟩
  | 3 => ⟨S128x256, .f32⟩
  | 4 => ⟨S128x256, .f32⟩
  | 5 => ⟨S_, .f32⟩
  | 6 => ⟨S128x256, .f32⟩
  | 7 => ⟨S128x256, .f32⟩
  | 8 => ⟨S128x256, .i32⟩
  | 9 => ⟨S_, .i32⟩
  | 10 => ⟨S128x256, .i32⟩
  | 11 => ⟨S128x256, .i32⟩
  | 12 => ⟨S_, .i32⟩
  | 13 => ⟨S128x256, .i32⟩
  | 14 => ⟨S128x256, .i32⟩
  | 15 => ⟨S_, .i32⟩
  | 16 => ⟨S128x256, .i32⟩
  | 17 => ⟨S128x256, .i1⟩
  | 18 => ⟨S128x256, .i32⟩
  | 19 => ⟨S_, .i32⟩
  | 20 => ⟨S128x256, .i32⟩
  | 21 => ⟨S128x256, .i1⟩
  | 22 => ⟨S_, .i32⟩
  | 23 => ⟨S128x256, .i32⟩
  | 24 => ⟨S128x256, .i32⟩
  | 25 => ⟨S128x256, .i32⟩
  | 26 => ⟨S128x256x1, .i32⟩
  | 27 => ⟨S128x256x8, .f32⟩
  | 28 => ⟨S8x128x256, .f32⟩
  | 29 => ⟨S2x4x1x128x256, .f32⟩
  | 30 => ⟨S16, .i32⟩
  | 31 => ⟨S16x1x1, .i32⟩
  | 32 => ⟨S_, .i32⟩
  | 33 => ⟨S16x1x1, .i32⟩
  | 34 => ⟨S16x1x1, .i1⟩
  | 35 => ⟨S256, .i32⟩
  | 36 => ⟨S1x1x256, .i32⟩
  | 37 => ⟨S_, .i32⟩
  | 38 => ⟨S1x1x256, .i32⟩
  | 39 => ⟨S1x1x256, .i1⟩
  | 40 => ⟨S16x1x256, .i1⟩
  | 41 => ⟨S16x1x256, .i1⟩
  | 42 => ⟨S16x1x256, .i1⟩
  | 43 => ⟨S1x128x256, .i1⟩
  | 44 => ⟨S16x1x256, .i1⟩
  | 45 => ⟨S16x128x256, .i1⟩
  | 46 => ⟨S16x128x256, .i1⟩
  | 47 => ⟨S16x128x256, .i1⟩
  | 48 => ⟨S1x2x4x1x128x256, .f32⟩
  | 49 => ⟨S1x2x4x16x128x256, .f32⟩
  | 50 => ⟨S1x2x4x16x128x256, .f32⟩
  | 51 => ⟨S_, .f32⟩
  | 52 => ⟨S_, .f32⟩
  | 53 => ⟨S1x2x4x16x128x256, .i1⟩
  | 54 => ⟨S1x2x4x16x128x256, .f32⟩
  | 55 => ⟨S1x2x4x16x128x256, .f32⟩
  | 56 => ⟨S2x4x1x1x1, .f32⟩
  | 57 => ⟨S_, .f32⟩
  | 58 => ⟨S1x2x4x16x128, .f32⟩
  | 59 => ⟨S1x2x4x16x128x1, .f32⟩
  | 60 => ⟨S1x2x4x1x1x1, .f32⟩
  | 61 => ⟨S1x2x4x16x128x1, .f32⟩
  | 62 => ⟨S1x2x4x16x128x1, .f32⟩
  | 63 => ⟨S1x2x4x16x128x256, .f32⟩
  | 64 => ⟨S1x2x4x16x128x256, .f32⟩
  | 65 => ⟨S1x2x4x16x128x256, .f32⟩
  | 66 => ⟨S_, .f32⟩
  | 67 => ⟨S1x2x4x16x128, .f32⟩
  | 68 => ⟨S1x2x4x16x128x1, .f32⟩
  | 69 => ⟨S1x2x4x1x1x1, .f32⟩
  | 70 => ⟨S1x2x4x16x128x1, .f32⟩
  | 71 => ⟨S1x2x4x16x128x1, .f32⟩
  | 72 => ⟨S1x2x4x16x128x1, .f32⟩
  | 73 => ⟨S1x2x4x16x128x1, .f32⟩
  | 74 => ⟨S1x2x4x16x128x256, .f32⟩
  | 75 => ⟨S1x2x4x16x128x256, .f32⟩
  | 76 => ⟨S1x16x2x64x4x128, .f32⟩
  | 77 => ⟨S1x16x128x2x4x64, .f32⟩
  | 78 => ⟨S1x2048x512, .f32⟩
  | 79 => ⟨S2x4x16x128x256, .f32⟩
  | 80 => ⟨S16x2x4x128x256, .f32⟩
  | 81 => ⟨S16x2x512x256, .f32⟩
  | 82 => ⟨S1x2x4x1x1x1, .f32⟩
  | 83 => ⟨S1x2x4x16x128x1, .f32⟩
  | 84 => ⟨S1x2x4x16x128x1, .f32⟩
  | 85 => ⟨S1x2x4x16x128x1, .f32⟩
  | 86 => ⟨S1x2x4x16x128x1, .f32⟩
  | 87 => ⟨S2x4x16x128x1, .f32⟩
  | 88 => ⟨S16x2x4x128x1, .f32⟩
  | 89 => ⟨S16x2x512x1, .f32⟩
  | 90 => ⟨S1x2048x1024, .f32⟩
  | 91 => ⟨S2048x1024, .f32⟩
  | 92 => ⟨S_, .f32⟩
  | 93 => ⟨S_, .f32⟩
  | 94 => ⟨S_, .f32⟩
  | 95 => ⟨S2048x1024, .f32⟩
  | 96 => ⟨S2048x1024, .f32⟩
  | 97 => ⟨S2048x1024, .f32⟩
  | 98 => ⟨S2048x1024, .f32⟩
  | 99 => ⟨S2048x1024, .f32⟩
  | 100 => ⟨S_, .f32⟩
  | 101 => ⟨S2048x1024, .f32⟩
  | 102 => ⟨S2048x1024, .f32⟩
  | 103 => ⟨S2048x1024, .f32⟩
  | 104 => ⟨S1x2048x1024, .f32⟩
  | 105 => ⟨S2048x1024, .f32⟩
  | 106 => ⟨S2048x1024, .bf16⟩
  | 107 => ⟨S16x2x512x128, .f32⟩
  | _ => ⟨S1x2048x1792, .f32⟩

abbrev hbmTy (i : Nat) : BufTy := match i / 128 with
  | 0 => hbmTy0_0 i
  | 1 => hbmTy0_1 i
  | _ => ⟨S1x2048x1792, .f32⟩

abbrev bufTy : (tb : Table) → Fin (tcTables nBuf tb) → BufTy
  | .hbm, ⟨i, _⟩ => hbmTy i
  | _, _ => ⟨S1x2048x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c : Ref sig .tc := ⟨.hbm, 53, rfl⟩
abbrev main_v39 : Ref sig .tc := ⟨.hbm, 54, rfl⟩
abbrev main_call0_v0 : Ref sig .tc := ⟨.hbm, 55, rfl⟩
abbrev main_call0_c : Ref sig .tc := ⟨.hbm, 56, rfl⟩
abbrev main_call0_v1 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_c_0 : Ref sig .tc := ⟨.hbm, 61, rfl⟩
abbrev main_call0_v5 : Ref sig .tc := ⟨.hbm, 62, rfl⟩
abbrev main_v40 : Ref sig .tc := ⟨.hbm, 63, rfl⟩
abbrev main_v41 : Ref sig .tc := ⟨.hbm, 64, rfl⟩
abbrev main_c_7 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_c_8 : Ref sig .tc := ⟨.hbm, 82, rfl⟩
abbrev main_call2_v0 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_c_9 : Ref sig .tc := ⟨.hbm, 90, rfl⟩
abbrev main_call3_v0 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_10 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_c_11 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_c_12 : Ref sig .tc := ⟨.hbm, 112, rfl⟩
abbrev main_v79 : Ref sig .tc := ⟨.hbm, 113, rfl⟩
abbrev main_v80 : Ref sig .tc := ⟨.hbm, 114, rfl⟩
abbrev main_c_13 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_c_14 : Ref sig .tc := ⟨.hbm, 119, rfl⟩
abbrev main_v84 : Ref sig .tc := ⟨.hbm, 120, rfl⟩
abbrev main_v85 : Ref sig .tc := ⟨.hbm, 121, rfl⟩
abbrev main_c_15 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_16 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_cst_17 : Ref sig .tc := ⟨.hbm, 130, rfl⟩
abbrev main_v92 : Ref sig .tc := ⟨.hbm, 131, rfl⟩
abbrev main_v93 : Ref sig .tc := ⟨.hbm, 132, rfl⟩
abbrev main_cst_18 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_c_19 : Ref sig .tc := ⟨.hbm, 137, rfl⟩
abbrev main_v97 : Ref sig .tc := ⟨.hbm, 138, rfl⟩
abbrev main_v98 : Ref sig .tc := ⟨.hbm, 139, rfl⟩
abbrev main_c_20 : Ref sig .tc := ⟨.hbm, 140, rfl⟩
abbrev main_v99 : Ref sig .tc := ⟨.hbm, 141, rfl⟩
abbrev main_v100 : Ref sig .tc := ⟨.hbm, 142, rfl⟩
abbrev main_c_21 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_c_22 : Ref sig .tc := ⟨.hbm, 147, rfl⟩
abbrev main_v104 : Ref sig .tc := ⟨.hbm, 148, rfl⟩
abbrev main_v105 : Ref sig .tc := ⟨.hbm, 149, rfl⟩
abbrev main_c_23 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_c_24 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_c_25 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_cst_26 : Ref sig .tc := ⟨.hbm, 179, rfl⟩
abbrev main_call5_v0 : Ref sig .tc := ⟨.hbm, 180, rfl⟩
abbrev main_call5_v1 : Ref sig .tc := ⟨.hbm, 181, rfl⟩
abbrev main_call5_v2 : Ref sig .tc := ⟨.hbm, 182, rfl⟩
abbrev main_v132 : Ref sig .tc := ⟨.hbm, 183, rfl⟩
abbrev main_v133 : Ref sig .tc := ⟨.hbm, 184, rfl⟩
abbrev main_cst_27 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_cst_28 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_cst_29 : Ref sig .tc := ⟨.hbm, 220, rfl⟩
abbrev main_cst_30 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_cst_31 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_v179 : Ref sig .tc := ⟨.hbm, 235, rfl⟩

abbrev nD : Nat := 1
abbrev τ : Topo := Topo.v7x

variable {F : FTy → Type} [FloatOps F]

def κ : String → Option EReal := fun
  | "mask" => some ⊥
  | _ => none
-- ==== Kernel6.lean ====
abbrev S1x2048x4096 : Shape := ⟨3, ![1, 2048, 4096]⟩
abbrev S1x2048x1024 : Shape := ⟨3, ![1, 2048, 1024]⟩
abbrev S2048x4096 : Shape := ⟨2, ![2048, 4096]⟩
abbrev S2048x1024 : Shape := ⟨2, ![2048, 1024]⟩
abbrev S4096x1024 : Shape := ⟨2, ![4096, 1024]⟩
abbrev S1024x1024 : Shape := ⟨2, ![1024, 1024]⟩
abbrev S1024x2048 : Shape := ⟨2, ![1024, 2048]⟩

abbrev nBuf : Space → Nat
  | .hbm => 7
  | .vmem => 6
  | .smem => 0
  | _ => 0

abbrev bufTy : (tb : Table) → Fin (tcTables nBuf tb) → BufTy
  | .hbm, ⟨0, _⟩ => ⟨S1x2048x4096, .f32⟩
  | .hbm, ⟨1, _⟩ => ⟨S1x2048x1024, .f32⟩
  | .hbm, ⟨2, _⟩ => ⟨S2048x4096, .f32⟩
  | .hbm, ⟨3, _⟩ => ⟨S2048x4096, .bf16⟩
  | .hbm, ⟨4, _⟩ => ⟨S2048x1024, .f32⟩
  | .hbm, ⟨5, _⟩ => ⟨S2048x1024, .bf16⟩
  | .hbm, ⟨6, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x2048, .bf16⟩
  | _, _ => ⟨S1x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S1x2048x4096 : Shape := ⟨3, ![1, 2048, 4096]⟩
abbrev S1x2048x1024 : Shape := ⟨3, ![1, 2048, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 7
  | .vmem => 0
  | .smem => 0
  | _ => 0

abbrev bufTy : (tb : Table) → Fin (tcTables nBuf tb) → BufTy
  | .hbm, ⟨0, _⟩ => ⟨S1x2048x4096, .f32⟩
  | .hbm, ⟨1, _⟩ => ⟨S1x2048x1024, .f32⟩
  | .hbm, ⟨2, _⟩ => ⟨S_, .f32⟩
  | .hbm, ⟨3, _⟩ => ⟨S4096x1024, .f32⟩
  | .hbm, ⟨4, _⟩ => ⟨S1x2048x1024, .f32⟩
  | .hbm, ⟨5, _⟩ => ⟨S1024x4096, .f32⟩
  | .hbm, ⟨6, _⟩ => ⟨S4096x1024, .f32⟩
  | _, _ => ⟨S1x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S1x2048x1024 : Shape := ⟨3, ![1, 2048, 1024]⟩
abbrev S1x2048x1792 : Shape := ⟨3, ![1, 2048, 1792]⟩
abbrev S2048x1792 : Shape := ⟨2, ![2048, 1792]⟩
abbrev S2048x1536 : Shape := ⟨2, ![2048, 1536]⟩
abbrev S2048x256 : Shape := ⟨2, ![2048, 256]⟩
abbrev S2048x1024 : Shape := ⟨2, ![2048, 1024]⟩
abbrev S1792x1024 : Shape := ⟨2, ![1792, 1024]⟩
abbrev S256x1024 : Shape := ⟨2, ![256, 1024]⟩

abbrev nBuf : Space → Nat
  | .hbm => 9
  | .vmem => 6
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1792, .f32⟩
  | .hbm, ⟨2, _⟩ => ⟨S2048x1792, .f32⟩
  | .hbm, ⟨3, _⟩ => ⟨S2048x1792, .bf16⟩
  | .hbm, ⟨4, _⟩ => ⟨S2048x1536, .bf16⟩
  | .hbm, ⟨5, _⟩ => ⟨S2048x256, .bf16⟩
  | .hbm, ⟨6, _⟩ => ⟨S2048x1024, .f32⟩
  | .hbm, ⟨7, _⟩ => ⟨S2048x1024, .bf16⟩
  | .hbm, ⟨8, _⟩ => ⟨S1792x1024, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x1024, .bf16⟩
  | .local _ .vmem, ⟨4, _⟩ => ⟨S256x1024, .f32⟩
  | .local _ .vmem, ⟨5, _⟩ => ⟨S256x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![7], ![false]⟩

def k0_cond1 (i : grid0.Coords) : BitVec 1 :=
  let arg0 : BitVec 32 := BitVec.ofNat 32 (i 0).val
  let c6_i32 : BitVec 32 := 6#32
  let v0 : BitVec 1 := Scalar.cmpi .slt arg0 c6_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c6_i32_0 : BitVec 32 := 6#32
  let v3 : BitVec 1 := Scalar.cmpi .eq arg0 c6_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c5_i32 : BitVec 32 := 5#32
  let v0 : BitVec 32 := Scalar.minsi arg0 c5_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S1x2048x1024 : Shape := ⟨3, ![1, 2048, 1024]⟩
abbrev S1x2048x1792 : Shape := ⟨3, ![1, 2048, 1792]⟩
abbrev S_ : Shape := ⟨0, ![]⟩
abbrev S1024x1792 : Shape := ⟨2, ![1024, 1792]⟩
abbrev S1792x1024 : Shape := ⟨2, ![1792, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1792, .f32⟩
  | .hbm, ⟨2, _⟩ => ⟨S_, .f32⟩
  | .hbm, ⟨3, _⟩ => ⟨S1024x1792, .f32⟩
  | .hbm, ⟨4, _⟩ => ⟨S1x2048x1792, .f32⟩
  | .hbm, ⟨5, _⟩ => ⟨S1792x1024, .f32⟩
  | .hbm, ⟨6, _⟩ => ⟨S1024x1792, .f32⟩
  | .hbm, ⟨7, _⟩ => ⟨S1792x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S1024x512 : Shape := ⟨2, ![1024, 512]⟩
abbrev S3x1024x512 : Shape := ⟨3, ![3, 1024, 512]⟩
abbrev S1x1024x512 : Shape := ⟨3, ![1, 1024, 512]⟩
abbrev S512x512 : Shape := ⟨2, ![512, 512]⟩
abbrev S3x512x512 : Shape := ⟨3, ![3, 512, 512]⟩
abbrev S1x512x512 : Shape := ⟨3, ![1, 512, 512]⟩

abbrev nBuf : Space → Nat
  | .hbm => 13
  | .vmem => 18
  | .smem => 0
  | _ => 0

abbrev bufTy : (tb : Table) → Fin (tcTables nBuf tb) → BufTy
  | .hbm, ⟨0, _⟩ => ⟨S1024x512, .f32⟩
  | .hbm, ⟨1, _⟩ => ⟨S3x1024x512, .f32⟩
  | .hbm, ⟨2, _⟩ => ⟨S1x1024x512, .f32⟩
  | .hbm, ⟨3, _⟩ => ⟨S1x1024x512, .f32⟩
  | .hbm, ⟨4, _⟩ => ⟨S1x1024x512, .f32⟩
  | .hbm, ⟨5, _⟩ => ⟨S3x1024x512, .bf16⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S3x512x512, .bf16⟩
  | .local _ .vmem, ⟨3, _⟩ => ⟨S3x512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference8Ideal.lean ====
abbrev S1024x512 : Shape := ⟨2, ![1024, 512]⟩
abbrev S3x1024x512 : Shape := ⟨3, ![3, 1024, 512]⟩
abbrev S1x1024x512 : Shape := ⟨3, ![1, 1024, 512]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S3x1024x512, .f32⟩
  | .hbm, ⟨2, _⟩ => ⟨S1x1024x512, .f32⟩
  | .hbm, ⟨3, _⟩ => ⟨S1x1024x512, .f32⟩
  | .hbm, ⟨4, _⟩ => ⟨S1x1024x512, .f32⟩
  | .hbm, ⟨5, _⟩ => ⟨S_, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S_, .f32⟩
  | .hbm, ⟨15, _⟩ => ⟨S1024x512, .f32⟩
  | .hbm, ⟨16, _⟩ => ⟨S1024x512, .f32⟩
  | .hbm, ⟨17, _⟩ => ⟨S1024x512, .f32⟩
  | .hbm, ⟨18, _⟩ => ⟨S_, .f32⟩
  | .hbm, ⟨19, _⟩ => ⟨S1024x512, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S_, .f32⟩
  | .hbm, ⟨30, _⟩ => ⟨S1024x512, .f32⟩
  | .hbm, ⟨31, _⟩ => ⟨S1024x512, .f32⟩
  | .hbm, ⟨32, _⟩ => ⟨S1024x512, .f32⟩
  | .hbm, ⟨33, _⟩ => ⟨S_, .f32⟩
  | .hbm, ⟨34, _⟩ => ⟨S1024x512, .f32⟩
  | .hbm, ⟨35, _⟩ => ⟨S1024x512, .f32⟩
  | .hbm, ⟨36, _⟩ => ⟨S1024x512, .f32⟩
  | .hbm, ⟨37, _⟩ => ⟨S_, .f32⟩
  | .hbm, ⟨38, _⟩ => ⟨S1024x512, .f32⟩
  | .hbm, ⟨39, _⟩ => ⟨S1024x512, .f32⟩
  | .hbm, ⟨40, _⟩ => ⟨S1024x512, .f32⟩
  | .hbm, ⟨41, _⟩ => ⟨S_, .f32⟩
  | .hbm, ⟨42, _⟩ => ⟨S1024x512, .f32⟩
  | .hbm, ⟨43, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== Kernel9.lean ====
abbrev S8x512x1024 : Shape := ⟨3, ![8, 512, 1024]⟩
abbrev S4x512x1024 : Shape := ⟨3, ![4, 512, 1024]⟩
abbrev S4 : Shape := ⟨1, ![4]⟩
abbrev S512x1024 : Shape := ⟨2, ![512, 1024]⟩
abbrev S3x512x1024 : Shape := ⟨3, ![3, 512, 1024]⟩
abbrev S1x256x1024 : Shape := ⟨3, ![1, 256, 1024]⟩
abbrev S1 : Shape := ⟨1, ![1]⟩
abbrev S4x256x1024 : Shape := ⟨3, ![4, 256, 1024]⟩
abbrev S256x1024 : Shape := ⟨2, ![256, 1024]⟩
abbrev S3x256x1024 : Shape := ⟨3, ![3, 256, 1024]⟩

abbrev nBuf : Space → Nat
  | .hbm => 4
  | .vmem => 14
  | .smem => 1
  | _ => 0

abbrev bufTy : (tb : Table) → Fin (tcTables nBuf tb) → BufTy
  | .hbm, ⟨0, _⟩ => ⟨S8x512x1024, .f32⟩
  | .hbm, ⟨1, _⟩ => ⟨S4x512x1024, .f32⟩
  | .hbm, ⟨2, _⟩ => ⟨S512x1024, .f32⟩
  | .hbm, ⟨3, _⟩ => ⟨S3x512x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S4x256x1024, .f32⟩
  | .local _ .vmem, ⟨9, _⟩ => ⟨S4x256x1024, .f32⟩
  | .local _ .vmem, ⟨10, _⟩ => ⟨S256x1024, .f32⟩
  | .local _ .vmem, ⟨11, _⟩ => ⟨S256x1024, .f32⟩
  | .local _ .vmem, ⟨12, _⟩ => ⟨S3x256x1024, .bf16⟩
  | .local _ .vmem, ⟨13, _⟩ => ⟨S3x256x1024, .bf16⟩
  | .local _ .smem, ⟨0, _⟩ => ⟨S4, .i32⟩
  | _, _ => ⟨S8x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S4_S1_0 : ∀ a, (![0] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S4) ![0] S1.size inb_S4_S1_0) numel1_S1
  let c0_i32 : BitVec 32 := 0#32
  let c0_i32_0 : BitVec 32 := 0#32
  ![v0.toNat, arg0.toNat, c0_i32.toNat]

def cc0_transform_1 (inb_S4_S1_1 : ∀ a, (![1] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S4) ![1] S1.size inb_S4_S1_1) numel1_S1
  let c0_i32 : BitVec 32 := 0#32
  let c0_i32_0 : BitVec 32 := 0#32
  ![v0.toNat, arg0.toNat, c0_i32.toNat]

def cc0_transform_2 (inb_S4_S1_2 : ∀ a, (![2] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let c2 : Index := 2#32
  let v0 : BitVec 32 := pf.at 0 (Rect.unit (s := S4) ![2] S1.size inb_S4_S1_2) numel1_S1
  let c0_i32 : BitVec 32 := 0#32
  let c0_i32_0 : BitVec 32 := 0#32
  ![v0.toNat, arg0.toNat, c0_i32.toNat]

def cc0_transform_3 (inb_S4_S1_3 : ∀ a, (![3] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let c3 : Index := 3#32
  let v0 : BitVec 32 := pf.at 0 (Rect.unit (s := S4) ![3] S1.size inb_S4_S1_3) numel1_S1
  let c0_i32 : BitVec 32 := 0#32
  let c0_i32_0 : BitVec 32 := 0#32
  ![v0.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference9Ideal.lean ====
abbrev S8x512x1024 : Shape := ⟨3, ![8, 512, 1024]⟩
abbrev S4x512x1024 : Shape := ⟨3, ![4, 512, 1024]⟩
abbrev S1x512x1024 : Shape := ⟨3, ![1, 512, 1024]⟩
abbrev S512x1024 : Shape := ⟨2, ![512, 1024]⟩
abbrev S3x512x1024 : Shape := ⟨3, ![3, 512, 1024]⟩

abbrev nBuf : Space → Nat
  | .hbm => 31
  | .vmem => 0
  | .smem => 0
  | _ => 0

abbrev bufTy : (tb : Table) → Fin (tcTables nBuf tb) → BufTy
  | .hbm, ⟨0, _⟩ => ⟨S8x512x1024, .f32⟩
  | .hbm, ⟨1, _⟩ => ⟨S4x512x1024, .f32⟩
  | .hbm, ⟨2, _⟩ => ⟨S1x512x1024, .f32⟩
  | .hbm, ⟨3, _⟩ => ⟨S512x1024, .f32⟩
  | .hbm, ⟨4, _⟩ => ⟨S1x512x1024, .f32⟩
  | .hbm, ⟨5, _⟩ => ⟨S512x1024, .f32⟩
  | .hbm, ⟨6, _⟩ => ⟨S512x1024, .f32⟩
  | .hbm, ⟨7, _⟩ => ⟨S1x512x1024, .f32⟩
  | .hbm, ⟨8, _⟩ => ⟨S512x1024, .f32⟩
  | .hbm, ⟨9, _⟩ => ⟨S1x512x1024, .f32⟩
  | .hbm, ⟨10, _⟩ => ⟨S512x1024, .f32⟩
  | .hbm, ⟨11, _⟩ => ⟨S512x1024, .f32⟩
  | .hbm, ⟨12, _⟩ => ⟨S1x512x1024, .f32⟩
  | .hbm, ⟨13, _⟩ => ⟨S512x1024, .f32⟩
  | .hbm, ⟨14, _⟩ => ⟨S1x512x1024, .f32⟩
  | .hbm, ⟨15, _⟩ => ⟨S512x1024, .f32⟩
  | .hbm, ⟨16, _⟩ => ⟨S512x1024, .f32⟩
  | .hbm, ⟨17, _⟩ => ⟨S1x512x1024, .f32⟩
  | .hbm, ⟨18, _⟩ => ⟨S512x1024, .f32⟩
  | .hbm, ⟨19, _⟩ => ⟨S1x512x1024, .f32⟩
  | .hbm, ⟨20, _⟩ => ⟨S512x1024, .f32⟩
  | .hbm, ⟨21, _⟩ => ⟨S512x1024, .f32⟩
  | .hbm, ⟨22, _⟩ => ⟨S1x512x1024, .f32⟩
  | .hbm, ⟨23, _⟩ => ⟨S1x512x1024, .f32⟩
  | .hbm, ⟨24, _⟩ => ⟨S1x512x1024, .f32⟩
  | .hbm, ⟨25, _⟩ => ⟨S1x512x1024, .f32⟩
  | .hbm, ⟨26, _⟩ => ⟨S4x512x1024, .f32⟩
  | .hbm, ⟨27, _⟩ => ⟨S1x512x1024, .f32⟩
  | .hbm, ⟨28, _⟩ => ⟨S512x1024, .f32⟩
  | .hbm, ⟨29, _⟩ => ⟨S3x512x1024, .f32⟩
  | .hbm, ⟨30, _⟩ => ⟨S3x512x1024, .bf16⟩
  | _, _ => ⟨S8x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩

abbrev nD : Nat := 1
abbrev τ : Topo := Topo.v7x

variable {F : FTy → Type} [FloatOps F]
-- ==== Proof.RmsGrad.lean ====
/- The gradient of a root-mean-square norm at one element, on the extended reals: the form with the cube of the
   scale and the form of the chain rule through the reciprocal square root are one number, at infinite elements too. -/
module

public import Idealize.ShloMosaic.PureOps.Ideal
public import Idealize.ShloMosaic.PureOps.Ideal.Laws

@[expose] public section

noncomputable section

namespace Cert.RmsGrad

open Idealize.ShloMosaic

/-! ## The constants -/

/-- The row length `1024`. -/
theorem bits_1024 : Ideal.ofBits .f32 0x44800000#32 = ((1024 : ℝ) : EReal) := by
  simp [Ideal.ofBits, Ideal.ieee, -EReal.coe_mul]; norm_num

/-- The norm's epsilon, the float nearest `1e-6`. -/
theorem bits_eps : Ideal.ofBits .f32 0x358637BD#32 = ((8796093 / 8796093022208 : ℝ) : EReal) := by
  simp [Ideal.ofBits, Ideal.ieee, -EReal.coe_mul]; norm_num

/-- The factor `-1/2` of the derivative of the reciprocal square root. -/
theorem bits_neg_half : Ideal.ofBits .f32 0xBF000000#32 = ((-(1 / 2) : ℝ) : EReal) := by
  simp [Ideal.ofBits, Ideal.ieee, -EReal.coe_mul, -EReal.coe_neg]; norm_num

/-- The epsilon is positive. -/
theorem eps_pos : (0 : EReal) < Ideal.ofBits .f32 0x358637BD#32 := by
  rw [bits_eps]; exact EReal.coe_pos.mpr (by norm_num)

/-! ## Squares -/

/-- A square is not negative, at the infinities too. -/
theorem mul_self_nonneg' (x : EReal) : 0 ≤ x * x := by
  induction x with
  | bot => simp
  | top => simp
  | coe a => rw [← EReal.coe_mul]; exact EReal.coe_nonneg.mpr (mul_self_nonneg a)

/-- The sum of squares is not negative. -/
theorem sum_sq_nonneg {n : ℕ} (x : Fin n → EReal) : 0 ≤ ∑ k, x k * x k :=
  Finset.sum_nonneg fun k _ => mul_self_nonneg' (x k)

/-- One square is at most the sum. -/
theorem sq_le_sum {n : ℕ} (x : Fin n → EReal) (i : Fin n) : x i * x i ≤ ∑ k, x k * x k :=
  Finset.single_le_sum (f := fun k => x k * x k) (fun k _ => mul_self_nonneg' (x k)) (Finset.mem_univ i)

/-- The quotient by a positive real. -/
theorem div_pos_coe {n : ℝ} (hn : 0 < n) (s : EReal) : Ideal.div s (n : EReal) = s * ((1 / n : ℝ) : EReal) :=
  Ideal.div_coe hn.ne' s

/-- The mean square plus a positive real is `+∞` or a positive real over a row of reals: `x` is an element of the row. -/
theorem mean_cases {n : ℕ} (x : Fin n → EReal) (i : Fin n) {N e : ℝ} (hN : 0 < N) (he : 0 < e) :
    Ideal.div (∑ k, x k * x k) (N : EReal) + (e : EReal) = ⊤
    ∨ ∃ a y : ℝ, 0 < a ∧ Ideal.div (∑ k, x k * x k) (N : EReal) + (e : EReal) = ((a * a : ℝ) : EReal) ∧ x i = (y : EReal) := by
  have h0 := sum_sq_nonneg x
  have h1 := sq_le_sum x i
  have hN' : (0 : ℝ) < 1 / N := by positivity
  rw [div_pos_coe hN]
  generalize (∑ k, x k * x k) = s at h0 h1 ⊢
  induction s with
  | bot => simp at h0
  | top => left; rw [EReal.top_mul_coe_of_pos hN', EReal.top_add_coe]
  | coe s =>
    right
    have hs : 0 ≤ s := EReal.coe_nonneg.mp h0
    refine ⟨Real.sqrt (s * (1 / N) + e), ?_⟩
    have hp : 0 < s * (1 / N) + e := by positivity
    generalize x i = y at h1 ⊢
    induction y with
    | bot => simp at h1
    | top => simp at h1
    | coe y =>
      refine ⟨y, Real.sqrt_pos.mpr hp, ?_, rfl⟩
      rw [Real.mul_self_sqrt hp.le]; norm_cast

/-- The reciprocal square root of a positive real's square. -/
theorem rsqrt_sq {a : ℝ} (ha : 0 < a) : Ideal.rsqrt ((a * a : ℝ) : EReal) = ((a⁻¹ : ℝ) : EReal) := by
  rw [Ideal.rsqrt_coe, if_neg (by nlinarith), if_neg (by positivity), Real.sqrt_mul_self ha.le]

/-! ## The gradient -/

/-- The term of the gradient that comes through the scale, with `r` the reciprocal square root of the mean square and
    `S` the row's product of cotangent and element: the cube of `r` times the mean of `S`, negated, is what the chain
    rule through `r` adds to both factors of the square. -/
theorem through_scale {n : ℕ} (x : Fin n → EReal) (i : Fin n) {N e : ℝ} (hN : 0 < N) (he : 0 < e) (S v : EReal)
    (hv : v = Ideal.div (∑ k, x k * x k) (N : EReal) + (e : EReal)) :
    -(x i * (Ideal.rsqrt v * Ideal.rsqrt v * Ideal.rsqrt v * Ideal.div S (N : EReal)))
      = x i * Ideal.div (S * (((-(1 / 2) : ℝ) : EReal) * Ideal.div (Ideal.rsqrt v) v)) (N : EReal)
        + Ideal.div (S * (((-(1 / 2) : ℝ) : EReal) * Ideal.div (Ideal.rsqrt v) v)) (N : EReal) * x i := by
  rw [div_pos_coe hN, div_pos_coe hN]
  have hN' : (0 : ℝ) < 1 / N := by positivity
  rcases mean_cases x i hN he with h | ⟨a, y, ha, h, hy⟩
  · rw [hv, h]; simp [Ideal.div]
  · have h3 : (0 : ℝ) < a⁻¹ * a⁻¹ * a⁻¹ := by positivity
    rw [hv, h, rsqrt_sq ha, Ideal.div_coe (by positivity), hy]
    generalize 1 / N = q at hN'
    have hr : ((-(1 / 2) : ℝ) : EReal) * (((a⁻¹ : ℝ) : EReal) * ((1 / (a * a) : ℝ) : EReal))
        = ((-(1 / 2) * (a⁻¹ * a⁻¹ * a⁻¹) : ℝ) : EReal) := by
      rw [← EReal.coe_mul, ← EReal.coe_mul]; congr 1; field_simp
    rw [hr, ← EReal.coe_mul, ← EReal.coe_mul]
    generalize a⁻¹ * a⁻¹ * a⁻¹ = b at h3
    have hn : -(1 / 2) * b < 0 := by linarith
    induction S with
    | coe S =>
      norm_cast; ring
    | top =>
      rw [EReal.top_mul_coe_of_neg hn, EReal.bot_mul_coe_of_pos hN', EReal.top_mul_coe_of_pos hN', EReal.coe_mul_top_of_pos h3]
      rcases lt_trichotomy y 0 with hy | hy | hy
      · rw [EReal.coe_mul_top_of_neg hy, EReal.coe_mul_bot_of_neg hy, EReal.bot_mul_coe_of_neg hy]; rfl
      · subst hy; simp
      · rw [EReal.coe_mul_top_of_pos hy, EReal.coe_mul_bot_of_pos hy, EReal.bot_mul_coe_of_pos hy]; rfl
    | bot =>
      rw [EReal.bot_mul_coe_of_neg hn, EReal.top_mul_coe_of_pos hN', EReal.bot_mul_coe_of_pos hN', EReal.coe_mul_bot_of_pos h3]
      rcases lt_trichotomy y 0 with hy | hy | hy
      · rw [EReal.coe_mul_top_of_neg hy, EReal.coe_mul_bot_of_neg hy, EReal.top_mul_coe_of_neg hy]; rfl
      · subst hy; simp
      · rw [EReal.coe_mul_top_of_pos hy, EReal.coe_mul_bot_of_pos hy, EReal.top_mul_coe_of_pos hy]; rfl

end Cert.RmsGrad

end
-- ==== Proof.HostSums.lean ====
/- The host's float sums over axes of size one read one element. -/
module

public import Idealize.ShloMosaic.Lib.IdealHost
public import Idealize.ShloMosaic.Lib.Pointwise

@[expose] public section

noncomputable section

namespace Cert.HostSums

open Idealize.ShloMosaic

/-- A sum whose fibre over `j` is one index reads the operand there. -/
theorem of_fiber {s t : Shape} {axes : List (Fin s.rank)} (h : s.ReducesTo axes t) (v : s.Idx → EReal) (init : EReal)
    (j : t.Idx) (i : s.Idx) (hi : ∀ i', h.drop i' = j ↔ i' = i) : Ideal.hostReduceAdd h v init j = init + v i := by
  show init + _ = _
  congr 1
  refine (Finset.sum_subset_zero_on_sdiff (s₁ := {i}) ?_ ?_ fun _ _ => rfl).symm.trans (Finset.sum_singleton _ _)
  · intro i' h'; simpa [hi] using h'
  · intro i' h'; simp [hi] at h'

variable {n : ℕ}

/-- The outer two axes of three, both of size one. -/
theorem unit_01 (h : (⟨3, ![1, 1, n]⟩ : Shape).ReducesTo [0, 1] ⟨1, ![n]⟩) (v : (⟨3, ![1, 1, n]⟩ : Shape).Idx → EReal)
    (init : EReal) (r : Fin n) : Ideal.hostReduceAdd h v init (ix1 r) = init + v (ix3 0 0 r) := by
  refine of_fiber h v init _ _ fun i' => ⟨fun e => ?_, fun e => ?_⟩
  · funext a
    match a with
    | ⟨0, _⟩ => exact Subsingleton.elim (α := Fin 1) _ _
    | ⟨1, _⟩ => exact Subsingleton.elim (α := Fin 1) _ _
    | ⟨2, _⟩ => exact Fin.ext (congrArg Fin.val (congrFun e 0))
  · subst e; funext a
    match a with
    | ⟨0, _⟩ => rfl

/-- The first and the last axis of three, both of size one. -/
theorem unit_02 (h : (⟨3, ![1, n, 1]⟩ : Shape).ReducesTo [0, 2] ⟨1, ![n]⟩) (v : (⟨3, ![1, n, 1]⟩ : Shape).Idx → EReal)
    (init : EReal) (r : Fin n) : Ideal.hostReduceAdd h v init (ix1 r) = init + v (ix3 0 r 0) := by
  refine of_fiber h v init _ _ fun i' => ⟨fun e => ?_, fun e => ?_⟩
  · funext a
    match a with
    | ⟨0, _⟩ => exact Subsingleton.elim (α := Fin 1) _ _
    | ⟨1, _⟩ => exact Fin.ext (congrArg Fin.val (congrFun e 0))
    | ⟨2, _⟩ => exact Subsingleton.elim (α := Fin 1) _ _
  · subst e; funext a
    match a with
    | ⟨0, _⟩ => rfl

variable {k : ℕ}

/-- The outer two axes of four, both of size one. -/
theorem unit_01_of_4 (h : (⟨4, ![1, 1, n, k]⟩ : Shape).ReducesTo [0, 1] ⟨2, ![n, k]⟩) (v : (⟨4, ![1, 1, n, k]⟩ : Shape).Idx → EReal)
    (init : EReal) (r : Fin n) (j : Fin k) : Ideal.hostReduceAdd h v init (ix2 r j) = init + v (ix4 0 0 r j) := by
  refine of_fiber h v init _ _ fun i' => ⟨fun e => ?_, fun e => ?_⟩
  · funext a
    match a with
    | ⟨0, _⟩ => exact Subsingleton.elim (α := Fin 1) _ _
    | ⟨1, _⟩ => exact Subsingleton.elim (α := Fin 1) _ _
    | ⟨2, _⟩ => exact Fin.ext (congrArg Fin.val (congrFun e 0))
    | ⟨3, _⟩ => exact Fin.ext (congrArg Fin.val (congrFun e 1))
  · subst e; funext a
    match a with
    | ⟨0, _⟩ => rfl
    | ⟨1, _⟩ => rfl

/-- The first and the last axis of four, both of size one. -/
theorem unit_03 (h : (⟨4, ![1, n, k, 1]⟩ : Shape).ReducesTo [0, 3] ⟨2, ![n, k]⟩) (v : (⟨4, ![1, n, k, 1]⟩ : Shape).Idx → EReal)
    (init : EReal) (r : Fin n) (j : Fin k) : Ideal.hostReduceAdd h v init (ix2 r j) = init + v (ix4 0 r j 0) := by
  refine of_fiber h v init _ _ fun i' => ⟨fun e => ?_, fun e => ?_⟩
  · funext a
    match a with
    | ⟨0, _⟩ => exact Subsingleton.elim (α := Fin 1) _ _
    | ⟨1, _⟩ => exact Fin.ext (congrArg Fin.val (congrFun e 0))
    | ⟨2, _⟩ => exact Fin.ext (congrArg Fin.val (congrFun e 1))
    | ⟨3, _⟩ => exact Subsingleton.elim (α := Fin 1) _ _
  · subst e; funext a
    match a with
    | ⟨0, _⟩ => rfl
    | ⟨1, _⟩ => rfl

/-- The outer two axes and the last one of five, all of size one. -/
theorem unit_014 (h : (⟨5, ![1, 1, n, k, 1]⟩ : Shape).ReducesTo [0, 1, 4] ⟨2, ![n, k]⟩) (v : (⟨5, ![1, 1, n, k, 1]⟩ : Shape).Idx → EReal)
    (init : EReal) (r : Fin n) (j : Fin k) : Ideal.hostReduceAdd h v init (ix2 r j) = init + v (ix5 0 0 r j 0) := by
  refine of_fiber h v init _ _ fun i' => ⟨fun e => ?_, fun e => ?_⟩
  · funext a
    match a with
    | ⟨0, _⟩ => exact Subsingleton.elim (α := Fin 1) _ _
    | ⟨1, _⟩ => exact Subsingleton.elim (α := Fin 1) _ _
    | ⟨2, _⟩ => exact Fin.ext (congrArg Fin.val (congrFun e 0))
    | ⟨3, _⟩ => exact Fin.ext (congrArg Fin.val (congrFun e 1))
    | ⟨4, _⟩ => exact Subsingleton.elim (α := Fin 1) _ _
  · subst e; funext a
    match a with
    | ⟨0, _⟩ => rfl
    | ⟨1, _⟩ => rfl

/-- The second and the last axis of five. -/
theorem both_14 {p q : ℕ} (h : (⟨5, ![1, p, n, k, q]⟩ : Shape).ReducesTo [1, 4] ⟨3, ![1, n, k]⟩)
    (v : (⟨5, ![1, p, n, k, q]⟩ : Shape).Idx → EReal) (init : EReal) (r : Fin n) (j : Fin k) :
    Ideal.hostReduceAdd h v init (ix3 0 r j) = init + ∑ a, ∑ b, v (ix5 0 a r j b) := by
  show init + _ = _
  congr 1
  rw [← Fintype.sum_prod_type' (fun a b => v (ix5 0 a r j b))]
  refine (Finset.sum_nbij' (fun x : Fin p × Fin q => ix5 0 x.1 r j x.2) (fun i : (⟨5, ![1, p, n, k, q]⟩ : Shape).Idx => ((i 1 : Fin p), (i 4 : Fin q))) ?_ ?_ ?_ ?_ ?_).symm
  · intro x _
    refine Finset.mem_filter.mpr ⟨Finset.mem_univ _, funext fun a => ?_⟩
    match a with
    | ⟨0, _⟩ => rfl
    | ⟨1, _⟩ => rfl
    | ⟨2, _⟩ => rfl
  · exact fun _ _ => Finset.mem_univ _
  · exact fun _ _ => rfl
  · intro i hi
    have e := (Finset.mem_filter.mp hi).2
    funext a
    match a with
    | ⟨0, _⟩ => exact Subsingleton.elim (α := Fin 1) _ _
    | ⟨1, _⟩ => rfl
    | ⟨2, _⟩ => exact Fin.ext (congrArg Fin.val (congrFun e 1)).symm
    | ⟨3, _⟩ => exact Fin.ext (congrArg Fin.val (congrFun e 2)).symm
    | ⟨4, _⟩ => rfl
  · exact fun _ _ => rfl

end Cert.HostSums

end
-- ==== Proof.InBwd.lean ====
/- The input projection's and the first norm's gradient: the tiled kernel's two results are the chain rule's. -/
module

public import proofs.«01_k».proof.Proof.Gen.KernelIdeal.Value
public import proofs.«01_k».proof.Proof.Gen.ReferenceIdeal.Run
public import proofs.«01_k».proof.Proof.RmsGrad
public import proofs.«01_k».proof.Proof.HostSums
public import Idealize.ShloMosaic.Lib.Pipeline.ValueKit
public import Idealize.ShloMosaic.Lib.Claim
public import proofs.«01_k».proof.Defs
public import proofs.«01_k».proof.Proof.Gen.KernelIdeal
public import proofs.«01_k».proof.Proof.Gen.ReferenceIdeal

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen
variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![t.val, 0]
    ∧ win0_7.index t = ![0, 0] :=
  (by decide +kernel : ∀ t : Fin grid0.N, _)

end Cert.KernelIdeal.Value
namespace Cert.ReferenceIdeal.Value
open Cert.ReferenceIdeal Cert.ReferenceIdeal.Gen
/-- The mean square of every row plus the epsilon. -/
def meanSq (x : FVec Ideal S1x2048x1024 .f32) : FVec Ideal S1x2048x1 .f32 :=
  addf (Host.divf (broadcastInDim S1x2048x1 ![0, 1] bcast_S1x2048_S1x2048x1_0_1
      (Host.reduceAdd (mulf x x) (constant S_ .f32 0x00000000#32) reducesTo_S1x2048x1024_S1x2048_d2 h_S_))
    (broadcastInDim S1x2048x1 ![] bcast_S_S1x2048x1 (constant S_ .f32 0x44800000#32)))
    (broadcastInDim S1x2048x1 ![] bcast_S_S1x2048x1 (constant S_ .f32 0x358637BD#32))

/-- The cotangent of the normed rows: the cotangent of the projection times the transposed weights. -/
def dProj (dz : FVec Ideal S1x2048x1792 .f32) (w : FVec Ideal S1x1024x1792 .f32) : FVec Ideal S1x2048x1024 .f32 :=
  Host.dotGeneral dot_S1x2048x1792_S1024x1792_S1x2048x1024_2_1_01_0_n_n none dz (shapeCast _ w shapeCasts_S1x1024x1792_S1024x1792)

/-- … times the gain. -/
def dNormed (d : FVec Ideal S1x2048x1024 .f32) (g : FVec Ideal S1x1024 .f32) : FVec Ideal S1x2048x1024 .f32 :=
  mulf d (broadcastInDim S1x2048x1024 ![0, 1, 2] bcast_S1x1x1024_S1x2048x1024_0_1_2
    (broadcastInDim S1x1x1024 ![2] bcast_S1024_S1x1x1024_2 (shapeCast _ g shapeCasts_S1x1024_S1024)))

/-- The cotangent of every element's square, one number for a row. -/
def dSquare (x d : FVec Ideal S1x2048x1024 .f32) (v : FVec Ideal S1x2048x1 .f32) : FVec Ideal S1x2048x1024 .f32 :=
  broadcastInDim S1x2048x1024 ![0, 1] bcast_S1x2048_S1x2048x1024_0_1 (broadcastInDim S1x2048 ![1] bcast_S2048_S1x2048_1
    (Host.reduceAdd (Host.divf (mulf (shapeCast _ (Host.reduceAdd (mulf x d) (constant S_ .f32 0x00000000#32)
        reducesTo_S1x2048x1024_S1x2048_d2 h_S_) shapeCasts_S1x2048_S1x2048x1)
      (mulf (broadcastInDim S1x2048x1 ![] bcast_S_S1x2048x1 (constant S_ .f32 0xBF000000#32)) (Host.divf (Host.rsqrt v) v)))
      (broadcastInDim S1x2048x1 ![] bcast_S_S1x2048x1 (constant S_ .f32 0x44800000#32)))
      (constant S_ .f32 0x00000000#32) reducesTo_S1x2048x1_S2048_d0_2 h_S_))

/-- The gradient of `x`. -/
def dX (x : FVec Ideal S1x2048x1024 .f32) (g : FVec Ideal S1x1024 .f32) (w : FVec Ideal S1x1024x1792 .f32)
    (dh : FVec Ideal S1x2048x1024 .f32) (dz : FVec Ideal S1x2048x1792 .f32) : FVec Ideal S2048x1024 .f32 :=
  shapeCast _ (addf (addf (addf dh (mulf (dNormed (dProj dz w) g)
      (broadcastInDim S1x2048x1024 ![0, 1, 2] bcast_S1x2048x1_S1x2048x1024_0_1_2 (Host.rsqrt (meanSq x)))))
    (mulf x (dSquare x (dNormed (dProj dz w) g) (meanSq x)))) (mulf (dSquare x (dNormed (dProj dz w) g) (meanSq x)) x))
    shapeCasts_S1x2048x1024_S2048x1024

/-- The gradient of the gain. -/
def dGain (x : FVec Ideal S1x2048x1024 .f32) (w : FVec Ideal S1x1024x1792 .f32) (dz : FVec Ideal S1x2048x1792 .f32) :
    FVec Ideal S1x1024 .f32 :=
  broadcastInDim S1x1024 ![1] bcast_S1024_S1x1024_1 (Host.reduceAdd (shapeCast _ (Host.reduceAdd
    (mulf (mulf x (broadcastInDim S1x2048x1024 ![0, 1, 2] bcast_S1x2048x1_S1x2048x1024_0_1_2 (Host.rsqrt (meanSq x)))) (dProj dz w))
    (constant S_ .f32 0x00000000#32) reducesTo_S1x2048x1024_S1x1024_d1 h_S_) shapeCasts_S1x1024_S1x1x1024)
    (constant S_ .f32 0x00000000#32) reducesTo_S1x1x1024_S1024_d0_1 h_S_)

/-! ### At an index -/

theorem meanSq_at (x) (r : Fin 2048) : meanSq x (ix3 0 r 0)
    = Ideal.div (∑ k : Fin 1024, x (ix3 0 r k) * x (ix3 0 r k)) (Ideal.ofBits .f32 0x44800000#32)
      + Ideal.ofBits .f32 0x358637BD#32 := by
  pointwise [meanSq]

theorem dProj_at (dz w) (r : Fin 2048) (k : Fin 1024) :
    dProj dz w (ix3 0 r k) = ∑ j : Fin 1792, dz (ix3 0 r j) * w (ix3 0 k j) := by
  pointwise [dProj]

theorem dNormed_at (d g) (r : Fin 2048) (k : Fin 1024) : dNormed d g (ix3 0 r k) = d (ix3 0 r k) * g (ix2 0 k) := by
  pointwise [dNormed]

theorem dSquare_at (x d v) (r : Fin 2048) (k : Fin 1024) : dSquare x d v (ix3 0 r k)
    = Ideal.div ((∑ j : Fin 1024, x (ix3 0 r j) * d (ix3 0 r j))
        * (Ideal.ofBits .f32 0xBF000000#32 * Ideal.div (Ideal.rsqrt (v (ix3 0 r 0))) (v (ix3 0 r 0))))
      (Ideal.ofBits .f32 0x44800000#32) := by
  pointwise [dSquare]
  rw [HostSums.unit_02]
  pointwise []

theorem dX_at (x g w dh dz) (r : Fin 2048) (k : Fin 1024) : dX x g w dh dz (ix2 r k)
    = dh (ix3 0 r k) + dNormed (dProj dz w) g (ix3 0 r k) * Ideal.rsqrt (meanSq x (ix3 0 r 0))
      + x (ix3 0 r k) * dSquare x (dNormed (dProj dz w) g) (meanSq x) (ix3 0 r k)
      + dSquare x (dNormed (dProj dz w) g) (meanSq x) (ix3 0 r k) * x (ix3 0 r k) := by
  pointwise [dX]

theorem dGain_at (x w dz) (k : Fin 1024) : dGain x w dz (ix2 0 k)
    = ∑ r : Fin 2048, x (ix3 0 r k) * Ideal.rsqrt (meanSq x (ix3 0 r 0)) * dProj dz w (ix3 0 r k) := by
  pointwise [dGain]
  rw [HostSums.unit_01]
  pointwise []

end Cert.ReferenceIdeal.Value

namespace Cert.KernelIdeal.Value
open Cert.KernelIdeal Cert.KernelIdeal.Gen
variable (m : (ℓ : Loc nD τ sig) → Buf (Elt Ideal) ℓ)

/-! ## The kernel's body -/

/-- A row's cotangent of the normed row: the two column ranges of the projection. -/
theorem proj_at (v3 : Vec Ideal S512x1536 .bf16) (v5 : Vec Ideal S1536x1024 .bf16) (v8 : Vec Ideal S512x256 .bf16) (v10 : Vec Ideal S256x1024 .bf16) (r : Fin 512) (k : Fin 1024) : k0_pay3 (F := Ideal) v3 v5 v8 v10 (ix2 r k)
    = (∑ j, v3 (ix2 r j) * v5 (ix2 j k)) + ∑ j, v8 (ix2 r j) * v10 (ix2 j k) := by
  pointwise [k0_pay3]

theorem scale_at (v14 : Vec Ideal S512x1024 .f32) (r : Fin 512) : k0_pay5 (F := Ideal) v14 (ix2 r 0)
    = Ideal.rsqrt (Ideal.div (∑ k, v14 (ix2 r k) * v14 (ix2 r k)) (Ideal.ofBits .f32 0x44800000#32) + Ideal.ofBits .f32 0x358637BD#32) := by
  pointwise [k0_pay5, k0_pay4]

theorem dx_at (v13 v15 : FVec Ideal S512x1024 .f32) (v23 : FVec Ideal S512x1 .f32) (v33 : FVec Ideal S512x1024 .f32) (v35 : FVec Ideal S1x1024 .f32) (r : Fin 512) (k : Fin 1024) : k0_pay1 (F := Ideal) v13 v15 v23 v33 v35 (ix2 r k)
    = v33 (ix2 r k) + (v23 (ix2 r 0) * (v13 (ix2 r k) * v35 (ix2 0 k)) - v15 (ix2 r k) * (v23 (ix2 r 0) * v23 (ix2 r 0) * v23 (ix2 r 0)
        * Ideal.div (∑ x, v13 (ix2 r x) * v35 (ix2 0 x) * v15 (ix2 r x)) (Ideal.ofBits .f32 0x44800000#32))) := by
  pointwise [k0_pay1]

theorem dg_at (v3 : Vec Ideal S512x1536 .bf16) (v5 : Vec Ideal S1536x1024 .bf16) (v8 : Vec Ideal S512x256 .bf16) (v10 : Vec Ideal S256x1024 .bf16)
    (v14 : Vec Ideal S512x1024 .f32) (v24 : Vec Ideal S1x1024 .f32) (k : Fin 1024) : k0_pay6 (F := Ideal) v3 v5 v8 v10 v14 v24 (ix2 0 k)
    = v24 (ix2 0 k) + ∑ x : Fin 512, k0_pay3 (F := Ideal) v3 v5 v8 v10 (ix2 x k) * (v14 (ix2 x k) * k0_pay5 (F := Ideal) v14 (ix2 x 0)) := by
  pointwise [k0_pay6, k0_pay3, k0_pay4, k0_pay5]

/-! ## The blocks -/

/-- Row `r` of point `t`'s tile, in the whole array. -/
abbrev row (t : Fin cfg0.N) (r : Fin 512) : Fin 2048 := ⟨t.val * 512 + r.val, by have h := t.isLt; have := N_0; have := r.isLt; change t.val < grid0.N at h; omega⟩

/-- The arguments, by name: the residual stream, the gain, the weights, the two cotangents. -/
abbrev argX (c : Dev nD) : FVec Ideal S1x2048x1024 .f32 := m ((c.tc : Thread nD τ).loc main_arg0)
abbrev argG (c : Dev nD) : FVec Ideal S1x1024 .f32 := m ((c.tc : Thread nD τ).loc main_arg1)
abbrev argW (c : Dev nD) : FVec Ideal S1x1024x1792 .f32 := m ((c.tc : Thread nD τ).loc main_arg2)
abbrev argH (c : Dev nD) : FVec Ideal S1x2048x1024 .f32 := m ((c.tc : Thread nD τ).loc main_arg3)
abbrev argZ (c : Dev nD) : FVec Ideal S1x2048x1792 .f32 := m ((c.tc : Thread nD τ).loc main_arg4)

theorem blk_x (c : Dev nD) (t : Fin cfg0.N) (r : Fin 512) (k : Fin 1024) : iblk m c 0 t (ix2 r k) = argX m c (ix3 0 (row t r) k) := by
  blk_point [iblk, V, idx t]

theorem blk_h (c : Dev nD) (t : Fin cfg0.N) (r : Fin 512) (k : Fin 1024) : iblk m c 1 t (ix2 r k) = argH m c (ix3 0 (row t r) k) := by
  blk_point [iblk, V, idx t]

theorem blk_g (c : Dev nD) (t : Fin cfg0.N) (k : Fin 1024) : iblk m c 4 t (ix2 0 k) = argG m c (ix2 0 k) := by
  blk_point [iblk, V, idx t]

theorem blk_z1 (c : Dev nD) (t : Fin cfg0.N) (r : Fin 512) (k : Fin 1536) :
    iblk m c 2 t (ix2 r k) = argZ m c (ix3 0 (row t r) (Fin.castAdd 256 k)) := by
  blk_point [iblk, V, idx t]
  rfl

theorem blk_z2 (c : Dev nD) (t : Fin cfg0.N) (r : Fin 512) (k : Fin 256) :
    iblk m c 3 t (ix2 r k) = argZ m c (ix3 0 (row t r) (Fin.natAdd 1536 k)) := by
  blk_point [iblk, V, idx t]
  rfl

theorem w_at (w : FVec Ideal S1x1024x1792 .f32) (j : Fin 1792) (k : Fin 1024) :
    truncf .bf16 (transpose S1792x1024 [1, 0] (shapeCast S1024x1792 w shapeCasts_S1x1024x1792_S1024x1792) transposes_S1024x1792_S1792x1024_1_0)
      bitsLt_bf16_f32 (ix2 j k) = w (ix3 0 k j) := by
  pointwise []

theorem blk_w (c : Dev nD) : (V m c main_v8 : FVec Ideal S1792x1024 .bf16)
    = truncf .bf16 (transpose S1792x1024 [1, 0] (shapeCast S1024x1792 (argW m c) shapeCasts_S1x1024x1792_S1024x1792) transposes_S1024x1792_S1792x1024_1_0)
      bitsLt_bf16_f32 := by
  entry_read
  rfl

theorem blk_w1 (c : Dev nD) (t : Fin cfg0.N) (j : Fin 1536) (k : Fin 1024) :
    View.ld (iblk m c 5 t) (Rect.unit ![0, 0] ![1536, 1024] inb_S1792x1024_S1536x1024_0_0) (ix2 j k)
      = argW m c (ix3 0 k (Fin.castAdd 256 j)) := by
  have h : View.ld (iblk m c 5 t) (Rect.unit ![0, 0] ![1536, 1024] inb_S1792x1024_S1536x1024_0_0) (ix2 j k)
      = (V m c main_v8 : FVec Ideal S1792x1024 .bf16) (ix2 (Fin.castAdd 256 j) k) := by
    unfold iblk
    show View.ld (((cfg0.win 5).blk t).view.read (Elt Ideal) (V m c main_v8)) _ _ = _
    generalize V m c main_v8 = w
    refine congrArg w (funext fun a => Fin.ext ?_)
    match a with
    | ⟨0, _⟩ => blk_simp [idx t]; show 0 + 1 * j.val = j.val; omega
    | ⟨1, _⟩ => blk_simp [idx t]; show 0 + 1 * k.val = k.val; omega
  exact h.trans ((congrFun (blk_w m c) _).trans (w_at (argW m c) (Fin.castAdd 256 j) k))

theorem blk_w2 (c : Dev nD) (t : Fin cfg0.N) (j : Fin 256) (k : Fin 1024) :
    View.ld (iblk m c 5 t) (Rect.unit ![1536, 0] ![256, 1024] inb_S1792x1024_S256x1024_1536_0) (ix2 j k)
      = argW m c (ix3 0 k (Fin.natAdd 1536 j)) := by
  have h : View.ld (iblk m c 5 t) (Rect.unit ![1536, 0] ![256, 1024] inb_S1792x1024_S256x1024_1536_0) (ix2 j k)
      = (V m c main_v8 : FVec Ideal S1792x1024 .bf16) (ix2 (Fin.natAdd 1536 j) k) := by
    unfold iblk
    show View.ld (((cfg0.win 5).blk t).view.read (Elt Ideal) (V m c main_v8)) _ _ = _
    generalize V m c main_v8 = w
    refine congrArg w (funext fun a => Fin.ext ?_)
    match a with
    | ⟨0, _⟩ => blk_simp [idx t]; show 1536 + 1 * j.val = 1536 + j.val; omega
    | ⟨1, _⟩ => blk_simp [idx t]; show 0 + 1 * k.val = k.val; omega
  exact h.trans ((congrFun (blk_w m c) _).trans (w_at (argW m c) (Fin.natAdd 1536 j) k))

open Cert.ReferenceIdeal.Value (dX dGain dProj dProj_at meanSq meanSq_at)

/-- The tile's cotangent of the normed rows is the reference's. -/
theorem proj_eq (c : Dev nD) (t : Fin cfg0.N) (r : Fin 512) (k : Fin 1024) :
    k0_pay3 (F := Ideal) (iblk m c 2 t) (View.ld (iblk m c 5 t) (Rect.unit ![0, 0] ![1536, 1024] inb_S1792x1024_S1536x1024_0_0))
      (iblk m c 3 t) (View.ld (iblk m c 5 t) (Rect.unit ![1536, 0] ![256, 1024] inb_S1792x1024_S256x1024_1536_0)) (ix2 r k)
    = dProj (argZ m c) (argW m c) (ix3 0 (row t r) k) := by
  rw [proj_at, dProj_at, Fin.sum_univ_add (a := 1536) (b := 256)]
  refine congrArg₂ (· + ·) (Finset.sum_congr rfl fun j _ => ?_) (Finset.sum_congr rfl fun j _ => ?_)
  · rw [blk_z1, blk_w1]
  · rw [blk_z2, blk_w2]

theorem scale_eq (c : Dev nD) (t : Fin cfg0.N) (r : Fin 512) :
    k0_pay5 (F := Ideal) (iblk m c 0 t) (ix2 r 0) = Ideal.rsqrt (meanSq (argX m c) (ix3 0 (row t r) 0)) := by
  rw [scale_at, meanSq_at]
  simp only [blk_x]

/-! ## The results -/

/-- One tile of the gradient of `x`. -/
theorem tile_dx (c : Dev nD) (t : Fin cfg0.N) (r : Fin 512) (k : Fin 1024) :
    k0_pay1 (F := Ideal) (k0_pay3 (iblk m c 2 t) (View.ld (iblk m c 5 t) (Rect.unit ![0, 0] ![1536, 1024] inb_S1792x1024_S1536x1024_0_0))
        (iblk m c 3 t) (View.ld (iblk m c 5 t) (Rect.unit ![1536, 0] ![256, 1024] inb_S1792x1024_S256x1024_1536_0)))
      (k0_pay4 (iblk m c 0 t)) (k0_pay5 (iblk m c 0 t)) (iblk m c 1 t) (iblk m c 4 t) (ix2 r k)
    = dX (argX m c) (argG m c) (argW m c) (argH m c) (argZ m c) (ix2 (row t r) k) := by
  have e4 : ∀ j : Fin 1024, k0_pay4 (F := Ideal) (iblk m c 0 t) (ix2 r j) = argX m c (ix3 0 (row t r) j) :=
    fun j => (by pointwise [k0_pay4] : k0_pay4 (F := Ideal) (iblk m c 0 t) (ix2 r j) = iblk m c 0 t (ix2 r j)).trans (blk_x m c t r j)
  rw [dx_at, Cert.ReferenceIdeal.Value.dX_at, Cert.ReferenceIdeal.Value.dSquare_at]
  simp only [proj_eq, scale_eq, e4, blk_h, blk_g, Cert.ReferenceIdeal.Value.dNormed_at]
  rw [RmsGrad.bits_1024, RmsGrad.bits_neg_half]
  have hv : meanSq (argX m c) (ix3 0 (row t r) 0) = Ideal.div (∑ j : Fin 1024, argX m c (ix3 0 (row t r) j) * argX m c (ix3 0 (row t r) j))
      ((1024 : ℝ) : EReal) + ((8796093 / 8796093022208 : ℝ) : EReal) := by
    rw [meanSq_at, RmsGrad.bits_1024, RmsGrad.bits_eps]
  have key := RmsGrad.through_scale (fun j : Fin 1024 => argX m c (ix3 0 (row t r) j)) k (by norm_num : (0 : ℝ) < 1024)
    (by norm_num : (0 : ℝ) < 8796093 / 8796093022208)
    (∑ j : Fin 1024, argX m c (ix3 0 (row t r) j) * (dProj (argZ m c) (argW m c) (ix3 0 (row t r) j) * argG m c (ix2 0 j))) _ hv
  rw [sub_eq_add_neg, add_assoc, add_assoc, ← key, mul_comm (Ideal.rsqrt _) (_ * _)]
  simp only [mul_comm (argX m c (ix3 0 (row t r) _)) (_ * argG m c _)]

theorem final6 (c : Dev nD) : (dats m 0 c).arrAt 6 (cfgs 0).N = dX (argX m c) (argG m c) (argW m c) (argH m c) (argZ m c) := by
  refine (dats m 0 c).arrAt_eq_of_covers 6 _ (by decide +kernel) fun t hf y => ?_
  blk_simp
  rw [after0_6]
  have hy : dX (argX m c) (argG m c) (argW m c) (argH m c) (argZ m c) (ix2 (row t (y 0)) (y 1))
      = dX (argX m c) (argG m c) (argW m c) (argH m c) (argZ m c) (((View.whole main_v9_0).slice (win0_6.rect t)).emb y) := by
    blk_point [idx t]
  by_cases h0 : t.val % 4 = 0
  · rw [outsAt0_A m c t h0]
    frame_out
    exact (congrArg _ (eq_ix2 y)).trans ((tile_dx m c t (y 0) (y 1)).trans hy)
  · rw [outsAt0_B m c t h0]
    frame_out
    exact (congrArg _ (eq_ix2 y)).trans ((tile_dx m c t (y 0) (y 1)).trans hy)

theorem final7 (c : Dev nD) : (dats m 0 c).arrAt 7 (cfgs 0).N = dGain (argX m c) (argW m c) (argZ m c) := by
  refine (dats m 0 c).arrAt_eq_of_after_last 7 t0_3 (by decide +kernel) _ fun j => ?_
  blk_simp
  rw [after0_7]
  have hpay : ∀ (t : Fin cfg0.N) (a : Vec Ideal S1x1024 .f32) (j : S1x1024.Idx),
      k0_pay6 (F := Ideal) (iblk m c 2 t) (View.ld (iblk m c 5 t) (Rect.unit ![0, 0] ![1536, 1024] inb_S1792x1024_S1536x1024_0_0))
        (iblk m c 3 t) (View.ld (iblk m c 5 t) (Rect.unit ![1536, 0] ![256, 1024] inb_S1792x1024_S256x1024_1536_0)) (iblk m c 0 t) a j
      = a j + ∑ r : Fin 512, dProj (argZ m c) (argW m c) (ix3 0 (row t r) (j 1))
          * (argX m c (ix3 0 (row t r) (j 1)) * Ideal.rsqrt (meanSq (argX m c) (ix3 0 (row t r) 0))) := by
    intro t a j
    obtain ⟨q, rfl⟩ : ∃ q : Fin 1024, j = ix2 0 q := ⟨j 1, (eq_ix2 j).trans (congrArg (ix2 · (j 1)) (Subsingleton.elim (α := Fin 1) _ _))⟩
    rw [dg_at]
    simp only [proj_eq, scale_eq, blk_x]
    rfl
  rw [Pipeline.eq_sum_fin_of_reset_step_apply_last (f := fun n h => (outsAt0 m c n h).2) 4 (fun _ => 0)
    (fun t j => ∑ r : Fin 512, dProj (argZ m c) (argW m c) (ix3 0 (row t r) (j 1))
          * (argX m c (ix3 0 (row t r) (j 1)) * Ideal.rsqrt (meanSq (argX m c) (ix3 0 (row t r) 0))))
    (fun t h j => by rw [outsAt0_A m c t h]; frame_out; exact (hpay t _ j).trans (congrArg (· + _) (by pointwise [k0_pay2])))
    (fun t h j => by rw [outsAt0_B m c t h]; frame_out; exact hpay t _ j)
    (le_of_eq N_0) t0_3 rfl j, zero_add]
  obtain ⟨q, rfl⟩ : ∃ q : Fin 1024, j = ix2 0 q := ⟨j 1, (eq_ix2 j).trans (congrArg (ix2 · (j 1)) (Subsingleton.elim (α := Fin 1) _ _))⟩
  rw [show (dGain (argX m c) (argW m c) (argZ m c)) (ix2 0 q) = _ from Cert.ReferenceIdeal.Value.dGain_at _ _ _ q]
  rw [Fin.sum_univ_tiles 4 512 rfl]
  show (_ : EReal) = _
  exact Finset.sum_congr rfl fun p _ => Finset.sum_congr rfl fun r _ => mul_comm (_ : EReal) _

end Cert.KernelIdeal.Value
-- ==== Proof.TailMath.lean ====
/- The tail of the training step on one device, row by row: the second norm, the squared-ReLU layer, the gated embedding,
   the final norm, the loss, and the gradients of all of it back to the mixer's output. -/
module

public import proofs.«01_k».proof.Proof.RmsGrad

@[expose] public section

noncomputable section

namespace Cert.Tail

open Idealize.ShloMosaic

/-- The arrays the tail reads: the residual stream, the mixer's output, the embedding, the target, two gains, five weights. -/
structure Args where
  x : Fin 2048 → Fin 1024 → EReal
  mix : Fin 2048 → Fin 1024 → EReal
  p : Fin 2048 → Fin 256 → EReal
  t : Fin 2048 → Fin 1024 → EReal
  g2 : Fin 1024 → EReal
  gf : Fin 1024 → EReal
  wo : Fin 1024 → Fin 1024 → EReal
  w1 : Fin 1024 → Fin 4096 → EReal
  w2 : Fin 4096 → Fin 1024 → EReal
  wp : Fin 256 → Fin 1024 → EReal
  wg : Fin 1024 → Fin 1024 → EReal

/-- A row's mean square plus the epsilon. -/
def meanSq (h : Fin 1024 → EReal) : EReal := Ideal.div (∑ k, h k * h k) ((1024 : ℝ) : EReal) + ((8796093 / 8796093022208 : ℝ) : EReal)

/-- A row's scale in the norm. -/
def scale (h : Fin 1024 → EReal) : EReal := Ideal.rsqrt (meanSq h)

/-- The cotangent `d` of a row's scaled copy, brought back to the row `h`. -/
def through (h d : Fin 1024 → EReal) (k : Fin 1024) : EReal :=
  scale h * d k - h k * (scale h * scale h * scale h * Ideal.div (∑ j, d j * h j) ((1024 : ℝ) : EReal))

variable (a : Args) (r : Fin 2048)

def h1 (k : Fin 1024) : EReal := a.x r k + ∑ j, a.mix r j * a.wo j k
def hn (k : Fin 1024) : EReal := h1 a r k * scale (h1 a r) * a.g2 k
def ff (j : Fin 4096) : EReal := ∑ k, hn a r k * a.w1 k j
def act (j : Fin 4096) : EReal := max (ff a r j) 0 * max (ff a r j) 0
def h2 (k : Fin 1024) : EReal := h1 a r k + ∑ j, act a r j * a.w2 j k
def gate (k : Fin 1024) : EReal := Ideal.logistic (∑ j, h2 a r j * a.wg j k)
def proj (k : Fin 1024) : EReal := ∑ j, a.p r j * a.wp j k
def h3 (k : Fin 1024) : EReal := h2 a r k + gate a r k * proj a r k
def err (k : Fin 1024) : EReal := h3 a r k * scale (h3 a r) * a.gf k - a.t r k

/-- The cotangents, from the loss back. -/
def dy (k : Fin 1024) : EReal := err a r k * ((1 / 1024 : ℝ) : EReal)
def dh3 (k : Fin 1024) : EReal := through (h3 a r) (fun j => dy a r j * a.gf j) k
def dgl (k : Fin 1024) : EReal := dh3 a r k * proj a r k * (gate a r k * (1 - gate a r k))
def dh2 (k : Fin 1024) : EReal := dh3 a r k + ∑ j, dgl a r j * a.wg k j
def df (j : Fin 4096) : EReal := (∑ k, dh2 a r k * a.w2 j k) * (2 * max (ff a r j) 0)
def dhn (k : Fin 1024) : EReal := ∑ j, df a r j * a.w1 k j
def dh1 (k : Fin 1024) : EReal := dh2 a r k + through (h1 a r) (fun j => dhn a r j * a.g2 j) k
def dmix (j : Fin 1024) : EReal := ∑ k, dh1 a r k * a.wo j k

/-- The sums over the rows. -/
def dg2 (k : Fin 1024) : EReal := ∑ r, dhn a r k * (h1 a r k * scale (h1 a r))
def dgf (k : Fin 1024) : EReal := ∑ r, dy a r k * (h3 a r k * scale (h3 a r))
def loss : EReal := ∑ r, (∑ k, err a r k * err a r k) * ((1 / 2048 : ℝ) : EReal)
def dwo (j k : Fin 1024) : EReal := ∑ r, a.mix r j * dh1 a r k
def dwp (j : Fin 256) (k : Fin 1024) : EReal := ∑ r, a.p r j * (dh3 a r k * gate a r k)
def dwg (j k : Fin 1024) : EReal := ∑ r, h2 a r j * dgl a r k

/-- Column `k` of device `q`'s part of the embedding's projection. -/
abbrev col (q : Fin 8) (k : Fin 128) : Fin 1024 := ⟨q.val * 128 + k.val, by omega⟩

/-- The norm's gradient written out by the chain rule (the product rule for the scale, then for the square) is `through`. -/
theorem through_chain (h d : Fin 1024 → EReal) (k : Fin 1024) :
    d k * scale h + h k * Ideal.div ((∑ j, h j * d j) * (((-(1 / 2) : ℝ) : EReal) * Ideal.div (Ideal.rsqrt (meanSq h)) (meanSq h))) ((1024 : ℝ) : EReal)
      + Ideal.div ((∑ j, h j * d j) * (((-(1 / 2) : ℝ) : EReal) * Ideal.div (Ideal.rsqrt (meanSq h)) (meanSq h))) ((1024 : ℝ) : EReal) * h k
    = through h d k := by
  have key := RmsGrad.through_scale h k (by norm_num : (0 : ℝ) < 1024) (by norm_num : (0 : ℝ) < 8796093 / 8796093022208)
    (∑ j, h j * d j) (meanSq h) rfl
  unfold through
  rw [sub_eq_add_neg, add_assoc, ← key, mul_comm (d k)]
  simp only [mul_comm (d _) (h _), scale]

/-- A nonnegative factor goes into a sum of nonnegative terms. -/
theorem mul_sum_nonneg {ι : Type*} (s : Finset ι) {c : EReal} (hc : 0 ≤ c) (f : ι → EReal) (hf : ∀ i, 0 ≤ f i) :
    c * ∑ i ∈ s, f i = ∑ i ∈ s, c * f i := by
  classical
  induction s using Finset.induction_on with
  | empty => simp
  | insert i s hi ih =>
    rw [Finset.sum_insert hi, Finset.sum_insert hi, ← ih, EReal.left_distrib_of_nonneg (hf i) (Finset.sum_nonneg fun j _ => hf j)]

end Cert.Tail

end
-- ==== Proof.TailRef.lean ====
/- The tail's reference, element by element. -/
module

public import proofs.«01_k».proof.Proof.Gen.Reference2Ideal.Run
public import proofs.«01_k».proof.Proof.TailMath
public import proofs.«01_k».proof.Proof.HostSums
public import Idealize.ShloMosaic.Lib.Claim
public import proofs.«01_k».proof.Proof.Gen.Reference2Ideal

@[expose] public section

set_option maxRecDepth 16384

noncomputable section

open Idealize.ShloMosaic Idealize.ShloMosaic.TcCoe Idealize.SL.Sem

namespace Cert.Reference2Ideal.Value
open Cert.Reference2Ideal Cert.Reference2Ideal.Gen

variable (V0 : Valuation τ sig (Elt Ideal))

/-- The arguments as the reference is given them. -/
def args : Tail.Args where
  x r k := (V0 (Proc.devRef .tc main_arg0) : FVec Ideal S1x2048x1024 .f32) (ix3 0 r k)
  mix r k := (V0 (Proc.devRef .tc main_arg1) : FVec Ideal S1x2048x1024 .f32) (ix3 0 r k)
  p r k := (V0 (Proc.devRef .tc main_arg2) : FVec Ideal S1x1x2048x256 .f32) (ix4 0 0 r k)
  t r k := (V0 (Proc.devRef .tc main_arg3) : FVec Ideal S1x2048x1024 .f32) (ix3 0 r k)
  g2 k := (V0 (Proc.devRef .tc main_arg4) : FVec Ideal S1x1024 .f32) (ix2 0 k)
  gf k := (V0 (Proc.devRef .tc main_arg5) : FVec Ideal S1024 .f32) (ix1 k)
  wo j k := (V0 (Proc.devRef .tc main_arg6) : FVec Ideal S1x1024x1024 .f32) (ix3 0 j k)
  w1 j k := (V0 (Proc.devRef .tc main_arg7) : FVec Ideal S1x1024x4096 .f32) (ix3 0 j k)
  w2 j k := (V0 (Proc.devRef .tc main_arg8) : FVec Ideal S1x4096x1024 .f32) (ix3 0 j k)
  wp j k := (V0 (Proc.devRef .tc main_arg9) : FVec Ideal S1x256x1024 .f32) (ix3 0 j k)
  wg j k := (V0 (Proc.devRef .tc main_arg10) : FVec Ideal S1x1024x1024 .f32) (ix3 0 j k)

theorem bits_0 : Ideal.ofBits .f32 0x00000000#32 = 0 := by simp [Ideal.ofBits, Ideal.ieee]
theorem bits_1 : Ideal.ofBits .f32 0x3F800000#32 = 1 := by
  simp [Ideal.ofBits, Ideal.ieee, -EReal.coe_mul]; norm_num
theorem bits_2 : Ideal.ofBits .f32 0x40000000#32 = 2 := by
  simp [Ideal.ofBits, Ideal.ieee, -EReal.coe_mul]; norm_num; rfl
theorem bits_half : Ideal.ofBits .f32 0x3F000000#32 = ((1 / 2 : ℝ) : EReal) := by
  simp [Ideal.ofBits, Ideal.ieee, -EReal.coe_mul]; norm_num

theorem v0_at (j k : Fin 1024) : (res_main_v0 V0 : FVec Ideal S1024x1024 .f32) (ix2 j k) = (args V0).wo j k := by
  pointwise [res_main_v0, args]

theorem v20_at (j : Fin 1024) (k : Fin 4096) : (res_main_v20 V0 : FVec Ideal S1024x4096 .f32) (ix2 j k) = (args V0).w1 j k := by
  pointwise [res_main_v20, args]

theorem v29_at (j : Fin 4096) (k : Fin 1024) : (res_main_v29 V0 : FVec Ideal S4096x1024 .f32) (ix2 j k) = (args V0).w2 j k := by
  pointwise [res_main_v29, args]

theorem v32_at (j k : Fin 1024) : (res_main_v32 V0 : FVec Ideal S1024x1024 .f32) (ix2 j k) = (args V0).wg j k := by
  pointwise [res_main_v32, args]

theorem v43_at (r : Fin 2048) (k : Fin 256) : (res_main_v43 V0 : FVec Ideal S1x2048x256 .f32) (ix3 0 r k) = (args V0).p r k := by
  pointwise [res_main_v43, args]

theorem v17_at (k : Fin 1024) : (res_main_v17 V0 : FVec Ideal S1x1x1024 .f32) (ix3 0 0 k) = (args V0).g2 k := by
  pointwise [res_main_v17, args]

theorem v61_at (k : Fin 1024) : (res_main_v61 V0 : FVec Ideal S1x1x1024 .f32) (ix3 0 0 k) = (args V0).gf k := by
  pointwise [res_main_v61, args]

theorem v2_at (r : Fin 2048) (k : Fin 1024) : (res_main_v2 V0 : FVec Ideal S1x2048x1024 .f32) (ix3 0 r k) = Tail.h1 (args V0) r k := by
  pointwise [res_main_v2]
  simp only [v0_at]
  rfl

theorem v10_at (r : Fin 2048) : (res_main_v10 V0 : FVec Ideal S1x2048x1 .f32) (ix3 0 r 0) = Tail.meanSq (Tail.h1 (args V0) r) := by
  pointwise [res_main_v10]
  simp only [v2_at, RmsGrad.bits_1024, RmsGrad.bits_eps, bits_0, zero_add]
  rfl

theorem v11_at (r : Fin 2048) : (res_main_v11 V0 : FVec Ideal S1x2048x1 .f32) (ix3 0 r 0) = Tail.scale (Tail.h1 (args V0) r) := by
  pointwise [res_main_v11]
  rw [v10_at]
  rfl

theorem v16_at (r : Fin 2048) (k : Fin 1024) : (res_main_v16 V0 : FVec Ideal S1x2048x1024 .f32) (ix3 0 r k)
    = Tail.h1 (args V0) r k * Tail.scale (Tail.h1 (args V0) r) := by
  pointwise [res_main_v16]
  rw [v2_at, v11_at]

theorem v19_at (r : Fin 2048) (k : Fin 1024) : (res_main_v19 V0 : FVec Ideal S1x2048x1024 .f32) (ix3 0 r k) = Tail.hn (args V0) r k := by
  pointwise [res_main_v19]
  rw [v16_at, v17_at]
  rfl

theorem v21_at (r : Fin 2048) (k : Fin 4096) : (res_main_v21 V0 : FVec Ideal S1x2048x4096 .f32) (ix3 0 r k) = Tail.ff (args V0) r k := by
  pointwise [res_main_v21]
  simp only [v19_at, v20_at]
  rfl

theorem v22_at (r : Fin 2048) (k : Fin 4096) : (res_main_v22 V0 : FVec Ideal S1x2048x4096 .f32) (ix3 0 r k) = max (Tail.ff (args V0) r k) 0 := by
  pointwise [res_main_v22]
  rw [v21_at]

theorem v26_at (r : Fin 2048) (k : Fin 4096) : (res_main_v26 V0 : FVec Ideal S1x2048x4096 .f32) (ix3 0 r k) = Tail.act (args V0) r k := by
  pointwise [res_main_v26]
  rw [v22_at]
  rfl

theorem v31_at (r : Fin 2048) (k : Fin 1024) : (res_main_v31 V0 : FVec Ideal S1x2048x1024 .f32) (ix3 0 r k) = Tail.h2 (args V0) r k := by
  pointwise [res_main_v31]
  simp only [v2_at, v26_at, v29_at]
  rfl

theorem v39_at (r : Fin 2048) (k : Fin 1024) : (res_main_v39 V0 : FVec Ideal S1x2048x1024 .f32) (ix3 0 r k) = Tail.gate (args V0) r k := by
  pointwise [res_main_v39]
  simp only [v31_at, v32_at, bits_1]
  rfl

theorem v45_at (r : Fin 2048) (k : Fin 1024) : (res_main_v45 V0 : FVec Ideal S1x2048x1024 .f32) (ix3 0 r k) = Tail.proj (args V0) r k := by
  pointwise [res_main_v45]
  simp only [v43_at]
  rfl

theorem v47_at (r : Fin 2048) (k : Fin 1024) : (res_main_v47 V0 : FVec Ideal S1x2048x1024 .f32) (ix3 0 r k) = Tail.h3 (args V0) r k := by
  pointwise [res_main_v47]
  rw [v31_at, v39_at, v45_at]
  rfl

theorem v54_at (r : Fin 2048) : (res_main_v54 V0 : FVec Ideal S1x2048x1 .f32) (ix3 0 r 0) = Tail.meanSq (Tail.h3 (args V0) r) := by
  pointwise [res_main_v54]
  simp only [v47_at, RmsGrad.bits_1024, RmsGrad.bits_eps, bits_0, zero_add]
  rfl

theorem v55_at (r : Fin 2048) : (res_main_v55 V0 : FVec Ideal S1x2048x1 .f32) (ix3 0 r 0) = Tail.scale (Tail.h3 (args V0) r) := by
  pointwise [res_main_v55]
  rw [v54_at]
  rfl

theorem v60_at (r : Fin 2048) (k : Fin 1024) : (res_main_v60 V0 : FVec Ideal S1x2048x1024 .f32) (ix3 0 r k)
    = Tail.h3 (args V0) r k * Tail.scale (Tail.h3 (args V0) r) := by
  pointwise [res_main_v60]
  rw [v47_at, v55_at]

theorem v64_at (r : Fin 2048) (k : Fin 1024) : (res_main_v64 V0 : FVec Ideal S1x2048x1024 .f32) (ix3 0 r k) = Tail.err (args V0) r k := by
  pointwise [res_main_v64]
  rw [v60_at, v61_at]
  rfl

theorem v78_at (r : Fin 2048) (k : Fin 1024) : (res_main_v78 V0 : FVec Ideal S1x2048x1024 .f32) (ix3 0 r k) = Tail.dy (args V0) r k := by
  pointwise [res_main_v78]
  rw [v64_at, bits_half, bits_2, RmsGrad.bits_1024, Ideal.div_coe (by norm_num), ← mul_assoc, mul_comm]
  refine congrArg (Tail.err (args V0) r k * ·) ?_
  rw [← EReal.coe_mul, show (2 : EReal) = ((2 : ℝ) : EReal) from rfl, ← EReal.coe_mul]
  norm_num

theorem v83_at (r : Fin 2048) (k : Fin 1024) : (res_main_v83 V0 : FVec Ideal S1x2048x1024 .f32) (ix3 0 r k)
    = Tail.dy (args V0) r k * (args V0).gf k := by
  pointwise [res_main_v83]
  rw [v78_at, v61_at]

theorem v95_at (r : Fin 2048) (k : Fin 1024) : (res_main_v95 V0 : FVec Ideal S1x2048x1024 .f32) (ix3 0 r k)
    = Ideal.div ((∑ j, Tail.h3 (args V0) r j * (Tail.dy (args V0) r j * (args V0).gf j)) * (((-(1 / 2) : ℝ) : EReal)
      * Ideal.div (Ideal.rsqrt (Tail.meanSq (Tail.h3 (args V0) r))) (Tail.meanSq (Tail.h3 (args V0) r)))) ((1024 : ℝ) : EReal) := by
  pointwise [res_main_v95]
  rw [HostSums.unit_02]
  pointwise []
  simp only [v47_at, v83_at, v55_at, v54_at, RmsGrad.bits_1024, RmsGrad.bits_neg_half, bits_0, zero_add]
  rfl

theorem v99_at (r : Fin 2048) (k : Fin 1024) : (res_main_v99 V0 : FVec Ideal S1x2048x1024 .f32) (ix3 0 r k) = Tail.dh3 (args V0) r k := by
  pointwise [res_main_v99]
  rw [v83_at, v55_at, v47_at, v95_at]
  exact Tail.through_chain (Tail.h3 (args V0) r) (fun j => Tail.dy (args V0) r j * (args V0).gf j) k

theorem v105_at (r : Fin 2048) (k : Fin 1024) : (res_main_v105 V0 : FVec Ideal S1x2048x1024 .f32) (ix3 0 r k) = Tail.dgl (args V0) r k := by
  pointwise [res_main_v105]
  rw [v99_at, v45_at, v39_at]
  rfl

theorem v109_at (r : Fin 2048) (k : Fin 1024) : (res_main_v109 V0 : FVec Ideal S1x2048x1024 .f32) (ix3 0 r k) = Tail.dh2 (args V0) r k := by
  pointwise [res_main_v109]
  simp only [v99_at, v105_at, v32_at]
  rfl

theorem v114_at (r : Fin 2048) (k : Fin 4096) : (res_main_v114 V0 : FVec Ideal S1x2048x4096 .f32) (ix3 0 r k) = Tail.df (args V0) r k := by
  pointwise [res_main_v114]
  simp only [v21_at, v109_at, v29_at, v22_at, bits_0, bits_2]
  split_ifs with h
  · rfl
  · unfold Tail.df
    rw [max_eq_right (by simpa using h), mul_zero, mul_zero]

theorem v115_at (r : Fin 2048) (k : Fin 1024) : (res_main_v115 V0 : FVec Ideal S1x2048x1024 .f32) (ix3 0 r k) = Tail.dhn (args V0) r k := by
  pointwise [res_main_v115]
  simp only [v114_at, v20_at]
  rfl

theorem v120_at (r : Fin 2048) (k : Fin 1024) : (res_main_v120 V0 : FVec Ideal S1x2048x1024 .f32) (ix3 0 r k)
    = Tail.dhn (args V0) r k * (args V0).g2 k := by
  pointwise [res_main_v120]
  rw [v115_at, v17_at]

theorem v133_at (r : Fin 2048) (k : Fin 1024) : (res_main_v133 V0 : FVec Ideal S1x2048x1024 .f32) (ix3 0 r k)
    = Ideal.div ((∑ j, Tail.h1 (args V0) r j * (Tail.dhn (args V0) r j * (args V0).g2 j)) * (((-(1 / 2) : ℝ) : EReal)
      * Ideal.div (Ideal.rsqrt (Tail.meanSq (Tail.h1 (args V0) r))) (Tail.meanSq (Tail.h1 (args V0) r)))) ((1024 : ℝ) : EReal) := by
  pointwise [res_main_v133]
  rw [HostSums.unit_02]
  pointwise []
  simp only [v2_at, v120_at, v11_at, v10_at, RmsGrad.bits_1024, RmsGrad.bits_neg_half, bits_0, zero_add]
  rfl

theorem v137_at (r : Fin 2048) (k : Fin 1024) : (res_main_v137 V0 : FVec Ideal S1x2048x1024 .f32) (ix3 0 r k) = Tail.dh1 (args V0) r k := by
  pointwise [res_main_v137]
  rw [v109_at, v120_at, v11_at, v2_at, v133_at, add_assoc, add_assoc, ← add_assoc (_ * _)]
  exact congrArg (_ + ·) (Tail.through_chain (Tail.h1 (args V0) r) (fun j => Tail.dhn (args V0) r j * (args V0).g2 j) k)

/-! ### The results -/

def outSmall : FVec Ideal S8x1024 .f32 :=
  concatenate S8x1024 0 [⟨S1x1024, ((broadcastInDim S1x1024 ![1] bcast_S1024_S1x1024_1 (Host.reduceAdd (shapeCast _ (Host.reduceAdd (mulf (res_main_v16 V0) (res_main_v115 V0)) (constant S_ .f32 0x00000000#32) reducesTo_S1x2048x1024_S1x1024_d1 h_S_) shapeCasts_S1x1024_S1x1x1024) (constant S_ .f32 0x00000000#32) reducesTo_S1x1x1024_S1024_d0_1 h_S_)) : FVec Ideal S1x1024 .f32)⟩,
    ⟨S1x1024, ((broadcastInDim S1x1024 ![1] bcast_S1024_S1x1024_1 (Host.reduceAdd (shapeCast _ (Host.reduceAdd (mulf (res_main_v60 V0) (res_main_v78 V0)) (constant S_ .f32 0x00000000#32) reducesTo_S1x2048x1024_S1x1024_d1 h_S_) shapeCasts_S1x1024_S1x1x1024) (constant S_ .f32 0x00000000#32) reducesTo_S1x1x1024_S1024_d0_1 h_S_)) : FVec Ideal S1x1024 .f32)⟩,
    ⟨S1x1024, ((broadcastInDim S1x1024 ![] bcast_S_S1x1024 (mulf (constant S_ .f32 0x3F000000#32) (Host.reduceAdd (Host.divf (Host.reduceAdd (mulf (res_main_v64 V0) (res_main_v64 V0)) (constant S_ .f32 0x00000000#32) reducesTo_S1x2048x1024_S1x2048_d2 h_S_) (broadcastInDim S1x2048 ![] bcast_S_S1x2048 (constant S_ .f32 0x44800000#32))) (constant S_ .f32 0x00000000#32) reducesTo_S1x2048_S_d0_1 h_S_))) : FVec Ideal S1x1024 .f32)⟩,
    ⟨S5x1024, ((broadcastInDim S5x1024 ![] bcast_S_S5x1024 (constant S_ .f32 0x00000000#32)) : FVec Ideal S5x1024 .f32)⟩] concatenates_S1x1024_S1x1024_S1x1024_S5x1024_S8x1024_d0

theorem small0_at (k : Fin 1024) : outSmall V0 (ix2 0 k) = Tail.dg2 (args V0) k := by
  pointwise [outSmall]
  rw [HostSums.unit_01]
  pointwise []
  simp only [v16_at, v115_at, bits_0, zero_add]
  exact Finset.sum_congr rfl fun r _ => mul_comm (_ : EReal) _

theorem small1_at (k : Fin 1024) : outSmall V0 (ix2 1 k) = Tail.dgf (args V0) k := by
  pointwise [outSmall]
  rw [HostSums.unit_01]
  pointwise []
  simp only [v60_at, v78_at, bits_0, zero_add]
  exact Finset.sum_congr rfl fun r _ => mul_comm (_ : EReal) _

theorem small2_at (k : Fin 1024) : outSmall V0 (ix2 2 k) = Tail.loss (args V0) := by
  pointwise [outSmall]
  simp only [v64_at, bits_half, RmsGrad.bits_1024]
  rw [Fintype.sum_unique]
  rw [Tail.mul_sum_nonneg _ (by norm_num) _ (fun r => ?_)]
  · refine Finset.sum_congr rfl fun r _ => ?_
    rw [Ideal.div_coe (by norm_num), mul_comm, mul_assoc, ← EReal.coe_mul]
    norm_num
  · rw [Ideal.div_coe (by norm_num)]
    exact mul_nonneg (RmsGrad.sum_sq_nonneg _) (by norm_num)

theorem small_rest_at (q : Fin 5) (k : Fin 1024) : outSmall V0 (ix2 (Fin.natAdd 3 q) k) = 0 := by
  pointwise [outSmall]
  rw [dif_neg (by simp), dif_neg (by simp), dif_neg (by simp)]

def outWo : FVec Ideal S1024x1024 .f32 :=
  shapeCast _ (broadcastInDim S1x1024x1024 ![1, 2] bcast_S1024x1024_S1x1024x1024_1_2 (transpose S1024x1024 [1, 0] (Host.dotGeneral (φ₁ := .f32) (φ₂ := .f32) dot_S1x2048x1024_S1x2048x1024_S1024x1024_01_01_2_2_n_n none (res_main_v137 V0 : FVec Ideal S1x2048x1024 .f32) (V0 (Proc.devRef .tc main_arg1) : FVec Ideal S1x2048x1024 .f32)) transposes_S1024x1024_S1024x1024_1_0)) shapeCasts_S1x1024x1024_S1024x1024

def outWp : FVec Ideal S8x256x128 .f32 :=
  transpose S8x256x128 [1, 0, 2] (shapeCast _ (shapeCast _ (broadcastInDim S1x256x1024 ![1, 2] bcast_S256x1024_S1x256x1024_1_2 (transpose S256x1024 [1, 0] (Host.dotGeneral (φ₁ := .f32) (φ₂ := .f32) dot_S1x2048x1024_S1x2048x256_S1024x256_01_01_2_2_n_n none (mulf (φ := .f32) (res_main_v39 V0 : FVec Ideal S1x2048x1024 .f32) (res_main_v99 V0 : FVec Ideal S1x2048x1024 .f32)) (res_main_v43 V0 : FVec Ideal S1x2048x256 .f32)) transposes_S1024x256_S256x1024_1_0)) shapeCasts_S1x256x1024_S256x1024) shapeCasts_S256x1024_S256x8x128) transposes_S256x8x128_S8x256x128_1_0_2

def outWg : FVec Ideal S1024x1024 .f32 :=
  shapeCast _ (broadcastInDim S1x1024x1024 ![1, 2] bcast_S1024x1024_S1x1024x1024_1_2 (transpose S1024x1024 [1, 0] (Host.dotGeneral (φ₁ := .f32) (φ₂ := .f32) dot_S1x2048x1024_S1x2048x1024_S1024x1024_01_01_2_2_n_n none (res_main_v105 V0 : FVec Ideal S1x2048x1024 .f32) (res_main_v31 V0 : FVec Ideal S1x2048x1024 .f32)) transposes_S1024x1024_S1024x1024_1_0)) shapeCasts_S1x1024x1024_S1024x1024

theorem wo_at (j k : Fin 1024) : outWo V0 (ix2 j k) = Tail.dwo (args V0) j k := by
  pointwise [outWo]
  rw [Fintype.sum_unique]
  simp only [Fin.default_eq_zero, v137_at]
  exact Finset.sum_congr rfl fun r _ => mul_comm (_ : EReal) _

theorem wp_at (q : Fin 8) (j : Fin 256) (k : Fin 128) : outWp V0 (ix3 q j k) = Tail.dwp (args V0) j (Tail.col q k) := by
  pointwise [outWp]
  rw [Fintype.sum_unique]
  simp only [Fin.default_eq_zero, v39_at, v99_at, v43_at]
  exact Finset.sum_congr rfl fun r _ => (mul_comm (_ : EReal) _).trans (congrArg (_ * ·) (mul_comm (_ : EReal) _))

theorem wg_at (j k : Fin 1024) : outWg V0 (ix2 j k) = Tail.dwg (args V0) j k := by
  pointwise [outWg]
  rw [Fintype.sum_unique]
  simp only [Fin.default_eq_zero, v105_at, v31_at]
  exact Finset.sum_congr rfl fun r _ => mul_comm (_ : EReal) _

def outDmix : FVec Ideal S2048x1024 .f32 :=
  shapeCast _ (Host.dotGeneral (φ₁ := .f32) (φ₂ := .f32) dot_S1x2048x1024_S1024x1024_S1x2048x1024_2_1_01_0_n_n none (res_main_v137 V0 : FVec Ideal S1x2048x1024 .f32) (res_main_v0 V0 : FVec Ideal S1024x1024 .f32)) shapeCasts_S1x2048x1024_S2048x1024

theorem dmix_at (r : Fin 2048) (k : Fin 1024) : outDmix V0 (ix2 r k) = Tail.dmix (args V0) r k := by
  pointwise [outDmix]
  simp only [v137_at, v0_at]
  rfl

end Cert.Reference2Ideal.Value
-- ==== Proof.TailBlocks.lean ====
/- What the tail kernel reads at each point: its blocks of the arguments. -/
module

public import proofs.«01_k».proof.Proof.Gen.Kernel2Ideal.Value
public import proofs.«01_k».proof.Proof.TailMath
public import Idealize.ShloMosaic.Lib.Pipeline.ValueKit
public import Idealize.ShloMosaic.Lib.Claim
public import proofs.«01_k».proof.Proof.Gen.Kernel2Ideal

@[expose] public section

set_option maxRecDepth 16384

noncomputable section

open Idealize.ShloMosaic Idealize.ShloMosaic.TcCoe Idealize.SL.Sem
open Idealize.ShloMosaic.Pipeline (Dat)

namespace Cert.Kernel2Ideal.Value
open Cert.Kernel2Ideal Cert.Kernel2Ideal.Gen
variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0, 0] ∧ win0_8.index t = ![0, 0] ∧ win0_9.index t = ![0, 0] ∧ win0_10.index t = ![0, 0, 0] :=
  (by decide +kernel : ∀ t : Fin grid0.N, _)

theorem idxOut : ∀ t : Fin cfg0.N, win0_11.index t = ![0, 0] ∧ win0_12.index t = ![t.val, 0] ∧ win0_13.index t = ![t.val, 0]
    ∧ win0_14.index t = ![t.val, 0] ∧ win0_15.index t = ![t.val, 0] ∧ win0_16.index t = ![t.val, 0] ∧ win0_17.index t = ![t.val, 0]
    ∧ win0_18.index t = ![0, 0] ∧ win0_19.index t = ![0, 0, 0] ∧ win0_20.index t = ![0, 0] :=
  (by decide +kernel : ∀ t : Fin grid0.N, _)

/-- The arguments as the kernel is given them. -/
def args (c : Dev nD) : Tail.Args where
  x r k := (m ((c.tc : Thread nD τ).loc main_arg0) : FVec Ideal S1x2048x1024 .f32) (ix3 0 r k)
  mix r k := (m ((c.tc : Thread nD τ).loc main_arg1) : FVec Ideal S1x2048x1024 .f32) (ix3 0 r k)
  p r k := (m ((c.tc : Thread nD τ).loc main_arg2) : FVec Ideal S1x1x2048x256 .f32) (ix4 0 0 r k)
  t r k := (m ((c.tc : Thread nD τ).loc main_arg3) : FVec Ideal S1x2048x1024 .f32) (ix3 0 r k)
  g2 k := (m ((c.tc : Thread nD τ).loc main_arg4) : FVec Ideal S1x1024 .f32) (ix2 0 k)
  gf k := (m ((c.tc : Thread nD τ).loc main_arg5) : FVec Ideal S1024 .f32) (ix1 k)
  wo j k := (m ((c.tc : Thread nD τ).loc main_arg6) : FVec Ideal S1x1024x1024 .f32) (ix3 0 j k)
  w1 j k := (m ((c.tc : Thread nD τ).loc main_arg7) : FVec Ideal S1x1024x4096 .f32) (ix3 0 j k)
  w2 j k := (m ((c.tc : Thread nD τ).loc main_arg8) : FVec Ideal S1x4096x1024 .f32) (ix3 0 j k)
  wp j k := (m ((c.tc : Thread nD τ).loc main_arg9) : FVec Ideal S1x256x1024 .f32) (ix3 0 j k)
  wg j k := (m ((c.tc : Thread nD τ).loc main_arg10) : FVec Ideal S1x1024x1024 .f32) (ix3 0 j k)

/-- Row `r` of point `t`'s tile, in the whole array. -/
abbrev row (t : Fin cfg0.N) (r : Fin 256) : Fin 2048 := ⟨t.val * 256 + r.val, by have h := t.isLt; have := N_0; have := r.isLt; change t.val < grid0.N at h; omega⟩

/-- Column `j` of the feed-forward layer's part `q`. -/
abbrev ffcol (q : Fin 8) (j : Fin 512) : Fin 4096 := ⟨q.val * 512 + j.val, by omega⟩

theorem blk_x (c : Dev nD) (t : Fin cfg0.N) (r : Fin 256) (k : Fin 1024) : iblk m c 0 t (ix2 r k) = (args m c).x (row t r) k := by
  blk_point [iblk, V, idx t, args]

theorem blk_mix (c : Dev nD) (t : Fin cfg0.N) (r : Fin 256) (k : Fin 1024) : iblk m c 1 t (ix2 r k) = (args m c).mix (row t r) k := by
  blk_point [iblk, V, idx t, args]

theorem blk_p (c : Dev nD) (t : Fin cfg0.N) (r : Fin 256) (k : Fin 256) : iblk m c 2 t (ix2 r k) = (args m c).p (row t r) k := by
  blk_point [iblk, V, idx t, args]

theorem blk_t (c : Dev nD) (t : Fin cfg0.N) (r : Fin 256) (k : Fin 1024) : iblk m c 3 t (ix2 r k) = (args m c).t (row t r) k := by
  blk_point [iblk, V, idx t, args]

theorem blk_g2 (c : Dev nD) (t : Fin cfg0.N) (k : Fin 1024) : iblk m c 4 t (ix2 0 k) = (args m c).g2 k := by
  blk_point [iblk, V, idx t, args]

theorem blk_gf (c : Dev nD) (t : Fin cfg0.N) (k : Fin 1024) : iblk m c 5 t (ix2 0 k) = (args m c).gf k := by
  blk_point [iblk, V, idx t, args]

theorem blk_wo (c : Dev nD) (t : Fin cfg0.N) (j k : Fin 1024) : iblk m c 6 t (ix2 j k) = (args m c).wo j k := by
  blk_point [iblk, V, idx t, args]

theorem blk_wg (c : Dev nD) (t : Fin cfg0.N) (j k : Fin 1024) : iblk m c 9 t (ix2 j k) = (args m c).wg j k := by
  blk_point [iblk, V, idx t, args]

theorem w1_all (c : Dev nD) (t : Fin cfg0.N) (q : Fin 8) (k : Fin 1024) (j : Fin 512) : iblk m c 7 t (ix3 q k j) = (args m c).w1 k (ffcol q j) := by
  blk_point [iblk, V, idx t, args]

theorem w2_all (c : Dev nD) (t : Fin cfg0.N) (j : Fin 4096) (k : Fin 1024) : iblk m c 8 t (ix2 j k) = (args m c).w2 j k := by
  blk_point [iblk, V, idx t, args]

theorem wp_all (c : Dev nD) (t : Fin cfg0.N) (q : Fin 8) (j : Fin 256) (k : Fin 128) : iblk m c 10 t (ix3 q j k) = (args m c).wp j (Tail.col q k) := by
  blk_point [iblk, V, idx t, args]

/-- The first feed-forward weights' part `q`. -/
theorem blk_w1 (c : Dev nD) (t : Fin cfg0.N) (q : Fin 8) (n : ℕ) (hn : n = q.val) (inb) (k : Fin 1024) (j : Fin 512) :
    View.ld (iblk m c 7 t) (Rect.unit ![n, 0, 0] ![1, 1024, 512] inb) (ix3 0 k j) = (args m c).w1 k (ffcol q j) := by
  subst hn
  rw [← w1_all m c t]
  refine congrArg (iblk m c 7 t) (funext fun a => Fin.ext ?_)
  match a with
  | ⟨0, _⟩ => show q.val + 1 * 0 = q.val; omega
  | ⟨1, _⟩ => show 0 + 1 * k.val = k.val; omega
  | ⟨2, _⟩ => show 0 + 1 * j.val = j.val; omega

/-- The second feed-forward weights' rows of part `q`. -/
theorem blk_w2 (c : Dev nD) (t : Fin cfg0.N) (q : Fin 8) (n : ℕ) (hn : n = q.val * 512) (inb) (j : Fin 512) (k : Fin 1024) :
    View.ld (iblk m c 8 t) (Rect.unit ![n, 0] ![512, 1024] inb) (ix2 j k) = (args m c).w2 (ffcol q j) k := by
  subst hn
  rw [← w2_all m c t]
  refine congrArg (iblk m c 8 t) (funext fun a => Fin.ext ?_)
  match a with
  | ⟨0, _⟩ => show q.val * 512 + 1 * j.val = q.val * 512 + j.val; omega
  | ⟨1, _⟩ => show 0 + 1 * k.val = k.val; omega

/-- The embedding's projection, device `q`'s part. -/
theorem blk_wp (c : Dev nD) (t : Fin cfg0.N) (q : Fin 8) (n : ℕ) (hn : n = q.val) (inb) (j : Fin 256) (k : Fin 128) :
    View.ld (iblk m c 10 t) (Rect.unit ![n, 0, 0] ![1, 256, 128] inb) (ix3 0 j k) = (args m c).wp j (Tail.col q k) := by
  subst hn
  rw [← wp_all m c t]
  refine congrArg (iblk m c 10 t) (funext fun a => Fin.ext ?_)
  match a with
  | ⟨0, _⟩ => show q.val + 1 * 0 = q.val; omega
  | ⟨1, _⟩ => show 0 + 1 * j.val = j.val; omega
  | ⟨2, _⟩ => show 0 + 1 * k.val = k.val; omega

end Cert.Kernel2Ideal.Value
-- ==== Proof.TailFwd.lean ====
/- The tail kernel's forward stages at one point: from the first residual sum to the error and the cotangents before the feed-forward layer. -/
module

public import proofs.«01_k».proof.Proof.Gen.Kernel2Ideal.Value
public import proofs.«01_k».proof.Proof.TailMath
public import proofs.«01_k».proof.Proof.TailBlocks
public import Idealize.ShloMosaic.Lib.Pipeline.ValueKit
public import Idealize.ShloMosaic.Lib.Claim
public import proofs.«01_k».proof.Proof.Gen.Kernel2Ideal

@[expose] public section

set_option maxRecDepth 16384

noncomputable section

open Idealize.ShloMosaic Idealize.ShloMosaic.TcCoe Idealize.SL.Sem
open Idealize.ShloMosaic.Pipeline (Dat)

namespace Cert.Kernel2Ideal.Value
open Cert.Kernel2Ideal Cert.Kernel2Ideal.Gen
variable (m : (ℓ : Loc nD τ sig) → Buf (Elt Ideal) ℓ)

/-- The parts of the weights a point loads one at a time. -/
def w1p (c : Dev nD) (t : Fin cfg0.N) (n : ℕ) (inb : ∀ a, (![n, 0, 0] : Fin 3 → ℕ) a + S1x1024x512.size a ≤ S8x1024x512.size a) : FVec Ideal S1x1024x512 .bf16 :=
  View.ld (iblk m c 7 t) (Rect.unit ![n, 0, 0] ![1, 1024, 512] inb)

@[inherit_doc w1p] def w2p (c : Dev nD) (t : Fin cfg0.N) (n : ℕ) (inb : ∀ a, (![n, 0] : Fin 2 → ℕ) a + S512x1024.size a ≤ S4096x1024.size a) : FVec Ideal S512x1024 .bf16 :=
  View.ld (iblk m c 8 t) (Rect.unit ![n, 0] ![512, 1024] inb)

@[inherit_doc w1p] def wpp (c : Dev nD) (t : Fin cfg0.N) (n : ℕ) (inb : ∀ a, (![n, 0, 0] : Fin 3 → ℕ) a + S1x256x128.size a ≤ S8x256x128.size a) : FVec Ideal S1x256x128 .bf16 :=
  View.ld (iblk m c 10 t) (Rect.unit ![n, 0, 0] ![1, 256, 128] inb)

theorem w1p_at (c : Dev nD) (t : Fin cfg0.N) (q : Fin 8) (n : ℕ) (hn : n = q.val) (inb) (k : Fin 1024) (j : Fin 512) :
    w1p m c t n inb (ix3 0 k j) = (args m c).w1 k (ffcol q j) := blk_w1 m c t q n hn inb k j

theorem w2p_at (c : Dev nD) (t : Fin cfg0.N) (q : Fin 8) (n : ℕ) (hn : n = q.val * 512) (inb) (j : Fin 512) (k : Fin 1024) :
    w2p m c t n inb (ix2 j k) = (args m c).w2 (ffcol q j) k := blk_w2 m c t q n hn inb j k

theorem wpp_at (c : Dev nD) (t : Fin cfg0.N) (q : Fin 8) (n : ℕ) (hn : n = q.val) (inb) (j : Fin 256) (k : Fin 128) :
    wpp m c t n inb (ix3 0 j k) = (args m c).wp j (Tail.col q k) := blk_wp m c t q n hn inb j k

/-! ## The stages -/

def scale1 (c : Dev nD) (t : Fin cfg0.N) : FVec Ideal S256x1 .f32 := k0_pay7 (iblk m c 0 t) (iblk m c 1 t) (iblk m c 6 t)
def h1 (c : Dev nD) (t : Fin cfg0.N) : FVec Ideal S256x1024 .f32 := k0_pay6 (iblk m c 0 t) (iblk m c 1 t) (iblk m c 6 t)
def hn (c : Dev nD) (t : Fin cfg0.N) : FVec Ideal S256x1024 .bf16 := k0_pay8 (iblk m c 0 t) (iblk m c 1 t) (iblk m c 6 t) (iblk m c 4 t)
def sum1 (c : Dev nD) (t : Fin cfg0.N) : FVec Ideal S256x1024 .f32 := k0_pay15 (h1 m c t) (k0_pay9 (hn m c t) (w1p m c t 0 inb_S8x1024x512_S1x1024x512_0_0_0)) (w2p m c t 0 inb_S4096x1024_S512x1024_0_0) (hn m c t) (w1p m c t 1 inb_S8x1024x512_S1x1024x512_1_0_0) (w2p m c t 512 inb_S4096x1024_S512x1024_512_0)
def sum2 (c : Dev nD) (t : Fin cfg0.N) : FVec Ideal S256x1024 .f32 := k0_pay20 (sum1 m c t) (k0_pay16 (hn m c t)) (w1p m c t 2 inb_S8x1024x512_S1x1024x512_2_0_0) (w2p m c t 1024 inb_S4096x1024_S512x1024_1024_0)
def part3 (c : Dev nD) (t : Fin cfg0.N) : FVec Ideal S256x1024 .f32 := k0_pay24 (hn m c t) (w1p m c t 3 inb_S8x1024x512_S1x1024x512_3_0_0) (w2p m c t 1536 inb_S4096x1024_S512x1024_1536_0)
def sum4 (c : Dev nD) (t : Fin cfg0.N) : FVec Ideal S256x1024 .f32 := k0_pay28 (sum2 m c t) (part3 m c t) (hn m c t) (w1p m c t 4 inb_S8x1024x512_S1x1024x512_4_0_0) (w2p m c t 2048 inb_S4096x1024_S512x1024_2048_0)
def act5 (c : Dev nD) (t : Fin cfg0.N) : FVec Ideal S256x512 .bf16 := k0_pay31 (hn m c t) (w1p m c t 5 inb_S8x1024x512_S1x1024x512_5_0_0)
def sum6 (c : Dev nD) (t : Fin cfg0.N) : FVec Ideal S256x1024 .f32 := k0_pay35 (sum4 m c t) (act5 m c t) (w2p m c t 2560 inb_S4096x1024_S512x1024_2560_0) (hn m c t) (w1p m c t 6 inb_S8x1024x512_S1x1024x512_6_0_0) (w2p m c t 3072 inb_S4096x1024_S512x1024_3072_0)
def pos7 (c : Dev nD) (t : Fin cfg0.N) : FVec Ideal S256x512 .f32 := k0_pay38 (hn m c t) (w1p m c t 7 inb_S8x1024x512_S1x1024x512_7_0_0)
def h2 (c : Dev nD) (t : Fin cfg0.N) : FVec Ideal S256x1024 .f32 := k0_pay40 (sum6 m c t) (pos7 m c t) (w2p m c t 3584 inb_S4096x1024_S512x1024_3584_0)
def gate (c : Dev nD) (t : Fin cfg0.N) : FVec Ideal S256x1024 .f32 := k0_pay42 (sum6 m c t) (pos7 m c t) (w2p m c t 3584 inb_S4096x1024_S512x1024_3584_0) (iblk m c 9 t)
def proj (c : Dev nD) (t : Fin cfg0.N) : FVec Ideal S256x1024 .f32 := k0_pay49 (k0_pay43 (iblk m c 2 t)) (k0_pay44 (iblk m c 2 t) (wpp m c t 0 inb_S8x256x128_S1x256x128_0_0_0)) (k0_pay45 (iblk m c 2 t) (wpp m c t 1 inb_S8x256x128_S1x256x128_1_0_0)) (k0_pay46 (iblk m c 2 t) (wpp m c t 2 inb_S8x256x128_S1x256x128_2_0_0)) (k0_pay47 (iblk m c 2 t) (wpp m c t 3 inb_S8x256x128_S1x256x128_3_0_0)) (k0_pay48 (wpp m c t 4 inb_S8x256x128_S1x256x128_4_0_0)) (constant S256x128 FTy.f32 0#32) (wpp m c t 5 inb_S8x256x128_S1x256x128_5_0_0) (wpp m c t 6 inb_S8x256x128_S1x256x128_6_0_0) (wpp m c t 7 inb_S8x256x128_S1x256x128_7_0_0)
def h3 (c : Dev nD) (t : Fin cfg0.N) : FVec Ideal S256x1024 .f32 := k0_pay50 (h2 m c t) (gate m c t) (k0_pay43 (iblk m c 2 t)) (k0_pay44 (iblk m c 2 t) (wpp m c t 0 inb_S8x256x128_S1x256x128_0_0_0)) (k0_pay45 (iblk m c 2 t) (wpp m c t 1 inb_S8x256x128_S1x256x128_1_0_0)) (k0_pay46 (iblk m c 2 t) (wpp m c t 2 inb_S8x256x128_S1x256x128_2_0_0)) (k0_pay47 (iblk m c 2 t) (wpp m c t 3 inb_S8x256x128_S1x256x128_3_0_0)) (k0_pay48 (wpp m c t 4 inb_S8x256x128_S1x256x128_4_0_0)) (constant S256x128 FTy.f32 0#32) (wpp m c t 5 inb_S8x256x128_S1x256x128_5_0_0) (wpp m c t 6 inb_S8x256x128_S1x256x128_6_0_0) (wpp m c t 7 inb_S8x256x128_S1x256x128_7_0_0)
def scale3 (c : Dev nD) (t : Fin cfg0.N) : FVec Ideal S256x1 .f32 := k0_pay51 (h2 m c t) (gate m c t) (k0_pay43 (iblk m c 2 t)) (k0_pay44 (iblk m c 2 t) (wpp m c t 0 inb_S8x256x128_S1x256x128_0_0_0)) (k0_pay45 (iblk m c 2 t) (wpp m c t 1 inb_S8x256x128_S1x256x128_1_0_0)) (k0_pay46 (iblk m c 2 t) (wpp m c t 2 inb_S8x256x128_S1x256x128_2_0_0)) (k0_pay47 (iblk m c 2 t) (wpp m c t 3 inb_S8x256x128_S1x256x128_3_0_0)) (k0_pay48 (wpp m c t 4 inb_S8x256x128_S1x256x128_4_0_0)) (constant S256x128 FTy.f32 0#32) (wpp m c t 5 inb_S8x256x128_S1x256x128_5_0_0) (wpp m c t 6 inb_S8x256x128_S1x256x128_6_0_0) (wpp m c t 7 inb_S8x256x128_S1x256x128_7_0_0)
def err (c : Dev nD) (t : Fin cfg0.N) : FVec Ideal S256x1024 .f32 := k0_pay53 (h2 m c t) (gate m c t) (k0_pay43 (iblk m c 2 t)) (k0_pay44 (iblk m c 2 t) (wpp m c t 0 inb_S8x256x128_S1x256x128_0_0_0)) (k0_pay45 (iblk m c 2 t) (wpp m c t 1 inb_S8x256x128_S1x256x128_1_0_0)) (k0_pay46 (iblk m c 2 t) (wpp m c t 2 inb_S8x256x128_S1x256x128_2_0_0)) (k0_pay47 (iblk m c 2 t) (wpp m c t 3 inb_S8x256x128_S1x256x128_3_0_0)) (k0_pay48 (wpp m c t 4 inb_S8x256x128_S1x256x128_4_0_0)) (constant S256x128 FTy.f32 0#32) (wpp m c t 5 inb_S8x256x128_S1x256x128_5_0_0) (wpp m c t 6 inb_S8x256x128_S1x256x128_6_0_0) (wpp m c t 7 inb_S8x256x128_S1x256x128_7_0_0) (iblk m c 5 t) (iblk m c 3 t)
def dh3 (c : Dev nD) (t : Fin cfg0.N) : FVec Ideal S256x1024 .f32 := k0_pay59 (h3 m c t) (scale3 m c t) (k0_pay52 (iblk m c 5 t)) (err m c t)
def dgl (c : Dev nD) (t : Fin cfg0.N) : FVec Ideal S256x1024 .bf16 := k0_pay70 (gate m c t) (proj m c t) (dh3 m c t)
def dh2b (c : Dev nD) (t : Fin cfg0.N) : FVec Ideal S256x1024 .bf16 := k0_pay73 (dh3 m c t) (dgl m c t) (iblk m c 9 t)
def dh2 (c : Dev nD) (t : Fin cfg0.N) : FVec Ideal S256x1024 .f32 := k0_pay72 (dh3 m c t) (dgl m c t) (iblk m c 9 t)

/-! ## Their values -/

theorem bits_1024 : Ideal.ofBits .f32 0x44800000#32 = ((1024 : ℝ) : EReal) := by simp [Ideal.ofBits, Ideal.ieee, -EReal.coe_mul]; norm_num
theorem bits_eps : Ideal.ofBits .f32 0x358637BD#32 = ((8796093 / 8796093022208 : ℝ) : EReal) := by simp [Ideal.ofBits, Ideal.ieee, -EReal.coe_mul]; norm_num
theorem bits_thousandth : Ideal.ofBits .f32 0x3A800000#32 = ((1 / 1024 : ℝ) : EReal) := by simp [Ideal.ofBits, Ideal.ieee, -EReal.coe_mul]; norm_num

theorem h1_at (c : Dev nD) (t : Fin cfg0.N) (r : Fin 256) (k : Fin 1024) : h1 m c t (ix2 r k) = Tail.h1 (args m c) (row t r) k := by
  unfold h1
  pointwise [k0_pay6]
  simp only [blk_x, blk_mix, blk_wo]
  rfl

theorem scale1_at (c : Dev nD) (t : Fin cfg0.N) (r : Fin 256) : scale1 m c t (ix2 r 0) = Tail.scale (Tail.h1 (args m c) (row t r)) := by
  have e : scale1 m c t (ix2 r 0) = Ideal.rsqrt (Ideal.div (∑ k, h1 m c t (ix2 r k) * h1 m c t (ix2 r k)) (Ideal.ofBits .f32 0x44800000#32) + Ideal.ofBits .f32 0x358637BD#32) := by
    unfold scale1 h1
    generalize hp : k0_pay6 (F := Ideal) (iblk m c 0 t) (iblk m c 1 t) (iblk m c 6 t) = p
    pointwise [k0_pay7, hp]
  rw [e, bits_1024, bits_eps]
  simp only [h1_at]
  rfl

theorem hn_at (c : Dev nD) (t : Fin cfg0.N) (r : Fin 256) (k : Fin 1024) : hn m c t (ix2 r k) = Tail.hn (args m c) (row t r) k := by
  have e : hn m c t (ix2 r k) = h1 m c t (ix2 r k) * scale1 m c t (ix2 r 0) * iblk m c 4 t (ix2 0 k) := by
    unfold hn h1 scale1
    generalize hp : k0_pay6 (F := Ideal) (iblk m c 0 t) (iblk m c 1 t) (iblk m c 6 t) = p
    generalize hs : k0_pay7 (F := Ideal) (iblk m c 0 t) (iblk m c 1 t) (iblk m c 6 t) = p
    pointwise [k0_pay8, hp, hs]
  rw [e, h1_at, scale1_at, blk_g2]
  rfl

/-- One part of the feed-forward layer's product, its inputs given. -/
theorem ff_part (c : Dev nD) (t : Fin cfg0.N) (q : Fin 8) (n : ℕ) (hn' : n = q.val) (inb) (r : Fin 256) (j : Fin 512) :
    ∑ i : Fin 1024, hn m c t (ix2 r i) * w1p m c t n inb (ix3 0 i j) = Tail.ff (args m c) (row t r) (ffcol q j) :=
  Finset.sum_congr rfl fun i _ => by rw [hn_at, w1p_at m c t q n hn']

/-- What part `q` of the layer adds. -/
def part (c : Dev nD) (t : Fin cfg0.N) (r : Fin 256) (k : Fin 1024) (q : Fin 8) : EReal :=
  ∑ j : Fin 512, Tail.act (args m c) (row t r) (ffcol q j) * (args m c).w2 (ffcol q j) k

theorem part_eq (c : Dev nD) (t : Fin cfg0.N) (q : Fin 8) (n n' : ℕ) (h : n = q.val) (h' : n' = q.val * 512) (inb inb') (r : Fin 256) (k : Fin 1024) :
    ∑ j : Fin 512, (max (∑ i : Fin 1024, hn m c t (ix2 r i) * w1p m c t n inb (ix3 0 i j)) 0
        * max (∑ i : Fin 1024, hn m c t (ix2 r i) * w1p m c t n inb (ix3 0 i j)) 0)
      * w2p m c t n' inb' (ix2 j k) = part m c t r k q :=
  Finset.sum_congr rfl fun j _ => by rw [ff_part m c t q n h, w2p_at m c t q n' h']; rfl

theorem sum1_at (c : Dev nD) (t : Fin cfg0.N) (r : Fin 256) (k : Fin 1024) : sum1 m c t (ix2 r k) = Tail.h1 (args m c) (row t r) k + part m c t r k 0 + part m c t r k 1 := by
  unfold sum1
  pointwise [k0_pay15, k0_pay9, k0_pay11, k0_pay12, k0_pay14]
  rw [h1_at, part_eq m c t 0 0 0 rfl rfl, part_eq m c t 1 1 512 rfl rfl]

theorem sum2_at (c : Dev nD) (t : Fin cfg0.N) (r : Fin 256) (k : Fin 1024) : sum2 m c t (ix2 r k) = sum1 m c t (ix2 r k) + part m c t r k 2 := by
  unfold sum2
  pointwise [k0_pay20, k0_pay19, k0_pay16, k0_pay17]
  rw [part_eq m c t 2 2 1024 rfl rfl]

theorem part3_at (c : Dev nD) (t : Fin cfg0.N) (r : Fin 256) (k : Fin 1024) : part3 m c t (ix2 r k) = part m c t r k 3 := by
  unfold part3
  pointwise [k0_pay24, k0_pay23, k0_pay21]
  rw [part_eq m c t 3 3 1536 rfl rfl]

theorem sum4_at (c : Dev nD) (t : Fin cfg0.N) (r : Fin 256) (k : Fin 1024) : sum4 m c t (ix2 r k) = sum2 m c t (ix2 r k) + part m c t r k 3 + part m c t r k 4 := by
  unfold sum4
  pointwise [k0_pay28, k0_pay27, k0_pay25]
  rw [part3_at, part_eq m c t 4 4 2048 rfl rfl]

theorem sum6_at (c : Dev nD) (t : Fin cfg0.N) (r : Fin 256) (k : Fin 1024) : sum6 m c t (ix2 r k) = sum4 m c t (ix2 r k) + part m c t r k 5 + part m c t r k 6 := by
  unfold sum6 act5
  pointwise [k0_pay35, k0_pay34, k0_pay32, k0_pay31, k0_pay29]
  rw [part_eq m c t 5 5 2560 rfl rfl, part_eq m c t 6 6 3072 rfl rfl]

theorem h2_at (c : Dev nD) (t : Fin cfg0.N) (r : Fin 256) (k : Fin 1024) : h2 m c t (ix2 r k) = Tail.h2 (args m c) (row t r) k := by
  have e : h2 m c t (ix2 r k) = sum6 m c t (ix2 r k) + part m c t r k 7 := by
    unfold h2 pos7
    pointwise [k0_pay40, k0_pay39, k0_pay38, k0_pay36]
    rw [part_eq m c t 7 7 3584 rfl rfl]
  rw [e, sum6_at, sum4_at, sum2_at, sum1_at]
  unfold Tail.h2
  rw [Fin.sum_univ_tiles 8 512 rfl, Fin.sum_univ_eight]
  simp only [← add_assoc]
  rfl

theorem gate_at (c : Dev nD) (t : Fin cfg0.N) (r : Fin 256) (k : Fin 1024) : gate m c t (ix2 r k) = Tail.gate (args m c) (row t r) k := by
  have e : gate m c t (ix2 r k) = Ideal.logistic (∑ j, h2 m c t (ix2 r j) * iblk m c 9 t (ix2 j k)) := by
    unfold gate h2
    generalize hp : k0_pay40 (F := Ideal) (sum6 m c t) (pos7 m c t) _ = p
    pointwise [k0_pay42, k0_pay41, hp]
  rw [e]
  simp only [h2_at, blk_wg]
  rfl

theorem proj_part (c : Dev nD) (t : Fin cfg0.N) (q : Fin 8) (n : ℕ) (h : n = q.val) (inb) (r : Fin 256) (k : Fin 128) :
    ∑ j : Fin 256, HMul.hMul (α := EReal) (β := EReal) (γ := EReal) (iblk m c 2 t (ix2 r j)) (wpp m c t n inb (ix3 0 j k)) = Tail.proj (args m c) (row t r) (Tail.col q k) :=
  Finset.sum_congr rfl fun j _ => by rw [blk_p, wpp_at m c t q n h]

set_option maxHeartbeats 2000000 in
theorem proj_at (c : Dev nD) (t : Fin cfg0.N) (r : Fin 256) (k : Fin 1024) : proj m c t (ix2 r k) = Tail.proj (args m c) (row t r) k := by
  unfold proj
  pointwise [k0_pay49, k0_pay43, k0_pay44, k0_pay45, k0_pay46, k0_pay47, k0_pay48]
  split_ifs
  all_goals first
    | (rw [proj_part m c t 0 0 rfl]; exact congrArg (Tail.proj (args m c) (row t r)) (Fin.ext (by show 0 * 128 + (k.val) = k.val; omega)))
    | (rw [proj_part m c t 1 1 rfl]; exact congrArg (Tail.proj (args m c) (row t r)) (Fin.ext (by show 1 * 128 + (k.val - 128) = k.val; omega)))
    | (rw [proj_part m c t 2 2 rfl]; exact congrArg (Tail.proj (args m c) (row t r)) (Fin.ext (by show 2 * 128 + (k.val - 128 - 128) = k.val; omega)))
    | (rw [proj_part m c t 3 3 rfl]; exact congrArg (Tail.proj (args m c) (row t r)) (Fin.ext (by show 3 * 128 + (k.val - 128 - 128 - 128) = k.val; omega)))
    | (rw [proj_part m c t 4 4 rfl]; exact congrArg (Tail.proj (args m c) (row t r)) (Fin.ext (by show 4 * 128 + (k.val - 128 - 128 - 128 - 128) = k.val; omega)))
    | (rw [proj_part m c t 5 5 rfl]; exact congrArg (Tail.proj (args m c) (row t r)) (Fin.ext (by show 5 * 128 + (k.val - 128 - 128 - 128 - 128 - 128) = k.val; omega)))
    | (rw [proj_part m c t 6 6 rfl]; exact congrArg (Tail.proj (args m c) (row t r)) (Fin.ext (by show 6 * 128 + (k.val - 128 - 128 - 128 - 128 - 128 - 128) = k.val; omega)))
    | (rw [proj_part m c t 7 7 rfl]; exact congrArg (Tail.proj (args m c) (row t r)) (Fin.ext (by show 7 * 128 + (k.val - 128 - 128 - 128 - 128 - 128 - 128 - 128) = k.val; omega)))

theorem h3_at (c : Dev nD) (t : Fin cfg0.N) (r : Fin 256) (k : Fin 1024) : h3 m c t (ix2 r k) = Tail.h3 (args m c) (row t r) k := by
  have e : h3 m c t (ix2 r k) = h2 m c t (ix2 r k) + gate m c t (ix2 r k) * proj m c t (ix2 r k) := by
    unfold h3 proj
    generalize hp : k0_pay49 (F := Ideal) (k0_pay43 (iblk m c 2 t)) (k0_pay44 (iblk m c 2 t) (wpp m c t 0 inb_S8x256x128_S1x256x128_0_0_0)) (k0_pay45 (iblk m c 2 t) (wpp m c t 1 inb_S8x256x128_S1x256x128_1_0_0)) (k0_pay46 (iblk m c 2 t) (wpp m c t 2 inb_S8x256x128_S1x256x128_2_0_0)) (k0_pay47 (iblk m c 2 t) (wpp m c t 3 inb_S8x256x128_S1x256x128_3_0_0)) (k0_pay48 (wpp m c t 4 inb_S8x256x128_S1x256x128_4_0_0)) (constant (F := Ideal) S256x128 FTy.f32 0#32) (wpp m c t 5 inb_S8x256x128_S1x256x128_5_0_0) (wpp m c t 6 inb_S8x256x128_S1x256x128_6_0_0) (wpp m c t 7 inb_S8x256x128_S1x256x128_7_0_0) = p
    pointwise [k0_pay50, hp]
  rw [e, h2_at, gate_at, proj_at]
  rfl

theorem scale3_at (c : Dev nD) (t : Fin cfg0.N) (r : Fin 256) : scale3 m c t (ix2 r 0) = Tail.scale (Tail.h3 (args m c) (row t r)) := by
  have e : scale3 m c t (ix2 r 0) = Ideal.rsqrt (Ideal.div (∑ k, h3 m c t (ix2 r k) * h3 m c t (ix2 r k)) (Ideal.ofBits .f32 0x44800000#32) + Ideal.ofBits .f32 0x358637BD#32) := by
    unfold scale3 h3
    generalize hp : k0_pay50 (F := Ideal) (h2 m c t) (gate m c t) (k0_pay43 (iblk m c 2 t)) (k0_pay44 (iblk m c 2 t) (wpp m c t 0 inb_S8x256x128_S1x256x128_0_0_0)) (k0_pay45 (iblk m c 2 t) (wpp m c t 1 inb_S8x256x128_S1x256x128_1_0_0)) (k0_pay46 (iblk m c 2 t) (wpp m c t 2 inb_S8x256x128_S1x256x128_2_0_0)) (k0_pay47 (iblk m c 2 t) (wpp m c t 3 inb_S8x256x128_S1x256x128_3_0_0)) (k0_pay48 (wpp m c t 4 inb_S8x256x128_S1x256x128_4_0_0)) (constant (F := Ideal) S256x128 FTy.f32 0#32) (wpp m c t 5 inb_S8x256x128_S1x256x128_5_0_0) (wpp m c t 6 inb_S8x256x128_S1x256x128_6_0_0) (wpp m c t 7 inb_S8x256x128_S1x256x128_7_0_0) = p
    pointwise [k0_pay51, hp]
  rw [e, bits_1024, bits_eps]
  simp only [h3_at]
  rfl

theorem err_at (c : Dev nD) (t : Fin cfg0.N) (r : Fin 256) (k : Fin 1024) : err m c t (ix2 r k) = Tail.err (args m c) (row t r) k := by
  have e : err m c t (ix2 r k) = h3 m c t (ix2 r k) * scale3 m c t (ix2 r 0) * iblk m c 5 t (ix2 0 k) - iblk m c 3 t (ix2 r k) := by
    unfold err h3 scale3
    generalize hp : k0_pay50 (F := Ideal) (h2 m c t) (gate m c t) (k0_pay43 (iblk m c 2 t)) (k0_pay44 (iblk m c 2 t) (wpp m c t 0 inb_S8x256x128_S1x256x128_0_0_0)) (k0_pay45 (iblk m c 2 t) (wpp m c t 1 inb_S8x256x128_S1x256x128_1_0_0)) (k0_pay46 (iblk m c 2 t) (wpp m c t 2 inb_S8x256x128_S1x256x128_2_0_0)) (k0_pay47 (iblk m c 2 t) (wpp m c t 3 inb_S8x256x128_S1x256x128_3_0_0)) (k0_pay48 (wpp m c t 4 inb_S8x256x128_S1x256x128_4_0_0)) (constant (F := Ideal) S256x128 FTy.f32 0#32) (wpp m c t 5 inb_S8x256x128_S1x256x128_5_0_0) (wpp m c t 6 inb_S8x256x128_S1x256x128_6_0_0) (wpp m c t 7 inb_S8x256x128_S1x256x128_7_0_0) = p
    generalize hs : k0_pay51 (F := Ideal) (h2 m c t) (gate m c t) (k0_pay43 (iblk m c 2 t)) (k0_pay44 (iblk m c 2 t) (wpp m c t 0 inb_S8x256x128_S1x256x128_0_0_0)) (k0_pay45 (iblk m c 2 t) (wpp m c t 1 inb_S8x256x128_S1x256x128_1_0_0)) (k0_pay46 (iblk m c 2 t) (wpp m c t 2 inb_S8x256x128_S1x256x128_2_0_0)) (k0_pay47 (iblk m c 2 t) (wpp m c t 3 inb_S8x256x128_S1x256x128_3_0_0)) (k0_pay48 (wpp m c t 4 inb_S8x256x128_S1x256x128_4_0_0)) (constant (F := Ideal) S256x128 FTy.f32 0#32) (wpp m c t 5 inb_S8x256x128_S1x256x128_5_0_0) (wpp m c t 6 inb_S8x256x128_S1x256x128_6_0_0) (wpp m c t 7 inb_S8x256x128_S1x256x128_7_0_0) = s
    pointwise [k0_pay53, k0_pay52, hp, hs]
  rw [e, h3_at, scale3_at, blk_gf, blk_t]
  rfl

theorem dh3_at (c : Dev nD) (t : Fin cfg0.N) (r : Fin 256) (k : Fin 1024) : dh3 m c t (ix2 r k) = Tail.dh3 (args m c) (row t r) k := by
  have e : dh3 m c t (ix2 r k) = scale3 m c t (ix2 r 0) * (err m c t (ix2 r k) * Ideal.ofBits .f32 0x3A800000#32 * iblk m c 5 t (ix2 0 k))
      - h3 m c t (ix2 r k) * (scale3 m c t (ix2 r 0) * scale3 m c t (ix2 r 0) * scale3 m c t (ix2 r 0)
        * Ideal.div (∑ j, err m c t (ix2 r j) * Ideal.ofBits .f32 0x3A800000#32 * iblk m c 5 t (ix2 0 j) * h3 m c t (ix2 r j)) (Ideal.ofBits .f32 0x44800000#32)) := by
    unfold dh3
    pointwise [k0_pay59, k0_pay57, k0_pay52]
  rw [e, bits_1024, bits_thousandth]
  simp only [h3_at, scale3_at, err_at, blk_gf]
  rfl

theorem dgl_at (c : Dev nD) (t : Fin cfg0.N) (r : Fin 256) (k : Fin 1024) : dgl m c t (ix2 r k) = Tail.dgl (args m c) (row t r) k := by
  unfold dgl
  pointwise [k0_pay70]
  rw [gate_at, proj_at, dh3_at]
  rfl

theorem dh2_at (c : Dev nD) (t : Fin cfg0.N) (r : Fin 256) (k : Fin 1024) : dh2 m c t (ix2 r k) = Tail.dh2 (args m c) (row t r) k := by
  unfold dh2
  pointwise [k0_pay72]
  simp only [dh3_at, dgl_at, blk_wg]
  rfl

theorem dh2b_at (c : Dev nD) (t : Fin cfg0.N) (r : Fin 256) (k : Fin 1024) : dh2b m c t (ix2 r k) = Tail.dh2 (args m c) (row t r) k := by
  rw [← dh2_at]
  unfold dh2b dh2
  pointwise [k0_pay73]

end Cert.Kernel2Ideal.Value
-- ==== Proof.TailBwd.lean ====
/- The tail kernel's stages behind the feed-forward layer at one point: its cotangents, part by part, and the first norm's. -/
module

public import proofs.«01_k».proof.Proof.Gen.Kernel2Ideal.Value
public import proofs.«01_k».proof.Proof.TailMath
public import proofs.«01_k».proof.Proof.TailFwd
public import Idealize.ShloMosaic.Lib.Pipeline.ValueKit
public import Idealize.ShloMosaic.Lib.Claim
public import proofs.«01_k».proof.Proof.Gen.Kernel2Ideal

@[expose] public section

set_option maxRecDepth 16384

noncomputable section

open Idealize.ShloMosaic Idealize.ShloMosaic.TcCoe Idealize.SL.Sem
open Idealize.ShloMosaic.Pipeline (Dat)

namespace Cert.Kernel2Ideal.Value
open Cert.Kernel2Ideal Cert.Kernel2Ideal.Gen
variable (m : (ℓ : Loc nD τ sig) → Buf (Elt Ideal) ℓ)

/-! ## The layer's parts, as kept and as read back -/

def f0 (c : Dev nD) (t : Fin cfg0.N) : FVec Ideal S256x512 .f32 := k0_pay10 (k0_pay9 (hn m c t) (w1p m c t 0 inb_S8x1024x512_S1x1024x512_0_0_0))
def f1 (c : Dev nD) (t : Fin cfg0.N) : FVec Ideal S256x512 .f32 := k0_pay13 (hn m c t) (w1p m c t 1 inb_S8x1024x512_S1x1024x512_1_0_0)
def f2 (c : Dev nD) (t : Fin cfg0.N) : FVec Ideal S256x512 .f32 := k0_pay18 (k0_pay16 (hn m c t)) (w1p m c t 2 inb_S8x1024x512_S1x1024x512_2_0_0)
def f3 (c : Dev nD) (t : Fin cfg0.N) : FVec Ideal S256x512 .f32 := k0_pay22 (hn m c t) (w1p m c t 3 inb_S8x1024x512_S1x1024x512_3_0_0)
def f4 (c : Dev nD) (t : Fin cfg0.N) : FVec Ideal S256x512 .f32 := k0_pay26 (hn m c t) (w1p m c t 4 inb_S8x1024x512_S1x1024x512_4_0_0)
def f5 (c : Dev nD) (t : Fin cfg0.N) : FVec Ideal S256x512 .f32 := k0_pay30 (hn m c t) (w1p m c t 5 inb_S8x1024x512_S1x1024x512_5_0_0)
def f6 (c : Dev nD) (t : Fin cfg0.N) : FVec Ideal S256x512 .f32 := k0_pay33 (hn m c t) (w1p m c t 6 inb_S8x1024x512_S1x1024x512_6_0_0)
def f7 (c : Dev nD) (t : Fin cfg0.N) : FVec Ideal S256x512 .f32 := k0_pay37 (hn m c t) (w1p m c t 7 inb_S8x1024x512_S1x1024x512_7_0_0)

theorem f0_at (c : Dev nD) (t : Fin cfg0.N) (r : Fin 256) (j : Fin 512) : f0 m c t (ix2 r j) = Tail.ff (args m c) (row t r) (ffcol 0 j) := by
  unfold f0
  pointwise [k0_pay10, k0_pay9]
  exact ff_part m c t 0 0 rfl _ r j

theorem f1_at (c : Dev nD) (t : Fin cfg0.N) (r : Fin 256) (j : Fin 512) : f1 m c t (ix2 r j) = Tail.ff (args m c) (row t r) (ffcol 1 j) := by
  unfold f1
  pointwise [k0_pay13, k0_pay12]
  exact ff_part m c t 1 1 rfl _ r j

theorem f2_at (c : Dev nD) (t : Fin cfg0.N) (r : Fin 256) (j : Fin 512) : f2 m c t (ix2 r j) = Tail.ff (args m c) (row t r) (ffcol 2 j) := by
  unfold f2
  pointwise [k0_pay18, k0_pay16, k0_pay17]
  exact ff_part m c t 2 2 rfl _ r j

theorem f3_at (c : Dev nD) (t : Fin cfg0.N) (r : Fin 256) (j : Fin 512) : f3 m c t (ix2 r j) = Tail.ff (args m c) (row t r) (ffcol 3 j) := by
  unfold f3
  pointwise [k0_pay22, k0_pay21]
  exact ff_part m c t 3 3 rfl _ r j

theorem f4_at (c : Dev nD) (t : Fin cfg0.N) (r : Fin 256) (j : Fin 512) : f4 m c t (ix2 r j) = Tail.ff (args m c) (row t r) (ffcol 4 j) := by
  unfold f4
  pointwise [k0_pay26, k0_pay25]
  exact ff_part m c t 4 4 rfl _ r j

theorem f5_at (c : Dev nD) (t : Fin cfg0.N) (r : Fin 256) (j : Fin 512) : f5 m c t (ix2 r j) = Tail.ff (args m c) (row t r) (ffcol 5 j) := by
  unfold f5
  pointwise [k0_pay30, k0_pay29]
  exact ff_part m c t 5 5 rfl _ r j

theorem f6_at (c : Dev nD) (t : Fin cfg0.N) (r : Fin 256) (j : Fin 512) : f6 m c t (ix2 r j) = Tail.ff (args m c) (row t r) (ffcol 6 j) := by
  unfold f6
  pointwise [k0_pay33, k0_pay32]
  exact ff_part m c t 6 6 rfl _ r j

theorem f7_at (c : Dev nD) (t : Fin cfg0.N) (r : Fin 256) (j : Fin 512) : f7 m c t (ix2 r j) = Tail.ff (args m c) (row t r) (ffcol 7 j) := by
  unfold f7
  pointwise [k0_pay37, k0_pay36]
  exact ff_part m c t 7 7 rfl _ r j

def act0 (c : Dev nD) (t : Fin cfg0.N) : FVec Ideal S256x512 .bf16 := k0_pay11 (k0_pay9 (hn m c t) (w1p m c t 0 inb_S8x1024x512_S1x1024x512_0_0_0))
def act1 (c : Dev nD) (t : Fin cfg0.N) : FVec Ideal S256x512 .bf16 := k0_pay14 (hn m c t) (w1p m c t 1 inb_S8x1024x512_S1x1024x512_1_0_0)
def act2 (c : Dev nD) (t : Fin cfg0.N) : FVec Ideal S256x512 .bf16 := k0_pay19 (k0_pay16 (hn m c t)) (w1p m c t 2 inb_S8x1024x512_S1x1024x512_2_0_0)
def act3 (c : Dev nD) (t : Fin cfg0.N) : FVec Ideal S256x512 .bf16 := k0_pay23 (hn m c t) (w1p m c t 3 inb_S8x1024x512_S1x1024x512_3_0_0)
def act4 (c : Dev nD) (t : Fin cfg0.N) : FVec Ideal S256x512 .bf16 := k0_pay27 (hn m c t) (w1p m c t 4 inb_S8x1024x512_S1x1024x512_4_0_0)
def act6 (c : Dev nD) (t : Fin cfg0.N) : FVec Ideal S256x512 .bf16 := k0_pay34 (hn m c t) (w1p m c t 6 inb_S8x1024x512_S1x1024x512_6_0_0)
def act7 (c : Dev nD) (t : Fin cfg0.N) : FVec Ideal S256x512 .bf16 := k0_pay39 (k0_pay38 (hn m c t) (w1p m c t 7 inb_S8x1024x512_S1x1024x512_7_0_0))

theorem act0_at (c : Dev nD) (t : Fin cfg0.N) (r : Fin 256) (j : Fin 512) : act0 m c t (ix2 r j) = Tail.act (args m c) (row t r) (ffcol 0 j) := by
  unfold act0
  pointwise [k0_pay11, k0_pay9]
  rw [ff_part m c t 0 0 rfl]
  rfl

theorem act1_at (c : Dev nD) (t : Fin cfg0.N) (r : Fin 256) (j : Fin 512) : act1 m c t (ix2 r j) = Tail.act (args m c) (row t r) (ffcol 1 j) := by
  unfold act1
  pointwise [k0_pay14, k0_pay12]
  rw [ff_part m c t 1 1 rfl]
  rfl

theorem act2_at (c : Dev nD) (t : Fin cfg0.N) (r : Fin 256) (j : Fin 512) : act2 m c t (ix2 r j) = Tail.act (args m c) (row t r) (ffcol 2 j) := by
  unfold act2
  pointwise [k0_pay19, k0_pay16, k0_pay17]
  rw [ff_part m c t 2 2 rfl]
  rfl

theorem act3_at (c : Dev nD) (t : Fin cfg0.N) (r : Fin 256) (j : Fin 512) : act3 m c t (ix2 r j) = Tail.act (args m c) (row t r) (ffcol 3 j) := by
  unfold act3
  pointwise [k0_pay23, k0_pay21]
  rw [ff_part m c t 3 3 rfl]
  rfl

theorem act4_at (c : Dev nD) (t : Fin cfg0.N) (r : Fin 256) (j : Fin 512) : act4 m c t (ix2 r j) = Tail.act (args m c) (row t r) (ffcol 4 j) := by
  unfold act4
  pointwise [k0_pay27, k0_pay25]
  rw [ff_part m c t 4 4 rfl]
  rfl

theorem act5_at (c : Dev nD) (t : Fin cfg0.N) (r : Fin 256) (j : Fin 512) : act5 m c t (ix2 r j) = Tail.act (args m c) (row t r) (ffcol 5 j) := by
  unfold act5
  pointwise [k0_pay31, k0_pay29]
  rw [ff_part m c t 5 5 rfl]
  rfl

theorem act6_at (c : Dev nD) (t : Fin cfg0.N) (r : Fin 256) (j : Fin 512) : act6 m c t (ix2 r j) = Tail.act (args m c) (row t r) (ffcol 6 j) := by
  unfold act6
  pointwise [k0_pay34, k0_pay32]
  rw [ff_part m c t 6 6 rfl]
  rfl

theorem act7_at (c : Dev nD) (t : Fin cfg0.N) (r : Fin 256) (j : Fin 512) : act7 m c t (ix2 r j) = Tail.act (args m c) (row t r) (ffcol 7 j) := by
  unfold act7
  pointwise [k0_pay39, k0_pay38, k0_pay36]
  rw [ff_part m c t 7 7 rfl]
  rfl

/-! ## The stages -/

def df0 (c : Dev nD) (t : Fin cfg0.N) : FVec Ideal S256x512 .bf16 := k0_pay74 (dh2b m c t) (w2p m c t 0 inb_S4096x1024_S512x1024_0_0) (f0 m c t)
def df1 (c : Dev nD) (t : Fin cfg0.N) : FVec Ideal S256x512 .bf16 := k0_pay77 (k0_pay76 (dh2b m c t) (w2p m c t 512 inb_S4096x1024_S512x1024_512_0)) (f1 m c t)
def df2 (c : Dev nD) (t : Fin cfg0.N) : FVec Ideal S256x512 .bf16 := k0_pay78 (dh2b m c t) (w2p m c t 1024 inb_S4096x1024_S512x1024_1024_0) (f2 m c t)
def df3 (c : Dev nD) (t : Fin cfg0.N) : FVec Ideal S256x512 .bf16 := k0_pay81 (k0_pay80 (dh2b m c t)) (w2p m c t 1536 inb_S4096x1024_S512x1024_1536_0) (f3 m c t)
def df4 (c : Dev nD) (t : Fin cfg0.N) : FVec Ideal S256x512 .bf16 := k0_pay83 (dh2b m c t) (w2p m c t 2048 inb_S4096x1024_S512x1024_2048_0) (f4 m c t)
def df5 (c : Dev nD) (t : Fin cfg0.N) : FVec Ideal S256x512 .bf16 := k0_pay85 (dh2b m c t) (w2p m c t 2560 inb_S4096x1024_S512x1024_2560_0) (f5 m c t)
def df6 (c : Dev nD) (t : Fin cfg0.N) : FVec Ideal S256x512 .bf16 := k0_pay87 (dh2b m c t) (w2p m c t 3072 inb_S4096x1024_S512x1024_3072_0) (f6 m c t)
def df7 (c : Dev nD) (t : Fin cfg0.N) : FVec Ideal S256x512 .bf16 := k0_pay88 (dh2b m c t) (w2p m c t 3584 inb_S4096x1024_S512x1024_3584_0) (f7 m c t)
def back0 (c : Dev nD) (t : Fin cfg0.N) : FVec Ideal S256x1024 .f32 := k0_pay75 (dh2b m c t) (w2p m c t 0 inb_S4096x1024_S512x1024_0_0) (f0 m c t) (w1p m c t 0 inb_S8x1024x512_S1x1024x512_0_0_0)
def back2 (c : Dev nD) (t : Fin cfg0.N) : FVec Ideal S256x1024 .f32 := k0_pay79 (back0 m c t) (k0_pay76 (dh2b m c t) (w2p m c t 512 inb_S4096x1024_S512x1024_512_0)) (f1 m c t) (w1p m c t 1 inb_S8x1024x512_S1x1024x512_1_0_0) (dh2b m c t) (w2p m c t 1024 inb_S4096x1024_S512x1024_1024_0) (f2 m c t) (w1p m c t 2 inb_S8x1024x512_S1x1024x512_2_0_0)
def back3 (c : Dev nD) (t : Fin cfg0.N) : FVec Ideal S256x1024 .f32 := k0_pay82 (back2 m c t) (k0_pay80 (dh2b m c t)) (w2p m c t 1536 inb_S4096x1024_S512x1024_1536_0) (f3 m c t) (w1p m c t 3 inb_S8x1024x512_S1x1024x512_3_0_0)
def back4 (c : Dev nD) (t : Fin cfg0.N) : FVec Ideal S256x1024 .f32 := k0_pay84 (dh2b m c t) (w2p m c t 2048 inb_S4096x1024_S512x1024_2048_0) (f4 m c t) (w1p m c t 4 inb_S8x1024x512_S1x1024x512_4_0_0)
def back5 (c : Dev nD) (t : Fin cfg0.N) : FVec Ideal S256x1024 .f32 := k0_pay86 (back3 m c t) (back4 m c t) (dh2b m c t) (w2p m c t 2560 inb_S4096x1024_S512x1024_2560_0) (f5 m c t) (w1p m c t 5 inb_S8x1024x512_S1x1024x512_5_0_0)
def dhn (c : Dev nD) (t : Fin cfg0.N) : FVec Ideal S256x1024 .f32 := k0_pay89 (back5 m c t) (df6 m c t) (w1p m c t 6 inb_S8x1024x512_S1x1024x512_6_0_0) (dh2b m c t) (w2p m c t 3584 inb_S4096x1024_S512x1024_3584_0) (f7 m c t) (w1p m c t 7 inb_S8x1024x512_S1x1024x512_7_0_0)
def dh1 (c : Dev nD) (t : Fin cfg0.N) : FVec Ideal S256x1024 .f32 := k0_pay92 (scale1 m c t) (dhn m c t) (k0_pay90 (h1 m c t)) (dh2 m c t) (iblk m c 4 t)
def dh1b (c : Dev nD) (t : Fin cfg0.N) : FVec Ideal S256x1024 .bf16 := k0_pay93 (scale1 m c t) (dhn m c t) (k0_pay90 (h1 m c t)) (dh2 m c t) (iblk m c 4 t)
def dmix (c : Dev nD) (t : Fin cfg0.N) : FVec Ideal S256x1024 .f32 := k0_pay1 (dh1b m c t) (iblk m c 6 t)

/-! ## Their values -/

theorem bits_two : Ideal.ofBits .f32 0x40000000#32 = (2 : EReal) := by simp [Ideal.ofBits, Ideal.ieee, -EReal.coe_mul]; norm_num; rfl

/-- One part of the layer's cotangent, its inputs given. -/
theorem df_part (c : Dev nD) (t : Fin cfg0.N) (q : Fin 8) (n : ℕ) (h : n = q.val * 512) (inb) (r : Fin 256) (j : Fin 512) (f : EReal)
    (hf : f = Tail.ff (args m c) (row t r) (ffcol q j)) :
    (∑ i : Fin 1024, dh2b m c t (ix2 r i) * w2p m c t n inb (ix2 j i)) * (Ideal.ofBits .f32 0x40000000#32 * max f 0) = Tail.df (args m c) (row t r) (ffcol q j) := by
  rw [bits_two, hf]
  refine congrArg (· * _) (Finset.sum_congr rfl fun i _ => ?_)
  rw [dh2b_at, w2p_at m c t q n h]

/-- What part `q` of the layer sends back. -/
def sent (c : Dev nD) (t : Fin cfg0.N) (r : Fin 256) (k : Fin 1024) (q : Fin 8) : EReal :=
  ∑ j : Fin 512, Tail.df (args m c) (row t r) (ffcol q j) * (args m c).w1 k (ffcol q j)

theorem sent_eq (c : Dev nD) (t : Fin cfg0.N) (q : Fin 8) (n : ℕ) (h : n = q.val) (inb) (r : Fin 256) (k : Fin 1024) (d : FVec Ideal S256x512 .bf16)
    (hd : ∀ j, d (ix2 r j) = Tail.df (args m c) (row t r) (ffcol q j)) :
    ∑ j : Fin 512, d (ix2 r j) * w1p m c t n inb (ix3 0 k j) = sent m c t r k q :=
  Finset.sum_congr rfl fun j _ => by rw [hd, w1p_at m c t q n h]

theorem df0_at (c : Dev nD) (t : Fin cfg0.N) (r : Fin 256) (j : Fin 512) : df0 m c t (ix2 r j) = Tail.df (args m c) (row t r) (ffcol 0 j) := by
  unfold df0
  pointwise [k0_pay74]
  exact df_part m c t 0 0 rfl _ r j _ (f0_at m c t r j)

theorem df1_at (c : Dev nD) (t : Fin cfg0.N) (r : Fin 256) (j : Fin 512) : df1 m c t (ix2 r j) = Tail.df (args m c) (row t r) (ffcol 1 j) := by
  unfold df1
  pointwise [k0_pay77, k0_pay76]
  exact df_part m c t 1 512 rfl _ r j _ (f1_at m c t r j)

theorem df2_at (c : Dev nD) (t : Fin cfg0.N) (r : Fin 256) (j : Fin 512) : df2 m c t (ix2 r j) = Tail.df (args m c) (row t r) (ffcol 2 j) := by
  unfold df2
  pointwise [k0_pay78]
  exact df_part m c t 2 1024 rfl _ r j _ (f2_at m c t r j)

theorem df3_at (c : Dev nD) (t : Fin cfg0.N) (r : Fin 256) (j : Fin 512) : df3 m c t (ix2 r j) = Tail.df (args m c) (row t r) (ffcol 3 j) := by
  unfold df3
  pointwise [k0_pay81, k0_pay80]
  exact df_part m c t 3 1536 rfl _ r j _ (f3_at m c t r j)

theorem df4_at (c : Dev nD) (t : Fin cfg0.N) (r : Fin 256) (j : Fin 512) : df4 m c t (ix2 r j) = Tail.df (args m c) (row t r) (ffcol 4 j) := by
  unfold df4
  pointwise [k0_pay83]
  exact df_part m c t 4 2048 rfl _ r j _ (f4_at m c t r j)

theorem df5_at (c : Dev nD) (t : Fin cfg0.N) (r : Fin 256) (j : Fin 512) : df5 m c t (ix2 r j) = Tail.df (args m c) (row t r) (ffcol 5 j) := by
  unfold df5
  pointwise [k0_pay85]
  exact df_part m c t 5 2560 rfl _ r j _ (f5_at m c t r j)

theorem df6_at (c : Dev nD) (t : Fin cfg0.N) (r : Fin 256) (j : Fin 512) : df6 m c t (ix2 r j) = Tail.df (args m c) (row t r) (ffcol 6 j) := by
  unfold df6
  pointwise [k0_pay87]
  exact df_part m c t 6 3072 rfl _ r j _ (f6_at m c t r j)

theorem df7_at (c : Dev nD) (t : Fin cfg0.N) (r : Fin 256) (j : Fin 512) : df7 m c t (ix2 r j) = Tail.df (args m c) (row t r) (ffcol 7 j) := by
  unfold df7
  pointwise [k0_pay88]
  exact df_part m c t 7 3584 rfl _ r j _ (f7_at m c t r j)

theorem back0_at (c : Dev nD) (t : Fin cfg0.N) (r : Fin 256) (k : Fin 1024) : back0 m c t (ix2 r k) = sent m c t r k 0 := by
  have e : back0 m c t (ix2 r k) = ∑ j, df0 m c t (ix2 r j) * (w1p m c t 0 inb_S8x1024x512_S1x1024x512_0_0_0) (ix3 0 k j) := by
    unfold back0 df0
    generalize hp : k0_pay74 (F := Ideal) (dh2b m c t) (w2p m c t 0 inb_S4096x1024_S512x1024_0_0) (f0 m c t) = p
    pointwise [k0_pay75, hp]
  exact e.trans (sent_eq m c t 0 0 rfl _ r k _ (df0_at m c t r))

theorem back2_at (c : Dev nD) (t : Fin cfg0.N) (r : Fin 256) (k : Fin 1024) : back2 m c t (ix2 r k) = back0 m c t (ix2 r k) + sent m c t r k 1 + sent m c t r k 2 := by
  have e : back2 m c t (ix2 r k) = back0 m c t (ix2 r k) + ∑ j, df1 m c t (ix2 r j) * (w1p m c t 1 inb_S8x1024x512_S1x1024x512_1_0_0) (ix3 0 k j) + ∑ j, df2 m c t (ix2 r j) * (w1p m c t 2 inb_S8x1024x512_S1x1024x512_2_0_0) (ix3 0 k j) := by
    unfold back2 df1 df2
    generalize hp : k0_pay77 (F := Ideal) (k0_pay76 (F := Ideal) (dh2b m c t) (w2p m c t 512 inb_S4096x1024_S512x1024_512_0)) (f1 m c t) = p
    generalize hq : k0_pay78 (F := Ideal) (dh2b m c t) (w2p m c t 1024 inb_S4096x1024_S512x1024_1024_0) (f2 m c t) = q
    pointwise [k0_pay79, hp, hq]
  rw [e, sent_eq m c t 1 1 rfl _ r k _ (df1_at m c t r), sent_eq m c t 2 2 rfl _ r k _ (df2_at m c t r)]

theorem back3_at (c : Dev nD) (t : Fin cfg0.N) (r : Fin 256) (k : Fin 1024) : back3 m c t (ix2 r k) = back2 m c t (ix2 r k) + sent m c t r k 3 := by
  have e : back3 m c t (ix2 r k) = back2 m c t (ix2 r k) + ∑ j, df3 m c t (ix2 r j) * (w1p m c t 3 inb_S8x1024x512_S1x1024x512_3_0_0) (ix3 0 k j) := by
    unfold back3 df3
    generalize hp : k0_pay81 (F := Ideal) (k0_pay80 (F := Ideal) (dh2b m c t)) (w2p m c t 1536 inb_S4096x1024_S512x1024_1536_0) (f3 m c t) = p
    pointwise [k0_pay82, hp]
  rw [e, sent_eq m c t 3 3 rfl _ r k _ (df3_at m c t r)]

theorem back4_at (c : Dev nD) (t : Fin cfg0.N) (r : Fin 256) (k : Fin 1024) : back4 m c t (ix2 r k) = sent m c t r k 4 := by
  have e : back4 m c t (ix2 r k) = ∑ j, df4 m c t (ix2 r j) * (w1p m c t 4 inb_S8x1024x512_S1x1024x512_4_0_0) (ix3 0 k j) := by
    unfold back4 df4
    generalize hp : k0_pay83 (F := Ideal) (dh2b m c t) (w2p m c t 2048 inb_S4096x1024_S512x1024_2048_0) (f4 m c t) = p
    pointwise [k0_pay84, hp]
  rw [e, sent_eq m c t 4 4 rfl _ r k _ (df4_at m c t r)]

theorem back5_at (c : Dev nD) (t : Fin cfg0.N) (r : Fin 256) (k : Fin 1024) : back5 m c t (ix2 r k) = back3 m c t (ix2 r k) + back4 m c t (ix2 r k) + sent m c t r k 5 := by
  have e : back5 m c t (ix2 r k) = back3 m c t (ix2 r k) + back4 m c t (ix2 r k) + ∑ j, df5 m c t (ix2 r j) * (w1p m c t 5 inb_S8x1024x512_S1x1024x512_5_0_0) (ix3 0 k j) := by
    unfold back5 df5
    generalize hp : k0_pay85 (F := Ideal) (dh2b m c t) (w2p m c t 2560 inb_S4096x1024_S512x1024_2560_0) (f5 m c t) = p
    pointwise [k0_pay86, hp]
  rw [e, sent_eq m c t 5 5 rfl _ r k _ (df5_at m c t r)]

theorem dhn_at (c : Dev nD) (t : Fin cfg0.N) (r : Fin 256) (k : Fin 1024) : dhn m c t (ix2 r k) = Tail.dhn (args m c) (row t r) k := by
  have e : dhn m c t (ix2 r k) = back5 m c t (ix2 r k) + ∑ j, df6 m c t (ix2 r j) * (w1p m c t 6 inb_S8x1024x512_S1x1024x512_6_0_0) (ix3 0 k j) + ∑ j, df7 m c t (ix2 r j) * (w1p m c t 7 inb_S8x1024x512_S1x1024x512_7_0_0) (ix3 0 k j) := by
    unfold dhn df7
    generalize hp : k0_pay88 (F := Ideal) (dh2b m c t) (w2p m c t 3584 inb_S4096x1024_S512x1024_3584_0) (f7 m c t) = p
    pointwise [k0_pay89, hp]
  rw [e, sent_eq m c t 6 6 rfl _ r k _ (df6_at m c t r), sent_eq m c t 7 7 rfl _ r k _ (df7_at m c t r), back5_at, back4_at, back3_at, back2_at, back0_at]
  unfold Tail.dhn
  rw [Fin.sum_univ_tiles 8 512 rfl, Fin.sum_univ_eight]
  rfl

theorem dh1_at (c : Dev nD) (t : Fin cfg0.N) (r : Fin 256) (k : Fin 1024) : dh1 m c t (ix2 r k) = Tail.dh1 (args m c) (row t r) k := by
  have e : dh1 m c t (ix2 r k) = dh2 m c t (ix2 r k) + (scale1 m c t (ix2 r 0) * (dhn m c t (ix2 r k) * iblk m c 4 t (ix2 0 k))
      - h1 m c t (ix2 r k) * (scale1 m c t (ix2 r 0) * scale1 m c t (ix2 r 0) * scale1 m c t (ix2 r 0)
        * Ideal.div (∑ j, dhn m c t (ix2 r j) * iblk m c 4 t (ix2 0 j) * h1 m c t (ix2 r j)) (Ideal.ofBits .f32 0x44800000#32))) := by
    unfold dh1
    pointwise [k0_pay92, k0_pay90]
  rw [e, bits_1024]
  simp only [h1_at, scale1_at, dhn_at, dh2_at, blk_g2]
  rfl

theorem dh1b_at (c : Dev nD) (t : Fin cfg0.N) (r : Fin 256) (k : Fin 1024) : dh1b m c t (ix2 r k) = Tail.dh1 (args m c) (row t r) k := by
  rw [← dh1_at]
  unfold dh1b dh1
  pointwise [k0_pay93]

theorem dmix_at (c : Dev nD) (t : Fin cfg0.N) (r : Fin 256) (k : Fin 1024) : dmix m c t (ix2 r k) = Tail.dmix (args m c) (row t r) k := by
  unfold dmix
  pointwise [k0_pay1]
  simp only [dh1b_at, blk_wo]
  rfl

end Cert.Kernel2Ideal.Value
-- ==== Proof.TailOut.lean ====
/- The tail kernel's tiled results: one tile a point. -/
module

public import proofs.«01_k».proof.Proof.Gen.Kernel2Ideal.Value
public import proofs.«01_k».proof.Proof.TailMath
public import proofs.«01_k».proof.Proof.TailBwd
public import Idealize.ShloMosaic.Lib.Pipeline.ReadBack
public import Idealize.ShloMosaic.Lib.Pipeline.ValueKit
public import Idealize.ShloMosaic.Lib.Claim
public import proofs.«01_k».proof.Proof.Gen.Kernel2Ideal

@[expose] public section

set_option maxRecDepth 16384

noncomputable section

open Idealize.ShloMosaic Idealize.ShloMosaic.TcCoe Idealize.SL.Sem
open Idealize.ShloMosaic.Pipeline (Dat)

namespace Cert.Kernel2Ideal.Value
open Cert.Kernel2Ideal Cert.Kernel2Ideal.Gen
variable (m : (ℓ : Loc nD τ sig) → Buf (Elt Ideal) ℓ)

/-! ## The kept layer, read back -/

theorem read0 {κ : Kind} {sp : Space} (v : View sig κ sp S256x4096 .f32) (w0 w1 w2 w3 w4 w5 w6 w7 : Vec Ideal S256x512 .f32) :
    v.readCov (Val := Elt Ideal) [⟨Rect.unit (s := S256x4096) ![0, 3584] ![256, 512] inb_S256x4096_S256x512_0_3584, w7⟩, ⟨Rect.unit (s := S256x4096) ![0, 3072] ![256, 512] inb_S256x4096_S256x512_0_3072, w6⟩, ⟨Rect.unit (s := S256x4096) ![0, 2560] ![256, 512] inb_S256x4096_S256x512_0_2560, w5⟩, ⟨Rect.unit (s := S256x4096) ![0, 2048] ![256, 512] inb_S256x4096_S256x512_0_2048, w4⟩, ⟨Rect.unit (s := S256x4096) ![0, 1536] ![256, 512] inb_S256x4096_S256x512_0_1536, w3⟩, ⟨Rect.unit (s := S256x4096) ![0, 1024] ![256, 512] inb_S256x4096_S256x512_0_1024, w2⟩, ⟨Rect.unit (s := S256x4096) ![0, 512] ![256, 512] inb_S256x4096_S256x512_0_512, w1⟩, ⟨Rect.unit (s := S256x4096) ![0, 0] ![256, 512] inb_S256x4096_S256x512_0_0, w0⟩] (Rect.unit (s := S256x4096) ![0, 0] ![256, 512] inb_S256x4096_S256x512_0_0).toLoadRect = w0 := by
  rw [View.readCov_skip _ _ _ _ _ (by decide +kernel)]
  rw [View.readCov_skip _ _ _ _ _ (by decide +kernel)]
  rw [View.readCov_skip _ _ _ _ _ (by decide +kernel)]
  rw [View.readCov_skip _ _ _ _ _ (by decide +kernel)]
  rw [View.readCov_skip _ _ _ _ _ (by decide +kernel)]
  rw [View.readCov_skip _ _ _ _ _ (by decide +kernel)]
  rw [View.readCov_skip _ _ _ _ _ (by decide +kernel)]
  exact View.readCov_cons_toLoadRect _ _ _ _

theorem read1 {κ : Kind} {sp : Space} (v : View sig κ sp S256x4096 .f32) (w0 w1 w2 w3 w4 w5 w6 w7 : Vec Ideal S256x512 .f32) :
    v.readCov (Val := Elt Ideal) [⟨Rect.unit (s := S256x4096) ![0, 3584] ![256, 512] inb_S256x4096_S256x512_0_3584, w7⟩, ⟨Rect.unit (s := S256x4096) ![0, 3072] ![256, 512] inb_S256x4096_S256x512_0_3072, w6⟩, ⟨Rect.unit (s := S256x4096) ![0, 2560] ![256, 512] inb_S256x4096_S256x512_0_2560, w5⟩, ⟨Rect.unit (s := S256x4096) ![0, 2048] ![256, 512] inb_S256x4096_S256x512_0_2048, w4⟩, ⟨Rect.unit (s := S256x4096) ![0, 1536] ![256, 512] inb_S256x4096_S256x512_0_1536, w3⟩, ⟨Rect.unit (s := S256x4096) ![0, 1024] ![256, 512] inb_S256x4096_S256x512_0_1024, w2⟩, ⟨Rect.unit (s := S256x4096) ![0, 512] ![256, 512] inb_S256x4096_S256x512_0_512, w1⟩, ⟨Rect.unit (s := S256x4096) ![0, 0] ![256, 512] inb_S256x4096_S256x512_0_0, w0⟩] (Rect.unit (s := S256x4096) ![0, 512] ![256, 512] inb_S256x4096_S256x512_0_512).toLoadRect = w1 := by
  rw [View.readCov_skip _ _ _ _ _ (by decide +kernel)]
  rw [View.readCov_skip _ _ _ _ _ (by decide +kernel)]
  rw [View.readCov_skip _ _ _ _ _ (by decide +kernel)]
  rw [View.readCov_skip _ _ _ _ _ (by decide +kernel)]
  rw [View.readCov_skip _ _ _ _ _ (by decide +kernel)]
  rw [View.readCov_skip _ _ _ _ _ (by decide +kernel)]
  exact View.readCov_cons_toLoadRect _ _ _ _

theorem read2 {κ : Kind} {sp : Space} (v : View sig κ sp S256x4096 .f32) (w0 w1 w2 w3 w4 w5 w6 w7 : Vec Ideal S256x512 .f32) :
    v.readCov (Val := Elt Ideal) [⟨Rect.unit (s := S256x4096) ![0, 3584] ![256, 512] inb_S256x4096_S256x512_0_3584, w7⟩, ⟨Rect.unit (s := S256x4096) ![0, 3072] ![256, 512] inb_S256x4096_S256x512_0_3072, w6⟩, ⟨Rect.unit (s := S256x4096) ![0, 2560] ![256, 512] inb_S256x4096_S256x512_0_2560, w5⟩, ⟨Rect.unit (s := S256x4096) ![0, 2048] ![256, 512] inb_S256x4096_S256x512_0_2048, w4⟩, ⟨Rect.unit (s := S256x4096) ![0, 1536] ![256, 512] inb_S256x4096_S256x512_0_1536, w3⟩, ⟨Rect.unit (s := S256x4096) ![0, 1024] ![256, 512] inb_S256x4096_S256x512_0_1024, w2⟩, ⟨Rect.unit (s := S256x4096) ![0, 512] ![256, 512] inb_S256x4096_S256x512_0_512, w1⟩, ⟨Rect.unit (s := S256x4096) ![0, 0] ![256, 512] inb_S256x4096_S256x512_0_0, w0⟩] (Rect.unit (s := S256x4096) ![0, 1024] ![256, 512] inb_S256x4096_S256x512_0_1024).toLoadRect = w2 := by
  rw [View.readCov_skip _ _ _ _ _ (by decide +kernel)]
  rw [View.readCov_skip _ _ _ _ _ (by decide +kernel)]
  rw [View.readCov_skip _ _ _ _ _ (by decide +kernel)]
  rw [View.readCov_skip _ _ _ _ _ (by decide +kernel)]
  rw [View.readCov_skip _ _ _ _ _ (by decide +kernel)]
  exact View.readCov_cons_toLoadRect _ _ _ _

theorem read3 {κ : Kind} {sp : Space} (v : View sig κ sp S256x4096 .f32) (w0 w1 w2 w3 w4 w5 w6 w7 : Vec Ideal S256x512 .f32) :
    v.readCov (Val := Elt Ideal) [⟨Rect.unit (s := S256x4096) ![0, 3584] ![256, 512] inb_S256x4096_S256x512_0_3584, w7⟩, ⟨Rect.unit (s := S256x4096) ![0, 3072] ![256, 512] inb_S256x4096_S256x512_0_3072, w6⟩, ⟨Rect.unit (s := S256x4096) ![0, 2560] ![256, 512] inb_S256x4096_S256x512_0_2560, w5⟩, ⟨Rect.unit (s := S256x4096) ![0, 2048] ![256, 512] inb_S256x4096_S256x512_0_2048, w4⟩, ⟨Rect.unit (s := S256x4096) ![0, 1536] ![256, 512] inb_S256x4096_S256x512_0_1536, w3⟩, ⟨Rect.unit (s := S256x4096) ![0, 1024] ![256, 512] inb_S256x4096_S256x512_0_1024, w2⟩, ⟨Rect.unit (s := S256x4096) ![0, 512] ![256, 512] inb_S256x4096_S256x512_0_512, w1⟩, ⟨Rect.unit (s := S256x4096) ![0, 0] ![256, 512] inb_S256x4096_S256x512_0_0, w0⟩] (Rect.unit (s := S256x4096) ![0, 1536] ![256, 512] inb_S256x4096_S256x512_0_1536).toLoadRect = w3 := by
  rw [View.readCov_skip _ _ _ _ _ (by decide +kernel)]
  rw [View.readCov_skip _ _ _ _ _ (by decide +kernel)]
  rw [View.readCov_skip _ _ _ _ _ (by decide +kernel)]
  rw [View.readCov_skip _ _ _ _ _ (by decide +kernel)]
  exact View.readCov_cons_toLoadRect _ _ _ _

theorem read4 {κ : Kind} {sp : Space} (v : View sig κ sp S256x4096 .f32) (w0 w1 w2 w3 w4 w5 w6 w7 : Vec Ideal S256x512 .f32) :
    v.readCov (Val := Elt Ideal) [⟨Rect.unit (s := S256x4096) ![0, 3584] ![256, 512] inb_S256x4096_S256x512_0_3584, w7⟩, ⟨Rect.unit (s := S256x4096) ![0, 3072] ![256, 512] inb_S256x4096_S256x512_0_3072, w6⟩, ⟨Rect.unit (s := S256x4096) ![0, 2560] ![256, 512] inb_S256x4096_S256x512_0_2560, w5⟩, ⟨Rect.unit (s := S256x4096) ![0, 2048] ![256, 512] inb_S256x4096_S256x512_0_2048, w4⟩, ⟨Rect.unit (s := S256x4096) ![0, 1536] ![256, 512] inb_S256x4096_S256x512_0_1536, w3⟩, ⟨Rect.unit (s := S256x4096) ![0, 1024] ![256, 512] inb_S256x4096_S256x512_0_1024, w2⟩, ⟨Rect.unit (s := S256x4096) ![0, 512] ![256, 512] inb_S256x4096_S256x512_0_512, w1⟩, ⟨Rect.unit (s := S256x4096) ![0, 0] ![256, 512] inb_S256x4096_S256x512_0_0, w0⟩] (Rect.unit (s := S256x4096) ![0, 2048] ![256, 512] inb_S256x4096_S256x512_0_2048).toLoadRect = w4 := by
  rw [View.readCov_skip _ _ _ _ _ (by decide +kernel)]
  rw [View.readCov_skip _ _ _ _ _ (by decide +kernel)]
  rw [View.readCov_skip _ _ _ _ _ (by decide +kernel)]
  exact View.readCov_cons_toLoadRect _ _ _ _

theorem read5 {κ : Kind} {sp : Space} (v : View sig κ sp S256x4096 .f32) (w0 w1 w2 w3 w4 w5 w6 w7 : Vec Ideal S256x512 .f32) :
    v.readCov (Val := Elt Ideal) [⟨Rect.unit (s := S256x4096) ![0, 3584] ![256, 512] inb_S256x4096_S256x512_0_3584, w7⟩, ⟨Rect.unit (s := S256x4096) ![0, 3072] ![256, 512] inb_S256x4096_S256x512_0_3072, w6⟩, ⟨Rect.unit (s := S256x4096) ![0, 2560] ![256, 512] inb_S256x4096_S256x512_0_2560, w5⟩, ⟨Rect.unit (s := S256x4096) ![0, 2048] ![256, 512] inb_S256x4096_S256x512_0_2048, w4⟩, ⟨Rect.unit (s := S256x4096) ![0, 1536] ![256, 512] inb_S256x4096_S256x512_0_1536, w3⟩, ⟨Rect.unit (s := S256x4096) ![0, 1024] ![256, 512] inb_S256x4096_S256x512_0_1024, w2⟩, ⟨Rect.unit (s := S256x4096) ![0, 512] ![256, 512] inb_S256x4096_S256x512_0_512, w1⟩, ⟨Rect.unit (s := S256x4096) ![0, 0] ![256, 512] inb_S256x4096_S256x512_0_0, w0⟩] (Rect.unit (s := S256x4096) ![0, 2560] ![256, 512] inb_S256x4096_S256x512_0_2560).toLoadRect = w5 := by
  rw [View.readCov_skip _ _ _ _ _ (by decide +kernel)]
  rw [View.readCov_skip _ _ _ _ _ (by decide +kernel)]
  exact View.readCov_cons_toLoadRect _ _ _ _

theorem read6 {κ : Kind} {sp : Space} (v : View sig κ sp S256x4096 .f32) (w0 w1 w2 w3 w4 w5 w6 w7 : Vec Ideal S256x512 .f32) :
    v.readCov (Val := Elt Ideal) [⟨Rect.unit (s := S256x4096) ![0, 3584] ![256, 512] inb_S256x4096_S256x512_0_3584, w7⟩, ⟨Rect.unit (s := S256x4096) ![0, 3072] ![256, 512] inb_S256x4096_S256x512_0_3072, w6⟩, ⟨Rect.unit (s := S256x4096) ![0, 2560] ![256, 512] inb_S256x4096_S256x512_0_2560, w5⟩, ⟨Rect.unit (s := S256x4096) ![0, 2048] ![256, 512] inb_S256x4096_S256x512_0_2048, w4⟩, ⟨Rect.unit (s := S256x4096) ![0, 1536] ![256, 512] inb_S256x4096_S256x512_0_1536, w3⟩, ⟨Rect.unit (s := S256x4096) ![0, 1024] ![256, 512] inb_S256x4096_S256x512_0_1024, w2⟩, ⟨Rect.unit (s := S256x4096) ![0, 512] ![256, 512] inb_S256x4096_S256x512_0_512, w1⟩, ⟨Rect.unit (s := S256x4096) ![0, 0] ![256, 512] inb_S256x4096_S256x512_0_0, w0⟩] (Rect.unit (s := S256x4096) ![0, 3072] ![256, 512] inb_S256x4096_S256x512_0_3072).toLoadRect = w6 := by
  rw [View.readCov_skip _ _ _ _ _ (by decide +kernel)]
  exact View.readCov_cons_toLoadRect _ _ _ _

theorem read7 {κ : Kind} {sp : Space} (v : View sig κ sp S256x4096 .f32) (w0 w1 w2 w3 w4 w5 w6 w7 : Vec Ideal S256x512 .f32) :
    v.readCov (Val := Elt Ideal) [⟨Rect.unit (s := S256x4096) ![0, 3584] ![256, 512] inb_S256x4096_S256x512_0_3584, w7⟩, ⟨Rect.unit (s := S256x4096) ![0, 3072] ![256, 512] inb_S256x4096_S256x512_0_3072, w6⟩, ⟨Rect.unit (s := S256x4096) ![0, 2560] ![256, 512] inb_S256x4096_S256x512_0_2560, w5⟩, ⟨Rect.unit (s := S256x4096) ![0, 2048] ![256, 512] inb_S256x4096_S256x512_0_2048, w4⟩, ⟨Rect.unit (s := S256x4096) ![0, 1536] ![256, 512] inb_S256x4096_S256x512_0_1536, w3⟩, ⟨Rect.unit (s := S256x4096) ![0, 1024] ![256, 512] inb_S256x4096_S256x512_0_1024, w2⟩, ⟨Rect.unit (s := S256x4096) ![0, 512] ![256, 512] inb_S256x4096_S256x512_0_512, w1⟩, ⟨Rect.unit (s := S256x4096) ![0, 0] ![256, 512] inb_S256x4096_S256x512_0_0, w0⟩] (Rect.unit (s := S256x4096) ![0, 3584] ![256, 512] inb_S256x4096_S256x512_0_3584).toLoadRect = w7 := by
  exact View.readCov_cons_toLoadRect _ _ _ _

/-! ## The tiles -/

theorem emb12 (t : Fin cfg0.N) (G : S2048x1024.Idx → EReal) (y) : G (ix2 (row t (y 0)) (y 1)) = G (((View.whole main_v20_1).slice (win0_12.rect t)).emb y) := by
  blk_point [idxOut t]

theorem final12 (c : Dev nD) : (dats m 0 c).arrAt 12 (cfgs 0).N = fun i => Tail.dh1 (args m c) (i 0) (i 1) := by
  refine (dats m 0 c).arrAt_eq_of_covers 12 _ (by decide +kernel) fun t hf y => ?_
  blk_simp
  rw [after0_12]
  refine Eq.trans ?_ (emb12 t (fun i => Tail.dh1 (args m c) (i 0) (i 1)) y)
  by_cases h0 : t.val % 8 = 0
  · rw [outsAt0_A m c t h0]
    frame_out
    simp only [read0, read1, read2, read3, read4, read5, read6, read7]
    exact (congrArg _ (eq_ix2 y)).trans (dh1_at m c t (y 0) (y 1))
  · rw [outsAt0_B m c t h0]
    frame_out
    simp only [read0, read1, read2, read3, read4, read5, read6, read7]
    exact (congrArg _ (eq_ix2 y)).trans (dh1_at m c t (y 0) (y 1))

theorem emb13 (t : Fin cfg0.N) (G : S2048x1024.Idx → EReal) (y) : G (ix2 (row t (y 0)) (y 1)) = G (((View.whole main_v20_2).slice (win0_13.rect t)).emb y) := by
  blk_point [idxOut t]

theorem final13 (c : Dev nD) : (dats m 0 c).arrAt 13 (cfgs 0).N = fun i => Tail.dmix (args m c) (i 0) (i 1) := by
  refine (dats m 0 c).arrAt_eq_of_covers 13 _ (by decide +kernel) fun t hf y => ?_
  blk_simp
  rw [after0_13]
  refine Eq.trans ?_ (emb13 t (fun i => Tail.dmix (args m c) (i 0) (i 1)) y)
  by_cases h0 : t.val % 8 = 0
  · rw [outsAt0_A m c t h0]
    frame_out
    simp only [read0, read1, read2, read3, read4, read5, read6, read7]
    exact (congrArg _ (eq_ix2 y)).trans (dmix_at m c t (y 0) (y 1))
  · rw [outsAt0_B m c t h0]
    frame_out
    simp only [read0, read1, read2, read3, read4, read5, read6, read7]
    exact (congrArg _ (eq_ix2 y)).trans (dmix_at m c t (y 0) (y 1))

theorem emb14 (t : Fin cfg0.N) (G : S2048x1024.Idx → EReal) (y) : G (ix2 (row t (y 0)) (y 1)) = G (((View.whole main_v20_3).slice (win0_14.rect t)).emb y) := by
  blk_point [idxOut t]

theorem final14 (c : Dev nD) : (dats m 0 c).arrAt 14 (cfgs 0).N = fun i => Tail.hn (args m c) (i 0) (i 1) := by
  refine (dats m 0 c).arrAt_eq_of_covers 14 _ (by decide +kernel) fun t hf y => ?_
  blk_simp
  rw [after0_14]
  refine Eq.trans ?_ (emb14 t (fun i => Tail.hn (args m c) (i 0) (i 1)) y)
  by_cases h0 : t.val % 8 = 0
  · rw [outsAt0_A m c t h0]
    frame_out
    exact (congrArg _ (eq_ix2 y)).trans (hn_at m c t (y 0) (y 1))
  · rw [outsAt0_B m c t h0]
    frame_out
    exact (congrArg _ (eq_ix2 y)).trans (hn_at m c t (y 0) (y 1))

theorem emb17 (t : Fin cfg0.N) (G : S2048x1024.Idx → EReal) (y) : G (ix2 (row t (y 0)) (y 1)) = G (((View.whole main_v20_6).slice (win0_17.rect t)).emb y) := by
  blk_point [idxOut t]

theorem final17 (c : Dev nD) : (dats m 0 c).arrAt 17 (cfgs 0).N = fun i => Tail.dh2 (args m c) (i 0) (i 1) := by
  refine (dats m 0 c).arrAt_eq_of_covers 17 _ (by decide +kernel) fun t hf y => ?_
  blk_simp
  rw [after0_17]
  refine Eq.trans ?_ (emb17 t (fun i => Tail.dh2 (args m c) (i 0) (i 1)) y)
  by_cases h0 : t.val % 8 = 0
  · rw [outsAt0_A m c t h0]
    frame_out
    exact (congrArg _ (eq_ix2 y)).trans (dh2b_at m c t (y 0) (y 1))
  · rw [outsAt0_B m c t h0]
    frame_out
    exact (congrArg _ (eq_ix2 y)).trans (dh2b_at m c t (y 0) (y 1))

/-- An element of a tile of the feed-forward layer, found in part `q`. -/
theorem place (G : Fin 2048 → Fin 4096 → EReal) (t : Fin cfg0.N) (q : Fin 8) (y0 x0 : Fin 256) (y1 : Fin 4096) (x1 : Fin 512)
    (h : y0.val = x0.val) (h' : y1.val = q.val * 512 + x1.val) : G (row t x0) (ffcol q x1) = G (row t y0) y1 := by
  rw [Fin.ext h, show y1 = ffcol q x1 from Fin.ext h']

theorem emb15 (t : Fin cfg0.N) (G : S2048x4096.Idx → EReal) (y) : G (ix2 (row t (y 0)) (y 1)) = G (((View.whole main_v20_4).slice (win0_15.rect t)).emb y) := by
  blk_point [idxOut t]

theorem final15 (c : Dev nD) : (dats m 0 c).arrAt 15 (cfgs 0).N = fun i => Tail.act (args m c) (i 0) (i 1) := by
  refine (dats m 0 c).arrAt_eq_of_covers 15 _ (by decide +kernel) fun t hf y => ?_
  blk_simp
  rw [after0_15]
  refine Eq.trans ?_ (emb15 t (fun i => Tail.act (args m c) (i 0) (i 1)) y)
  by_cases p0 : t.val % 8 = 0
  · rw [outsAt0_A m c t p0]
    frame_out
    canon_tiles x h
    · exact (congrArg _ (eq_ix2 x)).trans ((act7_at m c t (x 0) (x 1)).trans (place _ t 7 (y 0) (x 0) (y 1) (x 1) h0 h1))
    · exact (congrArg _ (eq_ix2 x)).trans ((act6_at m c t (x 0) (x 1)).trans (place _ t 6 (y 0) (x 0) (y 1) (x 1) h0 h1))
    · exact (congrArg _ (eq_ix2 x)).trans ((act5_at m c t (x 0) (x 1)).trans (place _ t 5 (y 0) (x 0) (y 1) (x 1) h0 h1))
    · exact (congrArg _ (eq_ix2 x)).trans ((act4_at m c t (x 0) (x 1)).trans (place _ t 4 (y 0) (x 0) (y 1) (x 1) h0 h1))
    · exact (congrArg _ (eq_ix2 x)).trans ((act3_at m c t (x 0) (x 1)).trans (place _ t 3 (y 0) (x 0) (y 1) (x 1) h0 h1))
    · exact (congrArg _ (eq_ix2 x)).trans ((act2_at m c t (x 0) (x 1)).trans (place _ t 2 (y 0) (x 0) (y 1) (x 1) h0 h1))
    · exact (congrArg _ (eq_ix2 x)).trans ((act1_at m c t (x 0) (x 1)).trans (place _ t 1 (y 0) (x 0) (y 1) (x 1) h0 h1))
    · exact (congrArg _ (eq_ix2 x)).trans ((act0_at m c t (x 0) (x 1)).trans (place _ t 0 (y 0) (x 0) (y 1) (x 1) h0 (h1.trans (Nat.zero_add _).symm)))
  · rw [outsAt0_B m c t p0]
    frame_out
    canon_tiles x h
    · exact (congrArg _ (eq_ix2 x)).trans ((act7_at m c t (x 0) (x 1)).trans (place _ t 7 (y 0) (x 0) (y 1) (x 1) h0 h1))
    · exact (congrArg _ (eq_ix2 x)).trans ((act6_at m c t (x 0) (x 1)).trans (place _ t 6 (y 0) (x 0) (y 1) (x 1) h0 h1))
    · exact (congrArg _ (eq_ix2 x)).trans ((act5_at m c t (x 0) (x 1)).trans (place _ t 5 (y 0) (x 0) (y 1) (x 1) h0 h1))
    · exact (congrArg _ (eq_ix2 x)).trans ((act4_at m c t (x 0) (x 1)).trans (place _ t 4 (y 0) (x 0) (y 1) (x 1) h0 h1))
    · exact (congrArg _ (eq_ix2 x)).trans ((act3_at m c t (x 0) (x 1)).trans (place _ t 3 (y 0) (x 0) (y 1) (x 1) h0 h1))
    · exact (congrArg _ (eq_ix2 x)).trans ((act2_at m c t (x 0) (x 1)).trans (place _ t 2 (y 0) (x 0) (y 1) (x 1) h0 h1))
    · exact (congrArg _ (eq_ix2 x)).trans ((act1_at m c t (x 0) (x 1)).trans (place _ t 1 (y 0) (x 0) (y 1) (x 1) h0 h1))
    · exact (congrArg _ (eq_ix2 x)).trans ((act0_at m c t (x 0) (x 1)).trans (place _ t 0 (y 0) (x 0) (y 1) (x 1) h0 (h1.trans (Nat.zero_add _).symm)))

theorem emb16 (t : Fin cfg0.N) (G : S2048x4096.Idx → EReal) (y) : G (ix2 (row t (y 0)) (y 1)) = G (((View.whole main_v20_5).slice (win0_16.rect t)).emb y) := by
  blk_point [idxOut t]

theorem final16 (c : Dev nD) : (dats m 0 c).arrAt 16 (cfgs 0).N = fun i => Tail.df (args m c) (i 0) (i 1) := by
  refine (dats m 0 c).arrAt_eq_of_covers 16 _ (by decide +kernel) fun t hf y => ?_
  blk_simp
  rw [after0_16]
  refine Eq.trans ?_ (emb16 t (fun i => Tail.df (args m c) (i 0) (i 1)) y)
  by_cases p0 : t.val % 8 = 0
  · rw [outsAt0_A m c t p0]
    frame_out
    simp only [read0, read1, read2, read3, read4, read5, read6, read7]
    canon_tiles x h
    · exact (congrArg _ (eq_ix2 x)).trans ((df7_at m c t (x 0) (x 1)).trans (place _ t 7 (y 0) (x 0) (y 1) (x 1) h0 h1))
    · exact (congrArg _ (eq_ix2 x)).trans ((df6_at m c t (x 0) (x 1)).trans (place _ t 6 (y 0) (x 0) (y 1) (x 1) h0 h1))
    · exact (congrArg _ (eq_ix2 x)).trans ((df5_at m c t (x 0) (x 1)).trans (place _ t 5 (y 0) (x 0) (y 1) (x 1) h0 h1))
    · exact (congrArg _ (eq_ix2 x)).trans ((df4_at m c t (x 0) (x 1)).trans (place _ t 4 (y 0) (x 0) (y 1) (x 1) h0 h1))
    · exact (congrArg _ (eq_ix2 x)).trans ((df3_at m c t (x 0) (x 1)).trans (place _ t 3 (y 0) (x 0) (y 1) (x 1) h0 h1))
    · exact (congrArg _ (eq_ix2 x)).trans ((df2_at m c t (x 0) (x 1)).trans (place _ t 2 (y 0) (x 0) (y 1) (x 1) h0 h1))
    · exact (congrArg _ (eq_ix2 x)).trans ((df1_at m c t (x 0) (x 1)).trans (place _ t 1 (y 0) (x 0) (y 1) (x 1) h0 h1))
    · exact (congrArg _ (eq_ix2 x)).trans ((df0_at m c t (x 0) (x 1)).trans (place _ t 0 (y 0) (x 0) (y 1) (x 1) h0 (h1.trans (Nat.zero_add _).symm)))
  · rw [outsAt0_B m c t p0]
    frame_out
    simp only [read0, read1, read2, read3, read4, read5, read6, read7]
    canon_tiles x h
    · exact (congrArg _ (eq_ix2 x)).trans ((df7_at m c t (x 0) (x 1)).trans (place _ t 7 (y 0) (x 0) (y 1) (x 1) h0 h1))
    · exact (congrArg _ (eq_ix2 x)).trans ((df6_at m c t (x 0) (x 1)).trans (place _ t 6 (y 0) (x 0) (y 1) (x 1) h0 h1))
    · exact (congrArg _ (eq_ix2 x)).trans ((df5_at m c t (x 0) (x 1)).trans (place _ t 5 (y 0) (x 0) (y 1) (x 1) h0 h1))
    · exact (congrArg _ (eq_ix2 x)).trans ((df4_at m c t (x 0) (x 1)).trans (place _ t 4 (y 0) (x 0) (y 1) (x 1) h0 h1))
    · exact (congrArg _ (eq_ix2 x)).trans ((df3_at m c t (x 0) (x 1)).trans (place _ t 3 (y 0) (x 0) (y 1) (x 1) h0 h1))
    · exact (congrArg _ (eq_ix2 x)).trans ((df2_at m c t (x 0) (x 1)).trans (place _ t 2 (y 0) (x 0) (y 1) (x 1) h0 h1))
    · exact (congrArg _ (eq_ix2 x)).trans ((df1_at m c t (x 0) (x 1)).trans (place _ t 1 (y 0) (x 0) (y 1) (x 1) h0 h1))
    · exact (congrArg _ (eq_ix2 x)).trans ((df0_at m c t (x 0) (x 1)).trans (place _ t 0 (y 0) (x 0) (y 1) (x 1) h0 (h1.trans (Nat.zero_add _).symm)))

end Cert.Kernel2Ideal.Value
-- ==== Proof.TailSum.lean ====
/- The tail kernel's accumulated results: sums over all points. -/
module

public import proofs.«01_k».proof.Proof.Gen.Kernel2Ideal.Value
public import proofs.«01_k».proof.Proof.TailMath
public import proofs.«01_k».proof.Proof.TailOut
public import Idealize.ShloMosaic.Lib.WritesUnit
public import Idealize.ShloMosaic.Lib.Pipeline.ValueKit
public import Idealize.ShloMosaic.Lib.Claim
public import proofs.«01_k».proof.Proof.Gen.Kernel2Ideal

@[expose] public section

set_option maxRecDepth 16384

noncomputable section

open Idealize.ShloMosaic Idealize.ShloMosaic.TcCoe Idealize.SL.Sem
open Idealize.ShloMosaic.Pipeline (Dat)

namespace Cert.Kernel2Ideal.Value
open Cert.Kernel2Ideal Cert.Kernel2Ideal.Gen
variable (m : (ℓ : Loc nD τ sig) → Buf (Elt Ideal) ℓ)

/-- What one point adds. -/
def add18 (c : Dev nD) (t : Fin cfg0.N) (i : S1024x1024.Idx) : EReal := ∑ r : Fin 256, (args m c).mix (row t r) (i 0) * Tail.dh1 (args m c) (row t r) (i 1)

theorem step18 (c : Dev nD) (t : Fin cfg0.N) (a : Vec Ideal S1024x1024 .f32) (i : S1024x1024.Idx) : k0_pay94 (F := Ideal) (scale1 m c t) (dhn m c t) (k0_pay90 (h1 m c t)) (dh2 m c t) (iblk m c 4 t) a (iblk m c 1 t) i = a i + add18 m c t i := by
  obtain ⟨p, q, rfl⟩ : ∃ (p : Fin 1024) (q : Fin 1024), i = ix2 p q := ⟨i 0, i 1, eq_ix2 i⟩
  have e : k0_pay94 (F := Ideal) (scale1 m c t) (dhn m c t) (k0_pay90 (h1 m c t)) (dh2 m c t) (iblk m c 4 t) a (iblk m c 1 t) (ix2 p q)
      = a (ix2 p q) + ∑ r : Fin 256, HMul.hMul (α := EReal) (β := EReal) (γ := EReal) (iblk m c 1 t (ix2 r p)) (dh1b m c t (ix2 r q)) := by
    unfold dh1b
    generalize hp : k0_pay93 (F := Ideal) (scale1 m c t) (dhn m c t) (k0_pay90 (F := Ideal) (h1 m c t)) (dh2 m c t) (iblk m c 4 t) = d
    pointwise [k0_pay94, hp]
  rw [e]
  simp only [blk_mix, dh1b_at]
  rfl

theorem final18 (c : Dev nD) : (dats m 0 c).arrAt 18 (cfgs 0).N = fun i => Tail.dwo (args m c) (i 0) (i 1) := by
  refine (dats m 0 c).arrAt_eq_of_after_last 18 t0_7 (by decide +kernel) _ fun j => ?_
  blk_simp
  rw [after0_18]
  rw [Pipeline.eq_sum_fin_of_reset_step_apply_last (f := fun n h => (outsAt0 m c n h).2.2.2.2.2.2.2.1) 8 (fun _ => 0) (fun t j => add18 m c t j)
    (fun t h j => by rw [outsAt0_A m c t h]; frame_out; simp only [read0, read1, read2, read3, read4, read5, read6, read7]; exact (step18 m c t _ j).trans (congrArg (· + _) (by pointwise [k0_pay3])))
    (fun t h j => by rw [outsAt0_B m c t h]; frame_out; simp only [read0, read1, read2, read3, read4, read5, read6, read7]; exact step18 m c t _ j)
    (le_of_eq N_0) t0_7 rfl j, zero_add]
  unfold Tail.dwo
  rw [Fin.sum_univ_tiles 8 256 rfl]
  rfl

/-- What one point adds. -/
def add20 (c : Dev nD) (t : Fin cfg0.N) (i : S1024x1024.Idx) : EReal := ∑ r : Fin 256, Tail.h2 (args m c) (row t r) (i 0) * Tail.dgl (args m c) (row t r) (i 1)

theorem step20 (c : Dev nD) (t : Fin cfg0.N) (a : Vec Ideal S1024x1024 .f32) (i : S1024x1024.Idx) : k0_pay71 (F := Ideal) (k0_pay41 (sum6 m c t) (pos7 m c t) (w2p m c t 3584 inb_S4096x1024_S512x1024_3584_0)) (gate m c t) (proj m c t) (dh3 m c t) a i = a i + add20 m c t i := by
  obtain ⟨p, q, rfl⟩ : ∃ (p : Fin 1024) (q : Fin 1024), i = ix2 p q := ⟨i 0, i 1, eq_ix2 i⟩
  have e : k0_pay71 (F := Ideal) (k0_pay41 (sum6 m c t) (pos7 m c t) (w2p m c t 3584 inb_S4096x1024_S512x1024_3584_0)) (gate m c t) (proj m c t) (dh3 m c t) a (ix2 p q)
      = a (ix2 p q) + ∑ r : Fin 256, h2 m c t (ix2 r p) * dgl m c t (ix2 r q) := by
    unfold dgl h2
    generalize hp : k0_pay70 (F := Ideal) (gate m c t) (proj m c t) (dh3 m c t) = d
    generalize hq : k0_pay40 (F := Ideal) (sum6 m c t) (pos7 m c t) (w2p m c t 3584 inb_S4096x1024_S512x1024_3584_0) = h
    pointwise [k0_pay71, k0_pay41, hp, hq]
  rw [e]
  simp only [h2_at, dgl_at]
  rfl

theorem final20 (c : Dev nD) : (dats m 0 c).arrAt 20 (cfgs 0).N = fun i => Tail.dwg (args m c) (i 0) (i 1) := by
  refine (dats m 0 c).arrAt_eq_of_after_last 20 t0_7 (by decide +kernel) _ fun j => ?_
  blk_simp
  rw [after0_20]
  rw [Pipeline.eq_sum_fin_of_reset_step_apply_last (f := fun n h => (outsAt0 m c n h).2.2.2.2.2.2.2.2.2) 8 (fun _ => 0) (fun t j => add20 m c t j)
    (fun t h j => by rw [outsAt0_A m c t h]; frame_out; exact (step20 m c t _ j).trans (congrArg (· + _) (by pointwise [k0_pay5])))
    (fun t h j => by rw [outsAt0_B m c t h]; frame_out; exact step20 m c t _ j)
    (le_of_eq N_0) t0_7 rfl j, zero_add]
  unfold Tail.dwg
  rw [Fin.sum_univ_tiles 8 256 rfl]
  rfl

/-! ## The small results: the two gains' gradients and the loss, each a row of eight -/

/-- The eight rows after a point has stored the first three. -/
theorem rows3 {κ : Kind} {sp : Space} (v : View sig κ sp S8x1024 .f32) (f : v.ty.Contents (Elt Ideal)) (w0 w1 w2 : Vec Ideal S1x1024 .f32)
    (L : List (View.Piece (Elt Ideal) S8x1024 .f32)) (p : Fin 8) (k : Fin 1024) :
    v.read (Elt Ideal) (v.writes (Elt Ideal) f (⟨Rect.unit (s := S8x1024) ![0, 0] ![1, 1024] inb_S8x1024_S1x1024_0_0, w0⟩ :: ⟨Rect.unit (s := S8x1024) ![1, 0] ![1, 1024] inb_S8x1024_S1x1024_1_0, w1⟩ :: ⟨Rect.unit (s := S8x1024) ![2, 0] ![1, 1024] inb_S8x1024_S1x1024_2_0, w2⟩ :: L)) (ix2 p k)
      = if p = 0 then w0 (ix2 0 k) else if p = 1 then w1 (ix2 0 k) else if p = 2 then w2 (ix2 0 k) else v.read (Elt Ideal) (v.writes (Elt Ideal) f L) (ix2 p k) := by
  have hit : ∀ (o : ℕ) (inb) (w : Vec Ideal S1x1024 .f32) (L), p.val = o →
      v.read (Elt Ideal) (v.writes (Elt Ideal) f (⟨Rect.unit (s := S8x1024) ![o, 0] ![1, 1024] inb, w⟩ :: L)) (ix2 p k) = w (ix2 0 k) := fun o inb w L e =>
    View.read_writes_cons_unit_of_mem v f inb w L (ix2 p k) (ix2 0 k) rfl fun a => match a with
      | ⟨0, _⟩ => e
      | ⟨1, _⟩ => (Nat.zero_add _).symm
  have miss : ∀ (o : ℕ) (inb) (w : Vec Ideal S1x1024 .f32) (L), p.val ≠ o →
      v.read (Elt Ideal) (v.writes (Elt Ideal) f (⟨Rect.unit (s := S8x1024) ![o, 0] ![1, 1024] inb, w⟩ :: L)) (ix2 p k)
        = v.read (Elt Ideal) (v.writes (Elt Ideal) f L) (ix2 p k) := fun o inb w L e =>
    View.read_writes_cons_unit_of_not_mem v f inb w L (ix2 p k) rfl 0 (by show p.val < o ∨ o + 1 ≤ p.val; omega)
  split_ifs with e0 e1 e2
  · exact hit 0 _ _ _ (congrArg Fin.val e0)
  · rw [miss 0 _ _ _ fun e => e0 (Fin.ext e)]
    exact hit 1 _ _ _ (congrArg Fin.val e1)
  · rw [miss 0 _ _ _ fun e => e0 (Fin.ext e), miss 1 _ _ _ fun e => e1 (Fin.ext e)]
    exact hit 2 _ _ _ (congrArg Fin.val e2)
  · rw [miss 0 _ _ _ fun e => e0 (Fin.ext e), miss 1 _ _ _ fun e => e1 (Fin.ext e), miss 2 _ _ _ fun e => e2 (Fin.ext e)]

theorem bits_half_thousandth : Ideal.ofBits .f32 0x3A000000#32 = ((1 / 2048 : ℝ) : EReal) := by simp [Ideal.ofBits, Ideal.ieee, -EReal.coe_mul]; norm_num

/-- What one point adds to each row. -/
def add11 (c : Dev nD) (t : Fin cfg0.N) (p : Fin 8) (k : Fin 1024) : EReal :=
  if p = 0 then ∑ r : Fin 256, Tail.dhn (args m c) (row t r) k * (Tail.h1 (args m c) (row t r) k * Tail.scale (Tail.h1 (args m c) (row t r)))
  else if p = 1 then ∑ r : Fin 256, Tail.dy (args m c) (row t r) k * (Tail.h3 (args m c) (row t r) k * Tail.scale (Tail.h3 (args m c) (row t r)))
  else if p = 2 then ∑ r : Fin 256, (∑ k', Tail.err (args m c) (row t r) k' * Tail.err (args m c) (row t r) k') * ((1 / 2048 : ℝ) : EReal)
  else 0

theorem step11_0 (c : Dev nD) (t : Fin cfg0.N) (a : Vec Ideal S1x1024 .f32) (k : Fin 1024) : k0_pay91 (F := Ideal) (scale1 m c t) (back5 m c t) (df6 m c t) (w1p m c t 6 inb_S8x1024x512_S1x1024x512_6_0_0) (dh2b m c t) (w2p m c t 3584 inb_S4096x1024_S512x1024_3584_0) (f7 m c t) (w1p m c t 7 inb_S8x1024x512_S1x1024x512_7_0_0) (h1 m c t) a (ix2 0 k)
    = a (ix2 0 k) + ∑ r : Fin 256, Tail.dhn (args m c) (row t r) k * (Tail.h1 (args m c) (row t r) k * Tail.scale (Tail.h1 (args m c) (row t r))) := by
  have e : k0_pay91 (F := Ideal) (scale1 m c t) (back5 m c t) (df6 m c t) (w1p m c t 6 inb_S8x1024x512_S1x1024x512_6_0_0) (dh2b m c t) (w2p m c t 3584 inb_S4096x1024_S512x1024_3584_0) (f7 m c t) (w1p m c t 7 inb_S8x1024x512_S1x1024x512_7_0_0) (h1 m c t) a (ix2 0 k) = a (ix2 0 k) + ∑ r : Fin 256, dhn m c t (ix2 r k) * (h1 m c t (ix2 r k) * scale1 m c t (ix2 r 0)) := by
    unfold dhn
    generalize hp : k0_pay89 (F := Ideal) (back5 m c t) (df6 m c t) (w1p m c t 6 inb_S8x1024x512_S1x1024x512_6_0_0) (dh2b m c t) (w2p m c t 3584 inb_S4096x1024_S512x1024_3584_0) (f7 m c t) (w1p m c t 7 inb_S8x1024x512_S1x1024x512_7_0_0) = d
    pointwise [k0_pay91, k0_pay90, hp]
  rw [e]
  simp only [dhn_at, h1_at, scale1_at]

theorem step11_1 (c : Dev nD) (t : Fin cfg0.N) (a : Vec Ideal S1x1024 .f32) (k : Fin 1024) : k0_pay58 (F := Ideal) (h3 m c t) (scale3 m c t) (err m c t) a (ix2 0 k)
    = a (ix2 0 k) + ∑ r : Fin 256, Tail.dy (args m c) (row t r) k * (Tail.h3 (args m c) (row t r) k * Tail.scale (Tail.h3 (args m c) (row t r))) := by
  have e : k0_pay58 (F := Ideal) (h3 m c t) (scale3 m c t) (err m c t) a (ix2 0 k)
      = a (ix2 0 k) + ∑ r : Fin 256, err m c t (ix2 r k) * Ideal.ofBits .f32 0x3A800000#32 * (h3 m c t (ix2 r k) * scale3 m c t (ix2 r 0)) := by
    pointwise [k0_pay58, k0_pay57]
  rw [e, bits_thousandth]
  simp only [err_at, h3_at, scale3_at]
  rfl

theorem step11_2 (c : Dev nD) (t : Fin cfg0.N) (a : Vec Ideal S1x1024 .f32) (k : Fin 1024) : k0_pay56 (F := Ideal) (k0_pay54 a) (k0_pay55 (h2 m c t) (gate m c t) (k0_pay43 (iblk m c 2 t)) (k0_pay44 (iblk m c 2 t) (wpp m c t 0 inb_S8x256x128_S1x256x128_0_0_0)) (k0_pay45 (iblk m c 2 t) (wpp m c t 1 inb_S8x256x128_S1x256x128_1_0_0)) (k0_pay46 (iblk m c 2 t) (wpp m c t 2 inb_S8x256x128_S1x256x128_2_0_0)) (k0_pay47 (iblk m c 2 t) (wpp m c t 3 inb_S8x256x128_S1x256x128_3_0_0)) (k0_pay48 (wpp m c t 4 inb_S8x256x128_S1x256x128_4_0_0)) (constant (F := Ideal) S256x128 FTy.f32 0#32) (wpp m c t 5 inb_S8x256x128_S1x256x128_5_0_0) (wpp m c t 6 inb_S8x256x128_S1x256x128_6_0_0) (wpp m c t 7 inb_S8x256x128_S1x256x128_7_0_0) (iblk m c 5 t) (iblk m c 3 t)) (ix2 0 k)
    = a (ix2 0 k) + ∑ r : Fin 256, (∑ k, Tail.err (args m c) (row t r) k * Tail.err (args m c) (row t r) k) * ((1 / 2048 : ℝ) : EReal) := by
  have e : k0_pay56 (F := Ideal) (k0_pay54 a) (k0_pay55 (h2 m c t) (gate m c t) (k0_pay43 (iblk m c 2 t)) (k0_pay44 (iblk m c 2 t) (wpp m c t 0 inb_S8x256x128_S1x256x128_0_0_0)) (k0_pay45 (iblk m c 2 t) (wpp m c t 1 inb_S8x256x128_S1x256x128_1_0_0)) (k0_pay46 (iblk m c 2 t) (wpp m c t 2 inb_S8x256x128_S1x256x128_2_0_0)) (k0_pay47 (iblk m c 2 t) (wpp m c t 3 inb_S8x256x128_S1x256x128_3_0_0)) (k0_pay48 (wpp m c t 4 inb_S8x256x128_S1x256x128_4_0_0)) (constant (F := Ideal) S256x128 FTy.f32 0#32) (wpp m c t 5 inb_S8x256x128_S1x256x128_5_0_0) (wpp m c t 6 inb_S8x256x128_S1x256x128_6_0_0) (wpp m c t 7 inb_S8x256x128_S1x256x128_7_0_0) (iblk m c 5 t) (iblk m c 3 t)) (ix2 0 k)
      = a (ix2 0 k) + (∑ r : Fin 256, ∑ k : Fin 1024, err m c t (ix2 r k) * err m c t (ix2 r k)) * Ideal.ofBits .f32 0x3A000000#32 := by
    unfold err
    generalize hp : k0_pay53 (F := Ideal) (h2 m c t) (gate m c t) (k0_pay43 (iblk m c 2 t)) (k0_pay44 (iblk m c 2 t) (wpp m c t 0 inb_S8x256x128_S1x256x128_0_0_0)) (k0_pay45 (iblk m c 2 t) (wpp m c t 1 inb_S8x256x128_S1x256x128_1_0_0)) (k0_pay46 (iblk m c 2 t) (wpp m c t 2 inb_S8x256x128_S1x256x128_2_0_0)) (k0_pay47 (iblk m c 2 t) (wpp m c t 3 inb_S8x256x128_S1x256x128_3_0_0)) (k0_pay48 (wpp m c t 4 inb_S8x256x128_S1x256x128_4_0_0)) (constant (F := Ideal) S256x128 FTy.f32 0#32) (wpp m c t 5 inb_S8x256x128_S1x256x128_5_0_0) (wpp m c t 6 inb_S8x256x128_S1x256x128_6_0_0) (wpp m c t 7 inb_S8x256x128_S1x256x128_7_0_0) (iblk m c 5 t) (iblk m c 3 t) = d
    pointwise [k0_pay56, k0_pay55, k0_pay54, hp]
  rw [e, bits_half_thousandth, mul_comm (∑ r : Fin 256, _), Tail.mul_sum_nonneg _ (EReal.coe_nonneg.mpr (by norm_num)) _ fun r => RmsGrad.sum_sq_nonneg _]
  simp only [err_at]
  exact congrArg (_ + ·) (Finset.sum_congr rfl fun r _ => mul_comm (_ : EReal) _)

/-- The small results as one array. -/
def small (c : Dev nD) (p : Fin 8) (k : Fin 1024) : EReal :=
  if p = 0 then Tail.dg2 (args m c) k else if p = 1 then Tail.dgf (args m c) k
  else if p = 2 then Tail.loss (args m c) else 0

theorem step11_A (c : Dev nD) (t : Fin cfg0.N) (p0 : t.val % 8 = 0) (j : S8x1024.Idx) : (outsAt0 m c t.val t.isLt).1 j = (0 : EReal) + add11 m c t (j 0) (j 1) := by
  obtain ⟨p, k, rfl⟩ : ∃ (p : Fin 8) (k : Fin 1024), j = ix2 p k := ⟨j 0, j 1, eq_ix2 j⟩
  rw [outsAt0_A m c t p0]
  frame_out
  simp only [read0, read1, read2, read3, read4, read5, read6, read7]
  simp (disch := decide) only [↓View.readCov_skip, ↓View.readCov_fill]
  rw [← View.read_writes_junk_apply_eq_canon (ms0_11 t).view]
  refine (rows3 _ _ _ _ _ _ p k).trans ?_
  show _ = (0 : EReal) + add11 m c t p k
  unfold add11
  split_ifs with e0 e1 e2
  · exact (step11_0 m c t _ k).trans (congrArg (· + _) (by pointwise [k0_pay2]))
  · exact (step11_1 m c t _ k).trans (congrArg (· + _) (by pointwise [k0_pay2]))
  · exact (step11_2 m c t _ k).trans (congrArg (· + _) (by pointwise [k0_pay2]))
  · exact (View.read_writes_cons_unit_of_mem _ _ _ _ _ (ix2 p k) (ix2 p k) rfl fun a => match a with
      | ⟨0, _⟩ => (Nat.zero_add _).symm
      | ⟨1, _⟩ => (Nat.zero_add _).symm).trans (by pointwise [k0_pay2])

theorem step11_B (c : Dev nD) (t : Fin cfg0.N) (p0 : t.val % 8 ≠ 0) (j : S8x1024.Idx) :
    (outsAt0 m c t.val t.isLt).1 j = (outsAt0 m c (t.val - 1) (by omega)).1 j + add11 m c t (j 0) (j 1) := by
  obtain ⟨p, k, rfl⟩ : ∃ (p : Fin 8) (k : Fin 1024), j = ix2 p k := ⟨j 0, j 1, eq_ix2 j⟩
  rw [outsAt0_B m c t p0]
  frame_out
  simp only [read0, read1, read2, read3, read4, read5, read6, read7]
  refine (rows3 _ _ _ _ _ _ p k).trans ?_
  show _ = _ + add11 m c t p k
  unfold add11
  split_ifs with e0 e1 e2
  · subst e0
    exact (step11_0 m c t _ k).trans (congrArg (· + _) (by pointwise []))
  · subst e1
    exact (step11_1 m c t _ k).trans (congrArg (· + _) (by pointwise []))
  · subst e2
    exact (step11_2 m c t _ k).trans (congrArg (· + _) (by pointwise []))
  · exact (congrFun (Memref.IsWhole.read_unread _ _) _).trans (add_zero (_ : EReal)).symm

theorem final11 (c : Dev nD) : (dats m 0 c).arrAt 11 (cfgs 0).N = fun i => small m c (i 0) (i 1) := by
  refine (dats m 0 c).arrAt_eq_of_after_last 11 t0_7 (by decide +kernel) _ fun j => ?_
  blk_simp
  rw [after0_11]
  rw [Pipeline.eq_sum_fin_of_reset_step_apply_last (f := fun n h => (outsAt0 m c n h).1) 8 (fun _ => 0) (fun t j => add11 m c t (j 0) (j 1))
    (fun t h j => step11_A m c t h j) (fun t h j => step11_B m c t h j) (le_of_eq N_0) t0_7 rfl j, zero_add]
  show (∑ t : Fin 8, add11 m c t (j 0) (j 1) : EReal) = small m c (j 0) (j 1)
  unfold add11 small Tail.dg2 Tail.dgf Tail.loss
  simp only [Fin.sum_univ_tiles 8 256 rfl]
  split_ifs
  · rfl
  · rfl
  · rfl
  · exact Finset.sum_const_zero

/-! ## The embedding's projection: eight column parts, each its own array -/

/-- Eight parts stored one by one make up the whole array, whatever was stored before. -/
theorem parts8 {κ : Kind} {sp : Space} (v : View sig κ sp S8x256x128 .f32) (f : v.ty.Contents (Elt Ideal)) (w0 w1 w2 w3 w4 w5 w6 w7 : Vec Ideal S1x256x128 .f32)
    (L : List (View.Piece (Elt Ideal) S8x256x128 .f32)) (G : Fin 8 → Fin 256 → Fin 128 → EReal)
    (g0 : ∀ j k, w0 (ix3 0 j k) = G 0 j k) (g1 : ∀ j k, w1 (ix3 0 j k) = G 1 j k) (g2 : ∀ j k, w2 (ix3 0 j k) = G 2 j k) (g3 : ∀ j k, w3 (ix3 0 j k) = G 3 j k) (g4 : ∀ j k, w4 (ix3 0 j k) = G 4 j k) (g5 : ∀ j k, w5 (ix3 0 j k) = G 5 j k) (g6 : ∀ j k, w6 (ix3 0 j k) = G 6 j k) (g7 : ∀ j k, w7 (ix3 0 j k) = G 7 j k) (p : Fin 8) (j : Fin 256) (k : Fin 128) :
    v.read (Elt Ideal) (v.writes (Elt Ideal) f (⟨Rect.unit (s := S8x256x128) ![7, 0, 0] ![1, 256, 128] inb_S8x256x128_S1x256x128_7_0_0, w7⟩ :: ⟨Rect.unit (s := S8x256x128) ![6, 0, 0] ![1, 256, 128] inb_S8x256x128_S1x256x128_6_0_0, w6⟩ :: ⟨Rect.unit (s := S8x256x128) ![5, 0, 0] ![1, 256, 128] inb_S8x256x128_S1x256x128_5_0_0, w5⟩ :: ⟨Rect.unit (s := S8x256x128) ![4, 0, 0] ![1, 256, 128] inb_S8x256x128_S1x256x128_4_0_0, w4⟩ :: ⟨Rect.unit (s := S8x256x128) ![3, 0, 0] ![1, 256, 128] inb_S8x256x128_S1x256x128_3_0_0, w3⟩ :: ⟨Rect.unit (s := S8x256x128) ![2, 0, 0] ![1, 256, 128] inb_S8x256x128_S1x256x128_2_0_0, w2⟩ :: ⟨Rect.unit (s := S8x256x128) ![1, 0, 0] ![1, 256, 128] inb_S8x256x128_S1x256x128_1_0_0, w1⟩ :: ⟨Rect.unit (s := S8x256x128) ![0, 0, 0] ![1, 256, 128] inb_S8x256x128_S1x256x128_0_0_0, w0⟩ :: L)) (ix3 p j k) = G p j k := by
  have hit : ∀ (o : Fin 8) (inb) (w : Vec Ideal S1x256x128 .f32) (L), (∀ j k, w (ix3 0 j k) = G o j k) → p = o →
      v.read (Elt Ideal) (v.writes (Elt Ideal) f (⟨Rect.unit (s := S8x256x128) ![o.val, 0, 0] ![1, 256, 128] inb, w⟩ :: L)) (ix3 p j k) = G p j k := fun o inb w L g e =>
    (View.read_writes_cons_unit_of_mem v f inb w L (ix3 p j k) (ix3 0 j k) rfl fun a => match a with
      | ⟨0, _⟩ => congrArg Fin.val e
      | ⟨1, _⟩ => (Nat.zero_add _).symm
      | ⟨2, _⟩ => (Nat.zero_add _).symm).trans ((g j k).trans (by rw [e]))
  have miss : ∀ (o : Fin 8) (inb) (w : Vec Ideal S1x256x128 .f32) (L), ¬p = o →
      v.read (Elt Ideal) (v.writes (Elt Ideal) f (⟨Rect.unit (s := S8x256x128) ![o.val, 0, 0] ![1, 256, 128] inb, w⟩ :: L)) (ix3 p j k)
        = v.read (Elt Ideal) (v.writes (Elt Ideal) f L) (ix3 p j k) := fun o inb w L e =>
    View.read_writes_cons_unit_of_not_mem v f inb w L (ix3 p j k) rfl 0 (by
      have e' : p.val ≠ o.val := fun h => e (Fin.ext h)
      show p.val < o.val ∨ o.val + 1 ≤ p.val
      omega)
  by_cases e7 : p = 7
  · exact hit 7 _ _ _ g7 e7
  refine (miss 7 _ _ _ e7).trans ?_
  by_cases e6 : p = 6
  · exact hit 6 _ _ _ g6 e6
  refine (miss 6 _ _ _ e6).trans ?_
  by_cases e5 : p = 5
  · exact hit 5 _ _ _ g5 e5
  refine (miss 5 _ _ _ e5).trans ?_
  by_cases e4 : p = 4
  · exact hit 4 _ _ _ g4 e4
  refine (miss 4 _ _ _ e4).trans ?_
  by_cases e3 : p = 3
  · exact hit 3 _ _ _ g3 e3
  refine (miss 3 _ _ _ e3).trans ?_
  by_cases e2 : p = 2
  · exact hit 2 _ _ _ g2 e2
  refine (miss 2 _ _ _ e2).trans ?_
  by_cases e1 : p = 1
  · exact hit 1 _ _ _ g1 e1
  refine (miss 1 _ _ _ e1).trans ?_
  by_cases e0 : p = 0
  · exact hit 0 _ _ _ g0 e0
  refine (miss 0 _ _ _ e0).trans ?_
  omega

/-- The product one point adds: the embeddings' block against the projection's cotangent. -/
def outer (c : Dev nD) (t : Fin cfg0.N) : Vec Ideal S256x1024 .f32 := k0_pay60 (F := Ideal) (gate m c t) (k0_pay43 (iblk m c 2 t)) (h3 m c t) (scale3 m c t) (k0_pay52 (iblk m c 5 t)) (err m c t)

theorem outer_at (c : Dev nD) (t : Fin cfg0.N) (j : Fin 256) (k : Fin 1024) : outer m c t (ix2 j k)
    = ∑ r : Fin 256, (args m c).p (row t r) j * (Tail.dh3 (args m c) (row t r) k * Tail.gate (args m c) (row t r) k) := by
  have e : outer m c t (ix2 j k) = ∑ r : Fin 256, HMul.hMul (α := EReal) (β := EReal) (γ := EReal) (iblk m c 2 t (ix2 r j)) (dh3 m c t (ix2 r k) * gate m c t (ix2 r k)) := by
    unfold outer dh3
    generalize hp : k0_pay59 (F := Ideal) (h3 m c t) (scale3 m c t) (k0_pay52 (iblk m c 5 t)) (err m c t) = d
    pointwise [k0_pay60, k0_pay43, hp]
  rw [e]
  simp only [blk_p, dh3_at, gate_at]

/-- What one point adds to part `q`. -/
def add19 (c : Dev nD) (t : Fin cfg0.N) (q : Fin 8) (j : Fin 256) (k : Fin 128) : EReal := outer m c t (ix2 j (Tail.col q k))

theorem step19_0 (c : Dev nD) (t : Fin cfg0.N) (a : Vec Ideal S1x256x128 .f32) (j : Fin 256) (k : Fin 128) :
    k0_pay62 (F := Ideal) (k0_pay61 (gate m c t) (k0_pay43 (iblk m c 2 t)) (h3 m c t) (scale3 m c t) (k0_pay52 (iblk m c 5 t)) (err m c t) a) (ix3 0 j k) = a (ix3 0 j k) + add19 m c t 0 j k := by
  unfold add19 outer
  generalize hp : k0_pay60 (F := Ideal) (gate m c t) (k0_pay43 (iblk m c 2 t)) (h3 m c t) (scale3 m c t) (k0_pay52 (iblk m c 5 t)) (err m c t) = d
  pointwise [k0_pay62, k0_pay61, hp]
  exact congrArg (fun x => a (ix3 0 j k) + d (ix2 j x)) (Fin.ext (by show k.val = 0 * 128 + k.val; omega))

theorem step19_1 (c : Dev nD) (t : Fin cfg0.N) (a : Vec Ideal S1x256x128 .f32) (j : Fin 256) (k : Fin 128) :
    k0_pay63 (F := Ideal) (outer m c t) a (ix3 0 j k) = a (ix3 0 j k) + add19 m c t 1 j k := by
  unfold add19
  pointwise [k0_pay63]
  exact congrArg (fun x => a (ix3 0 j k) + outer m c t (ix2 j x)) (Fin.ext (by show 128 + k.val = 1 * 128 + k.val; omega))

theorem step19_2 (c : Dev nD) (t : Fin cfg0.N) (a : Vec Ideal S1x256x128 .f32) (j : Fin 256) (k : Fin 128) :
    k0_pay64 (F := Ideal) (outer m c t) a (ix3 0 j k) = a (ix3 0 j k) + add19 m c t 2 j k := by
  unfold add19
  pointwise [k0_pay64]
  exact congrArg (fun x => a (ix3 0 j k) + outer m c t (ix2 j x)) (Fin.ext (by show 256 + k.val = 2 * 128 + k.val; omega))

theorem step19_3 (c : Dev nD) (t : Fin cfg0.N) (a : Vec Ideal S1x256x128 .f32) (j : Fin 256) (k : Fin 128) :
    k0_pay65 (F := Ideal) (outer m c t) a (ix3 0 j k) = a (ix3 0 j k) + add19 m c t 3 j k := by
  unfold add19
  pointwise [k0_pay65]
  exact congrArg (fun x => a (ix3 0 j k) + outer m c t (ix2 j x)) (Fin.ext (by show 384 + k.val = 3 * 128 + k.val; omega))

theorem step19_4 (c : Dev nD) (t : Fin cfg0.N) (a : Vec Ideal S1x256x128 .f32) (j : Fin 256) (k : Fin 128) :
    k0_pay66 (F := Ideal) (outer m c t) a (ix3 0 j k) = a (ix3 0 j k) + add19 m c t 4 j k := by
  unfold add19
  pointwise [k0_pay66]
  exact congrArg (fun x => a (ix3 0 j k) + outer m c t (ix2 j x)) (Fin.ext (by show 512 + k.val = 4 * 128 + k.val; omega))

theorem step19_5 (c : Dev nD) (t : Fin cfg0.N) (a : Vec Ideal S1x256x128 .f32) (j : Fin 256) (k : Fin 128) :
    k0_pay67 (F := Ideal) (outer m c t) a (ix3 0 j k) = a (ix3 0 j k) + add19 m c t 5 j k := by
  unfold add19
  pointwise [k0_pay67]
  exact congrArg (fun x => a (ix3 0 j k) + outer m c t (ix2 j x)) (Fin.ext (by show 640 + k.val = 5 * 128 + k.val; omega))

theorem step19_6 (c : Dev nD) (t : Fin cfg0.N) (a : Vec Ideal S1x256x128 .f32) (j : Fin 256) (k : Fin 128) :
    k0_pay68 (F := Ideal) (outer m c t) a (ix3 0 j k) = a (ix3 0 j k) + add19 m c t 6 j k := by
  unfold add19
  pointwise [k0_pay68]
  exact congrArg (fun x => a (ix3 0 j k) + outer m c t (ix2 j x)) (Fin.ext (by show 768 + k.val = 6 * 128 + k.val; omega))

theorem step19_7 (c : Dev nD) (t : Fin cfg0.N) (a : Vec Ideal S1x256x128 .f32) (j : Fin 256) (k : Fin 128) :
    k0_pay69 (F := Ideal) (outer m c t) a (ix3 0 j k) = a (ix3 0 j k) + add19 m c t 7 j k := by
  unfold add19
  pointwise [k0_pay69]
  exact congrArg (fun x => a (ix3 0 j k) + outer m c t (ix2 j x)) (Fin.ext (by show 896 + k.val = 7 * 128 + k.val; omega))

theorem step19_A (c : Dev nD) (t : Fin cfg0.N) (p0 : t.val % 8 = 0) (j : S8x256x128.Idx) : (outsAt0 m c t.val t.isLt).2.2.2.2.2.2.2.2.1 j = (0 : EReal) + add19 m c t (j 0) (j 1) (j 2) := by
  obtain ⟨p, i, k, rfl⟩ : ∃ (p : Fin 8) (i : Fin 256) (k : Fin 128), j = ix3 p i k := ⟨j 0, j 1, j 2, eq_ix3 j⟩
  rw [outsAt0_A m c t p0]
  frame_out
  simp (disch := decide) only [↓View.readCov_skip, ↓View.readCov_fill]
  rw [← View.read_writes_junk_apply_eq_canon (ms0_19 t).view]
  exact parts8 _ _ _ _ _ _ _ _ _ _ _ (fun p j k => (0 : EReal) + add19 m c t p j k)
    (fun j k => (step19_0 m c t _ j k).trans (congrArg (· + _) (by pointwise [k0_pay4])))
    (fun j k => (step19_1 m c t _ j k).trans (congrArg (· + _) (by pointwise [k0_pay4])))
    (fun j k => (step19_2 m c t _ j k).trans (congrArg (· + _) (by pointwise [k0_pay4])))
    (fun j k => (step19_3 m c t _ j k).trans (congrArg (· + _) (by pointwise [k0_pay4])))
    (fun j k => (step19_4 m c t _ j k).trans (congrArg (· + _) (by pointwise [k0_pay4])))
    (fun j k => (step19_5 m c t _ j k).trans (congrArg (· + _) (by pointwise [k0_pay4])))
    (fun j k => (step19_6 m c t _ j k).trans (congrArg (· + _) (by pointwise [k0_pay4])))
    (fun j k => (step19_7 m c t _ j k).trans (congrArg (· + _) (by pointwise [k0_pay4]))) p i k

theorem step19_B (c : Dev nD) (t : Fin cfg0.N) (p0 : t.val % 8 ≠ 0) (j : S8x256x128.Idx) :
    (outsAt0 m c t.val t.isLt).2.2.2.2.2.2.2.2.1 j = (outsAt0 m c (t.val - 1) (by omega)).2.2.2.2.2.2.2.2.1 j + add19 m c t (j 0) (j 1) (j 2) := by
  obtain ⟨p, i, k, rfl⟩ : ∃ (p : Fin 8) (i : Fin 256) (k : Fin 128), j = ix3 p i k := ⟨j 0, j 1, j 2, eq_ix3 j⟩
  rw [outsAt0_B m c t p0]
  frame_out
  rw [← View.read_writes_junk_apply_eq_canon (ms0_19 t).view]
  exact parts8 _ _ _ _ _ _ _ _ _ _ _ (fun p j k => (outsAt0 m c (t.val - 1) (by omega)).2.2.2.2.2.2.2.2.1 (ix3 p j k) + add19 m c t p j k)
    (fun j k => (step19_0 m c t _ j k).trans (congrArg (· + _) (by pointwise [])))
    (fun j k => (step19_1 m c t _ j k).trans (congrArg (· + _) (by pointwise [])))
    (fun j k => (step19_2 m c t _ j k).trans (congrArg (· + _) (by pointwise [])))
    (fun j k => (step19_3 m c t _ j k).trans (congrArg (· + _) (by pointwise [])))
    (fun j k => (step19_4 m c t _ j k).trans (congrArg (· + _) (by pointwise [])))
    (fun j k => (step19_5 m c t _ j k).trans (congrArg (· + _) (by pointwise [])))
    (fun j k => (step19_6 m c t _ j k).trans (congrArg (· + _) (by pointwise [])))
    (fun j k => (step19_7 m c t _ j k).trans (congrArg (· + _) (by pointwise []))) p i k

theorem final19 (c : Dev nD) : (dats m 0 c).arrAt 19 (cfgs 0).N = fun i => Tail.dwp (args m c) (i 1) (Tail.col (i 0) (i 2)) := by
  refine (dats m 0 c).arrAt_eq_of_after_last 19 t0_7 (by decide +kernel) _ fun j => ?_
  blk_simp
  rw [after0_19]
  rw [Pipeline.eq_sum_fin_of_reset_step_apply_last (f := fun n h => (outsAt0 m c n h).2.2.2.2.2.2.2.2.1) 8 (fun _ => 0) (fun t j => add19 m c t (j 0) (j 1) (j 2))
    (fun t h j => step19_A m c t h j) (fun t h j => step19_B m c t h j) (le_of_eq N_0) t0_7 rfl j, zero_add]
  show (∑ t : Fin 8, add19 m c t (j 0) (j 1) (j 2) : EReal) = Tail.dwp (args m c) (j 1) (Tail.col (j 0) (j 2))
  unfold add19 Tail.dwp
  rw [Fin.sum_univ_tiles 8 256 rfl]
  exact Finset.sum_congr rfl fun t _ => outer_at m c t _ _

end Cert.Kernel2Ideal.Value
-- ==== Proof.Tail.lean ====
/- The tail of the training step: the kernel's ten results are the reference's. -/
module

public import proofs.«01_k».proof.Defs
public import proofs.«01_k».proof.Proof.TailRef
public import proofs.«01_k».proof.Proof.TailSum
public import Idealize.ShloMosaic.Lib.Claim

@[expose] public section

set_option maxRecDepth 16384

noncomputable section

namespace Cert.Proof

open Idealize.ShloMosaic Idealize.SL.Sem Cert.Kernel2

/-- The small results of the reference as one array: two gradients, the loss, five rows of zeros. -/
theorem small_rows (V0 : Valuation Cert.Reference2Ideal.τ Cert.Reference2Ideal.sig (Elt Ideal)) (p : Fin 8) (k : Fin 1024) :
    Cert.Reference2Ideal.Value.outSmall V0 (ix2 p k)
      = if p = 0 then Tail.dg2 (Cert.Reference2Ideal.Value.args V0) k else if p = 1 then Tail.dgf (Cert.Reference2Ideal.Value.args V0) k
        else if p = 2 then Tail.loss (Cert.Reference2Ideal.Value.args V0) else 0 := by
  split_ifs with e0 e1 e2
  · rw [e0]; exact Cert.Reference2Ideal.Value.small0_at V0 k
  · rw [e1]; exact Cert.Reference2Ideal.Value.small1_at V0 k
  · rw [e2]; exact Cert.Reference2Ideal.Value.small2_at V0 k
  · obtain ⟨q, rfl⟩ : ∃ q : Fin 5, p = Fin.natAdd 3 q := by
      have g0 : p.val ≠ 0 := fun h => e0 (Fin.ext h)
      have g1 : p.val ≠ 1 := fun h => e1 (Fin.ext h)
      have g2 : p.val ≠ 2 := fun h => e2 (Fin.ext h)
      exact ⟨⟨p.val - 3, by omega⟩, Fin.ext (by show p.val = 3 + (p.val - 3); omega)⟩
    exact Cert.Reference2Ideal.Value.small_rest_at V0 q k

/-- A result of one batch entry, 1024 wide, laid out without the batch axis. -/
theorem unbatched1024 (f : FVec Ideal Cert.Reference2Ideal.S1x2048x1024 .f32) (h : Cert.Reference2Ideal.S1x2048x1024.ShapeCasts Cert.Reference2Ideal.S2048x1024) (g : Fin 2048 → Fin 1024 → EReal)
    (e : ∀ r k, f (ix3 0 r k) = g r k) : shapeCast Cert.Reference2Ideal.S2048x1024 f h = fun i => g (i 0) (i 1) := by
  funext i
  obtain ⟨r, k, rfl⟩ : ∃ (r : Fin 2048) (k : Fin 1024), i = ix2 r k := ⟨i 0, i 1, eq_ix2 i⟩
  pointwise []
  exact e r k

/-- A result of one batch entry, 4096 wide, laid out without the batch axis. -/
theorem unbatched4096 (f : FVec Ideal Cert.Reference2Ideal.S1x2048x4096 .f32) (h : Cert.Reference2Ideal.S1x2048x4096.ShapeCasts Cert.Reference2Ideal.S2048x4096) (g : Fin 2048 → Fin 4096 → EReal)
    (e : ∀ r k, f (ix3 0 r k) = g r k) : shapeCast Cert.Reference2Ideal.S2048x4096 f h = fun i => g (i 0) (i 1) := by
  funext i
  obtain ⟨r, k, rfl⟩ : ∃ (r : Fin 2048) (k : Fin 4096), i = ix2 r k := ⟨i 0, i 1, eq_ix2 i⟩
  pointwise []
  exact e r k

set_option maxHeartbeats 1000000 in
/-- The ten results of the kernel are the reference's, whatever the arguments. -/
theorem tail : @Cert.algebraic_Kernel2Ideal_Reference2Ideal Cert.Kernel2Ideal.Gen.facts Cert.Reference2Ideal.Gen.facts := by
  pair_intro
  · run_from Cert.Kernel2Ideal.Value.run_blocks m g
  · have same : ∀ c, Cert.Reference2Ideal.Value.args (StableHlo.launchContents m' c) = Cert.Kernel2Ideal.Value.args m c := fun c => by
      obtain ⟨h0, h1, h2, h3, h4, h5, h6, h7, h8, h9, h10⟩ := hagree c
      unfold Cert.Reference2Ideal.Value.args Cert.Kernel2Ideal.Value.args
      rw [← h0, ← h1, ← h2, ← h3, ← h4, ← h5, ← h6, ← h7, ← h8, ← h9, ← h10]
    run_from Cert.Reference2Ideal.Value.run m' g'
    · rw [Cert.Kernel2Ideal.Value.final11]
      funext i
      obtain ⟨r, k, rfl⟩ : ∃ (r : Fin 8) (k : Fin 1024), i = ix2 r k := ⟨i 0, i 1, eq_ix2 i⟩
      refine (small_rows (StableHlo.launchContents m' c) r k).trans ?_
      rw [same]
      rfl
    · rw [Cert.Kernel2Ideal.Value.final12, ← same]
      exact unbatched1024 _ _ _ (Cert.Reference2Ideal.Value.v137_at (StableHlo.launchContents m' c))
    · rw [Cert.Kernel2Ideal.Value.final13, ← same]
      funext i
      obtain ⟨r, k, rfl⟩ : ∃ (r : Fin 2048) (k : Fin 1024), i = ix2 r k := ⟨i 0, i 1, eq_ix2 i⟩
      exact Cert.Reference2Ideal.Value.dmix_at _ r k
    · rw [Cert.Kernel2Ideal.Value.final14, ← same]
      exact unbatched1024 _ _ _ (Cert.Reference2Ideal.Value.v19_at (StableHlo.launchContents m' c))
    · rw [Cert.Kernel2Ideal.Value.final15, ← same]
      exact unbatched4096 _ _ _ (Cert.Reference2Ideal.Value.v26_at (StableHlo.launchContents m' c))
    · rw [Cert.Kernel2Ideal.Value.final16, ← same]
      exact unbatched4096 _ _ _ (Cert.Reference2Ideal.Value.v114_at (StableHlo.launchContents m' c))
    · rw [Cert.Kernel2Ideal.Value.final17, ← same]
      exact unbatched1024 _ _ _ (Cert.Reference2Ideal.Value.v109_at (StableHlo.launchContents m' c))
    · rw [← (hagree c).2.1]
      rw [Cert.Kernel2Ideal.Value.final18, ← same]
      funext i
      obtain ⟨r, k, rfl⟩ : ∃ (r : Fin 1024) (k : Fin 1024), i = ix2 r k := ⟨i 0, i 1, eq_ix2 i⟩
      exact Cert.Reference2Ideal.Value.wo_at (StableHlo.launchContents m' c) r k
    · rw [Cert.Kernel2Ideal.Value.final19, ← same]
      funext i
      obtain ⟨q, r, k, rfl⟩ : ∃ (q : Fin 8) (r : Fin 256) (k : Fin 128), i = ix3 q r k := ⟨i 0, i 1, i 2, eq_ix3 i⟩
      exact Cert.Reference2Ideal.Value.wp_at (StableHlo.launchContents m' c) q r k
    · rw [Cert.Kernel2Ideal.Value.final20, ← same]
      funext i
      obtain ⟨r, k, rfl⟩ : ∃ (r : Fin 1024) (k : Fin 1024), i = ix2 r k := ⟨i 0, i 1, eq_ix2 i⟩
      exact Cert.Reference2Ideal.Value.wg_at (StableHlo.launchContents m' c) r k

end Cert.Proof

end
-- ==== Proof.MixerRun.lean ====
module

public import proofs.«01_k».proof.Proof.Gen.Kernel3Ideal.Skeleton
public import proofs.«01_k».proof.Proof.Gen.Kernel3Ideal.Frame

@[expose] public section

set_option maxRecDepth 16384

/-!
# One grid point of the mixer's backward kernel

The kernel's body is run at its three kinds of grid point: the first one (which zeroes the running sums and then
handles a chunk), the ones between (a chunk each) and the last one (which only writes out what was summed). For each,
the pieces every buffer is left with are found by running the body.
-/

noncomputable section

namespace Cert.Proof.Mixer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F] [Named F]

local notation "𝕄" => MT nD τ sig Unit (Elt F) ℕ (UR sig nD τ) ℕ

/-- What the body reads at one grid point: the blocks of its twelve inputs. -/
structure Blocks (F : FTy → Type) where
  zuv : Vec F S128x1024 .f32
  q : Vec F S128x512 .bf16
  kvc : Vec F S128x256 .bf16
  kvp : Vec F S128x256 .bf16
  gv : Vec F S1x512 .f32
  w : Vec F S4x128x128 .f32
  b : Vec F S4x128x1 .f32
  bucket : Vec F S128x256 .i32
  dmix : Vec F S128x1024 .f32
  tanh : Vec F S128x1024 .f32
  prob : Vec F S1x2x512x256 .f32
  psink : Vec F S1x2x512x128 .f32

/-- The buffers the body adds into from point to point: the gradients of the norm's weight and of the spatial weights,
and the four scratch buffers. -/
structure Sums (F : FTy → Type) where
  dgv : Vec F S1x512 .f32
  dw : Vec F S4x128x128 .f32
  dbias : Vec F S2x512x256 .f32
  carry : Vec F S128x256 .f32
  dsink : Vec F S2x512x1 .f32
  dbs : Vec F S4x128x1 .f32

/-- The four output buffers the body overwrites without reading what they held. -/
structure Plain (F : FTy → Type) where
  dz : Vec F S128x1536 .bf16
  dkv : Vec F S128x256 .bf16
  db : Vec F S4x128 .f32
  dtab : Vec F S9x32 .f32

/-- The stores one run of the body leaves in each buffer it may write, the last one first. -/
structure Stores (F : FTy → Type) where
  dz : List (View.Piece (Elt F) S128x1536 .bf16)
  dkv : List (View.Piece (Elt F) S128x256 .bf16)
  dgv : List (View.Piece (Elt F) S1x512 .f32)
  dw : List (View.Piece (Elt F) S4x128x128 .f32)
  db : List (View.Piece (Elt F) S4x128 .f32)
  dtab : List (View.Piece (Elt F) S9x32 .f32)
  dbias : List (View.Piece (Elt F) S2x512x256 .f32)
  carry : List (View.Piece (Elt F) S128x256 .f32)
  dsink : List (View.Piece (Elt F) S2x512x1 .f32)
  dbs : List (View.Piece (Elt F) S4x128x1 .f32)

/-- Ownership of the whole of one buffer at raw contents `f`. -/
def pt (c : Dev nD) {sp : Space} {s : Shape} {e : EltTy} (a : Memref sig .tc sp s e) (f : a.view.ty.Contents (Elt F)) : sProp 𝕄 :=
  iprop(a.view.loc (c : Thread nD τ) ↦[a.view.set]{fullShare} f)

variable (c : Dev nD) (i : grid0.Coords)
  (a1 : Memref sig .tc .vmem S128x1024 .f32) (h1 : a1.IsWhole)
  (a2 : Memref sig .tc .vmem S128x512 .bf16) (h2 : a2.IsWhole)
  (a3 : Memref sig .tc .vmem S128x256 .bf16) (h3 : a3.IsWhole)
  (a4 : Memref sig .tc .vmem S128x256 .bf16) (h4 : a4.IsWhole)
  (a5 : Memref sig .tc .vmem S1x512 .f32) (h5 : a5.IsWhole)
  (a6 : Memref sig .tc .vmem S4x128x128 .f32) (h6 : a6.IsWhole)
  (a7 : Memref sig .tc .vmem S4x128x1 .f32) (h7 : a7.IsWhole)
  (a8 : Memref sig .tc .vmem S128x256 .i32) (h8 : a8.IsWhole)
  (a9 : Memref sig .tc .vmem S128x1024 .f32) (h9 : a9.IsWhole)
  (a10 : Memref sig .tc .vmem S128x1024 .f32) (h10 : a10.IsWhole)
  (a11 : Memref sig .tc .vmem S1x2x512x256 .f32) (h11 : a11.IsWhole)
  (a12 : Memref sig .tc .vmem S1x2x512x128 .f32) (h12 : a12.IsWhole)
  (a13 : Memref sig .tc .vmem S128x1536 .bf16) (h13 : a13.IsWhole)
  (a14 : Memref sig .tc .vmem S128x256 .bf16) (h14 : a14.IsWhole)
  (a15 : Memref sig .tc .vmem S1x512 .f32) (h15 : a15.IsWhole)
  (a16 : Memref sig .tc .vmem S4x128x128 .f32) (h16 : a16.IsWhole)
  (a17 : Memref sig .tc .vmem S4x128 .f32) (h17 : a17.IsWhole)
  (a18 : Memref sig .tc .smem S9x32 .f32) (h18 : a18.IsWhole)
  (a19 : Memref sig .tc .vmem S2x512x256 .f32) (h19 : a19.IsWhole)
  (a20 : Memref sig .tc .vmem S128x256 .f32) (h20 : a20.IsWhole)
  (a21 : Memref sig .tc .vmem S2x512x1 .f32) (h21 : a21.IsWhole)
  (a22 : Memref sig .tc .vmem S4x128x1 .f32) (h22 : a22.IsWhole)

/-- The inputs' buffers, each at its block. -/
def ins (x : Blocks F) : sProp 𝕄 :=
  iprop(pt c a1 (h1.unread x.zuv) ∗ pt c a2 (h2.unread x.q) ∗ pt c a3 (h3.unread x.kvc) ∗ pt c a4 (h4.unread x.kvp) ∗ pt c a5 (h5.unread x.gv) ∗ pt c a6 (h6.unread x.w) ∗ pt c a7 (h7.unread x.b) ∗ pt c a8 (h8.unread x.bucket) ∗ pt c a9 (h9.unread x.dmix) ∗ pt c a10 (h10.unread x.tanh) ∗ pt c a11 (h11.unread x.prob) ∗ pt c a12 (h12.unread x.psink))

/-- The buffers the body writes, as the point finds them. -/
def found (s : Sums F) (o : Plain F) : sProp 𝕄 :=
  iprop(pt c a13 (h13.unread o.dz) ∗ pt c a14 (h14.unread o.dkv) ∗ pt c a15 (h15.unread s.dgv) ∗ pt c a16 (h16.unread s.dw) ∗ pt c a17 (h17.unread o.db) ∗ pt c a18 (h18.unread o.dtab) ∗ pt c a19 (h19.unread s.dbias) ∗ pt c a20 (h20.unread s.carry) ∗ pt c a21 (h21.unread s.dsink) ∗ pt c a22 (h22.unread s.dbs))

/-- The buffers the body writes, with its stores made. -/
def stored (s : Sums F) (o : Plain F) (L : Stores F) : sProp 𝕄 :=
  iprop(pt c a13 (a13.view.writes (Elt F) (h13.unread o.dz) L.dz) ∗ pt c a14 (a14.view.writes (Elt F) (h14.unread o.dkv) L.dkv) ∗ pt c a15 (a15.view.writes (Elt F) (h15.unread s.dgv) L.dgv) ∗ pt c a16 (a16.view.writes (Elt F) (h16.unread s.dw) L.dw) ∗ pt c a17 (a17.view.writes (Elt F) (h17.unread o.db) L.db) ∗ pt c a18 (a18.view.writes (Elt F) (h18.unread o.dtab) L.dtab) ∗ pt c a19 (a19.view.writes (Elt F) (h19.unread s.dbias) L.dbias) ∗ pt c a20 (a20.view.writes (Elt F) (h20.unread s.carry) L.carry) ∗ pt c a21 (a21.view.writes (Elt F) (h21.unread s.dsink) L.dsink) ∗ pt c a22 (a22.view.writes (Elt F) (h22.unread s.dbs) L.dbs))

/-- The body's run at one point: from the inputs' blocks `x` and the buffers at `s`, `o`, it ends with the inputs as they
were and the stores `L` made. -/
def Runs (x : Blocks F) (s : Sums F) (o : Plain F) (L : Stores F) : Prop :=
  ∀ (E : Set ℕ) (K : PUnit → sProp 𝕄),
    iprop(ins c a1 h1 a2 h2 a3 h3 a4 h4 a5 h5 a6 h6 a7 h7 a8 h8 a9 h9 a10 h10 a11 h11 a12 h12 x ∗ found c a13 h13 a14 h14 a15 h15 a16 h16 a17 h17 a18 h18 a19 h19 a20 h20 a21 h21 a22 h22 s o ∗ (iprop(ins c a1 h1 a2 h2 a3 h3 a4 h4 a5 h5 a6 h6 a7 h7 a8 h8 a9 h9 a10 h10 a11 h11 a12 h12 x ∗ stored c a13 h13 a14 h14 a15 h15 a16 h16 a17 h17 a18 h18 a19 h19 a20 h20 a21 h21 a22 h22 s o L) -∗ K ⟨⟩))
      ⊢ wp frame (wpE (defs₀ (F := F)) Variants.none c none) E (cc0_mixer_bwd i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22) K

set_option maxHeartbeats 8000000 in
/-- The stores of the first point (they depend on the inputs alone), with the proof that the body makes them. -/
def runFirst (hc0 : k0_cond1 i = 1#1) (hc1 : k0_cond2 i = 1#1) (hc2 : ¬k0_cond3 i = 1#1) (x : Blocks F) : { L : Stores F // ∀ (s : Sums F) (o : Plain F), Runs c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x s o L } := by
  refine ⟨⟨?_, ?_, ?_, ?_, [], [], ?_, ?_, ?_, ?_⟩, fun s o E K => ?run⟩
  case run =>
    simp only [cc0_mixer_bwd_eq_skeleton]; unfold cc0_mixer_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold ins found stored pt
    iintro ⟨⟨H0, H1, H2, H3, H4, H5, H6, H7, H8, H9, H10, H11⟩, ⟨H12, H13, H14, H15, H16, H17, H18, H19, H20, H21⟩, Hk⟩
    sl_exec (disch := first | sl_exact hc0 | sl_exact hc1 | sl_exact hc2)
    sl_step
    iapply Hk
    isplitl [H0 H1 H2 H3 H4 H5 H6 H7 H8 H9 H10 H11]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21

set_option maxHeartbeats 8000000 in
/-- The stores of a point between the first and the last, with the proof that the body makes them. -/
def runMiddle (hc0 : ¬k0_cond1 i = 1#1) (hc1 : k0_cond2 i = 1#1) (hc2 : ¬k0_cond3 i = 1#1) (x : Blocks F) (s : Sums F) : { L : Stores F // ∀ o : Plain F, Runs c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x s o L } := by
  refine ⟨⟨?_, ?_, ?_, ?_, [], [], ?_, ?_, ?_, ?_⟩, fun o E K => ?run⟩
  case run =>
    simp only [cc0_mixer_bwd_eq_skeleton]; unfold cc0_mixer_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold ins found stored pt
    iintro ⟨⟨H0, H1, H2, H3, H4, H5, H6, H7, H8, H9, H10, H11⟩, ⟨H12, H13, H14, H15, H16, H17, H18, H19, H20, H21⟩, Hk⟩
    sl_exec (disch := first | sl_exact hc0 | sl_exact hc1 | sl_exact hc2)
    sl_step
    iapply Hk
    isplitl [H0 H1 H2 H3 H4 H5 H6 H7 H8 H9 H10 H11]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21

set_option maxHeartbeats 8000000 in
/-- The stores of the last point, with the proof that the body makes them. -/
def runLast (hc0 : ¬k0_cond1 i = 1#1) (hc1 : ¬k0_cond2 i = 1#1) (hc2 : k0_cond3 i = 1#1) (x : Blocks F) (s : Sums F) : { L : Stores F // ∀ o : Plain F, Runs c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x s o L } := by
  refine ⟨⟨[], ?_, [], ?_, ?_, ?_, [], [], [], []⟩, fun o E K => ?run⟩
  case run =>
    simp only [cc0_mixer_bwd_eq_skeleton]; unfold cc0_mixer_bwd_skel
    simp only [k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton]
    unfold ins found stored pt
    iintro ⟨⟨H0, H1, H2, H3, H4, H5, H6, H7, H8, H9, H10, H11⟩, ⟨H12, H13, H14, H15, H16, H17, H18, H19, H20, H21⟩, Hk⟩
    sl_exec (disch := first | sl_exact hc0 | sl_exact hc1 | sl_exact hc2)
    sl_step
    iapply Hk
    isplitl [H0 H1 H2 H3 H4 H5 H6 H7 H8 H9 H10 H11]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21

end Cert.Proof.Mixer

end
-- ==== Proof.MixerFrame.lean ====
module

public import proofs.«01_k».proof.Proof.MixerRun
public import Idealize.ShloMosaic.Lib.Claim
public import Idealize.ShloMosaic.Lib.Pipeline.TableIdle

@[expose] public section

set_option maxRecDepth 16384

/-!
# The mixer's backward kernel over its whole grid

What the seventeen grid points leave in every buffer, one after the other, and with it the whole launch: it terminates,
leaves the arguments as they were and ends with every result at the blocks the points wrote back.
-/

noncomputable section

namespace Cert.Proof.Mixer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg) (c : Dev nD)

/-! ## Whole buffers -/

theorem owns_of_pt {sp : Space} {s : Shape} {e : EltTy} (a : Memref sig .tc sp s e) (f : a.view.ty.Contents (Elt F)) :
    (pt c a f : sProp 𝕄) ⊢ owns (c : Thread nD τ) a fullShare (a.view.read (Elt F) f) := by
  unfold pt owns
  iintro H; iexists _; isplitr
  · ipureintro; rfl
  iexact H

theorem pt_of_owns {sp : Space} {s : Shape} {e : EltTy} (a : Memref sig .tc sp s e) (h : a.IsWhole) (X : s.Idx → Elt F e) :
    (owns (c : Thread nD τ) a fullShare X : sProp 𝕄) ⊢ pt c a (h.unread X) := by
  unfold pt owns
  iintro ⟨%f, %hf, H⟩
  obtain rfl := h.eq_unread hf
  iexact H

/-! ## The buffers at a grid point -/

abbrev ms0 (t : Fin cfg0.N) : Memref sig .tc .vmem S128x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x256 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x256 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S4x128x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S4x128x1 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S128x256 .i32 := win0_7.stage (cfg0.slots t 7)
abbrev hs7 (t : Fin cfg0.N) : (ms7 t).IsWhole := hstage0_7 ((cfg0.slots t 7).cast nbuf0_7)
abbrev ms8 (t : Fin cfg0.N) : Memref sig .tc .vmem S128x1024 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S128x1024 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x2x512x256 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x2x512x128 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S128x1536 .bf16 := win0_12.stage (cfg0.slots t 12)
abbrev hs12 (t : Fin cfg0.N) : (ms12 t).IsWhole := hstage0_12 ((cfg0.slots t 12).cast nbuf0_12)
abbrev ms13 (t : Fin cfg0.N) : Memref sig .tc .vmem S128x256 .bf16 := win0_13.stage (cfg0.slots t 13)
abbrev hs13 (t : Fin cfg0.N) : (ms13 t).IsWhole := hstage0_13 ((cfg0.slots t 13).cast nbuf0_13)
abbrev ms14 (t : Fin cfg0.N) : Memref sig .tc .vmem S1x512 .f32 := win0_14.stage (cfg0.slots t 14)
abbrev hs14 (t : Fin cfg0.N) : (ms14 t).IsWhole := hstage0_14 ((cfg0.slots t 14).cast nbuf0_14)
abbrev ms15 (t : Fin cfg0.N) : Memref sig .tc .vmem S4x128x128 .f32 := win0_15.stage (cfg0.slots t 15)
abbrev hs15 (t : Fin cfg0.N) : (ms15 t).IsWhole := hstage0_15 ((cfg0.slots t 15).cast nbuf0_15)
abbrev ms16 (t : Fin cfg0.N) : Memref sig .tc .vmem S4x128 .f32 := win0_16.stage (cfg0.slots t 16)
abbrev hs16 (t : Fin cfg0.N) : (ms16 t).IsWhole := hstage0_16 ((cfg0.slots t 16).cast nbuf0_16)
abbrev ms17 (t : Fin cfg0.N) : Memref sig .tc .smem S9x32 .f32 := win0_17.stage (cfg0.slots t 17)
abbrev hs17 (t : Fin cfg0.N) : (ms17 t).IsWhole := hstage0_17 ((cfg0.slots t 17).cast nbuf0_17)

/-- The blocks the body reads at point `t`. -/
def blocks (t : Fin cfg0.N) : Blocks F :=
  ⟨iblk m c 0 t, X0_1 m c t, iblk m c 2 t, iblk m c 3 t, iblk m c 4 t, iblk m c 5 t, iblk m c 6 t, iblk m c 7 t, iblk m c 8 t, iblk m c 9 t, iblk m c 10 t, iblk m c 11 t⟩

theorem cond1 : ∀ t : Fin cfg0.N, k0_cond1 (grid0.coords t) = 1#1 ↔ t.val = 0 :=
  (by decide +kernel : ∀ t : Fin grid0.N, k0_cond1 (grid0.coords t) = 1#1 ↔ t.val = 0)
theorem cond2 : ∀ t : Fin cfg0.N, k0_cond2 (grid0.coords t) = 1#1 ↔ t.val < 16 :=
  (by decide +kernel : ∀ t : Fin grid0.N, k0_cond2 (grid0.coords t) = 1#1 ↔ t.val < 16)
theorem cond3 : ∀ t : Fin cfg0.N, k0_cond3 (grid0.coords t) = 1#1 ↔ t.val = 16 :=
  (by decide +kernel : ∀ t : Fin grid0.N, k0_cond3 (grid0.coords t) = 1#1 ↔ t.val = 16)
theorem lt17 (t : Fin cfg0.N) : t.val < 17 := lt_of_lt_of_eq t.isLt N_0

/-- The first point's stores, with the proof that they are made. -/
def first (t : Fin cfg0.N) (h : t.val = 0) :=
  runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (Memref.whole cc0_scratch0) (Memref.isWhole_whole _) (Memref.whole cc0_scratch1) (Memref.isWhole_whole _) (Memref.whole cc0_scratch2) (Memref.isWhole_whole _) (Memref.whole cc0_scratch3) (Memref.isWhole_whole _)
    ((cond1 t).mpr h) ((cond2 t).mpr (by omega)) (fun e => by have := (cond3 t).mp e; omega) (blocks m c t)
/-- The stores of a point between the first and the last. -/
def middle (t : Fin cfg0.N) (h : t.val ≠ 0) (h' : t.val < 16) (s : Sums F) :=
  runMiddle c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (Memref.whole cc0_scratch0) (Memref.isWhole_whole _) (Memref.whole cc0_scratch1) (Memref.isWhole_whole _) (Memref.whole cc0_scratch2) (Memref.isWhole_whole _) (Memref.whole cc0_scratch3) (Memref.isWhole_whole _)
    (fun e => h ((cond1 t).mp e)) ((cond2 t).mpr h') (fun e => by have := (cond3 t).mp e; omega) (blocks m c t) s
/-- The last point's stores. -/
def last (t : Fin cfg0.N) (h' : ¬t.val < 16) (s : Sums F) :=
  runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (Memref.whole cc0_scratch0) (Memref.isWhole_whole _) (Memref.whole cc0_scratch1) (Memref.isWhole_whole _) (Memref.whole cc0_scratch2) (Memref.isWhole_whole _) (Memref.whole cc0_scratch3) (Memref.isWhole_whole _)
    (fun e => by have := (cond1 t).mp e; omega) (fun e => h' ((cond2 t).mp e)) ((cond3 t).mpr (by have := lt17 t; omega)) (blocks m c t) s

/-- The stores of point `t`, the running sums found at `s`. -/
def stores (t : Fin cfg0.N) (s : Sums F) : Stores F :=
  if h : t.val = 0 then (first m c t h).1 else if h' : t.val < 16 then (middle m c t h h' s).1 else (last m c t h' s).1

theorem stores_runs (t : Fin cfg0.N) (s : Sums F) (o : Plain F) :
    Runs c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (Memref.whole cc0_scratch0) (Memref.isWhole_whole _) (Memref.whole cc0_scratch1) (Memref.isWhole_whole _) (Memref.whole cc0_scratch2) (Memref.isWhole_whole _) (Memref.whole cc0_scratch3) (Memref.isWhole_whole _)
      (blocks m c t) s o (stores m c t s) := by
  unfold stores
  split
  · exact (first m c t _).2 s o
  split
  · exact (middle m c t _ _ s).2 o
  · exact (last m c t _ s).2 o

/-- What point `t` leaves in the running sums and in the other outputs, from what it found there. -/
def next (t : Fin cfg0.N) (s : Sums F) (o : Plain F) : Sums F × Plain F :=
  let L := stores m c t s
  (⟨(ms14 t).view.read (Elt F) ((ms14 t).view.writes (Elt F) ((hs14 t).unread s.dgv) L.dgv), (ms15 t).view.read (Elt F) ((ms15 t).view.writes (Elt F) ((hs15 t).unread s.dw) L.dw), (Memref.whole cc0_scratch0).view.read (Elt F) ((Memref.whole cc0_scratch0).view.writes (Elt F) ((Memref.isWhole_whole _).unread s.dbias) L.dbias), (Memref.whole cc0_scratch1).view.read (Elt F) ((Memref.whole cc0_scratch1).view.writes (Elt F) ((Memref.isWhole_whole _).unread s.carry) L.carry), (Memref.whole cc0_scratch2).view.read (Elt F) ((Memref.whole cc0_scratch2).view.writes (Elt F) ((Memref.isWhole_whole _).unread s.dsink) L.dsink), (Memref.whole cc0_scratch3).view.read (Elt F) ((Memref.whole cc0_scratch3).view.writes (Elt F) ((Memref.isWhole_whole _).unread s.dbs) L.dbs)⟩,
   ⟨(ms12 t).view.read (Elt F) ((ms12 t).view.writes (Elt F) ((hs12 t).unread o.dz) L.dz), (ms13 t).view.read (Elt F) ((ms13 t).view.writes (Elt F) ((hs13 t).unread o.dkv) L.dkv), (ms16 t).view.read (Elt F) ((ms16 t).view.writes (Elt F) ((hs16 t).unread o.db) L.db), (ms17 t).view.read (Elt F) ((ms17 t).view.writes (Elt F) ((hs17 t).unread o.dtab) L.dtab)⟩)

/-- A block's contents nothing is known of. -/
def unknown {s : Shape} {e : EltTy} : s.Idx → Elt F e := fun _ => Classical.choice inferInstance

/-- Contents nothing is known of. -/
def anything : Sums F × Plain F :=
  (⟨unknown, unknown, unknown, unknown, unknown, unknown⟩, ⟨unknown, unknown, unknown, unknown⟩)

/-- What the written buffers hold after `n` points. -/
def after : ℕ → Sums F × Plain F
  | 0 => anything
  | n + 1 => if h : n < cfg0.N then next m c ⟨n, h⟩ (after n).1 (after n).2 else after n

theorem after_succ (t : Fin cfg0.N) : after m c (t.val + 1) = next m c t (after m c t.val).1 (after m c t.val).2 := by
  rw [after, dif_pos t.isLt]

/-! ## What does not depend on what was found -/

/-- The stores fill the buffer. -/
def Fills {s : Shape} {e : EltTy} (L : List (View.Piece (Elt F) s e)) : Prop := ∀ y, ∃ p ∈ L, y ∈ p.1.set

theorem first_fills (t : Fin cfg0.N) (h : t.val = 0) :
    Fills (first m c t h).1.dz ∧ Fills (first m c t h).1.dkv ∧ Fills (first m c t h).1.dgv ∧ Fills (first m c t h).1.dw
      ∧ Fills (first m c t h).1.dbias ∧ Fills (first m c t h).1.carry ∧ Fills (first m c t h).1.dsink ∧ Fills (first m c t h).1.dbs :=
  ⟨View.cover_of_tiledBy _ ![128, 64] (by sl_kernel_rfl), View.cover_of_tiledL _ S128x64.size (by sl_kernel_rfl),
    View.cover_of_tiledBy _ ![1, 128] (by sl_kernel_rfl), View.cover_of_tiledBy _ ![1, 128, 128] (by sl_kernel_rfl),
    View.cover_of_wholeMem _ (by sl_whole_mem), View.cover_of_wholeMem _ (by sl_whole_mem),
    View.cover_of_wholeMem _ (by sl_whole_mem), View.cover_of_wholeMem _ (by sl_whole_mem)⟩

theorem middle_fills (t : Fin cfg0.N) (h : t.val ≠ 0) (h' : t.val < 16) (s : Sums F) :
    Fills (middle m c t h h' s).1.dz ∧ Fills (middle m c t h h' s).1.dkv :=
  ⟨View.cover_of_tiledBy _ ![128, 64] (by sl_kernel_rfl), View.cover_of_tiledL _ S128x64.size (by sl_kernel_rfl)⟩

theorem last_fills (t : Fin cfg0.N) (h' : ¬t.val < 16) (s : Sums F) :
    Fills (last m c t h' s).1.dkv ∧ Fills (last m c t h' s).1.db ∧ Fills (last m c t h' s).1.dtab :=
  ⟨View.cover_of_tiledL _ S128x256.size (by sl_kernel_rfl), View.cover_of_tiledL _ S1x128.size (by sl_kernel_rfl),
    View.cover_of_tiledL _ S1x1.size (by sl_kernel_rfl)⟩

theorem read_of_fills {sp : Space} {s : Shape} {e : EltTy} (v : View sig .tc sp s e) (f f' : v.ty.Contents (Elt F))
    {L : List (View.Piece (Elt F) s e)} (h : Fills L) : v.read (Elt F) (v.writes (Elt F) f L) = v.read (Elt F) (v.writes (Elt F) f' L) :=
  View.read_writes_of_cover _ _ _ _ _ h

/-- What a point leaves depends on the running sums it found (the first point: on nothing it found) and, at the last
point only, on the first output's contents. -/
theorem next_agree (t : Fin cfg0.N) (s s' : Sums F) (o o' : Plain F) (hs : t.val ≠ 0 → s = s') (ho : t.val = 16 → o.dz = o'.dz) :
    (next m c t s o).1 = (next m c t s' o').1 ∧ (next m c t s o).2.dz = (next m c t s' o').2.dz
      ∧ (next m c t s o).2.dkv = (next m c t s' o').2.dkv
      ∧ (t.val = 16 → (next m c t s o).2.db = (next m c t s' o').2.db ∧ (next m c t s o).2.dtab = (next m c t s' o').2.dtab) := by
  by_cases h : t.val = 0
  · obtain ⟨f1, f2, f3, f4, f5, f6, f7, f8⟩ := first_fills m c t h
    have e (s : Sums F) : stores m c t s = (first m c t h).1 := dif_pos h
    simp only [next, e]
    refine ⟨?_, read_of_fills _ _ _ f1, read_of_fills _ _ _ f2, fun h' => absurd h' (by omega)⟩
    simp only [Sums.mk.injEq]
    exact ⟨read_of_fills _ _ _ f3, read_of_fills _ _ _ f4, read_of_fills _ _ _ f5, read_of_fills _ _ _ f6, read_of_fills _ _ _ f7, read_of_fills _ _ _ f8⟩
  obtain rfl := hs h
  by_cases h' : t.val < 16
  · obtain ⟨f1, f2⟩ := middle_fills m c t h h' s
    have e : stores m c t s = (middle m c t h h' s).1 := (dif_neg h).trans (dif_pos h')
    simp only [next, e]
    exact ⟨trivial, read_of_fills _ _ _ f1, read_of_fills _ _ _ f2, fun h' => absurd h' (by omega)⟩
  · obtain ⟨f1, f2, f3⟩ := last_fills m c t h' s
    have e : stores m c t s = (last m c t h' s).1 := (dif_neg h).trans (dif_neg h')
    simp only [next, e, ho (by have := lt17 t; omega)]
    exact ⟨trivial, trivial, read_of_fills _ _ _ f1, fun _ => ⟨read_of_fills _ _ _ f2, read_of_fills _ _ _ f3⟩⟩

/-- The last point leaves the first output and the norm weight's gradient as it found them. -/
theorem next_last (t : Fin cfg0.N) (h' : ¬t.val < 16) (s : Sums F) (o : Plain F) :
    (next m c t s o).2.dz = o.dz ∧ (next m c t s o).1.dgv = s.dgv := by
  have e : stores m c t s = (last m c t h' s).1 := (dif_neg (by omega)).trans (dif_neg h')
  simp only [next, e]
  exact ⟨(hs12 t).read_unread _, (hs14 t).read_unread _⟩

/-- At the points before the last, two of the outputs are not written. -/
theorem next_early (t : Fin cfg0.N) (h' : t.val < 16) (s : Sums F) (o : Plain F) :
    (next m c t s o).2.db = o.db ∧ (next m c t s o).2.dtab = o.dtab := by
  by_cases h : t.val = 0
  · have e : stores m c t s = (first m c t h).1 := dif_pos h
    simp only [next, e]
    exact ⟨(hs16 t).read_unread _, (hs17 t).read_unread _⟩
  · have e : stores m c t s = (middle m c t h h' s).1 := (dif_neg h).trans (dif_pos h')
    simp only [next, e]
    exact ⟨(hs16 t).read_unread _, (hs17 t).read_unread _⟩

/-! ## The pipeline's proof data -/

/-- The scratch buffers at the running sums `s`. -/
def scratch (s : Sums F) : sProp 𝕄 :=
  iprop(owns (c : Thread nD τ) (Memref.whole cc0_scratch0) fullShare s.dbias ∗ owns (c : Thread nD τ) (Memref.whole cc0_scratch1) fullShare s.carry
    ∗ owns (c : Thread nD τ) (Memref.whole cc0_scratch2) fullShare s.dsink ∗ owns (c : Thread nD τ) (Memref.whole cc0_scratch3) fullShare s.dbs)

/-- What holds between two points: before the first the scratch is at anything, after `n` points at the running sums. -/
def phi : ℕ → sProp 𝕄
  | 0 => Pipeline.ΦA spec0 c
  | n + 1 => iprop(scratch c (after m c (n + 1)).1 ∗ (∃ r, prngReg c r))

/-- The proof data: the arrays as the region finds them, every input's buffer left at its block, every output's at what
the points so far left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (after m c (t.val + 1)).2.dz
    | ⟨13, _⟩ => (after m c (t.val + 1)).2.dkv
    | ⟨14, _⟩ => (after m c (t.val + 1)).1.dgv
    | ⟨15, _⟩ => (after m c (t.val + 1)).1.dw
    | ⟨16, _⟩ => (after m c (t.val + 1)).2.db
    | ⟨17, _⟩ => (after m c (t.val + 1)).2.dtab
    | ⟨_ + 18, h⟩ => absurd h (Nat.not_lt.2 (Nat.le_add_left _ _))
  Φ t := phi m c t.val
  q w := Pipeline.shareOf spec0 w
  owed _ := 0

theorem A_eq (c : Dev nD) (w : Fin cfg0.W) : (dats m 0 c).A w = V m c (Pipeline.arrRef spec0 w) := by
  dsimp only [dats]

theorem after_0 (t : Fin cfg0.N) : (dats m 0 c).after 0 t = iblk m c 0 t := by dsimp only [dats]
theorem after_1 (t : Fin cfg0.N) : (dats m 0 c).after 1 t = X0_1 m c t := by dsimp only [dats]
theorem after_2 (t : Fin cfg0.N) : (dats m 0 c).after 2 t = iblk m c 2 t := by dsimp only [dats]
theorem after_3 (t : Fin cfg0.N) : (dats m 0 c).after 3 t = iblk m c 3 t := by dsimp only [dats]
theorem after_4 (t : Fin cfg0.N) : (dats m 0 c).after 4 t = iblk m c 4 t := by dsimp only [dats]
theorem after_5 (t : Fin cfg0.N) : (dats m 0 c).after 5 t = iblk m c 5 t := by dsimp only [dats]
theorem after_6 (t : Fin cfg0.N) : (dats m 0 c).after 6 t = iblk m c 6 t := by dsimp only [dats]
theorem after_7 (t : Fin cfg0.N) : (dats m 0 c).after 7 t = iblk m c 7 t := by dsimp only [dats]
theorem after_8 (t : Fin cfg0.N) : (dats m 0 c).after 8 t = iblk m c 8 t := by dsimp only [dats]
theorem after_9 (t : Fin cfg0.N) : (dats m 0 c).after 9 t = iblk m c 9 t := by dsimp only [dats]
theorem after_10 (t : Fin cfg0.N) : (dats m 0 c).after 10 t = iblk m c 10 t := by dsimp only [dats]
theorem after_11 (t : Fin cfg0.N) : (dats m 0 c).after 11 t = iblk m c 11 t := by dsimp only [dats]
theorem after_12 (t : Fin cfg0.N) : (dats m 0 c).after 12 t = (after m c (t.val + 1)).2.dz := by dsimp only [dats]
theorem after_13 (t : Fin cfg0.N) : (dats m 0 c).after 13 t = (after m c (t.val + 1)).2.dkv := by dsimp only [dats]
theorem after_14 (t : Fin cfg0.N) : (dats m 0 c).after 14 t = (after m c (t.val + 1)).1.dgv := by dsimp only [dats]
theorem after_15 (t : Fin cfg0.N) : (dats m 0 c).after 15 t = (after m c (t.val + 1)).1.dw := by dsimp only [dats]
theorem after_16 (t : Fin cfg0.N) : (dats m 0 c).after 16 t = (after m c (t.val + 1)).2.db := by dsimp only [dats]
theorem after_17 (t : Fin cfg0.N) : (dats m 0 c).after 17 t = (after m c (t.val + 1)).2.dtab := by dsimp only [dats]

/-! ## Which outputs a point leaves alone -/

theorem idle_12 : ∀ t : Fin cfg0.N, cfg0.idle 12 (grid0.coords t) = decide (t.val = 16) :=
  (by decide +kernel : ∀ t : Fin grid0.N, cfg0.idle 12 (grid0.coords t) = decide (t.val = 16))
theorem idle_14 : ∀ t : Fin cfg0.N, cfg0.idle 14 (grid0.coords t) = decide (t.val = 16) :=
  (by decide +kernel : ∀ t : Fin grid0.N, cfg0.idle 14 (grid0.coords t) = decide (t.val = 16))
theorem idle_16 : ∀ t : Fin cfg0.N, cfg0.idle 16 (grid0.coords t) = decide (t.val < 16) :=
  (by decide +kernel : ∀ t : Fin grid0.N, cfg0.idle 16 (grid0.coords t) = decide (t.val < 16))
theorem idle_17 : ∀ t : Fin cfg0.N, cfg0.idle 17 (grid0.coords t) = decide (t.val < 16) :=
  (by decide +kernel : ∀ t : Fin grid0.N, cfg0.idle 17 (grid0.coords t) = decide (t.val < 16))
theorem idle_13 : ∀ t : Fin cfg0.N, cfg0.idle 13 (grid0.coords t) = false :=
  (by decide +kernel : ∀ t : Fin grid0.N, cfg0.idle 13 (grid0.coords t) = false)
theorem idle_15 : ∀ t : Fin cfg0.N, cfg0.idle 15 (grid0.coords t) = false :=
  (by decide +kernel : ∀ t : Fin grid0.N, cfg0.idle 15 (grid0.coords t) = false)
theorem flush_12 : ∀ t : Fin cfg0.N, (cfg0.win 12).flush t = decide (t.val ≠ 15) :=
  (by decide +kernel : ∀ t : Fin grid0.N, win0_12.flush t = decide (t.val ≠ 15))
theorem flush_14 (t : Fin cfg0.N) : (cfg0.win 14).flush t = decide (t.val = 16) := by
  have h := flush0_14 t; have := lt17 t; rw [Bool.eq_iff_iff, h, decide_eq_true_iff]; omega
theorem flush_15 (t : Fin cfg0.N) : (cfg0.win 15).flush t = decide (t.val = 16) := by
  have h := flush0_15 t; have := lt17 t; rw [Bool.eq_iff_iff, h, decide_eq_true_iff]; omega
theorem flush_16 (t : Fin cfg0.N) : (cfg0.win 16).flush t = decide (t.val = 16) := by
  have h := flush0_16 t; have := lt17 t; rw [Bool.eq_iff_iff, h, decide_eq_true_iff]; omega
theorem flush_17 (t : Fin cfg0.N) : (cfg0.win 17).flush t = decide (t.val = 16) := by
  have h := flush0_17 t; have := lt17 t; rw [Bool.eq_iff_iff, h, decide_eq_true_iff]; omega

theorem fresh_12 (n : ℕ) (h : n ≤ cfg0.N) : cfg0.fresh 12 n = decide (n ≠ 16) :=
  Cfg.fresh_tab cfg0 12 (fun n => decide (n ≠ 16)) rfl (fun t => by
    have := lt17 t; rw [flush_12, idle_12]; simp only [← Bool.decide_and, ← Bool.decide_or]; congr 1; rw [eq_iff_iff]; omega) n h
theorem fresh_14 (n : ℕ) (h : n ≤ cfg0.N) : cfg0.fresh 14 n = decide (n = 0 ∨ n = 17) :=
  Cfg.fresh_tab cfg0 14 (fun n => decide (n = 0 ∨ n = 17)) rfl (fun t => by
    have := lt17 t; rw [flush_14, idle_14]; simp only [← Bool.decide_and, ← Bool.decide_or]; congr 1; rw [eq_iff_iff]; omega) n h
theorem fresh_15 (n : ℕ) (h : n ≤ cfg0.N) : cfg0.fresh 15 n = decide (n = 0 ∨ n = 17) :=
  Cfg.fresh_tab cfg0 15 (fun n => decide (n = 0 ∨ n = 17)) rfl (fun t => by
    have := lt17 t; rw [flush_15, idle_15, Bool.false_and, Bool.or_false]; congr 1; rw [eq_iff_iff]; omega) n h
theorem fresh_16 (n : ℕ) (h : n ≤ cfg0.N) : cfg0.fresh 16 n = true :=
  Cfg.fresh_tab cfg0 16 (fun _ => true) rfl (fun t => by
    have := lt17 t; rw [flush_16, idle_16, Bool.and_true, ← Bool.decide_or]; exact (decide_eq_true (by omega)).symm) n h
theorem fresh_17 (n : ℕ) (h : n ≤ cfg0.N) : cfg0.fresh 17 n = true :=
  Cfg.fresh_tab cfg0 17 (fun _ => true) rfl (fun t => by
    have := lt17 t; rw [flush_17, idle_17, Bool.and_true, ← Bool.decide_or]; exact (decide_eq_true (by omega)).symm) n h

/-! ## What the body finds -/

theorem before_12 (t : Fin cfg0.N) (h : t.val = 16) (d) : (dats m 0 c).before 12 t d = (after m c t.val).2.dz := by
  rw [Dat.before_out_traj _ 12 rfl (fun _ _ => rfl) (fun t h0 hi _ => ?_) t.val t rfl d, fresh_12 _ t.isLt.le, if_neg (by simp [h]), after_12]
  · have e : t.val - 1 + 1 = t.val := by omega
    show (after m c (t.val - 1 + 1)).2.dz = _
    rw [e]
  · rw [idle_12, decide_eq_true_iff] at hi
    rw [after_12, after_12, after_succ, (next_last m c t (by omega) _ _).1]
    have e : t.val - 1 + 1 = t.val := by omega
    show _ = (after m c (t.val - 1 + 1)).2.dz
    rw [e]
theorem before_14 (t : Fin cfg0.N) (h : t.val ≠ 0) (d) : (dats m 0 c).before 14 t d = (after m c t.val).1.dgv := by
  have := lt17 t
  rw [Dat.before_out_traj _ 14 rfl (fun _ _ => rfl) (fun t h0 hi _ => ?_) t.val t rfl d, fresh_14 _ t.isLt.le, if_neg (by simp; omega), after_14]
  · have e : t.val - 1 + 1 = t.val := by omega
    show (after m c (t.val - 1 + 1)).1.dgv = _
    rw [e]
  · rw [idle_14, decide_eq_true_iff] at hi
    rw [after_14, after_14, after_succ, (next_last m c t (by omega) _ (after m c t.val).2).2]
    have e : t.val - 1 + 1 = t.val := by omega
    show _ = (after m c (t.val - 1 + 1)).1.dgv
    rw [e]
theorem before_15 (t : Fin cfg0.N) (h : t.val ≠ 0) (d) : (dats m 0 c).before 15 t d = (after m c t.val).1.dw := by
  have := lt17 t
  rw [Dat.before_out_traj _ 15 rfl (fun _ _ => rfl) (fun t h0 hi _ => ?_) t.val t rfl d, fresh_15 _ t.isLt.le, if_neg (by simp; omega), after_15]
  · have e : t.val - 1 + 1 = t.val := by omega
    show (after m c (t.val - 1 + 1)).1.dw = _
    rw [e]
  · rw [idle_15] at hi; exact absurd hi Bool.false_ne_true
theorem before_16 (t : Fin cfg0.N) (d) : (dats m 0 c).before 16 t d = d := by
  rw [Dat.before_out_traj _ 16 rfl (fun _ _ => rfl) (fun t h0 hi hf => ?_) t.val t rfl d, if_pos (fresh_16 _ t.isLt.le)]
  rw [fresh_16 _ t.isLt.le] at hf; exact absurd hf.symm Bool.false_ne_true
theorem before_17 (t : Fin cfg0.N) (d) : (dats m 0 c).before 17 t d = d := by
  rw [Dat.before_out_traj _ 17 rfl (fun _ _ => rfl) (fun t h0 hi hf => ?_) t.val t rfl d, if_pos (fresh_17 _ t.isLt.le)]
  rw [fresh_17 _ t.isLt.le] at hf; exact absurd hf.symm Bool.false_ne_true

theorem before_0 (t : Fin cfg0.N) (d) : (dats m 0 c).before 0 t d = iblk m c 0 t := before0_0_of m (dats m 0 c) (A_eq m c 0) (after_0 m c) t d
theorem before_1 (t : Fin cfg0.N) (d) : (dats m 0 c).before 1 t d = X0_1 m c t := before0_1_of m (dats m 0 c) (A_eq m c 1) (after_1 m c) t d
theorem before_2 (t : Fin cfg0.N) (d) : (dats m 0 c).before 2 t d = iblk m c 2 t := before0_2_of m (dats m 0 c) (A_eq m c 2) (after_2 m c) t d
theorem before_3 (t : Fin cfg0.N) (d) : (dats m 0 c).before 3 t d = iblk m c 3 t := before0_3_of m (dats m 0 c) (A_eq m c 3) (after_3 m c) t d
theorem before_4 (t : Fin cfg0.N) (d) : (dats m 0 c).before 4 t d = iblk m c 4 t := before0_4_of m (dats m 0 c) (A_eq m c 4) (after_4 m c) t d
theorem before_5 (t : Fin cfg0.N) (d) : (dats m 0 c).before 5 t d = iblk m c 5 t := before0_5_of m (dats m 0 c) (A_eq m c 5) (after_5 m c) t d
theorem before_6 (t : Fin cfg0.N) (d) : (dats m 0 c).before 6 t d = iblk m c 6 t := before0_6_of m (dats m 0 c) (A_eq m c 6) (after_6 m c) t d
theorem before_7 (t : Fin cfg0.N) (d) : (dats m 0 c).before 7 t d = iblk m c 7 t := before0_7_of m (dats m 0 c) (A_eq m c 7) (after_7 m c) t d
theorem before_8 (t : Fin cfg0.N) (d) : (dats m 0 c).before 8 t d = iblk m c 8 t := before0_8_of m (dats m 0 c) (A_eq m c 8) (after_8 m c) t d
theorem before_9 (t : Fin cfg0.N) (d) : (dats m 0 c).before 9 t d = iblk m c 9 t := before0_9_of m (dats m 0 c) (A_eq m c 9) (after_9 m c) t d
theorem before_10 (t : Fin cfg0.N) (d) : (dats m 0 c).before 10 t d = iblk m c 10 t := before0_10_of m (dats m 0 c) (A_eq m c 10) (after_10 m c) t d
theorem before_11 (t : Fin cfg0.N) (d) : (dats m 0 c).before 11 t d = iblk m c 11 t := before0_11_of m (dats m 0 c) (A_eq m c 11) (after_11 m c) t d

/-! ## The body at a point -/

/-- A buffer at `X` is what the body may leave window `w`'s at: what the proof data says or, where the window is left
alone and not written back, what was found. -/
theorem leave (w : Fin cfg0.W) (t : Fin cfg0.N) (X)
    (h : cfg0.idle w (grid0.coords t) = true → (cfg0.win w).flush t = false → ∃ d, X = (dats m 0 c).before w t d)
    (h' : (cfg0.idle w (grid0.coords t) = true → (cfg0.win w).flush t = true) → X = (dats m 0 c).after w t) :
    (owns (c : Thread nD τ) ((cfg0.win w).stage (cfg0.slots t w)) fullShare X : sProp 𝕄) ⊢ (dats m 0 c).leavesExact w t := by
  unfold Dat.leavesExact
  cases hi : cfg0.idle w (grid0.coords t)
  · rw [h' (by rw [hi]; exact fun h => absurd h Bool.false_ne_true)]
  cases hf : (cfg0.win w).flush t
  · obtain ⟨d, rfl⟩ := h hi hf
    iintro H; iexists d; iexact H
  · rw [h' fun _ => hf]

/-- The body leaves every input's buffer as it found it. -/
theorem leave_in (w : Fin cfg0.W) (hw : w.val < 12) (t : Fin cfg0.N) (X) (hX : (dats m 0 c).after w t = X) :
    (owns (c : Thread nD τ) ((cfg0.win w).stage (cfg0.slots t w)) fullShare X : sProp 𝕄) ⊢ (dats m 0 c).leavesExact w t := by
  have hi : cfg0.idle w (grid0.coords t) = false := by
    obtain ⟨w, hw'⟩ := w
    have hw : w < 12 := hw
    interval_cases w <;> rfl
  exact leave m c w t X (fun h => absurd (hi.symm.trans h) Bool.false_ne_true) fun _ => hX.symm

theorem ins_of_owns (t : Fin cfg0.N) (x : Blocks F) :
    (iprop(owns (c : Thread nD τ) (ms0 t) fullShare x.zuv ∗ owns (c : Thread nD τ) (ms1 t) fullShare x.q ∗ owns (c : Thread nD τ) (ms2 t) fullShare x.kvc ∗ owns (c : Thread nD τ) (ms3 t) fullShare x.kvp ∗ owns (c : Thread nD τ) (ms4 t) fullShare x.gv ∗ owns (c : Thread nD τ) (ms5 t) fullShare x.w ∗ owns (c : Thread nD τ) (ms6 t) fullShare x.b ∗ owns (c : Thread nD τ) (ms7 t) fullShare x.bucket ∗ owns (c : Thread nD τ) (ms8 t) fullShare x.dmix ∗ owns (c : Thread nD τ) (ms9 t) fullShare x.tanh ∗ owns (c : Thread nD τ) (ms10 t) fullShare x.prob ∗ owns (c : Thread nD τ) (ms11 t) fullShare x.psink) : sProp 𝕄)
      ⊢ ins c (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) x := by
  unfold ins
  exact BIClass.sep_mono (pt_of_owns c _ _ _) (BIClass.sep_mono (pt_of_owns c _ _ _) (BIClass.sep_mono (pt_of_owns c _ _ _) (BIClass.sep_mono (pt_of_owns c _ _ _) (BIClass.sep_mono (pt_of_owns c _ _ _) (BIClass.sep_mono (pt_of_owns c _ _ _) (BIClass.sep_mono (pt_of_owns c _ _ _) (BIClass.sep_mono (pt_of_owns c _ _ _) (BIClass.sep_mono (pt_of_owns c _ _ _) (BIClass.sep_mono (pt_of_owns c _ _ _) (BIClass.sep_mono (pt_of_owns c _ _ _) (pt_of_owns c _ _ _)))))))))))

theorem owns_of_ins (t : Fin cfg0.N) (x : Blocks F) :
    (ins c (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) x : sProp 𝕄)
      ⊢ iprop(owns (c : Thread nD τ) (ms0 t) fullShare x.zuv ∗ owns (c : Thread nD τ) (ms1 t) fullShare x.q ∗ owns (c : Thread nD τ) (ms2 t) fullShare x.kvc ∗ owns (c : Thread nD τ) (ms3 t) fullShare x.kvp ∗ owns (c : Thread nD τ) (ms4 t) fullShare x.gv ∗ owns (c : Thread nD τ) (ms5 t) fullShare x.w ∗ owns (c : Thread nD τ) (ms6 t) fullShare x.b ∗ owns (c : Thread nD τ) (ms7 t) fullShare x.bucket ∗ owns (c : Thread nD τ) (ms8 t) fullShare x.dmix ∗ owns (c : Thread nD τ) (ms9 t) fullShare x.tanh ∗ owns (c : Thread nD τ) (ms10 t) fullShare x.prob ∗ owns (c : Thread nD τ) (ms11 t) fullShare x.psink) := by
  have h {sp : Space} {s : Shape} {e : EltTy} (a : Memref sig .tc sp s e) (h : a.IsWhole) (X : s.Idx → Elt F e) :
      (pt c a (h.unread X) : sProp 𝕄) ⊢ owns (c : Thread nD τ) a fullShare X := by
    conv_rhs => rw [← h.read_unread X]
    exact owns_of_pt c a _
  unfold ins
  exact BIClass.sep_mono (h _ _ _) (BIClass.sep_mono (h _ _ _) (BIClass.sep_mono (h _ _ _) (BIClass.sep_mono (h _ _ _) (BIClass.sep_mono (h _ _ _) (BIClass.sep_mono (h _ _ _) (BIClass.sep_mono (h _ _ _) (BIClass.sep_mono (h _ _ _) (BIClass.sep_mono (h _ _ _) (BIClass.sep_mono (h _ _ _) (BIClass.sep_mono (h _ _ _) (h _ _ _)))))))))))

theorem found_of_owns (t : Fin cfg0.N) (s : Sums F) (o : Plain F) :
    (iprop(owns (c : Thread nD τ) (ms12 t) fullShare o.dz ∗ owns (c : Thread nD τ) (ms13 t) fullShare o.dkv ∗ owns (c : Thread nD τ) (ms14 t) fullShare s.dgv ∗ owns (c : Thread nD τ) (ms15 t) fullShare s.dw ∗ owns (c : Thread nD τ) (ms16 t) fullShare o.db ∗ owns (c : Thread nD τ) (ms17 t) fullShare o.dtab ∗ owns (c : Thread nD τ) (Memref.whole cc0_scratch0) fullShare s.dbias ∗ owns (c : Thread nD τ) (Memref.whole cc0_scratch1) fullShare s.carry ∗ owns (c : Thread nD τ) (Memref.whole cc0_scratch2) fullShare s.dsink ∗ owns (c : Thread nD τ) (Memref.whole cc0_scratch3) fullShare s.dbs) : sProp 𝕄)
      ⊢ found c (ms12 t) (hs12 t) (ms13 t) (hs13 t) (ms14 t) (hs14 t) (ms15 t) (hs15 t) (ms16 t) (hs16 t) (ms17 t) (hs17 t) (Memref.whole cc0_scratch0) (Memref.isWhole_whole _) (Memref.whole cc0_scratch1) (Memref.isWhole_whole _) (Memref.whole cc0_scratch2) (Memref.isWhole_whole _) (Memref.whole cc0_scratch3) (Memref.isWhole_whole _) s o := by
  unfold found
  exact BIClass.sep_mono (pt_of_owns c _ _ _) (BIClass.sep_mono (pt_of_owns c _ _ _) (BIClass.sep_mono (pt_of_owns c _ _ _) (BIClass.sep_mono (pt_of_owns c _ _ _) (BIClass.sep_mono (pt_of_owns c _ _ _) (BIClass.sep_mono (pt_of_owns c _ _ _) (BIClass.sep_mono (pt_of_owns c _ _ _) (BIClass.sep_mono (pt_of_owns c _ _ _) (BIClass.sep_mono (pt_of_owns c _ _ _) (pt_of_owns c _ _ _)))))))))

theorem owns_of_stored (t : Fin cfg0.N) (s : Sums F) (o : Plain F) :
    (stored c (ms12 t) (hs12 t) (ms13 t) (hs13 t) (ms14 t) (hs14 t) (ms15 t) (hs15 t) (ms16 t) (hs16 t) (ms17 t) (hs17 t) (Memref.whole cc0_scratch0) (Memref.isWhole_whole _) (Memref.whole cc0_scratch1) (Memref.isWhole_whole _) (Memref.whole cc0_scratch2) (Memref.isWhole_whole _) (Memref.whole cc0_scratch3) (Memref.isWhole_whole _) s o (stores m c t s) : sProp 𝕄)
      ⊢ iprop(owns (c : Thread nD τ) (ms12 t) fullShare (next m c t s o).2.dz ∗ owns (c : Thread nD τ) (ms13 t) fullShare (next m c t s o).2.dkv ∗ owns (c : Thread nD τ) (ms14 t) fullShare (next m c t s o).1.dgv ∗ owns (c : Thread nD τ) (ms15 t) fullShare (next m c t s o).1.dw ∗ owns (c : Thread nD τ) (ms16 t) fullShare (next m c t s o).2.db ∗ owns (c : Thread nD τ) (ms17 t) fullShare (next m c t s o).2.dtab ∗ owns (c : Thread nD τ) (Memref.whole cc0_scratch0) fullShare (next m c t s o).1.dbias ∗ owns (c : Thread nD τ) (Memref.whole cc0_scratch1) fullShare (next m c t s o).1.carry ∗ owns (c : Thread nD τ) (Memref.whole cc0_scratch2) fullShare (next m c t s o).1.dsink ∗ owns (c : Thread nD τ) (Memref.whole cc0_scratch3) fullShare (next m c t s o).1.dbs) := by
  unfold stored next
  generalize stores m c t s = L
  dsimp only
  exact BIClass.sep_mono (owns_of_pt c _ _) (BIClass.sep_mono (owns_of_pt c _ _) (BIClass.sep_mono (owns_of_pt c _ _) (BIClass.sep_mono (owns_of_pt c _ _) (BIClass.sep_mono (owns_of_pt c _ _) (BIClass.sep_mono (owns_of_pt c _ _) (BIClass.sep_mono (owns_of_pt c _ _) (BIClass.sep_mono (owns_of_pt c _ _) (BIClass.sep_mono (owns_of_pt c _ _) (owns_of_pt c _ _)))))))))

theorem PhiA_eq : Pipeline.ΦA spec0 c = (iprop(iprop((∃ d, owns (c : Thread nD τ) (Memref.whole cc0_scratch0) fullShare d)
    ∗ (∃ d, owns (c : Thread nD τ) (Memref.whole cc0_scratch1) fullShare d) ∗ (∃ d, owns (c : Thread nD τ) (Memref.whole cc0_scratch2) fullShare d)
    ∗ (∃ d, owns (c : Thread nD τ) (Memref.whole cc0_scratch3) fullShare d)) ∗ (∃ r, prngReg c r)) : sProp 𝕄) := by
  unfold Pipeline.ΦA; rw [scopedRest0_eq]; simp only [owns_whole]; try rfl

/-- Before point `n` the scratch is at some contents, after the first point at the running sums. -/
theorem phi_open (n : ℕ) : (phi m c n : sProp 𝕄) ⊢ iprop(∃ s : Sums F, ⌜n ≠ 0 → s = (after m c n).1⌝ ∗ scratch c s ∗ (∃ r, prngReg c r)) := by
  cases n with
  | zero =>
    show (Pipeline.ΦA spec0 c : sProp 𝕄) ⊢ _
    rw [PhiA_eq]
    iintro ⟨⟨⟨%d0, H0⟩, ⟨%d1, H1⟩, ⟨%d2, H2⟩, ⟨%d3, H3⟩⟩, Hg⟩
    iexists ({ (anything : Sums F × Plain F).1 with dbias := d0, carry := d1, dsink := d2, dbs := d3 } : Sums F)
    isplitr
    · ipureintro; exact fun h => absurd rfl h
    unfold scratch
    isplitl [H0 H1 H2 H3]
    · isplitl [H0]; · iexact H0
      isplitl [H1]; · iexact H1
      isplitl [H2]; · iexact H2
      iexact H3
    iexact Hg
  | succ n =>
    show (iprop(scratch c (after m c (n + 1)).1 ∗ (∃ r, prngReg c r)) : sProp 𝕄) ⊢ _
    iintro ⟨Hs, Hg⟩
    iexists (after m c (n + 1)).1
    isplitr
    · ipureintro; exact fun _ => rfl
    isplitl [Hs]; · iexact Hs
    iexact Hg

theorem phi_succ (n : ℕ) : (phi m c (n + 1) : sProp 𝕄) = iprop(scratch c (after m c (n + 1)).1 ∗ (∃ r, prngReg c r)) := rfl

theorem phi_close (n : ℕ) : (phi m c n : sProp 𝕄) ⊢ Pipeline.ΦA spec0 c := by
  refine (phi_open m c n).trans ?_
  rw [PhiA_eq]
  unfold scratch
  iintro ⟨%s, -, ⟨H0, H1, H2, H3⟩, Hg⟩
  isplitl [H0 H1 H2 H3]
  · isplitl [H0]; · iexists _; iexact H0
    isplitl [H1]; · iexists _; iexact H1
    isplitl [H2]; · iexists _; iexact H2
    iexists _; iexact H3
  iexact Hg

set_option maxHeartbeats 4000000 in
/-- The body at any point, from what it finds to what it leaves. -/
theorem body (t : Fin cfg0.N) :
    (iprop(phi m c t.val ∗ (dats m 0 c).owesAt () t.castSucc ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d)) ∗ (∃ d, owns (c : Thread nD τ) (ms8 t) fullShare ((dats m 0 c).before 8 t d)) ∗ (∃ d, owns (c : Thread nD τ) (ms9 t) fullShare ((dats m 0 c).before 9 t d)) ∗ (∃ d, owns (c : Thread nD τ) (ms10 t) fullShare ((dats m 0 c).before 10 t d)) ∗ (∃ d, owns (c : Thread nD τ) (ms11 t) fullShare ((dats m 0 c).before 11 t d)) ∗ (∃ d, owns (c : Thread nD τ) (ms12 t) fullShare ((dats m 0 c).before 12 t d)) ∗ (∃ d, owns (c : Thread nD τ) (ms13 t) fullShare ((dats m 0 c).before 13 t d)) ∗ (∃ d, owns (c : Thread nD τ) (ms14 t) fullShare ((dats m 0 c).before 14 t d)) ∗ (∃ d, owns (c : Thread nD τ) (ms15 t) fullShare ((dats m 0 c).before 15 t d)) ∗ (∃ d, owns (c : Thread nD τ) (ms16 t) fullShare ((dats m 0 c).before 16 t d)) ∗ (∃ d, owns (c : Thread nD τ) (ms17 t) fullShare ((dats m 0 c).before 17 t d))) : sProp 𝕄)
      ⊢ wp frame (wpE (defs₀ (F := F)) Variants.none c none) Set.univ (bodyAt0 t) (fun _ =>
        iprop(phi m c (t.val + 1) ∗ (dats m 0 c).owesAt () t.castSucc ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t ∗ (dats m 0 c).leavesExact 13 t ∗ (dats m 0 c).leavesExact 14 t ∗ (dats m 0 c).leavesExact 15 t ∗ (dats m 0 c).leavesExact 16 t ∗ (dats m 0 c).leavesExact 17 t)) := by
  simp only [before_0, before_1, before_2, before_3, before_4, before_5, before_6, before_7, before_8, before_9, before_10, before_11, before_16, before_17]
  refine (sep_mono (phi_open m c t.val) .rfl).trans ?_
  rw [phi_succ]
  unfold bodyAt0 scratch
  iintro ⟨⟨%s, %hs, ⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  have hs' : t.val ≠ 0 → (⟨(dats m 0 c).before 14 t d14, (dats m 0 c).before 15 t d15, s.dbias, s.carry, s.dsink, s.dbs⟩ : Sums F) = (after m c t.val).1 := fun h => by
    rw [before_14 m c t h, before_15 m c t h, hs h]
  generalize hS : (⟨(dats m 0 c).before 14 t d14, (dats m 0 c).before 15 t d15, s.dbias, s.carry, s.dsink, s.dbs⟩ : Sums F) = S at hs'
  generalize hO : (⟨(dats m 0 c).before 12 t d12, (dats m 0 c).before 13 t d13, d16, d17⟩ : Plain F) = O
  have ho : t.val = 16 → O.dz = (after m c t.val).2.dz := fun h => by rw [← hO]; exact before_12 m c t h d12
  obtain ⟨e1, e2, e3, e4⟩ := next_agree m c t S (after m c t.val).1 O (after m c t.val).2 hs' ho
  rw [← after_succ] at e1 e2 e3 e4
  iapply (stores_runs m c t S O Set.univ _)
  isplitl [H0 H1 H2 H3 H4 H5 H6 H7 H8 H9 H10 H11]
  · iapply (ins_of_owns c t (blocks m c t))
    unfold blocks
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  isplitl [H12 H13 H14 H15 H16 H17 S0 S1 S2 S3]
  · iapply (found_of_owns c t S O)
    rw [← hS, ← hO]
    isplitl [H12]; · iexact H12
    isplitl [H13]; · iexact H13
    isplitl [H14]; · iexact H14
    isplitl [H15]; · iexact H15
    isplitl [H16]; · iexact H16
    isplitl [H17]; · iexact H17
    isplitl [S0]; · iexact S0
    isplitl [S1]; · iexact S1
    isplitl [S2]; · iexact S2
    iexact S3
  iintro ⟨HI, HO⟩
  ihave HI' := (owns_of_ins c t (blocks m c t)) $$ HI
  ihave HO' := (owns_of_stored m c t S O) $$ HO
  icases HI' with ⟨H0, H1, H2, H3, H4, H5, H6, H7, H8, H9, H10, H11⟩
  icases HO' with ⟨H12, H13, H14, H15, H16, H17, S0, S1, S2, S3⟩
  isplitl [S0 S1 S2 S3 Hg]
  · rw [← e1]
    isplitl [S0 S1 S2 S3]
    · isplitl [S0]; · iexact S0
      isplitl [S1]; · iexact S1
      isplitl [S2]; · iexact S2
      iexact S3
    iexact Hg
  isplitl [Ho]; · iexact Ho
  isplitl [H0]; · iapply (leave_in m c 0 (by decide) t _ (after_0 m c t)); iexact H0
  isplitl [H1]; · iapply (leave_in m c 1 (by decide) t _ (after_1 m c t)); iexact H1
  isplitl [H2]; · iapply (leave_in m c 2 (by decide) t _ (after_2 m c t)); iexact H2
  isplitl [H3]; · iapply (leave_in m c 3 (by decide) t _ (after_3 m c t)); iexact H3
  isplitl [H4]; · iapply (leave_in m c 4 (by decide) t _ (after_4 m c t)); iexact H4
  isplitl [H5]; · iapply (leave_in m c 5 (by decide) t _ (after_5 m c t)); iexact H5
  isplitl [H6]; · iapply (leave_in m c 6 (by decide) t _ (after_6 m c t)); iexact H6
  isplitl [H7]; · iapply (leave_in m c 7 (by decide) t _ (after_7 m c t)); iexact H7
  isplitl [H8]; · iapply (leave_in m c 8 (by decide) t _ (after_8 m c t)); iexact H8
  isplitl [H9]; · iapply (leave_in m c 9 (by decide) t _ (after_9 m c t)); iexact H9
  isplitl [H10]; · iapply (leave_in m c 10 (by decide) t _ (after_10 m c t)); iexact H10
  isplitl [H11]; · iapply (leave_in m c 11 (by decide) t _ (after_11 m c t)); iexact H11
  isplitl [H12]
  · iapply (leave m c 12 t _ (fun hi hf => absurd hf (by rw [idle_12, decide_eq_true_iff] at hi; rw [flush_12, hi]; decide)) fun _ => e2.trans (after_12 m c t).symm); iexact H12
  isplitl [H13]
  · iapply (leave m c 13 t _ (fun hi => absurd hi (by rw [idle_13]; exact Bool.false_ne_true)) fun _ => e3.trans (after_13 m c t).symm); iexact H13
  isplitl [H14]
  · iapply (leave m c 14 t _ (fun hi hf => absurd hf (by rw [idle_14, decide_eq_true_iff] at hi; rw [flush_14, hi]; decide)) fun _ => (congrArg Sums.dgv e1).trans (after_14 m c t).symm); iexact H14
  isplitl [H15]
  · iapply (leave m c 15 t _ (fun hi => absurd hi (by rw [idle_15]; exact Bool.false_ne_true)) fun _ => (congrArg Sums.dw e1).trans (after_15 m c t).symm); iexact H15
  isplitl [H16]
  · iapply (leave m c 16 t _ (fun hi _ => ⟨d16, by
      rw [idle_16, decide_eq_true_iff] at hi; rw [(next_early m c t hi S O).1, ← hO, before_16]⟩) fun h => (e4 (by
        have := lt17 t; rw [idle_16, flush_16, decide_eq_true_iff, decide_eq_true_iff] at h; omega)).1.trans (after_16 m c t).symm); iexact H16
  iapply (leave m c 17 t _ (fun hi _ => ⟨d17, by
    rw [idle_17, decide_eq_true_iff] at hi; rw [(next_early m c t hi S O).2, ← hO, before_17]⟩) fun h => (e4 (by
      have := lt17 t; rw [idle_17, flush_17, decide_eq_true_iff, decide_eq_true_iff] at h; omega)).2.trans (after_17 m c t).symm); iexact H17

/-! ## The launch -/

theorem row (t : Fin cfg0.N) : defs₀ (F := F) .tc cfg0.body (cfg0.bodyArgs t (cfg0.slots t)) = bodyAt0 t := by
  unfold defs₀; rw [Defs.onTc_tc]

theorem obligation : BodyObligation (dats (F := F) m 0 c) (defs₀ (F := F)) Variants.none () Set.univ := fun t => by
  rw [bigSep_W0, bigSep_W0, row]
  exact triple_restated (body m c t) rfl .rfl fun _ => .rfl

theorem leaves_scratch : (dats m 0 c).Φ (Fin.last cfg0.N) ⊢ Pipeline.ΦA spec0 c := by
  show (phi m c cfg0.N : sProp 𝕄) ⊢ _
  exact phi_close m c _

set_option backward.isDefEq.respectTransparency.types false in
/-- The whole launch ends with every array at what the points wrote back and every counter at zero. -/
theorem run : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m)
    (hin := fun c => .rfl) (hout := leaves_scratch m)

/-- The launch leaves the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.Proof.Mixer

end
-- ==== Proof.MixerBits.lean ====
module

public import proofs.«01_k».proof.Proof.MixerFrame
public import proofs.«01_k».proof.Defs
public import proofs.«01_k».proof.Proof.Gen.Kernel3

@[expose] public section

set_option maxRecDepth 65536

/-!
# The mixer's backward kernel at its own number format

The program and its idealized text differ in one constant, which the idealized text names. Where that name stands for
the constant's own bits the two texts are one, and the run of the idealized text is the run of the program.
-/

noncomputable section

namespace Cert.Proof.Mixer

open Idealize.ShloMosaic Idealize.ShloMosaic.TcCoe Idealize.ShloMosaic.Tactic Idealize.SL.Sem

/-- The constant's name read as its bits. -/
@[reducible] def written : Named Bits where
  named _ _ {φ} bits := Scalar.ofBits φ bits

attribute [local instance] written

/-- The program runs, leaves its arguments as they were and ends with every counter at zero. -/
theorem frame_written : Cert.quiescent_Kernel3 := fun m ρ _ => Eq.mpr (by sl_kernel_rfl) (frame (F := Bits) m ρ)

end Cert.Proof.Mixer

end
-- ==== Proof.MixerMath.lean ====
/- The mixer's gated half as functions of its arguments, and its gradient. -/
module

public import proofs.«01_k».proof.Proof.RmsGrad

@[expose] public section

/-!
# The gated half of the mixer

The columns `z` of the projection go through the gelu; the second half of them is normed in groups of 128 columns, mixed
along a chunk of 128 rows by a lower triangular matrix, and multiplies the first half. Here are these values, the
gradients, and the two facts that the comparison needs: all of it is real when the arguments are, and the derivative of
the gelu is one factor.
-/

noncomputable section

namespace Cert.Mixer

open Idealize.ShloMosaic

/-- The arguments: the first 1024 columns of the projection, the norm's weight, the spatial weights and their bias, and
the cotangent of the gated half. -/
structure Args where
  z : Fin 2048 → Fin 1024 → EReal
  gv : Fin 512 → EReal
  w : Fin 4 → Fin 128 → Fin 128 → EReal
  b : Fin 4 → Fin 128 → EReal
  ct : Fin 2048 → Fin 512 → EReal

/-- Column `d` of group `g`. -/
abbrev lane (g : Fin 4) (d : Fin 128) : Fin 512 := ⟨g.val * 128 + d.val, by omega⟩
/-- The column of the first half. -/
abbrev low (j : Fin 512) : Fin 1024 := ⟨j.val, by omega⟩
/-- The column of the second half. -/
abbrev high (j : Fin 512) : Fin 1024 := ⟨512 + j.val, by omega⟩
/-- Row `s` of chunk `n`. -/
abbrev row (n : Fin 16) (s : Fin 128) : Fin 2048 := ⟨n.val * 128 + s.val, by omega⟩

/-! ## The gelu -/

/-- The factor inside the hyperbolic tangent. -/
abbrev root : EReal := ((6693141 / 8388608 : ℝ) : EReal)
/-- The factor of the cube. -/
abbrev cubic : EReal := Ideal.div ((44715 : ℝ) : EReal) ((1000000 : ℝ) : EReal)
abbrev half : EReal := ((1 / 2 : ℝ) : EReal)

def th (x : EReal) : EReal := Ideal.tanh (root * (x + cubic * (x * x * x)))
def cdf (x : EReal) : EReal := half * (1 + th x)
def gelu (x : EReal) : EReal := x * cdf x
/-- The derivative. -/
def slope (x : EReal) : EReal :=
  cdf x + half * x * (1 - th x * th x) * (root * (1 + ((26829 / 200000 : ℝ) : EReal) * (x * x)))

/-! ## The values and the gradients -/

variable (a : Args)

def u (r : Fin 2048) (j : Fin 512) : EReal := gelu (a.z r (low j))
def v (r : Fin 2048) (j : Fin 512) : EReal := gelu (a.z r (high j))
def meanSq (r : Fin 2048) (g : Fin 4) : EReal :=
  Ideal.div (∑ d, v a r (lane g d) * v a r (lane g d)) ((128 : ℝ) : EReal) + ((8796093 / 8796093022208 : ℝ) : EReal)
def scale (r : Fin 2048) (g : Fin 4) : EReal := Ideal.rsqrt (meanSq a r g)
def vhat (r : Fin 2048) (g : Fin 4) (d : Fin 128) : EReal := v a r (lane g d) * scale a r g
def vn (r : Fin 2048) (g : Fin 4) (d : Fin 128) : EReal := vhat a r g d * a.gv (lane g d)
def wt (g : Fin 4) (t s : Fin 128) : EReal := if s ≤ t then a.w g t s else 0
def sv (n : Fin 16) (t : Fin 128) (g : Fin 4) (d : Fin 128) : EReal := (∑ s, vn a (row n s) g d * wt a g t s) + a.b g t

def dsv (n : Fin 16) (t : Fin 128) (g : Fin 4) (d : Fin 128) : EReal := u a (row n t) (lane g d) * a.ct (row n t) (lane g d)
def dvn (n : Fin 16) (s : Fin 128) (g : Fin 4) (d : Fin 128) : EReal := ∑ t, dsv a n t g d * wt a g t s
def du (n : Fin 16) (t : Fin 128) (g : Fin 4) (d : Fin 128) : EReal := a.ct (row n t) (lane g d) * sv a n t g d
/-- The cotangent of the normed row, before the norm's weight is taken off. -/
def dhat (n : Fin 16) (s : Fin 128) (g : Fin 4) (d : Fin 128) : EReal := dvn a n s g d * a.gv (lane g d)
/-- The row's product of cotangent and element. -/
def along (n : Fin 16) (s : Fin 128) (g : Fin 4) : EReal := ∑ d, v a (row n s) (lane g d) * dhat a n s g d
def dv (n : Fin 16) (s : Fin 128) (g : Fin 4) (d : Fin 128) : EReal :=
  scale a (row n s) g * dhat a n s g d
    - v a (row n s) (lane g d) * (scale a (row n s) g * scale a (row n s) g * scale a (row n s) g * Ideal.div (along a n s g) ((128 : ℝ) : EReal))

def dzLow (n : Fin 16) (t : Fin 128) (g : Fin 4) (d : Fin 128) : EReal := du a n t g d * slope (a.z (row n t) (low (lane g d)))
def dzHigh (n : Fin 16) (t : Fin 128) (g : Fin 4) (d : Fin 128) : EReal := dv a n t g d * slope (a.z (row n t) (high (lane g d)))
/-- One chunk's part of the bias's gradient, of the spatial weights' and of the norm weight's. -/
def dbPart (n : Fin 16) (g : Fin 4) (t : Fin 128) : EReal := ∑ d, dsv a n t g d
def dwPart (n : Fin 16) (g : Fin 4) (t s : Fin 128) : EReal := ∑ d, dsv a n t g d * vn a (row n s) g d
def dgvPart (n : Fin 16) (g : Fin 4) (d : Fin 128) : EReal := ∑ s, dvn a n s g d * vhat a (row n s) g d

/-! ## Real arguments give real values -/

/-- The value is a real number. -/
def IsReal (x : EReal) : Prop := ∃ r : ℝ, x = (r : EReal)

namespace IsReal
variable {x y : EReal}

theorem coe (r : ℝ) : IsReal (r : EReal) := ⟨r, rfl⟩
theorem one : IsReal 1 := ⟨1, rfl⟩
theorem zero : IsReal 0 := ⟨0, rfl⟩
theorem add (hx : IsReal x) (hy : IsReal y) : IsReal (x + y) := by
  obtain ⟨x, rfl⟩ := hx; obtain ⟨y, rfl⟩ := hy; exact ⟨x + y, (EReal.coe_add x y).symm⟩
theorem sub (hx : IsReal x) (hy : IsReal y) : IsReal (x - y) := by
  obtain ⟨x, rfl⟩ := hx; obtain ⟨y, rfl⟩ := hy; exact ⟨x - y, (EReal.coe_sub x y).symm⟩
theorem mul (hx : IsReal x) (hy : IsReal y) : IsReal (x * y) := by
  obtain ⟨x, rfl⟩ := hx; obtain ⟨y, rfl⟩ := hy; exact ⟨x * y, (EReal.coe_mul x y).symm⟩
theorem sum {ι : Type*} (s : Finset ι) {f : ι → EReal} (h : ∀ i ∈ s, IsReal (f i)) : IsReal (∑ i ∈ s, f i) :=
  Finset.sum_induction f IsReal (fun _ _ => add) zero h
theorem div {r : ℝ} (hr : 0 < r) (hx : IsReal x) : IsReal (Ideal.div x (r : EReal)) := by
  rw [RmsGrad.div_pos_coe hr]; exact hx.mul (coe _)
theorem tanh (hx : IsReal x) : IsReal (Ideal.tanh x) := by
  obtain ⟨x, rfl⟩ := hx; exact ⟨Real.tanh x, rfl⟩
theorem ite {p : Prop} [Decidable p] (hx : IsReal x) (hy : IsReal y) : IsReal (if p then x else y) := by
  split <;> assumption
end IsReal

theorem cubic_eq : cubic = ((44715 * (1 / 1000000) : ℝ) : EReal) := by
  rw [cubic, RmsGrad.div_pos_coe (by norm_num), ← EReal.coe_mul]

theorem th_real {x : EReal} (h : IsReal x) : IsReal (th x) := by
  rw [th, cubic_eq]
  exact ((IsReal.coe _).mul (h.add ((IsReal.coe _).mul ((h.mul h).mul h)))).tanh
theorem gelu_real {x : EReal} (h : IsReal x) : IsReal (gelu x) := h.mul ((IsReal.coe _).mul (IsReal.one.add (th_real h)))

/-- The chain rule through the gelu, whose derivative the reference takes term by term. -/
theorem through_gelu {x d : EReal} (hx : IsReal x) (hd : IsReal d) :
    (d * cdf x + root * (half * (x * d) * ((1 + th x) * (1 - th x))))
      + cubic * (root * (half * (x * d) * ((1 + th x) * (1 - th x)))) * (((3 : ℝ) : EReal) * (x * x)) = d * slope x := by
  unfold slope cdf
  rw [cubic_eq]
  obtain ⟨t, ht⟩ := th_real hx
  rw [ht]
  obtain ⟨x, rfl⟩ := hx
  obtain ⟨d, rfl⟩ := hd
  rw [← EReal.coe_one]
  simp only [← EReal.coe_mul, ← EReal.coe_add, ← EReal.coe_sub]
  congr 1
  ring

/-- All the arguments are real. -/
structure Args.Real : Prop where
  z : ∀ r k, IsReal (a.z r k)
  gv : ∀ j, IsReal (a.gv j)
  w : ∀ g t s, IsReal (a.w g t s)
  b : ∀ g t, IsReal (a.b g t)
  ct : ∀ r j, IsReal (a.ct r j)

variable {a} (h : a.Real)
include h

theorem u_real (r : Fin 2048) (j : Fin 512) : IsReal (u a r j) := gelu_real (h.z _ _)
theorem v_real (r : Fin 2048) (j : Fin 512) : IsReal (v a r j) := gelu_real (h.z _ _)
theorem wt_real (g : Fin 4) (t s : Fin 128) : IsReal (wt a g t s) := (h.w _ _ _).ite .zero
theorem scale_real (r : Fin 2048) (g : Fin 4) : IsReal (scale a r g) := by
  obtain ⟨y, hy⟩ := v_real h r (lane g 0)
  unfold scale meanSq
  rcases RmsGrad.mean_cases (fun d => v a r (lane g d)) 0 (N := 128) (e := 8796093 / 8796093022208) (by norm_num) (by norm_num) with h' | ⟨s, _, hs, h', _⟩
  · rw [h']; exact ⟨0, rfl⟩
  · rw [h', RmsGrad.rsqrt_sq hs]; exact .coe _
theorem vn_real (r : Fin 2048) (g : Fin 4) (d : Fin 128) : IsReal (vn a r g d) := ((v_real h _ _).mul (scale_real h _ _)).mul (h.gv _)
theorem dsv_real (n : Fin 16) (t : Fin 128) (g : Fin 4) (d : Fin 128) : IsReal (dsv a n t g d) := (u_real h _ _).mul (h.ct _ _)
theorem dhat_real (n : Fin 16) (s : Fin 128) (g : Fin 4) (d : Fin 128) : IsReal (dhat a n s g d) :=
  (IsReal.sum _ fun _ _ => (dsv_real h _ _ _ _).mul (wt_real h _ _ _)).mul (h.gv _)
theorem du_real (n : Fin 16) (t : Fin 128) (g : Fin 4) (d : Fin 128) : IsReal (du a n t g d) :=
  (h.ct _ _).mul ((IsReal.sum _ fun _ _ => (vn_real h _ _ _).mul (wt_real h _ _ _)).add (h.b _ _))
theorem dv_real (n : Fin 16) (s : Fin 128) (g : Fin 4) (d : Fin 128) : IsReal (dv a n s g d) :=
  ((scale_real h _ _).mul (dhat_real h _ _ _ _)).sub ((v_real h _ _).mul
    ((((scale_real h _ _).mul (scale_real h _ _)).mul (scale_real h _ _)).mul
      (IsReal.div (by norm_num) (IsReal.sum _ fun _ _ => (v_real h _ _).mul (dhat_real h _ _ _ _)))))

omit h in
/-- The gradient through the norm, as the chain rule writes it. -/
theorem dv_chain (n : Fin 16) (s : Fin 128) (g : Fin 4) (d : Fin 128) :
    dhat a n s g d * scale a (row n s) g
      + v a (row n s) (lane g d) * Ideal.div (along a n s g * (((-(1 / 2) : ℝ) : EReal) * Ideal.div (scale a (row n s) g) (meanSq a (row n s) g))) ((128 : ℝ) : EReal)
      + Ideal.div (along a n s g * (((-(1 / 2) : ℝ) : EReal) * Ideal.div (scale a (row n s) g) (meanSq a (row n s) g))) ((128 : ℝ) : EReal) * v a (row n s) (lane g d)
      = dv a n s g d := by
  unfold dv
  rw [sub_eq_add_neg]
  unfold scale
  rw [RmsGrad.through_scale (fun d => v a (row n s) (lane g d)) d (N := 128) (by norm_num) (e := 8796093 / 8796093022208) (by norm_num) (along a n s g) (meanSq a (row n s) g) rfl,
    mul_comm (dhat a n s g d), add_assoc]

end Cert.Mixer

end
-- ==== Proof.MixerGroup.lean ====
/- One group of 128 columns in the mixer's backward kernel: the stages the body runs through, and their values. -/
module

public import proofs.«01_k».proof.Proof.Gen.Kernel3Ideal.Skeleton
public import proofs.«01_k».proof.Proof.MixerMath
public import Idealize.ShloMosaic.Lib.Pipeline.ValueKit
public import Idealize.ShloMosaic.Lib.Claim
public import proofs.«01_k».proof.Proof.Gen.Kernel3Ideal

@[expose] public section

set_option maxRecDepth 16384

noncomputable section

open Idealize.ShloMosaic Idealize.ShloMosaic.TcCoe

namespace Cert.Kernel3Ideal.Value
open Cert.Kernel3Ideal Cert.Kernel3Ideal.Gen Cert.Mixer

/-- What the body has of one group: the gelu's two halves and their derivatives, the cotangent, and the group's norm
weight, spatial weights and bias. -/
structure Group where
  v : FVec Ideal S128x128 .f32
  u : FVec Ideal S128x128 .f32
  slopeLow : FVec Ideal S128x128 .f32
  slopeHigh : FVec Ideal S128x128 .f32
  ct : FVec Ideal S128x128 .f32
  gv : FVec Ideal S1x128 .f32
  w : FVec Ideal S1x128x128 .f32
  b : FVec Ideal S1x128x1 .f32

namespace Group
variable (i : Group)

def scale : FVec Ideal S128x1 .f32 :=
  rsqrt (addf (divf (shapeCast S128x1 (multiReduction .add [1] S128 (mulf i.v i.v) 0x00000000#32 reduces_S128x128_S128 (.inl rfl) rfl) shapeCasts_S128_S128x1) (broadcast S128x1 (Scalar.ofBits .f32 0x43000000#32 : Ideal .f32))) (broadcast S128x1 (Scalar.ofBits .f32 0x358637BD#32 : Ideal .f32)))
def hat : FVec Ideal S128x128 .f32 := mulf i.v (broadcastTo S128x128 i.scale broadcasts_S128x1_S128x128)
def normed : FVec Ideal S128x128 .bf16 := truncf .bf16 (mulf i.hat (broadcastTo S128x128 i.gv broadcasts_S1x128_S128x128)) bitsLt_bf16_f32
/-- The spatial weights below the diagonal. -/
def lower : FVec Ideal S128x128 .bf16 := k0_pay26 i.w
def mixed : FVec Ideal S128x128 .f32 :=
  addf (matmul dot_S128x128_S128x128_S128x128_1_0_0_1_n_n none i.lower i.normed (constant S128x128 .f32 0x00000000#32)) (broadcastTo S128x128 (shapeCast S128x1 i.b shapeCasts_S1x128x1_S128x1) broadcasts_S128x1_S128x128)
def dmixed : FVec Ideal S128x128 .f32 := mulf (k0_pay28 i.ct) i.u
def dmixedB : FVec Ideal S128x128 .bf16 := truncf .bf16 i.dmixed bitsLt_bf16_f32
def dnormed : FVec Ideal S128x128 .f32 := k0_pay33 i.lower i.dmixedB
def along : FVec Ideal S128x128 .f32 := k0_pay35 i.gv i.lower i.dmixedB
/-- What the body stores for the group: the three sums, added to what it found, and the two parts of the gradient of the projection. -/
def db (old : FVec Ideal S1x128x1 .f32) : FVec Ideal S1x128x1 .f32 := k0_pay31 i.dmixed old
@[inherit_doc db] def dw (old : FVec Ideal S1x128x128 .f32) : FVec Ideal S1x128x128 .f32 := k0_pay32 i.normed i.dmixedB old
@[inherit_doc db] def dgv (old : FVec Ideal S1x128 .f32) : FVec Ideal S1x128 .f32 := k0_pay34 i.hat i.lower i.dmixedB old
@[inherit_doc db] def dzLow : FVec Ideal S128x128 .bf16 := truncf .bf16 (mulf (mulf (k0_pay28 i.ct) i.mixed) i.slopeLow) bitsLt_bf16_f32
@[inherit_doc db] def dzHigh : FVec Ideal S128x128 .bf16 :=
  truncf .bf16 (mulf (subf (k0_pay36 i.scale i.gv i.lower i.dmixedB) (k0_pay37 i.v i.scale i.gv i.lower i.dmixedB)) i.slopeHigh) bitsLt_bf16_f32

/-- The group's inputs are those of group `g` of chunk `n`. -/
structure Of (a : Args) (n : Fin 16) (g : Fin 4) : Prop where
  v : ∀ s d, i.v (ix2 s d) = Mixer.v a (row n s) (lane g d)
  u : ∀ s d, i.u (ix2 s d) = Mixer.u a (row n s) (lane g d)
  slopeLow : ∀ s d, i.slopeLow (ix2 s d) = Mixer.slope (a.z (row n s) (low (lane g d)))
  slopeHigh : ∀ s d, i.slopeHigh (ix2 s d) = Mixer.slope (a.z (row n s) (high (lane g d)))
  ct : ∀ s d, i.ct (ix2 s d) = a.ct (row n s) (lane g d)
  gv : ∀ d, i.gv (ix2 0 d) = a.gv (lane g d)
  w : ∀ t s, i.w (ix3 0 t s) = a.w g t s
  b : ∀ t, i.b (ix3 0 t 0) = a.b g t

theorem bits_128 : Ideal.ofBits .f32 0x43000000#32 = ((128 : ℝ) : EReal) := by simp [Ideal.ofBits, Ideal.ieee, -EReal.coe_mul]; norm_num
theorem bits_eps : Ideal.ofBits .f32 0x358637BD#32 = ((8796093 / 8796093022208 : ℝ) : EReal) := by simp [Ideal.ofBits, Ideal.ieee, -EReal.coe_mul]; norm_num

theorem below : ∀ t s : Fin 128, IntOp.cmpi CmpIPredicate.sle (BitVec.ofNat 32 s.val) (BitVec.ofNat 32 t.val) = if s ≤ t then 1#1 else 0#1 := by
  decide +kernel

variable {i} {a : Args} {n : Fin 16} {g : Fin 4} (h : i.Of a n g)
include h

theorem scale_at (s : Fin 128) : i.scale (ix2 s 0) = Mixer.scale a (row n s) g := by
  have e : i.scale (ix2 s 0) = Ideal.rsqrt (Ideal.div (∑ d, i.v (ix2 s d) * i.v (ix2 s d)) (Ideal.ofBits .f32 0x43000000#32) + Ideal.ofBits .f32 0x358637BD#32) := by
    unfold scale
    pointwise []
  rw [e, bits_128, bits_eps]
  simp only [h.v]
  rfl

theorem hat_at (s d : Fin 128) : i.hat (ix2 s d) = Mixer.vhat a (row n s) g d := by
  have e : i.hat (ix2 s d) = i.v (ix2 s d) * i.scale (ix2 s 0) := by
    unfold hat
    generalize i.scale = p
    pointwise []
  rw [e, h.v, scale_at h]
  rfl

theorem normed_at (s d : Fin 128) : i.normed (ix2 s d) = Mixer.vn a (row n s) g d := by
  have e : i.normed (ix2 s d) = i.hat (ix2 s d) * i.gv (ix2 0 d) := by
    unfold normed
    generalize i.hat = p
    pointwise []
  rw [e, h.gv, hat_at h]
  rfl

theorem lower_at (t s : Fin 128) : i.lower (ix2 t s) = Mixer.wt a g t s := by
  have e : i.lower (ix2 t s) = if s ≤ t then i.w (ix3 0 t s) else 0 := by
    unfold lower
    pointwise [k0_pay26]
    rw [below, Scalar.select]
    by_cases hst : s ≤ t <;> simp [hst]
  rw [e, h.w]
  rfl

theorem mixed_at (t d : Fin 128) : i.mixed (ix2 t d) = Mixer.sv a n t g d := by
  have e : i.mixed (ix2 t d) = (∑ s, i.lower (ix2 t s) * i.normed (ix2 s d)) + i.b (ix3 0 t 0) := by
    unfold mixed
    generalize i.lower = p
    generalize i.normed = q
    pointwise []
  rw [e, h.b]
  simp only [lower_at h, normed_at h, mul_comm (Mixer.wt _ _ _ _)]
  rfl

theorem dmixed_at (t d : Fin 128) : i.dmixed (ix2 t d) = Mixer.dsv a n t g d := by
  have e : i.dmixed (ix2 t d) = i.ct (ix2 t d) * i.u (ix2 t d) := by
    unfold dmixed
    pointwise [k0_pay28]
  rw [e, h.ct, h.u, mul_comm]
  rfl

theorem dmixedB_at (t d : Fin 128) : i.dmixedB (ix2 t d) = Mixer.dsv a n t g d := by
  rw [← dmixed_at h]
  unfold dmixedB
  generalize i.dmixed = p
  pointwise []

theorem dnormed_at (s d : Fin 128) : i.dnormed (ix2 s d) = Mixer.dvn a n s g d := by
  have e : i.dnormed (ix2 s d) = ∑ t, i.lower (ix2 t s) * i.dmixedB (ix2 t d) := by
    unfold dnormed
    generalize i.lower = p
    generalize i.dmixedB = q
    pointwise [k0_pay33]
  rw [e]
  simp only [lower_at h, dmixedB_at h, mul_comm (Mixer.wt _ _ _ _)]
  rfl

theorem along_at (s d : Fin 128) : i.along (ix2 s d) = Mixer.dhat a n s g d := by
  have e : i.along (ix2 s d) = i.dnormed (ix2 s d) * i.gv (ix2 0 d) := by
    unfold along dnormed
    generalize hp : k0_pay33 i.lower i.dmixedB = p
    pointwise [k0_pay35, hp]
  rw [e, dnormed_at h, h.gv]
  rfl

theorem db_at (old : FVec Ideal S1x128x1 .f32) (t : Fin 128) : i.db old (ix3 0 t 0) = HAdd.hAdd (α := EReal) (β := EReal) (γ := EReal) (old (ix3 0 t 0)) (Mixer.dbPart a n g t) := by
  have e : i.db old (ix3 0 t 0) = old (ix3 0 t 0) + ∑ d, i.dmixed (ix2 t d) := by
    unfold db
    generalize i.dmixed = p
    pointwise [k0_pay31]
  rw [e]
  simp only [dmixed_at h]
  rfl

theorem dw_at (old : FVec Ideal S1x128x128 .f32) (t s : Fin 128) : i.dw old (ix3 0 t s) = HAdd.hAdd (α := EReal) (β := EReal) (γ := EReal) (old (ix3 0 t s)) (Mixer.dwPart a n g t s) := by
  have e : i.dw old (ix3 0 t s) = old (ix3 0 t s) + ∑ d, i.dmixedB (ix2 t d) * i.normed (ix2 s d) := by
    unfold dw
    generalize i.dmixedB = p
    generalize i.normed = q
    pointwise [k0_pay32]
  rw [e]
  simp only [dmixedB_at h, normed_at h]
  rfl

theorem dgv_at (old : FVec Ideal S1x128 .f32) (d : Fin 128) : i.dgv old (ix2 0 d) = HAdd.hAdd (α := EReal) (β := EReal) (γ := EReal) (old (ix2 0 d)) (Mixer.dgvPart a n g d) := by
  have e : i.dgv old (ix2 0 d) = old (ix2 0 d) + ∑ s, i.dnormed (ix2 s d) * i.hat (ix2 s d) := by
    unfold dgv dnormed
    generalize i.hat = q
    generalize hp : k0_pay33 i.lower i.dmixedB = p
    pointwise [k0_pay34, hp]
  rw [e]
  simp only [dnormed_at h, hat_at h]
  rfl

theorem dzLow_at (t d : Fin 128) : i.dzLow (ix2 t d) = Mixer.dzLow a n t g d := by
  have e : i.dzLow (ix2 t d) = i.ct (ix2 t d) * i.mixed (ix2 t d) * i.slopeLow (ix2 t d) := by
    unfold dzLow
    generalize i.mixed = p
    pointwise [k0_pay28]
  rw [e, h.ct, mixed_at h, h.slopeLow]
  rfl

theorem dzHigh_at (s d : Fin 128) : i.dzHigh (ix2 s d) = Mixer.dzHigh a n s g d := by
  have e : i.dzHigh (ix2 s d) = (i.scale (ix2 s 0) * i.along (ix2 s d)
      - i.v (ix2 s d) * (i.scale (ix2 s 0) * i.scale (ix2 s 0) * i.scale (ix2 s 0) * Ideal.div (∑ k, i.along (ix2 s k) * i.v (ix2 s k)) (Ideal.ofBits .f32 0x43000000#32)))
      * i.slopeHigh (ix2 s d) := by
    unfold dzHigh along
    generalize hp : k0_pay35 i.gv i.lower i.dmixedB = p
    generalize i.scale = q
    pointwise [k0_pay36, k0_pay37, hp]
  rw [e, h.slopeHigh, scale_at h, bits_128]
  simp only [along_at h, h.v, mul_comm (Mixer.dhat _ _ _ _ _) (Mixer.v _ _ _)]
  rfl

end Group
end Cert.Kernel3Ideal.Value

end
-- ==== Proof.MixerArrays.lean ====
/- The arrays the host gives the mixer's backward kernel. -/
module

public import proofs.«01_k».proof.Proof.Gen.Kernel3Ideal.Frame
public import proofs.«01_k».proof.Proof.MixerMath
public import Idealize.ShloMosaic.Lib.Pipeline.ValueKit
public import Idealize.ShloMosaic.Lib.Claim
public import proofs.«01_k».proof.Proof.Gen.Kernel3Ideal

@[expose] public section

set_option maxRecDepth 16384

noncomputable section

open Idealize.ShloMosaic Idealize.ShloMosaic.TcCoe Idealize.SL.Sem
open Idealize.ShloMosaic.Pipeline (Dat)

namespace Cert.Kernel3Ideal.Value
open Cert.Kernel3Ideal Cert.Kernel3Ideal.Gen Cert.Mixer
variable (m : (ℓ : Loc nD τ sig) → Buf (Elt Ideal) ℓ) (c : Dev nD)

/-- The arguments as the kernel is given them. -/
def args : Args where
  z r k := (m ((c.tc : Thread nD τ).loc main_arg0) : FVec Ideal S1x2048x1792 .f32) (ix3 0 r ⟨k.val, by omega⟩)
  gv j := (m ((c.tc : Thread nD τ).loc main_arg1) : FVec Ideal S1x512 .f32) (ix2 0 j)
  w g t s := (m ((c.tc : Thread nD τ).loc main_arg2) : FVec Ideal S1x4x128x128 .f32) (ix4 0 g t s)
  b g t := (m ((c.tc : Thread nD τ).loc main_arg3) : FVec Ideal S1x4x128 .f32) (ix3 0 g t)
  ct r j := (m ((c.tc : Thread nD τ).loc main_arg6) : FVec Ideal S1x2048x1024 .f32) (ix3 0 r ⟨j.val, by omega⟩)

theorem arr_zuv : V m c main_v2 = shapeCast S2048x1024 (extractStridedSlice S1x2048x1024 ![0, 0, 0] (m ((c.tc : Thread nD τ).loc main_arg0) : FVec Ideal S1x2048x1792 .f32) slices_S1x2048x1792_S1x2048x1024_0_0_0) shapeCasts_S1x2048x1024_S2048x1024 := by
  sl_kernel_rfl

theorem arr_w : V m c main_v122 = shapeCast S4x128x128 (m ((c.tc : Thread nD τ).loc main_arg2) : FVec Ideal S1x4x128x128 .f32) shapeCasts_S1x4x128x128_S4x128x128 := by
  sl_kernel_rfl

theorem arr_b : V m c main_v0 = shapeCast S4x128x1 (m ((c.tc : Thread nD τ).loc main_arg3) : FVec Ideal S1x4x128 .f32) shapeCasts_S1x4x128_S4x128x1 := by
  sl_kernel_rfl

theorem arr_dmix : V m c main_v6 = shapeCast S2048x1024 (m ((c.tc : Thread nD τ).loc main_arg6) : FVec Ideal S1x2048x1024 .f32) shapeCasts_S1x2048x1024_S2048x1024 := by
  sl_kernel_rfl

/-- The hyperbolic tangents the forward pass saved, as the host computes them. -/
def saved (x : FVec Ideal S2048x1024 .f32) : FVec Ideal S2048x1024 .f32 :=
  Host.tanh (mulf (broadcastInDim S2048x1024 ![] bcast_S_S2048x1024 (constant S_ .f32 0x3F4C422A#32)) (addf x (mulf (broadcastInDim S2048x1024 ![] bcast_S_S2048x1024 (Host.divf (constant S_ .f32 0x472EAB00#32) (constant S_ .f32 0x49742400#32))) (mulf (mulf x x) x))))

theorem arr_tanh : V m c main_v17 = saved (V m c main_v2) := by
  sl_kernel_rfl

end Cert.Kernel3Ideal.Value

end
-- ==== Proof.MixerBlocks.lean ====
/- What the mixer's backward kernel reads at each point: its blocks of the arguments. -/
module

public import proofs.«01_k».proof.Proof.MixerArrays
public import proofs.«01_k».proof.Proof.Gen.Kernel3Ideal.Frame
public import proofs.«01_k».proof.Proof.MixerMath
public import Idealize.ShloMosaic.Lib.Pipeline.ValueKit
public import Idealize.ShloMosaic.Lib.Claim
public import proofs.«01_k».proof.Proof.Gen.Kernel3Ideal

@[expose] public section

set_option maxRecDepth 16384

noncomputable section

open Idealize.ShloMosaic Idealize.ShloMosaic.TcCoe Idealize.SL.Sem
open Idealize.ShloMosaic.Pipeline (Dat)

namespace Cert.Kernel3Ideal.Value
open Cert.Kernel3Ideal Cert.Kernel3Ideal.Gen Cert.Mixer
variable (m : (ℓ : Loc nD τ sig) → Buf (Elt Ideal) ℓ) (c : Dev nD)

theorem idx : ∀ t : Fin cfg0.N, win0_0.index t = ![min t.val 15, 0] ∧ win0_4.index t = ![0, 0] ∧ win0_5.index t = ![0, 0, 0]
    ∧ win0_6.index t = ![0, 0, 0] ∧ win0_8.index t = ![min t.val 15, 0] ∧ win0_9.index t = ![min t.val 15, 0] :=
  (by decide +kernel : ∀ t : Fin grid0.N, _)

theorem bits_root : Ideal.ofBits .f32 0x3F4C422A#32 = root := by
  simp [Ideal.ofBits, Ideal.ieee, -EReal.coe_mul]; norm_num
theorem bits_44715 : Ideal.ofBits .f32 0x472EAB00#32 = ((44715 : ℝ) : EReal) := by
  simp [Ideal.ofBits, Ideal.ieee, -EReal.coe_mul]; norm_num
theorem bits_million : Ideal.ofBits .f32 0x49742400#32 = ((1000000 : ℝ) : EReal) := by
  simp [Ideal.ofBits, Ideal.ieee, -EReal.coe_mul]; norm_num

theorem zuv_at (r : Fin 2048) (k : Fin 1024) : (V m c main_v2 : FVec Ideal S2048x1024 .f32) (ix2 r k) = (args m c).z r k := by
  rw [arr_zuv]
  pointwise []
  rfl

theorem saved_at (x : FVec Ideal S2048x1024 .f32) (r : Fin 2048) (k : Fin 1024) (o : EReal) (ho : x (ix2 r k) = o) : saved x (ix2 r k) = th o := by
  subst ho
  pointwise [saved]
  simp only [bits_root, bits_44715, bits_million]
  rfl

theorem drop_row {x : FVec Ideal S1x2048x1024 .f32} (r : Fin 2048) (k : Fin 1024) : shapeCast S2048x1024 x shapeCasts_S1x2048x1024_S2048x1024 (ix2 r k) = x (ix3 0 r k) := by
  pointwise []
theorem drop_w {x : FVec Ideal S1x4x128x128 .f32} (g : Fin 4) (r s : Fin 128) : shapeCast S4x128x128 x shapeCasts_S1x4x128x128_S4x128x128 (ix3 g r s) = x (ix4 0 g r s) := by
  pointwise []
theorem drop_b {x : FVec Ideal S1x4x128 .f32} (g : Fin 4) (r : Fin 128) : shapeCast S4x128x1 x shapeCasts_S1x4x128_S4x128x1 (ix3 g r 0) = x (ix3 0 g r) := by
  pointwise []

theorem dmix_at (r : Fin 2048) (k : Fin 512) : (V m c main_v6 : FVec Ideal S2048x1024 .f32) (ix2 r (low k)) = (args m c).ct r k := by
  rw [arr_dmix]
  exact drop_row r (low k)

theorem w_at (g : Fin 4) (r s : Fin 128) : (V m c main_v122 : FVec Ideal S4x128x128 .f32) (ix3 g r s) = (args m c).w g r s := by
  rw [arr_w]
  exact drop_w g r s

theorem b_at (g : Fin 4) (r : Fin 128) : (V m c main_v0 : FVec Ideal S4x128x1 .f32) (ix3 g r 0) = (args m c).b g r := by
  rw [arr_b]
  exact drop_b g r

variable (t : Fin cfg0.N) (n : Fin 16) (hn : t.val = n.val)
include hn

theorem idx_n : win0_0.index t = ![n.val, 0] ∧ win0_8.index t = ![n.val, 0] ∧ win0_9.index t = ![n.val, 0] := by
  have hm : min t.val 15 = n.val := by omega
  obtain ⟨h0, -, -, -, h8, h9⟩ := idx t
  rw [hm] at h0 h8 h9
  exact ⟨h0, h8, h9⟩

theorem emb_rows {w : FVec Ideal S2048x1024 .f32} (r : Fin 128) (k : Fin 1024) : w ((win0_0.blk t).view.emb (ix2 r k)) = w (ix2 (row n r) k) := by
  refine congrArg w (funext fun a => Fin.ext ?_)
  have h := (idx_n t n hn).1
  match a with
  | ⟨0, _⟩ => show win0_0.index t 0 * 128 + 1 * r.val = n.val * 128 + r.val; rw [h]; show n.val * 128 + 1 * r.val = _; omega
  | ⟨1, _⟩ => show win0_0.index t 1 * 1024 + 1 * k.val = k.val; rw [h]; show 0 * 1024 + 1 * k.val = _; omega

theorem blk_zuv (r : Fin 128) (k : Fin 1024) : iblk m c 0 t (ix2 r k) = (args m c).z (row n r) k := by
  rw [← zuv_at]
  exact emb_rows t n hn (w := V m c main_v2) r k

theorem blk_tanh (r : Fin 128) (k : Fin 1024) : iblk m c 9 t (ix2 r k) = th ((args m c).z (row n r) k) := by
  refine Eq.trans ?_ ((congrFun (arr_tanh m c) _).trans (saved_at (V m c main_v2) (row n r) k _ (zuv_at m c _ _)))
  show (V m c main_v17 : FVec Ideal S2048x1024 .f32) ((win0_9.blk t).view.emb (ix2 r k)) = _
  refine congrArg (V m c main_v17 : FVec Ideal S2048x1024 .f32) (funext fun a => Fin.ext ?_)
  have h := (idx_n t n hn).2.2
  match a with
  | ⟨0, _⟩ => show win0_9.index t 0 * 128 + 1 * r.val = n.val * 128 + r.val; rw [h]; show n.val * 128 + 1 * r.val = _; omega
  | ⟨1, _⟩ => show win0_9.index t 1 * 1024 + 1 * k.val = k.val; rw [h]; show 0 * 1024 + 1 * k.val = _; omega

theorem blk_dmix (r : Fin 128) (k : Fin 512) : iblk m c 8 t (ix2 r (low k)) = (args m c).ct (row n r) k := by
  rw [← dmix_at]
  show (V m c main_v6 : FVec Ideal S2048x1024 .f32) ((win0_8.blk t).view.emb (ix2 r (low k))) = _
  refine congrArg (V m c main_v6 : FVec Ideal S2048x1024 .f32) (funext fun a => Fin.ext ?_)
  have h := (idx_n t n hn).2.1
  match a with
  | ⟨0, _⟩ => show win0_8.index t 0 * 128 + 1 * r.val = n.val * 128 + r.val; rw [h]; show n.val * 128 + 1 * r.val = _; omega
  | ⟨1, _⟩ => show win0_8.index t 1 * 1024 + 1 * k.val = k.val; rw [h]; show 0 * 1024 + 1 * k.val = _; omega

omit hn

theorem blk_gv (j : Fin 512) : iblk m c 4 t (ix2 0 j) = (args m c).gv j := by
  blk_point [iblk, V, idx t, args]

theorem blk_w (g : Fin 4) (r s : Fin 128) : iblk m c 5 t (ix3 g r s) = (args m c).w g r s := by
  rw [← w_at]
  show (V m c main_v122 : FVec Ideal S4x128x128 .f32) ((win0_5.blk t).view.emb (ix3 g r s)) = _
  refine congrArg (V m c main_v122 : FVec Ideal S4x128x128 .f32) (funext fun a => Fin.ext ?_)
  have h := (idx t).2.2.1
  match a with
  | ⟨0, _⟩ => show win0_5.index t 0 * 4 + 1 * g.val = g.val; rw [h]; show 0 * 4 + 1 * g.val = _; omega
  | ⟨1, _⟩ => show win0_5.index t 1 * 128 + 1 * r.val = r.val; rw [h]; show 0 * 128 + 1 * r.val = _; omega
  | ⟨2, _⟩ => show win0_5.index t 2 * 128 + 1 * s.val = s.val; rw [h]; show 0 * 128 + 1 * s.val = _; omega

theorem blk_b (g : Fin 4) (r : Fin 128) : iblk m c 6 t (ix3 g r 0) = (args m c).b g r := by
  rw [← b_at]
  show (V m c main_v0 : FVec Ideal S4x128x1 .f32) ((win0_6.blk t).view.emb (ix3 g r 0)) = _
  refine congrArg (V m c main_v0 : FVec Ideal S4x128x1 .f32) (funext fun a => Fin.ext ?_)
  have h := (idx t).2.2.2.1
  match a with
  | ⟨0, _⟩ => show win0_6.index t 0 * 4 + 1 * g.val = g.val; rw [h]; show 0 * 4 + 1 * g.val = _; omega
  | ⟨1, _⟩ => show win0_6.index t 1 * 128 + 1 * r.val = r.val; rw [h]; show 0 * 128 + 1 * r.val = _; omega
  | ⟨2, _⟩ => show win0_6.index t 2 * 1 + 1 * 0 = 0; rw [h]; rfl

end Cert.Kernel3Ideal.Value

end
-- ==== Proof.MixerStores.lean ====
/- What each point of the mixer's backward kernel stores for the gated half, group by group. -/
module

public import proofs.«01_k».proof.Proof.MixerFrame
public import proofs.«01_k».proof.Proof.MixerGroup
public import proofs.«01_k».proof.Proof.MixerBlocks
public import Idealize.ShloMosaic.Lib.Pipeline.ReadBack

@[expose] public section

set_option maxRecDepth 16384

noncomputable section

open Idealize.ShloMosaic Idealize.ShloMosaic.TcCoe Idealize.ShloMosaic.Tactic Idealize.SL.Sem

/-! ## Stores in four parts -/

namespace Cert.Proof.Mixer.Parts
variable {sig : RefSig} {κ : Kind} {sp : Space} {s : Shape} {e : EltTy} {Val : EltTy → Type}
  (v : View sig κ sp s e) (f : v.ty.Contents Val)

/-- A store that the later ones leave alone is read back. -/
theorem read_under : ∀ (A : List (View.Piece Val s e)) (r : Rect s) (w : r.shape.Idx → Val e) (L : List (View.Piece Val s e)) (x : r.shape.Idx)
    (hA : ∀ q ∈ A, r.emb x ∉ q.1.set), v.read Val (v.writes Val f (A ++ ⟨r, w⟩ :: L)) (r.emb x) = w x
  | [], r, w, L, x, _ => View.read_writes_cons_emb v f r w L x
  | q :: A, r, w, L, x, hA => by
    have h : r.emb x ∉ Finset.univ.map q.1.emb := by rw [Rect.map_emb_univ]; exact hA q (.head _)
    rw [List.cons_append, View.writes_cons, View.read_slice_write_of_not_mem q.1 _ _ _ h]
    exact read_under A r w L x fun q hq => hA q (.tail _ hq)

variable (r : Fin 4 → Rect s)

/-- The stores `w` at the four rectangles, over the stores `L`. -/
def parts (w : ∀ g, (r g).shape.Idx → Val e) (L : List (View.Piece Val s e)) : List (View.Piece Val s e) :=
  ⟨r 3, w 3⟩ :: ⟨r 2, w 2⟩ :: ⟨r 1, w 1⟩ :: ⟨r 0, w 0⟩ :: L

theorem read_parts (hr : ∀ g g', g ≠ g' → Disjoint (r g).set (r g').set) (w : ∀ g, (r g).shape.Idx → Val e) (L : List (View.Piece Val s e))
    (g : Fin 4) (x : (r g).shape.Idx) : v.read Val (v.writes Val f (parts r w L)) ((r g).emb x) = w g x := by
  have out (g' : Fin 4) (h : g ≠ g') : (r g).emb x ∉ (r g').set := Finset.disjoint_left.mp (hr g g' h) ((r g).idx_mem x)
  match g, x, out with
  | 3, x, out => exact read_under v f [] (r 3) (w 3) _ x (by simp)
  | 2, x, out => exact read_under v f [⟨r 3, w 3⟩] (r 2) (w 2) _ x (by simpa using out 3 (by decide))
  | 1, x, out => exact read_under v f [⟨r 3, w 3⟩, ⟨r 2, w 2⟩] (r 1) (w 1) _ x (by simpa using ⟨out 3 (by decide), out 2 (by decide)⟩)
  | 0, x, out => exact read_under v f [⟨r 3, w 3⟩, ⟨r 2, w 2⟩, ⟨r 1, w 1⟩] (r 0) (w 0) _ x (by simpa using ⟨out 3 (by decide), out 2 (by decide), out 1 (by decide)⟩)

variable [∀ e, Nonempty (Val e)] (k : ∀ g, ((r g).shape.Idx → Val e) → (r g).shape.Idx → Val e) (L : List (View.Piece Val s e))

/-- The four stores of a point that reads each part after the stores before it. -/
def started : ∀ g : Fin 4, (r g).shape.Idx → Val e
  | 0 => k 0 (v.readCov L (r 0).toLoadRect)
  | 1 => k 1 (v.readCov (⟨r 0, k 0 (v.readCov L (r 0).toLoadRect)⟩ :: L) (r 1).toLoadRect)
  | 2 => k 2 (v.readCov (⟨r 1, k 1 (v.readCov (⟨r 0, k 0 (v.readCov L (r 0).toLoadRect)⟩ :: L) (r 1).toLoadRect)⟩
      :: ⟨r 0, k 0 (v.readCov L (r 0).toLoadRect)⟩ :: L) (r 2).toLoadRect)
  | 3 => k 3 (v.readCov (⟨r 2, k 2 (v.readCov (⟨r 1, k 1 (v.readCov (⟨r 0, k 0 (v.readCov L (r 0).toLoadRect)⟩ :: L) (r 1).toLoadRect)⟩
      :: ⟨r 0, k 0 (v.readCov L (r 0).toLoadRect)⟩ :: L) (r 2).toLoadRect)⟩
      :: ⟨r 1, k 1 (v.readCov (⟨r 0, k 0 (v.readCov L (r 0).toLoadRect)⟩ :: L) (r 1).toLoadRect)⟩
      :: ⟨r 0, k 0 (v.readCov L (r 0).toLoadRect)⟩ :: L) (r 3).toLoadRect)

theorem started_eq (hr : ∀ g g', g ≠ g' → Disjoint (r g).set (r g').set) (g : Fin 4) :
    started v r k L g = k g (v.readCov L (r g).toLoadRect) := by
  have skip (g g' : Fin 4) (h : g ≠ g') (w : (r g).shape.Idx → Val e) (M : List (View.Piece Val s e)) :
      v.readCov (⟨r g, w⟩ :: M) (r g').toLoadRect = v.readCov M (r g').toLoadRect :=
    View.readCov_cons_of_disjoint v ⟨r g, w⟩ M (r g').toLoadRect (hr g g' h)
  match g with
  | 0 => rfl
  | 1 => rw [started, skip 0 1 (by decide)]
  | 2 => rw [started, skip 1 2 (by decide), skip 0 2 (by decide)]
  | 3 => rw [started, skip 2 3 (by decide), skip 1 3 (by decide), skip 0 3 (by decide)]

omit [∀ e, Nonempty (Val e)] in
/-- A load of a whole buffer at `X`, at an index. -/
theorem load_at (a : Memref sig κ sp s e) (h : a.IsWhole) (X : s.Idx → Val e) {off size : Fin s.rank → ℕ} (inb) (x) (y : s.Idx)
    (hy : ∀ k, (y k).val = off k + (x k).val) : View.readAt Val a.view (Rect.unit off size inb).toLoadRect (h.unread X) x = X y := by
  rw [View.readAt_eq_ld, h.read_unread]
  exact congrArg X (funext fun k => Fin.ext (by show off k + 1 * (x k).val = _; rw [hy]; omega))

end Cert.Proof.Mixer.Parts

namespace Cert.Proof.Mixer
open Cert.Kernel3Ideal Cert.Kernel3Ideal.Gen Cert.Kernel3Ideal.Value Cert.Mixer Parts

variable (m : (ℓ : Loc nD τ sig) → Buf (Elt Ideal) ℓ) (c : Dev nD) (t : Fin cfg0.N)

/-! ## A group's inputs at a point -/

theorem inb_ct : ∀ g : Fin 4, ∀ a, (![0, g.val * 128] : Fin 2 → ℕ) a + S128x128.size a ≤ S128x1024.size a := by decide
theorem inb_gv : ∀ g : Fin 4, ∀ a, (![0, g.val * 128] : Fin 2 → ℕ) a + S1x128.size a ≤ S1x512.size a := by decide
theorem inb_w : ∀ g : Fin 4, ∀ a, (![g.val, 0, 0] : Fin 3 → ℕ) a + S1x128x128.size a ≤ S4x128x128.size a := by decide
theorem inb_b : ∀ g : Fin 4, ∀ a, (![g.val, 0, 0] : Fin 3 → ℕ) a + S1x128x1.size a ≤ S4x128x1.size a := by decide
theorem slices : ∀ g : Fin 4, S128x512.Slices ![0, g.val * 128] S128x128 := by decide

abbrev rCt (g : Fin 4) : Rect S128x1024 := Rect.unit ![0, g.val * 128] S128x128.size (inb_ct g)
abbrev rGv (g : Fin 4) : Rect S1x512 := Rect.unit ![0, g.val * 128] S1x128.size (inb_gv g)
abbrev rW (g : Fin 4) : Rect S4x128x128 := Rect.unit ![g.val, 0, 0] S1x128x128.size (inb_w g)
abbrev rB (g : Fin 4) : Rect S4x128x1 := Rect.unit ![g.val, 0, 0] S1x128x1.size (inb_b g)
abbrev rLow : Rect S128x1024 := Rect.unit ![0, 0] S128x512.size inb_S128x1024_S128x512_0_0
abbrev rHigh : Rect S128x1024 := Rect.unit ![0, 512] S128x512.size inb_S128x1024_S128x512_0_512

def zLow : FVec Ideal S128x512 .f32 := View.readAt (Elt Ideal) (ms0 t).view rLow.toLoadRect ((hs0 t).unread (iblk m c 0 t))
def zHigh : FVec Ideal S128x512 .f32 := View.readAt (Elt Ideal) (ms0 t).view rHigh.toLoadRect ((hs0 t).unread (iblk m c 0 t))
def thLow : FVec Ideal S128x512 .f32 := View.readAt (Elt Ideal) (ms9 t).view rLow.toLoadRect ((hs9 t).unread (iblk m c 9 t))
def thHigh : FVec Ideal S128x512 .f32 := View.readAt (Elt Ideal) (ms9 t).view rHigh.toLoadRect ((hs9 t).unread (iblk m c 9 t))

/-- Group `g` of 512 columns. -/
def cols (g : Fin 4) (x : FVec Ideal S128x512 .f32) : FVec Ideal S128x128 .f32 := extractStridedSlice S128x128 ![0, g.val * 128] x (slices g)

def slopeLow : FVec Ideal S128x512 .f32 := k0_pay14 (zLow m c t) (thLow m c t)
def slopeHigh : FVec Ideal S128x512 .f32 :=
  k0_pay21 (k0_pay17 (thHigh m c t)) (k0_pay19 (zHigh m c t) (thHigh m c t)) (k0_pay20 (zHigh m c t)) (Named.named κ "gelu_3a" 0x3E095D4F#32)

/-- Group `g` as the body has it at point `t`. -/
def group (g : Fin 4) : Group where
  v := cols g (k0_pay18 (zHigh m c t) (thHigh m c t))
  u := cols g (k0_pay13 (zLow m c t) (thLow m c t))
  slopeLow := cols g (slopeLow m c t)
  slopeHigh := cols g (slopeHigh m c t)
  ct := View.readAt (Elt Ideal) (ms8 t).view (rCt g).toLoadRect ((hs8 t).unread (iblk m c 8 t))
  gv := View.readAt (Elt Ideal) (ms4 t).view (rGv g).toLoadRect ((hs4 t).unread (iblk m c 4 t))
  w := View.readAt (Elt Ideal) (ms5 t).view (rW g).toLoadRect ((hs5 t).unread (iblk m c 5 t))
  b := View.readAt (Elt Ideal) (ms6 t).view (rB g).toLoadRect ((hs6 t).unread (iblk m c 6 t))

theorem cols_at (g : Fin 4) (x : FVec Ideal S128x512 .f32) (s d : Fin 128) : cols g x (ix2 s d) = x (ix2 s (lane g d)) := by
  unfold cols
  pointwise []

section Values
variable {t} {n : Fin 16} (hn : t.val = n.val)
include hn

theorem zLow_at (s : Fin 128) (j : Fin 512) : zLow m c t (ix2 s j) = (args m c).z (Cert.Mixer.row n s) (low j) := by
  rw [← blk_zuv m c t n hn]
  exact load_at (ms0 t) (hs0 t) _ _ _ _ fun a => match a with
    | ⟨0, _⟩ => (Nat.zero_add _).symm
    | ⟨1, _⟩ => (Nat.zero_add _).symm
theorem zHigh_at (s : Fin 128) (j : Fin 512) : zHigh m c t (ix2 s j) = (args m c).z (Cert.Mixer.row n s) (high j) := by
  rw [← blk_zuv m c t n hn]
  exact load_at (ms0 t) (hs0 t) _ _ _ _ fun a => match a with
    | ⟨0, _⟩ => (Nat.zero_add _).symm
    | ⟨1, _⟩ => rfl
theorem thLow_at (s : Fin 128) (j : Fin 512) : thLow m c t (ix2 s j) = th ((args m c).z (Cert.Mixer.row n s) (low j)) := by
  rw [← blk_tanh m c t n hn]
  exact load_at (ms9 t) (hs9 t) _ _ _ _ fun a => match a with
    | ⟨0, _⟩ => (Nat.zero_add _).symm
    | ⟨1, _⟩ => (Nat.zero_add _).symm
theorem thHigh_at (s : Fin 128) (j : Fin 512) : thHigh m c t (ix2 s j) = th ((args m c).z (Cert.Mixer.row n s) (high j)) := by
  rw [← blk_tanh m c t n hn]
  exact load_at (ms9 t) (hs9 t) _ _ _ _ fun a => match a with
    | ⟨0, _⟩ => (Nat.zero_add _).symm
    | ⟨1, _⟩ => rfl

omit hn in
theorem bits_half : Ideal.ofBits .f32 0x3F000000#32 = half := by simp [Ideal.ofBits, Ideal.ieee, -EReal.coe_mul]; norm_num

omit hn in
theorem named_factor : (Named.named κ "gelu_3a" 0x3E095D4F#32 : Ideal .f32) = ((26829 / 200000 : ℝ) : EReal) := rfl

theorem group_of (g : Fin 4) : (group m c t g).Of (args m c) n g where
  v s d := by
    refine Eq.trans (b := cols g (k0_pay18 (zHigh m c t) (thHigh m c t)) (ix2 s d)) rfl ((cols_at g _ s d).trans ?_)
    pointwise [k0_pay18, k0_pay15, k0_pay17, k0_pay16]
    rw [zHigh_at m c hn, thHigh_at m c hn, bits_half]
    rfl
  u s d := by
    refine Eq.trans (b := cols g (k0_pay13 (zLow m c t) (thLow m c t)) (ix2 s d)) rfl ((cols_at g _ s d).trans ?_)
    pointwise [k0_pay13, k0_pay10, k0_pay12, k0_pay11]
    rw [zLow_at m c hn, thLow_at m c hn, bits_half]
    rfl
  slopeLow s d := by
    refine Eq.trans (b := cols g (slopeLow m c t) (ix2 s d)) rfl ((cols_at g _ s d).trans ?_)
    unfold slopeLow
    pointwise [k0_pay14, k0_pay10, k0_pay12, k0_pay11]
    rw [zLow_at m c hn, thLow_at m c hn, bits_half, bits_root, named_factor]
    rfl
  slopeHigh s d := by
    refine Eq.trans (b := cols g (slopeHigh m c t) (ix2 s d)) rfl ((cols_at g _ s d).trans ?_)
    unfold slopeHigh
    pointwise [k0_pay21, k0_pay17, k0_pay19, k0_pay20, k0_pay15, k0_pay16]
    rw [zHigh_at m c hn, thHigh_at m c hn, bits_half, bits_root, named_factor]
    rfl
  ct s d := by
    rw [← blk_dmix m c t n hn]
    exact load_at (ms8 t) (hs8 t) _ _ _ _ fun a => match a with
      | ⟨0, _⟩ => (Nat.zero_add _).symm
      | ⟨1, _⟩ => rfl
  gv d := by
    rw [← blk_gv m c t]
    exact load_at (ms4 t) (hs4 t) _ _ _ _ fun a => match a with
      | ⟨0, _⟩ => rfl
      | ⟨1, _⟩ => rfl
  w s d := by
    rw [← blk_w m c t]
    exact load_at (ms5 t) (hs5 t) _ _ _ _ fun a => match a with
      | ⟨0, _⟩ => rfl
      | ⟨1, _⟩ => (Nat.zero_add _).symm
      | ⟨2, _⟩ => (Nat.zero_add _).symm
  b s := by
    rw [← blk_b m c t]
    exact load_at (ms6 t) (hs6 t) _ _ _ _ fun a => match a with
      | ⟨0, _⟩ => rfl
      | ⟨1, _⟩ => (Nat.zero_add _).symm
      | ⟨2, _⟩ => rfl

end Values

/-! ## The stores -/

theorem first_dgv (h : t.val = 0) : (first m c t h).1.dgv
    = parts rGv (started (Val := Elt Ideal) (e := .f32) (ms14 t).view rGv (fun g old => (group m c t g).dgv old) [⟨Rect.unit ![0, 0] ![1, 512] inb_S1x512_S1x512_0_0, (k0_pay4 (F := Ideal) : FVec Ideal S1x512 .f32)⟩])
      [⟨Rect.unit ![0, 0] ![1, 512] inb_S1x512_S1x512_0_0, (k0_pay4 (F := Ideal) : FVec Ideal S1x512 .f32)⟩] := by
  sl_kernel_rfl

theorem middle_dgv (h : t.val ≠ 0) (h' : t.val < 16) (s : Sums Ideal) : (middle m c t h h' s).1.dgv
    = parts rGv (fun g => (group m c t g).dgv (View.readAt (Elt Ideal) (ms14 t).view (rGv g).toLoadRect ((hs14 t).unread s.dgv))) [] := by
  sl_kernel_rfl

theorem first_dw (h : t.val = 0) : (first m c t h).1.dw
    = parts rW (started (Val := Elt Ideal) (e := .f32) (ms15 t).view rW (fun g old => (group m c t g).dw old) [⟨Rect.unit ![0, 0, 0] ![4, 128, 128] inb_S4x128x128_S4x128x128_0_0_0, (k0_pay5 (F := Ideal) : FVec Ideal S4x128x128 .f32)⟩])
      [⟨Rect.unit ![0, 0, 0] ![4, 128, 128] inb_S4x128x128_S4x128x128_0_0_0, (k0_pay5 (F := Ideal) : FVec Ideal S4x128x128 .f32)⟩] := by
  sl_kernel_rfl

theorem middle_dw (h : t.val ≠ 0) (h' : t.val < 16) (s : Sums Ideal) : (middle m c t h h' s).1.dw
    = parts rW (fun g => (group m c t g).dw (View.readAt (Elt Ideal) (ms15 t).view (rW g).toLoadRect ((hs15 t).unread s.dw))) [] := by
  sl_kernel_rfl

theorem first_dbs (h : t.val = 0) : (first m c t h).1.dbs
    = parts rB (started (Val := Elt Ideal) (e := .f32) (Memref.whole cc0_scratch3).view rB (fun g old => (group m c t g).db old) [⟨Rect.unit ![0, 0, 0] ![4, 128, 1] inb_S4x128x1_S4x128x1_0_0_0, (k0_pay6 (F := Ideal) : FVec Ideal S4x128x1 .f32)⟩])
      [⟨Rect.unit ![0, 0, 0] ![4, 128, 1] inb_S4x128x1_S4x128x1_0_0_0, (k0_pay6 (F := Ideal) : FVec Ideal S4x128x1 .f32)⟩] := by
  sl_kernel_rfl

theorem middle_dbs (h : t.val ≠ 0) (h' : t.val < 16) (s : Sums Ideal) : (middle m c t h h' s).1.dbs
    = parts rB (fun g => (group m c t g).db (View.readAt (Elt Ideal) (Memref.whole cc0_scratch3).view (rB g).toLoadRect ((Memref.isWhole_whole cc0_scratch3).unread s.dbs))) [] := by
  sl_kernel_rfl

end Cert.Proof.Mixer

end
-- ==== Proof.MixerSums.lean ====
/- What the mixer's backward kernel leaves after every point: the running sums, the last point's results and the rows of the projection's gradient. -/
module

public import proofs.«01_k».proof.Proof.MixerStores

@[expose] public section

set_option maxRecDepth 16384

noncomputable section

open Idealize.ShloMosaic Idealize.ShloMosaic.TcCoe Idealize.ShloMosaic.Tactic Idealize.SL.Sem

namespace Cert.Proof.Mixer
open Cert.Kernel3Ideal Cert.Kernel3Ideal.Gen Cert.Kernel3Ideal.Value Cert.Mixer Parts

variable (m : (ℓ : Loc nD τ sig) → Buf (Elt Ideal) ℓ) (c : Dev nD) (t : Fin cfg0.N)

/-! ## The rectangles -/

theorem apart_gv (g g' : Fin 4) (h : g ≠ g') : Disjoint (rGv g).set (rGv g').set :=
  Finset.disjoint_left.mpr fun y hy hy' => h (Fin.ext (by
    have a := Rect.mem_set_unit.mp hy 1
    have b := Rect.mem_set_unit.mp hy' 1
    have a1 : g.val * 128 ≤ (y 1).val ∧ (y 1).val < g.val * 128 + 128 := a
    have b1 : g'.val * 128 ≤ (y 1).val ∧ (y 1).val < g'.val * 128 + 128 := b
    omega))
theorem apart_w (g g' : Fin 4) (h : g ≠ g') : Disjoint (rW g).set (rW g').set :=
  Finset.disjoint_left.mpr fun y hy hy' => h (Fin.ext (by
    have a : g.val ≤ (y 0).val ∧ (y 0).val < g.val + 1 := Rect.mem_set_unit.mp hy 0
    have b : g'.val ≤ (y 0).val ∧ (y 0).val < g'.val + 1 := Rect.mem_set_unit.mp hy' 0
    omega))
theorem apart_b (g g' : Fin 4) (h : g ≠ g') : Disjoint (rB g).set (rB g').set :=
  Finset.disjoint_left.mpr fun y hy hy' => h (Fin.ext (by
    have a : g.val ≤ (y 0).val ∧ (y 0).val < g.val + 1 := Rect.mem_set_unit.mp hy 0
    have b : g'.val ≤ (y 0).val ∧ (y 0).val < g'.val + 1 := Rect.mem_set_unit.mp hy' 0
    omega))

theorem emb_gv (g : Fin 4) (d : Fin 128) : (rGv g).emb (ix2 0 d) = (ix2 0 (lane g d) : S1x512.Idx) := funext fun a => Fin.ext (match a with
  | ⟨0, _⟩ => rfl
  | ⟨1, _⟩ => by show g.val * 128 + 1 * d.val = g.val * 128 + d.val; omega)
theorem emb_w (g : Fin 4) (r s : Fin 128) : (rW g).emb (ix3 0 r s) = (ix3 g r s : S4x128x128.Idx) := funext fun a => Fin.ext (match a with
  | ⟨0, _⟩ => by show g.val + 1 * 0 = g.val; omega
  | ⟨1, _⟩ => by show 0 + 1 * r.val = r.val; omega
  | ⟨2, _⟩ => by show 0 + 1 * s.val = s.val; omega)
theorem emb_b (g : Fin 4) (r : Fin 128) : (rB g).emb (ix3 0 r 0) = (ix3 g r 0 : S4x128x1.Idx) := funext fun a => Fin.ext (match a with
  | ⟨0, _⟩ => by show g.val + 1 * 0 = g.val; omega
  | ⟨1, _⟩ => by show 0 + 1 * r.val = r.val; omega
  | ⟨2, _⟩ => rfl)

/-! ## What a point adds -/

theorem stores_first (h : t.val = 0) (s : Sums Ideal) : stores m c t s = (first m c t h).1 := dif_pos h
theorem stores_middle (h : t.val ≠ 0) (h' : t.val < 16) (s : Sums Ideal) : stores m c t s = (middle m c t h h' s).1 := (dif_neg h).trans (dif_pos h')
theorem stores_last (h' : ¬t.val < 16) (s : Sums Ideal) : stores m c t s = (last m c t h' s).1 := (dif_neg (by omega)).trans (dif_neg h')

theorem fill_gv (y : S1x512.Idx) : (k0_pay4 (F := Ideal) : FVec Ideal S1x512 .f32) y = (0 : EReal) := by
  show Ideal.ofBits .f32 0#32 = 0
  simp [Ideal.ofBits, Ideal.ieee]
theorem fill_w (y : S4x128x128.Idx) : (k0_pay5 (F := Ideal) : FVec Ideal S4x128x128 .f32) y = (0 : EReal) := by
  show Ideal.ofBits .f32 0#32 = 0
  simp [Ideal.ofBits, Ideal.ieee]
theorem fill_b (y : S4x128x1.Idx) : (k0_pay6 (F := Ideal) : FVec Ideal S4x128x1 .f32) y = (0 : EReal) := by
  show Ideal.ofBits .f32 0#32 = 0
  simp [Ideal.ofBits, Ideal.ieee]

section Point
variable {t} {n : Fin 16} (hn : t.val = n.val) (s : Sums Ideal) (o : Plain Ideal)
include hn

theorem dgv_first (h : t.val = 0) (g : Fin 4) (d : Fin 128) : (next m c t s o).1.dgv (ix2 0 (lane g d)) = 0 + dgvPart (args m c) n g d := by
  show (ms14 t).view.read (Elt Ideal) ((ms14 t).view.writes (Elt Ideal) ((hs14 t).unread s.dgv) (stores m c t s).dgv) _ = _
  rw [stores_first m c t h, first_dgv, ← emb_gv]
  refine (read_parts _ _ rGv apart_gv _ _ g (ix2 0 d)).trans ?_
  rw [started_eq _ _ _ _ apart_gv]
  refine (Group.dgv_at (group_of m c hn g) _ d).trans ?_
  rw [View.readCov_fill (s := S1x512) _ _ _ _ _ (by decide)]
  exact congrArg (HAdd.hAdd (α := EReal) (β := EReal) (γ := EReal) · _) (fill_gv _)

theorem dgv_middle (h : t.val ≠ 0) (g : Fin 4) (d : Fin 128) (x : EReal) (hx : s.dgv (ix2 0 (lane g d)) = x) :
    (next m c t s o).1.dgv (ix2 0 (lane g d)) = x + dgvPart (args m c) n g d := by
  show (ms14 t).view.read (Elt Ideal) ((ms14 t).view.writes (Elt Ideal) ((hs14 t).unread s.dgv) (stores m c t s).dgv) _ = _
  rw [stores_middle m c t h (by omega), middle_dgv, ← emb_gv]
  refine (read_parts _ _ rGv apart_gv _ _ g (ix2 0 d)).trans ?_
  refine (Group.dgv_at (group_of m c hn g) _ d).trans ?_
  refine congrArg (HAdd.hAdd (α := EReal) (β := EReal) (γ := EReal) · _) (Eq.trans ?_ hx)
  exact load_at (ms14 t) (hs14 t) s.dgv _ _ _ fun a => match a with
    | ⟨0, _⟩ => rfl
    | ⟨1, _⟩ => rfl

theorem dw_first (h : t.val = 0) (g : Fin 4) (r k : Fin 128) : (next m c t s o).1.dw (ix3 g r k) = 0 + dwPart (args m c) n g r k := by
  show (ms15 t).view.read (Elt Ideal) ((ms15 t).view.writes (Elt Ideal) ((hs15 t).unread s.dw) (stores m c t s).dw) _ = _
  rw [stores_first m c t h, first_dw, ← emb_w]
  refine (read_parts _ _ rW apart_w _ _ g (ix3 0 r k)).trans ?_
  rw [started_eq _ _ _ _ apart_w]
  refine (Group.dw_at (group_of m c hn g) _ r k).trans ?_
  rw [View.readCov_fill (s := S4x128x128) _ _ _ _ _ (by decide)]
  exact congrArg (HAdd.hAdd (α := EReal) (β := EReal) (γ := EReal) · _) (fill_w _)

theorem dw_middle (h : t.val ≠ 0) (g : Fin 4) (r k : Fin 128) (x : EReal) (hx : s.dw (ix3 g r k) = x) :
    (next m c t s o).1.dw (ix3 g r k) = x + dwPart (args m c) n g r k := by
  show (ms15 t).view.read (Elt Ideal) ((ms15 t).view.writes (Elt Ideal) ((hs15 t).unread s.dw) (stores m c t s).dw) _ = _
  rw [stores_middle m c t h (by omega), middle_dw, ← emb_w]
  refine (read_parts _ _ rW apart_w _ _ g (ix3 0 r k)).trans ?_
  refine (Group.dw_at (group_of m c hn g) _ r k).trans ?_
  refine congrArg (HAdd.hAdd (α := EReal) (β := EReal) (γ := EReal) · _) (Eq.trans ?_ hx)
  exact load_at (ms15 t) (hs15 t) s.dw _ _ _ fun a => match a with
    | ⟨0, _⟩ => rfl
    | ⟨1, _⟩ => (Nat.zero_add _).symm
    | ⟨2, _⟩ => (Nat.zero_add _).symm

theorem db_first (h : t.val = 0) (g : Fin 4) (r : Fin 128) : (next m c t s o).1.dbs (ix3 g r 0) = 0 + dbPart (args m c) n g r := by
  show (Memref.whole cc0_scratch3).view.read (Elt Ideal) ((Memref.whole cc0_scratch3).view.writes (Elt Ideal) ((Memref.isWhole_whole _).unread s.dbs) (stores m c t s).dbs) _ = _
  rw [stores_first m c t h, first_dbs, ← emb_b]
  refine (read_parts _ _ rB apart_b _ _ g (ix3 0 r 0)).trans ?_
  rw [started_eq _ _ _ _ apart_b]
  refine (Group.db_at (group_of m c hn g) _ r).trans ?_
  rw [View.readCov_fill (s := S4x128x1) _ _ _ _ _ (by decide)]
  exact congrArg (HAdd.hAdd (α := EReal) (β := EReal) (γ := EReal) · _) (fill_b _)

theorem db_middle (h : t.val ≠ 0) (g : Fin 4) (r : Fin 128) (x : EReal) (hx : s.dbs (ix3 g r 0) = x) :
    (next m c t s o).1.dbs (ix3 g r 0) = x + dbPart (args m c) n g r := by
  show (Memref.whole cc0_scratch3).view.read (Elt Ideal) ((Memref.whole cc0_scratch3).view.writes (Elt Ideal) ((Memref.isWhole_whole _).unread s.dbs) (stores m c t s).dbs) _ = _
  rw [stores_middle m c t h (by omega), middle_dbs, ← emb_b]
  refine (read_parts _ _ rB apart_b _ _ g (ix3 0 r 0)).trans ?_
  refine (Group.db_at (group_of m c hn g) _ r).trans ?_
  refine congrArg (HAdd.hAdd (α := EReal) (β := EReal) (γ := EReal) · _) (Eq.trans ?_ hx)
  exact load_at (Memref.whole cc0_scratch3) (Memref.isWhole_whole _) s.dbs _ _ _ fun a => match a with
    | ⟨0, _⟩ => rfl
    | ⟨1, _⟩ => (Nat.zero_add _).symm
    | ⟨2, _⟩ => rfl

end Point

/-! ## The sums over the chunks -/

/-- The sum over the first `k` chunks. -/
def upto (f : Fin 16 → EReal) : ℕ → EReal
  | 0 => 0
  | k + 1 => upto f k + if h : k < 16 then f ⟨k, h⟩ else 0

theorem upto_all (f : Fin 16 → EReal) : upto f 16 = ∑ n, f n := by
  simp [upto, Fin.sum_univ_castSucc]

theorem sums : ∀ k : ℕ, k < 16 →
    (∀ g d, (after m c (k + 1)).1.dgv (ix2 0 (lane g d)) = upto (fun n => dgvPart (args m c) n g d) (k + 1))
    ∧ (∀ g r s, (after m c (k + 1)).1.dw (ix3 g r s) = upto (fun n => dwPart (args m c) n g r s) (k + 1))
    ∧ ∀ g r, (after m c (k + 1)).1.dbs (ix3 g r 0) = upto (fun n => dbPart (args m c) n g r) (k + 1)
  | 0, h => by
    have e : after m c (0 + 1) = _ := after_succ m c ⟨0, lt_of_lt_of_eq (by omega) N_0.symm⟩
    rw [e]
    exact ⟨fun g d => dgv_first m c (n := 0) rfl _ _ rfl g d, fun g r s => dw_first m c (n := 0) rfl _ _ rfl g r s,
      fun g r => db_first m c (n := 0) rfl _ _ rfl g r⟩
  | k + 1, h => by
    obtain ⟨h1, h2, h3⟩ := sums k (by omega)
    have e : after m c (k + 1 + 1) = _ := after_succ m c ⟨k + 1, lt_of_lt_of_eq (by omega) N_0.symm⟩
    rw [e]
    refine ⟨fun g d => ?_, fun g r s => ?_, fun g r => ?_⟩
    · rw [upto, dif_pos h]
      exact dgv_middle m c (n := ⟨k + 1, h⟩) rfl _ _ (Nat.succ_ne_zero k) g d _ (h1 g d)
    · rw [upto, dif_pos h]
      exact dw_middle m c (n := ⟨k + 1, h⟩) rfl _ _ (Nat.succ_ne_zero k) g r s _ (h2 g r s)
    · rw [upto, dif_pos h]
      exact db_middle m c (n := ⟨k + 1, h⟩) rfl _ _ (Nat.succ_ne_zero k) g r _ (h3 g r)

/-! ## The last point -/

/-- The part of the spatial weights' gradient below the diagonal. -/
def masked (x : FVec Ideal S1x128x128 .f32) : FVec Ideal S1x128x128 .f32 :=
  shapeCast S1x128x128 (select (cmpi .sle (iota .tc S128x128 32 [1] iota_S128x128_d1_w32) (iota .tc S128x128 32 [0] iota_S128x128_d0_w32))
    (shapeCast S128x128 x shapeCasts_S1x128x128_S128x128) (broadcast S128x128 (Scalar.ofBits .f32 0x00000000#32 : Ideal .f32))) shapeCasts_S128x128_S1x128x128

/-- A column laid out as a row, through the diagonal of a square. -/
def turned (x : FVec Ideal S1x128x1 .f32) : FVec Ideal S1x128 .f32 :=
  shapeCast S1x128 (multiReduction .add [0] S128 (select (cmpi .eq (iota .tc S128x128 32 [1] iota_S128x128_d1_w32) (iota .tc S128x128 32 [0] iota_S128x128_d0_w32))
    (broadcastTo S128x128 (shapeCast S128x1 (shapeCast S128x1 x shapeCasts_S1x128x1_S128x1) shapeCasts_S128x1_S128x1) broadcasts_S128x1_S128x128)
    (broadcast S128x128 (Scalar.ofBits .f32 0x00000000#32 : Ideal .f32))) 0x00000000#32 reduces_S128x128_S128_2 (.inl rfl) rfl) shapeCasts_S128_S1x128

theorem inb_db : ∀ g : Fin 4, ∀ a, (![g.val, 0] : Fin 2 → ℕ) a + S1x128.size a ≤ S4x128.size a := by decide
abbrev rDb (g : Fin 4) : Rect S4x128 := Rect.unit ![g.val, 0] S1x128.size (inb_db g)
theorem apart_db (g g' : Fin 4) (h : g ≠ g') : Disjoint (rDb g).set (rDb g').set :=
  Finset.disjoint_left.mpr fun y hy hy' => h (Fin.ext (by
    have a : g.val ≤ (y 0).val ∧ (y 0).val < g.val + 1 := Rect.mem_set_unit.mp hy 0
    have b : g'.val ≤ (y 0).val ∧ (y 0).val < g'.val + 1 := Rect.mem_set_unit.mp hy' 0
    omega))
theorem emb_db (g : Fin 4) (r : Fin 128) : (rDb g).emb (ix2 0 r) = (ix2 g r : S4x128.Idx) := funext fun a => Fin.ext (match a with
  | ⟨0, _⟩ => by show g.val + 1 * 0 = g.val; omega
  | ⟨1, _⟩ => by show 0 + 1 * r.val = r.val; omega)

theorem last_dw (h' : ¬t.val < 16) (s : Sums Ideal) : (last m c t h' s).1.dw
    = parts rW (fun g => masked (View.readAt (Elt Ideal) (ms15 t).view (rW g).toLoadRect ((hs15 t).unread s.dw))) [] := by
  sl_kernel_rfl

theorem last_db (h' : ¬t.val < 16) (s : Sums Ideal) : (last m c t h' s).1.db
    = parts rDb (fun g => turned (View.readAt (Elt Ideal) (Memref.whole cc0_scratch3).view (rB g).toLoadRect ((Memref.isWhole_whole cc0_scratch3).unread s.dbs))) [] := by
  sl_kernel_rfl

theorem masked_at (x : FVec Ideal S1x128x128 .f32) (r s : Fin 128) (y : EReal) (hy : x (ix3 0 r s) = y) : masked x (ix3 0 r s) = if s ≤ r then y else 0 := by
  subst hy
  unfold masked
  pointwise []
  rw [Group.below, Scalar.select]
  by_cases h : s ≤ r <;> simp [h]

theorem diagonal : ∀ r s : Fin 128, IntOp.cmpi CmpIPredicate.eq (BitVec.ofNat 32 s.val) (BitVec.ofNat 32 r.val) = if r = s then 1#1 else 0#1 := by
  decide +kernel

theorem turned_at (x : FVec Ideal S1x128x1 .f32) (r : Fin 128) (y : EReal) (hy : x (ix3 0 r 0) = y) : turned x (ix2 0 r) = y := by
  subst hy
  unfold turned
  pointwise []
  rw [Finset.sum_eq_single r]
  · simp [Scalar.select, IntOp.cmpi]
  · intro b _ hb
    rw [diagonal b r, if_neg hb]
    rfl
  · exact fun h => absurd (Finset.mem_univ r) h

theorem dw_last (h : t.val = 16) (s : Sums Ideal) (o : Plain Ideal) (g : Fin 4) (r k : Fin 128) (x : EReal) (hx : s.dw (ix3 g r k) = x) :
    (next m c t s o).1.dw (ix3 g r k) = if k ≤ r then x else 0 := by
  show (ms15 t).view.read (Elt Ideal) ((ms15 t).view.writes (Elt Ideal) ((hs15 t).unread s.dw) (stores m c t s).dw) _ = _
  rw [stores_last m c t (by omega), last_dw, ← emb_w]
  refine (read_parts _ _ rW apart_w _ _ g (ix3 0 r k)).trans (masked_at _ r k x (Eq.trans ?_ hx))
  exact load_at (ms15 t) (hs15 t) s.dw _ _ _ fun a => match a with
    | ⟨0, _⟩ => rfl
    | ⟨1, _⟩ => (Nat.zero_add _).symm
    | ⟨2, _⟩ => (Nat.zero_add _).symm

theorem db_last (h : t.val = 16) (s : Sums Ideal) (o : Plain Ideal) (g : Fin 4) (r : Fin 128) (x : EReal) (hx : s.dbs (ix3 g r 0) = x) :
    (next m c t s o).2.db (ix2 g r) = x := by
  show (ms16 t).view.read (Elt Ideal) ((ms16 t).view.writes (Elt Ideal) ((hs16 t).unread o.db) (stores m c t s).db) _ = _
  rw [stores_last m c t (by omega), last_db, ← emb_db]
  refine (read_parts _ _ rDb apart_db _ _ g (ix2 0 r)).trans (turned_at _ r x (Eq.trans ?_ hx))
  exact load_at (Memref.whole cc0_scratch3) (Memref.isWhole_whole _) s.dbs _ _ _ fun a => match a with
    | ⟨0, _⟩ => rfl
    | ⟨1, _⟩ => (Nat.zero_add _).symm
    | ⟨2, _⟩ => rfl

/-- The three sums after the last point. -/
theorem sums_last :
    (∀ g d, (after m c 17).1.dgv (ix2 0 (lane g d)) = ∑ n, dgvPart (args m c) n g d)
    ∧ (∀ g r s, (after m c 17).1.dw (ix3 g r s) = if s ≤ r then ∑ n, dwPart (args m c) n g r s else 0)
    ∧ ∀ g r, (after m c 17).2.db (ix2 g r) = ∑ n, dbPart (args m c) n g r := by
  obtain ⟨h1, h2, h3⟩ := sums m c 15 (by omega)
  have e : after m c (16 + 1) = _ := after_succ m c ⟨16, lt_of_lt_of_eq (by omega) N_0.symm⟩
  rw [e]
  refine ⟨fun g d => ?_, fun g r s => ?_, fun g r => ?_⟩
  · rw [(next_last m c _ (by simp) _ (after m c 16).2).2, ← upto_all]
    exact h1 g d
  · rw [← upto_all]
    exact dw_last m c _ rfl _ _ g r s _ (h2 g r s)
  · rw [← upto_all]
    exact db_last m c _ rfl _ _ g r _ (h3 g r)

/-! ## The rows of the projection's gradient -/

theorem inb_dz : ∀ k : Fin 8, ∀ a, (![0, k.val * 128] : Fin 2 → ℕ) a + S128x128.size a ≤ S128x1536.size a := by decide
/-- A lane group of the gated half's columns: the first four hold the gate, the other four the mixed values. -/
abbrev rDz (k : Fin 8) : Rect S128x1536 := Rect.unit ![0, k.val * 128] S128x128.size (inb_dz k)

/-- The eight pieces of the gated half, in the order they are stored. -/
def pieces (w : Fin 8 → FVec Ideal S128x128 .bf16) : List (View.Piece (Elt Ideal) S128x1536 .bf16) :=
  [⟨rDz 7, w 7⟩, ⟨rDz 3, w 3⟩, ⟨rDz 6, w 6⟩, ⟨rDz 2, w 2⟩, ⟨rDz 5, w 5⟩, ⟨rDz 1, w 1⟩, ⟨rDz 4, w 4⟩, ⟨rDz 0, w 0⟩]

/-- What point `t` stores in each of them. -/
def lanes : Fin 8 → FVec Ideal S128x128 .bf16
  | 0 => (group m c t 0).dzLow
  | 1 => (group m c t 1).dzLow
  | 2 => (group m c t 2).dzLow
  | 3 => (group m c t 3).dzLow
  | 4 => (group m c t 0).dzHigh
  | 5 => (group m c t 1).dzHigh
  | 6 => (group m c t 2).dzHigh
  | 7 => (group m c t 3).dzHigh

theorem lanes_low : ∀ g : Fin 4, lanes m c t ⟨g.val, by omega⟩ = (group m c t g).dzLow
  | 0 => rfl
  | 1 => rfl
  | 2 => rfl
  | 3 => rfl
theorem lanes_high : ∀ g : Fin 4, lanes m c t ⟨g.val + 4, by omega⟩ = (group m c t g).dzHigh
  | 0 => rfl
  | 1 => rfl
  | 2 => rfl
  | 3 => rfl

theorem first_dz (h : t.val = 0) : (first m c t h).1.dz.drop 8 = pieces (lanes m c t) := by sl_kernel_rfl
theorem middle_dz (h : t.val ≠ 0) (h' : t.val < 16) (s : Sums Ideal) : (middle m c t h h' s).1.dz.drop 8 = pieces (lanes m c t) := by sl_kernel_rfl

/-- Whether every piece lies in the attention half's columns. -/
def beyond (L : List (View.Piece (Elt Ideal) S128x1536 .bf16)) : Bool := L.all fun p => decide (1024 ≤ p.1.off 1)
theorem first_beyond (h : t.val = 0) : beyond ((first m c t h).1.dz.take 8) = true := by sl_kernel_rfl
theorem middle_beyond (h : t.val ≠ 0) (h' : t.val < 16) (s : Sums Ideal) : beyond ((middle m c t h h' s).1.dz.take 8) = true := by sl_kernel_rfl

theorem stores_dz (h' : t.val < 16) (s : Sums Ideal) : (stores m c t s).dz.drop 8 = pieces (lanes m c t) ∧ beyond ((stores m c t s).dz.take 8) = true := by
  by_cases h : t.val = 0
  · rw [stores_first m c t h]; exact ⟨first_dz m c t h, first_beyond m c t h⟩
  · rw [stores_middle m c t h h']; exact ⟨middle_dz m c t h h' s, middle_beyond m c t h h' s⟩

theorem rDz_off (k : Fin 8) (x : S128x128.Idx) : ((rDz k).emb x 1).val = k.val * 128 + (x 1).val := by
  show k.val * 128 + 1 * (x 1).val = _
  omega

theorem apart_dz (k k' : Fin 8) (h : k ≠ k') (x : S128x128.Idx) : (rDz k).emb x ∉ (rDz k').set := fun hy => h (Fin.ext (by
  have b : k'.val * 128 ≤ ((rDz k).emb x 1).val ∧ ((rDz k).emb x 1).val < k'.val * 128 + 128 := Rect.mem_set_unit.mp hy 1
  have hx : (x 1).val < 128 := (x 1).isLt
  rw [rDz_off] at b
  omega))

theorem beyond_dz {L : List (View.Piece (Elt Ideal) S128x1536 .bf16)} (h : beyond L = true) (k : Fin 8) (x : S128x128.Idx) :
    ∀ q ∈ L, (rDz k).emb x ∉ q.1.set := fun q hq hy => by
  have a : 1024 ≤ q.1.off 1 := of_decide_eq_true (List.all_eq_true.mp h q hq)
  obtain ⟨j, _, hz⟩ := q.1.mem_set.mp hy 1
  have e := hz.symm.trans (rDz_off k x)
  have hx : (x 1).val < 128 := (x 1).isLt
  have := k.isLt
  have := Nat.zero_le (q.1.stride 1 * j)
  omega

theorem read_pieces {κ : Kind} {sp : Space} (v : View sig κ sp S128x1536 .bf16) (f : v.ty.Contents (Elt Ideal)) (A : List (View.Piece (Elt Ideal) S128x1536 .bf16))
    (w : Fin 8 → FVec Ideal S128x128 .bf16) (hA : beyond A = true) (k : Fin 8) (x : S128x128.Idx) :
    v.read (Elt Ideal) (v.writes (Elt Ideal) f (A ++ pieces w)) ((rDz k).emb x) = w k x := by
  have hs : ∀ B : List (Fin 8), (∀ j ∈ B, k ≠ j) → ∀ q ∈ A ++ B.map fun j => (⟨rDz j, w j⟩ : View.Piece (Elt Ideal) S128x1536 .bf16), (rDz k).emb x ∉ q.1.set := by
    intro B hB q hq
    rcases List.mem_append.mp hq with h | h
    · exact beyond_dz hA k x q h
    · obtain ⟨j, hj, rfl⟩ := List.mem_map.mp h
      exact apart_dz k j (hB j hj) x
  have hr : ∀ (B : List (Fin 8)) (L : List (View.Piece (Elt Ideal) S128x1536 .bf16)), (∀ j ∈ B, k ≠ j) →
      pieces w = (B.map fun j => (⟨rDz j, w j⟩ : View.Piece (Elt Ideal) S128x1536 .bf16)) ++ ⟨rDz k, w k⟩ :: L →
      v.read (Elt Ideal) (v.writes (Elt Ideal) f (A ++ pieces w)) ((rDz k).emb x) = w k x := by
    intro B L hB e
    rw [e, ← List.append_assoc]
    exact read_under v f _ (rDz k) (w k) L x (hs B hB)
  clear hs
  match k, hr with
  | 7, hr => exact hr [] _ (by decide) rfl
  | 3, hr => exact hr [7] _ (by decide) rfl
  | 6, hr => exact hr [7, 3] _ (by decide) rfl
  | 2, hr => exact hr [7, 3, 6] _ (by decide) rfl
  | 5, hr => exact hr [7, 3, 6, 2] _ (by decide) rfl
  | 1, hr => exact hr [7, 3, 6, 2, 5] _ (by decide) rfl
  | 4, hr => exact hr [7, 3, 6, 2, 5, 1] _ (by decide) rfl
  | 0, hr => exact hr [7, 3, 6, 2, 5, 1, 4] _ (by decide) rfl

theorem dz_lane (h' : t.val < 16) (s : Sums Ideal) (o : Plain Ideal) (k : Fin 8) (x : S128x128.Idx) :
    (next m c t s o).2.dz ((rDz k).emb x) = lanes m c t k x := by
  obtain ⟨h1, h2⟩ := stores_dz m c t h' s
  show (ms12 t).view.read (Elt Ideal) ((ms12 t).view.writes (Elt Ideal) ((hs12 t).unread o.dz) (stores m c t s).dz) _ = _
  rw [← List.take_append_drop 8 (stores m c t s).dz, h1]
  exact read_pieces (ms12 t).view _ _ _ h2 k x

section Rows
variable {t} {n : Fin 16} (hn : t.val = n.val) (s : Sums Ideal) (o : Plain Ideal)
include hn

theorem dz_low (g : Fin 4) (r d : Fin 128) (i : S128x1536.Idx) (h0 : (i 0).val = r.val) (h1 : (i 1).val = g.val * 128 + d.val) :
    (next m c t s o).2.dz i = Mixer.dzLow (args m c) n r g d := by
  have e : i = (rDz ⟨g.val, by omega⟩).emb (ix2 r d) := funext fun a => Fin.ext (match a with
    | ⟨0, _⟩ => h0.trans (by show r.val = 0 + 1 * r.val; omega)
    | ⟨1, _⟩ => h1.trans (by show g.val * 128 + d.val = g.val * 128 + 1 * d.val; omega))
  rw [e]
  refine (dz_lane m c t (by omega) s o _ _).trans ?_
  rw [lanes_low]
  exact Group.dzLow_at (group_of m c hn g) r d

theorem dz_high (g : Fin 4) (r d : Fin 128) (i : S128x1536.Idx) (h0 : (i 0).val = r.val) (h1 : (i 1).val = (g.val + 4) * 128 + d.val) :
    (next m c t s o).2.dz i = Mixer.dzHigh (args m c) n r g d := by
  have e : i = (rDz ⟨g.val + 4, by omega⟩).emb (ix2 r d) := funext fun a => Fin.ext (match a with
    | ⟨0, _⟩ => h0.trans (by show r.val = 0 + 1 * r.val; omega)
    | ⟨1, _⟩ => h1.trans (by show (g.val + 4) * 128 + d.val = (g.val + 4) * 128 + 1 * d.val; omega))
  rw [e]
  refine (dz_lane m c t (by omega) s o _ _).trans ?_
  rw [lanes_high]
  exact Group.dzHigh_at (group_of m c hn g) r d
end Rows

end Cert.Proof.Mixer

end
-- ==== Proof.MixerValue.lean ====
/- The mixer's backward launch, as one run whose results are named, and their elements in the gated half. -/
module

public import proofs.«01_k».proof.Proof.MixerSums

@[expose] public section

set_option maxRecDepth 16384

noncomputable section

open Idealize.ShloMosaic Idealize.ShloMosaic.TcCoe Idealize.ShloMosaic.Tactic Idealize.SL.Sem

namespace Cert.Proof.Mixer
open Cert.Kernel3Ideal Cert.Kernel3Ideal.Gen Cert.Kernel3Ideal.Value Cert.Mixer

variable (m : (ℓ : Loc nD τ sig) → Buf (Elt Ideal) ℓ) (ρ : Dev nD → PrngReg) (c : Dev nD)

/-! ## The result arrays -/

theorem idx_out : ∀ t : Fin cfg0.N, win0_12.index t = ![min t.val 15, 0] :=
  (by decide +kernel : ∀ t : Fin grid0.N, _)

abbrev lastPoint : Fin cfg0.N := ⟨16, lt_of_lt_of_eq (by omega) N_0.symm⟩

/-- The rows of the projection's gradient, each as its chunk's point left it. -/
def rows : FVec Ideal S2048x1536 .bf16 := fun i => (after m c ((i 0).val / 128 + 1)).2.dz (ix2 ⟨(i 0).val % 128, Nat.mod_lt _ (by omega)⟩ (i 1))

theorem final_rows : (dats m 0 c).arrAt 12 cfg0.N = rows m c := by
  refine (dats m 0 c).arrAt_eq_of_covers 12 _ (by decide +kernel) fun t hf y => ?_
  blk_simp
  rw [after_12]
  have h15 : t.val ≠ 15 := of_decide_eq_true ((flush_12 t).symm.trans hf)
  have ht := lt17 t
  have hy : (y 0).val < 128 := (y 0).isLt
  have e0 : ((win0_12.blk t).view.emb y 0).val = min t.val 15 * 128 + (y 0).val := by
    show win0_12.index t 0 * 128 + 1 * (y 0).val = _
    rw [idx_out]
    show min t.val 15 * 128 + 1 * (y 0).val = _
    omega
  have e1 : ((win0_12.blk t).view.emb y 1).val = (y 1).val := by
    show win0_12.index t 1 * 1536 + 1 * (y 1).val = _
    rw [idx_out]
    show 0 * 1536 + 1 * (y 1).val = _
    omega
  have ey : (ix2 ⟨((win0_12.blk t).view.emb y 0).val % 128, Nat.mod_lt _ (by omega)⟩ ((win0_12.blk t).view.emb y 1) : S128x1536.Idx) = y :=
    funext fun a => Fin.ext (match a with
      | ⟨0, _⟩ => by show ((win0_12.blk t).view.emb y 0).val % 128 = (y 0).val; rw [e0]; omega
      | ⟨1, _⟩ => e1)
  have ed : ((win0_12.blk t).view.emb y 0).val / 128 = min t.val 15 := by rw [e0]; omega
  show _ = (after m c (((win0_12.blk t).view.emb y 0).val / 128 + 1)).2.dz _
  rw [ey, ed]
  by_cases h : t.val < 16
  · rw [Nat.min_eq_left (by omega)]
  · have h16 : t.val = 16 := by omega
    rw [after_succ m c t, (next_last m c t h _ _).1, h16]
    rfl

theorem final_dgv : (dats m 0 c).arrAt 14 cfg0.N = (after m c 17).1.dgv := by
  refine (dats m 0 c).arrAt_eq_of_after_last 14 lastPoint (by decide +kernel) _ fun j => ?_
  blk_simp
  exact congrFun (after_14 m c lastPoint) j

theorem final_dw : (dats m 0 c).arrAt 15 cfg0.N = (after m c 17).1.dw := by
  refine (dats m 0 c).arrAt_eq_of_after_last 15 lastPoint (by decide +kernel) _ fun j => ?_
  blk_simp
  exact congrFun (after_15 m c lastPoint) j

theorem final_db : (dats m 0 c).arrAt 16 cfg0.N = (after m c 17).2.db := by
  refine (dats m 0 c).arrAt_eq_of_after_last 16 lastPoint (by decide +kernel) _ fun j => ?_
  blk_simp
  exact congrFun (after_16 m c lastPoint) j

theorem rows_at (n : Fin 16) (r : Fin 128) (k : Fin 1536) : rows m c (ix2 (Cert.Mixer.row n r) k) = (after m c (n.val + 1)).2.dz (ix2 r k) := by
  have e : (⟨(n.val * 128 + r.val) % 128, Nat.mod_lt _ (by omega)⟩ : Fin 128) = r := Fin.ext (by show (n.val * 128 + r.val) % 128 = r.val; omega)
  have d : (n.val * 128 + r.val) / 128 = n.val := by omega
  show (after m c ((n.val * 128 + r.val) / 128 + 1)).2.dz (ix2 ⟨(n.val * 128 + r.val) % 128, _⟩ k) = _
  rw [e, d]

theorem rows_low (n : Fin 16) (r : Fin 128) (g : Fin 4) (d : Fin 128) (k : Fin 1536) (hk : k.val = g.val * 128 + d.val) :
    rows m c (ix2 (Cert.Mixer.row n r) k) = Mixer.dzLow (args m c) n r g d := by
  rw [rows_at]
  have e : after m c (n.val + 1) = _ := after_succ m c ⟨n.val, lt_of_lt_of_eq (by omega) N_0.symm⟩
  rw [e]
  exact dz_low m c rfl _ _ g r d (ix2 r k) rfl hk

theorem rows_high (n : Fin 16) (r : Fin 128) (g : Fin 4) (d : Fin 128) (k : Fin 1536) (hk : k.val = (g.val + 4) * 128 + d.val) :
    rows m c (ix2 (Cert.Mixer.row n r) k) = Mixer.dzHigh (args m c) n r g d := by
  rw [rows_at]
  have e : after m c (n.val + 1) = _ := after_succ m c ⟨n.val, lt_of_lt_of_eq (by omega) N_0.symm⟩
  rw [e]
  exact dz_high m c rfl _ _ g r d (ix2 r k) rfl hk

/-! ## The run -/

/-- The launch leaves the four results as named above, and the arguments as they were. -/
theorem run_results : θ_run defs (onTc (τ := τ) (main (F := Ideal))) ⟨m, fun _ => 0, ρ⟩ (fun r => ∀ c : Dev nD,
      r.2.mem ((c.tc : Thread nD τ).loc main_v123_0) = rows m c
      ∧ r.2.mem ((c.tc : Thread nD τ).loc main_v123_2) = (after m c 17).1.dgv
      ∧ r.2.mem ((c.tc : Thread nD τ).loc main_v123_3) = (after m c 17).1.dw
      ∧ r.2.mem ((c.tc : Thread nD τ).loc main_v123_4) = (after m c 17).2.db
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h.1 c).1 12).trans (final_rows m c), ((h.1 c).1 14).trans (final_dgv m c),
      ((h.1 c).1 15).trans (final_dw m c), ((h.1 c).1 16).trans (final_db m c), h.2.1 c⟩)
    (θ_run_and ((θ_run defs _ _).mono (fun _ h => h.1) (run m ρ)) (frame m ρ))

end Cert.Proof.Mixer

end
-- ==== Proof.MixerRef.lean ====
/- The gated half's reference, element by element. -/
module

public import proofs.«01_k».proof.Proof.Gen.Reference3Ideal.Run
public import proofs.«01_k».proof.Proof.MixerMath
public import proofs.«01_k».proof.Proof.HostSums
public import Idealize.ShloMosaic.Lib.Claim
public import proofs.«01_k».proof.Proof.Gen.Reference3Ideal

@[expose] public section

set_option maxRecDepth 16384

noncomputable section

open Idealize.ShloMosaic Idealize.ShloMosaic.TcCoe Idealize.SL.Sem

namespace Cert.Reference3Ideal.Value
open Cert.Reference3Ideal Cert.Reference3Ideal.Gen Cert.Mixer

variable (V0 : Valuation τ sig (Elt Ideal))

/-- The arguments as the reference is given them. -/
def args : Args where
  z r k := (V0 (Proc.devRef .tc main_arg0) : FVec Ideal S1x2048x1792 .f32) (ix3 0 r ⟨k.val, by omega⟩)
  gv j := (V0 (Proc.devRef .tc main_arg1) : FVec Ideal S1x512 .f32) (ix2 0 j)
  w g t s := (V0 (Proc.devRef .tc main_arg2) : FVec Ideal S1x4x128x128 .f32) (ix4 0 g t s)
  b g t := (V0 (Proc.devRef .tc main_arg3) : FVec Ideal S1x4x128 .f32) (ix3 0 g t)
  ct r j := (V0 (Proc.devRef .tc main_arg6) : FVec Ideal S1x2048x1024 .f32) (ix3 0 r ⟨j.val, by omega⟩)

theorem bits_0 : Ideal.ofBits .f32 0x00000000#32 = 0 := by simp [Ideal.ofBits, Ideal.ieee]
theorem bits_1 : Ideal.ofBits .f32 0x3F800000#32 = 1 := by
  simp [Ideal.ofBits, Ideal.ieee, -EReal.coe_mul]; norm_num
theorem bits_3 : Ideal.ofBits .f32 0x40400000#32 = ((3 : ℝ) : EReal) := by
  simp [Ideal.ofBits, Ideal.ieee, -EReal.coe_mul]; norm_num
theorem bits_half : Ideal.ofBits .f32 0x3F000000#32 = half := by
  simp [Ideal.ofBits, Ideal.ieee, -EReal.coe_mul]; norm_num
theorem bits_128 : Ideal.ofBits .f32 0x43000000#32 = ((128 : ℝ) : EReal) := by
  simp [Ideal.ofBits, Ideal.ieee, -EReal.coe_mul]; norm_num
theorem bits_root : Ideal.ofBits .f32 0x3F4C422A#32 = root := by
  simp [Ideal.ofBits, Ideal.ieee, -EReal.coe_mul]; norm_num
theorem bits_44715 : Ideal.ofBits .f32 0x472EAB00#32 = ((44715 : ℝ) : EReal) := by
  simp [Ideal.ofBits, Ideal.ieee, -EReal.coe_mul]; norm_num
theorem bits_million : Ideal.ofBits .f32 0x49742400#32 = ((1000000 : ℝ) : EReal) := by
  simp [Ideal.ofBits, Ideal.ieee, -EReal.coe_mul]; norm_num

theorem v1_at (r : Fin 2048) (k : Fin 1024) : (res_main_v1 V0 : FVec Ideal S1x2048x1024 .f32) (ix3 0 r k) = (args V0).z r k := by
  pointwise [res_main_v1, args]

theorem v2_at : (res_main_v2 V0 : FVec Ideal S_ .f32) ix0 = cubic := by
  pointwise [res_main_v2]
  rw [bits_44715, bits_million]

theorem v13_at (r : Fin 2048) (k : Fin 1024) : (res_main_v13 V0 : FVec Ideal S1x2048x1024 .f32) (ix3 0 r k) = th ((args V0).z r k) := by
  pointwise [res_main_v13]
  rw [v1_at, v2_at, bits_root]
  rfl

theorem v22_at (r : Fin 2048) (k : Fin 1024) : (res_main_v22 V0 : FVec Ideal S1x2048x1024 .f32) (ix3 0 r k) = cdf ((args V0).z r k) := by
  pointwise [res_main_v22]
  rw [v13_at, bits_half]
  rfl

theorem v23_at (r : Fin 2048) (k : Fin 1024) : (res_main_v23 V0 : FVec Ideal S1x2048x1024 .f32) (ix3 0 r k) = gelu ((args V0).z r k) := by
  pointwise [res_main_v23]
  rw [v1_at, v22_at]
  rfl

theorem v24_at (r : Fin 2048) (j : Fin 512) : (res_main_v24 V0 : FVec Ideal S1x2048x512 .f32) (ix3 0 r j) = u (args V0) r j := by
  pointwise [res_main_v24]
  rw [v23_at]
  rfl

theorem v29_at (r : Fin 2048) (g : Fin 4) (d : Fin 128) : (res_main_v29 V0 : FVec Ideal S1x2048x4x128 .f32) (ix4 0 r g d) = v (args V0) r (lane g d) := by
  pointwise [res_main_v29]
  rw [v23_at]
  rfl

theorem v37_at (r : Fin 2048) (g : Fin 4) : (res_main_v37 V0 : FVec Ideal S1x2048x4x1 .f32) (ix4 0 r g 0) = meanSq (args V0) r g := by
  pointwise [res_main_v37]
  simp only [v29_at, bits_128, RmsGrad.bits_eps, bits_0, zero_add]
  rfl

theorem v38_at (r : Fin 2048) (g : Fin 4) : (res_main_v38 V0 : FVec Ideal S1x2048x4x1 .f32) (ix4 0 r g 0) = scale (args V0) r g := by
  pointwise [res_main_v38]
  rw [v37_at]
  rfl

theorem v43_at (r : Fin 2048) (g : Fin 4) (d : Fin 128) : (res_main_v43 V0 : FVec Ideal S1x2048x4x128 .f32) (ix4 0 r g d) = vhat (args V0) r g d := by
  pointwise [res_main_v43]
  rw [v29_at, v38_at]
  rfl

theorem v44_at (g : Fin 4) (d : Fin 128) : (res_main_v44 V0 : FVec Ideal S1x1x4x128 .f32) (ix4 0 0 g d) = (args V0).gv (lane g d) := by
  pointwise [res_main_v44, args]

theorem v47_at (n : Fin 16) (s : Fin 128) (g : Fin 4) (d : Fin 128) : (res_main_v47 V0 : FVec Ideal S1x16x128x4x128 .f32) (ix5 0 n s g d)
    = vn (args V0) (row n s) g d := by
  pointwise [res_main_v47]
  rw [v43_at, v44_at]
  rfl

theorem chunk_of {k : ℕ} (n : Fin k) (t : Fin 128) (h) : (⟨(n.val * 128 + t.val) / 128, h⟩ : Fin k) = n := Fin.ext (by simp only; omega)
theorem place_of {k : ℕ} (n : Fin k) (t : Fin 128) (h) : (⟨(n.val * 128 + t.val) % 128, h⟩ : Fin 128) = t := Fin.ext (by simp only; omega)

theorem below : ∀ t s : Fin 128, IntOp.cmpi CmpIPredicate.sge (IntOp.addi (BitVec.ofNat 32 t.val) 0#32) (BitVec.ofNat 32 s.val)
    = if s ≤ t then 1#1 else 0#1 := by decide +kernel

/-- The mask of the lower triangle. -/
theorem v51_1_at (g : Fin 4) (t s : Fin 128) : (res_main_v51_1 V0 : IVec S4x128x128 1) (ix3 g t s) = if s ≤ t then 1#1 else 0#1 := by
  pointwise [res_main_v51_1]
  rw [below]
  split <;> rfl

theorem v51_0_at (g : Fin 4) (t s : Fin 128) : (res_main_v51_0 V0 : FVec Ideal S4x128x128 .f32) (ix3 g t s) = wt (args V0) g t s := by
  pointwise [res_main_v51_0]
  rw [v51_1_at]
  unfold wt
  split
  · rfl
  · show (((0#32 : BitVec 32).toInt : ℝ) : EReal) = 0
    simp

theorem v59_at (n : Fin 16) (t : Fin 128) (g : Fin 4) (d : Fin 128) : (res_main_v59 V0 : FVec Ideal S1x2048x512 .f32) (ix3 0 (row n t) (lane g d))
    = sv (args V0) n t g d := by
  pointwise [res_main_v59]
  simp only [chunk_of, place_of, v47_at, v51_0_at]
  rfl

theorem v61_at (r : Fin 2048) (j : Fin 512) : (res_main_v61 V0 : FVec Ideal S1x2048x512 .f32) (ix3 0 r j) = (args V0).ct r j := by
  pointwise [res_main_v61, args]

theorem v64_at (n : Fin 16) (t : Fin 128) (g : Fin 4) (d : Fin 128) : (res_main_v64 V0 : FVec Ideal S1x16x128x4x128 .f32) (ix5 0 n t g d)
    = dsv (args V0) n t g d := by
  pointwise [res_main_v64]
  rw [v24_at, v61_at]
  rfl

theorem v71_at (n : Fin 16) (t : Fin 128) (g : Fin 4) (d : Fin 128) : (res_main_v71 V0 : FVec Ideal S4x1x16x128x128 .f32) (ix5 g 0 n d t)
    = dsv (args V0) n t g d := by
  pointwise [res_main_v71]
  rw [v64_at]

theorem v76_at (n : Fin 16) (s : Fin 128) (g : Fin 4) (d : Fin 128) : (res_main_v76 V0 : FVec Ideal S1x2048x4x128 .f32) (ix4 0 (row n s) g d)
    = dvn (args V0) n s g d := by
  pointwise [res_main_v76]
  simp only [chunk_of, place_of, v71_at, v51_0_at]
  rfl

theorem v81_at (n : Fin 16) (s : Fin 128) (g : Fin 4) (d : Fin 128) : (res_main_v81 V0 : FVec Ideal S1x2048x4x128 .f32) (ix4 0 (row n s) g d)
    = dhat (args V0) n s g d := by
  pointwise [res_main_v81]
  rw [v76_at, v44_at]
  rfl

theorem v93_at (n : Fin 16) (s : Fin 128) (g : Fin 4) (d : Fin 128) : (res_main_v93 V0 : FVec Ideal S1x2048x4x128 .f32) (ix4 0 (row n s) g d)
    = Ideal.div (along (args V0) n s g * (((-(1 / 2) : ℝ) : EReal) * Ideal.div (scale (args V0) (row n s) g) (meanSq (args V0) (row n s) g))) ((128 : ℝ) : EReal) := by
  pointwise [res_main_v93]
  rw [HostSums.unit_03]
  pointwise []
  simp only [v29_at, v81_at, v38_at, v37_at, RmsGrad.bits_neg_half, bits_128]
  rfl

theorem v105_low (n : Fin 16) (t : Fin 128) (g : Fin 4) (d : Fin 128) : (res_main_v105 V0 : FVec Ideal S1x2048x1024 .f32) (ix3 0 (row n t) (low (lane g d)))
    = du (args V0) n t g d := by
  pointwise [res_main_v105]
  rw [dif_neg (fun h => by have := h.2.1; omega), zero_add, dif_pos (fun a => ?_), v61_at, v59_at]
  · rfl
  · match a with
    | ⟨0, _⟩ => exact ⟨Nat.zero_le _, Nat.mod_one _, (by decide : (0 - 0) / (0 + 1) < 1)⟩
    | ⟨1, _⟩ => exact ⟨Nat.zero_le _, Nat.mod_one _, (by omega : (n.val * 128 + t.val - 0) / (0 + 1) < 2048)⟩
    | ⟨2, _⟩ => exact ⟨Nat.zero_le _, Nat.mod_one _, (by omega : (g.val * 128 + d.val - 0) / (0 + 1) < 512)⟩

theorem v105_high (n : Fin 16) (t : Fin 128) (g : Fin 4) (d : Fin 128) : (res_main_v105 V0 : FVec Ideal S1x2048x1024 .f32) (ix3 0 (row n t) (high (lane g d)))
    = dv (args V0) n t g d := by
  pointwise [res_main_v105]
  rw [dif_pos ⟨by omega, by omega⟩, dif_neg (fun h => by
    have := (h ⟨2, by decide⟩).2.2
    change (512 + (g.val * 128 + d.val) - 0) / (0 + 1) < 512 at this
    omega), add_zero, v81_at, v38_at, v29_at, v93_at]
  exact dv_chain n t g d

theorem v112_at (r : Fin 2048) (k : Fin 1024) (o : EReal) (ho : (res_main_v105 V0 : FVec Ideal S1x2048x1024 .f32) (ix3 0 r k) = o) :
    (res_main_v112 V0 : FVec Ideal S1x2048x1024 .f32) (ix3 0 r k)
      = root * (half * ((args V0).z r k * o) * ((1 + th ((args V0).z r k)) * (1 - th ((args V0).z r k)))) := by
  pointwise [res_main_v112]
  rw [v1_at, v13_at, bits_root, bits_half, ho]

/-- The reference's four results. -/
def resDz : FVec Ideal S2048x1536 .bf16 := truncf .bf16 (shapeCast _ (pad S1x2048x1536 ![0, 0, 0] ![0, 0, 512] ![0, 0, 0] (addf (addf (mulf (res_main_v105 V0) (res_main_v22 V0)) (res_main_v112 V0)) (mulf (mulf (broadcastInDim S1x2048x1024 ![] bcast_S_S1x2048x1024 (res_main_v2 V0)) (res_main_v112 V0)) (mulf (broadcastInDim S1x2048x1024 ![] bcast_S_S1x2048x1024 (constant S_ .f32 0x40400000#32)) (mulf (res_main_v1 V0) (res_main_v1 V0))))) (constant S_ .f32 0x00000000#32) pads_S1x2048x1024_S1x2048x1536_000_000_05120 h_S_) shapeCasts_S1x2048x1536_S2048x1536) bitsLt_bf16_f32
def resDgv : FVec Ideal S1x512 .f32 := broadcastInDim S1x512 ![1] bcast_S512_S1x512_1 (shapeCast _ (Host.reduceAdd (shapeCast _ (Host.reduceAdd (mulf (res_main_v43 V0) (res_main_v76 V0)) (constant S_ .f32 0x00000000#32) reducesTo_S1x2048x4x128_S1x4x128_d1 h_S_) shapeCasts_S1x4x128_S1x1x4x128) (constant S_ .f32 0x00000000#32) reducesTo_S1x1x4x128_S4x128_d0_1 h_S_) shapeCasts_S4x128_S512)
def resDw : FVec Ideal S4x128x128 .f32 := shapeCast _ (broadcastInDim S1x4x128x128 ![1, 2, 3] bcast_S4x128x128_S1x4x128x128_1_2_3 (select (res_main_v51_1 V0) (Host.dotGeneral (φ₁ := .f32) (φ₂ := .f32) dot_S4x1x16x128x128_S1x16x128x4x128_S4x128x128_123_014_4_2_0_3 none (res_main_v71 V0) (res_main_v47 V0)) (broadcastInDim S4x128x128 ![] bcast_S_S4x128x128 (constant S_ .f32 0x00000000#32)))) shapeCasts_S1x4x128x128_S4x128x128
def resDb : FVec Ideal S4x128 .f32 := shapeCast _ (broadcastInDim S1x4x128 ![1, 2] bcast_S4x128_S1x4x128_1_2 (transpose S4x128 [1, 0] (Host.reduceAdd (broadcastInDim S128x4x1 ![0, 1] bcast_S128x4_S128x4x1_0_1 (Host.reduceAdd (shapeCast _ (Host.reduceAdd (res_main_v64 V0) (constant S_ .f32 0x00000000#32) reducesTo_S1x16x128x4x128_S1x128x4_d1_4 h_S_) shapeCasts_S1x128x4_S1x1x128x4x1) (constant S_ .f32 0x00000000#32) reducesTo_S1x1x128x4x1_S128x4_d0_1_4 h_S_)) (constant S_ .f32 0x00000000#32) reducesTo_S128x4x1_S128x4_d2 h_S_) transposes_S128x4_S4x128_1_0)) shapeCasts_S1x4x128_S4x128

theorem resDz_at (r : Fin 2048) (k : Fin 1024) (o : EReal) (ho : (res_main_v105 V0 : FVec Ideal S1x2048x1024 .f32) (ix3 0 r k) = o)
    (hz : IsReal ((args V0).z r k)) (hr : IsReal o) : resDz V0 (ix2 r ⟨k.val, by omega⟩) = o * slope ((args V0).z r k) := by
  rw [← through_gelu hz hr]
  pointwise [resDz]
  rw [dif_pos (fun a => ?_), v112_at V0 r k o ho, ho, v1_at, v22_at, v2_at, bits_3]
  match a with
  | ⟨0, _⟩ => exact ⟨Nat.zero_le _, Nat.mod_one _, (by decide : (0 - 0) / (0 + 1) < 1)⟩
  | ⟨1, _⟩ => exact ⟨Nat.zero_le _, Nat.mod_one _, (by omega : (r.val - 0) / (0 + 1) < 2048)⟩
  | ⟨2, _⟩ => exact ⟨Nat.zero_le _, Nat.mod_one _, (by omega : (k.val - 0) / (0 + 1) < 1024)⟩

theorem resDgv_at (g : Fin 4) (d : Fin 128) : resDgv V0 (ix2 0 (lane g d)) = ∑ n, dgvPart (args V0) n g d := by
  pointwise [resDgv]
  rw [HostSums.unit_01_of_4]
  pointwise []
  rw [Fin.sum_univ_tiles 16 128 rfl]
  refine Finset.sum_congr rfl fun n _ => Finset.sum_congr rfl fun s _ => ?_
  exact (congrArg₂ (HMul.hMul (α := EReal) (β := EReal) (γ := EReal)) (v43_at V0 (row n s) g d) (v76_at V0 n s g d)).trans (mul_comm _ _)

/-- The three contracted axes of the spatial weights' gradient, the first of size one. -/
abbrev D3 := dot_S4x1x16x128x128_S1x16x128x4x128_S4x128x128_123_014_4_2_0_3

def contracted : D3.contr.Idx ≃ Fin 16 × Fin 128 where
  toFun k := (k ⟨1, by decide⟩, k ⟨2, by decide⟩)
  invFun p := fun a => match a with
    | ⟨0, _⟩ => (0 : Fin 1)
    | ⟨1, _⟩ => p.1
    | ⟨2, _⟩ => p.2
  left_inv k := by
    funext a
    match a with
    | ⟨0, _⟩ => exact Subsingleton.elim (α := Fin 1) _ _
    | ⟨1, _⟩ => rfl
    | ⟨2, _⟩ => rfl
  right_inv p := rfl

theorem lhs_at (g : Fin 4) (t s : Fin 128) (n : Fin 16) (d : Fin 128) :
    D3.lhsIdx (ix3 g t s) (contracted.symm (n, d)) = ix5 g 0 n d t := by
  funext a
  match a with
  | ⟨0, _⟩ => rfl
  | ⟨1, _⟩ => rfl
  | ⟨2, _⟩ => rfl
  | ⟨3, _⟩ => rfl
  | ⟨4, _⟩ => rfl

theorem rhs_at (g : Fin 4) (t s : Fin 128) (n : Fin 16) (d : Fin 128) :
    D3.rhsIdx (ix3 g t s) (contracted.symm (n, d)) = ix5 0 n s g d := by
  funext a
  match a with
  | ⟨0, _⟩ => rfl
  | ⟨1, _⟩ => rfl
  | ⟨2, _⟩ => rfl
  | ⟨3, _⟩ => rfl
  | ⟨4, _⟩ => rfl

theorem dw_sum (g : Fin 4) (t s : Fin 128) :
    Ideal.matmul D3 (res_main_v71 V0) (res_main_v47 V0) (fun _ => 0) (ix3 g t s) = ∑ n, dwPart (args V0) n g t s := by
  refine (zero_add _).trans ((Equiv.sum_comp contracted.symm _).symm.trans ((Fintype.sum_prod_type _).trans ?_))
  refine Finset.sum_congr rfl fun n _ => Finset.sum_congr rfl fun d _ => ?_
  rw [lhs_at, rhs_at]
  exact congrArg₂ (HMul.hMul (α := EReal) (β := EReal) (γ := EReal)) (v71_at V0 n t g d) (v47_at V0 n s g d)

theorem resDw_at (g : Fin 4) (t s : Fin 128) : resDw V0 (ix3 g t s) = if s ≤ t then ∑ n, dwPart (args V0) n g t s else 0 := by
  pointwise [resDw]
  rw [v51_1_at]
  split
  · exact dw_sum V0 g t s
  · rfl

theorem resDb_at (g : Fin 4) (t : Fin 128) : resDb V0 (ix2 g t) = ∑ n, dbPart (args V0) n g t := by
  pointwise [resDb]
  rw [Fin.sum_univ_one, HostSums.unit_014]
  pointwise []
  rw [HostSums.both_14, zero_add]
  simp only [v64_at]
  rfl

end Cert.Reference3Ideal.Value

end
-- ==== Proof.MixerPair.lean ====
/- The mixer's backward kernel beside its reference, in the gated half. -/
module

public import proofs.«01_k».proof.Defs
public import proofs.«01_k».proof.Proof.MixerValue
public import proofs.«01_k».proof.Proof.MixerRef

@[expose] public section

set_option maxRecDepth 16384

noncomputable section

open Idealize.ShloMosaic Idealize.ShloMosaic.TcCoe Idealize.ShloMosaic.Tactic Idealize.SL.Sem

namespace Cert.Proof.Mixer
open Cert.Mixer

/-! ## The precondition and the part of the results that is compared -/

theorem facts_finite : Cert.Pre_finite.Facts where
  bcast_S_S1x2048x1792 := by decide
  bcast_S_S1x512 := by decide
  bcast_S_S1x4x128x128 := by decide
  bcast_S_S1x4x128 := by decide
  bcast_S_S1x2048x1024 := by decide

theorem facts_half : Cert.On_gated_half.Facts where
  bcast_S_S2048x1024 := by decide
  bcast_S_S2048x512 := by decide
  concatenates_S2048x1024_S2048x512_S2048x1536_d1 := by decide
  bcast_S_S1x512 := by decide
  bcast_S_S4x128x128 := by decide
  bcast_S_S4x128 := by decide

/-- A number whose absolute value is below infinity is real. -/
theorem real_of_bounded (x : EReal) (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  induction x using EReal.rec with
  | bot => simp [Ideal.cmp] at h
  | coe x => exact .coe x
  | top => simp [Ideal.cmp] at h

theorem args_real (m : (ℓ : Loc Cert.Kernel3Ideal.nD Cert.Kernel3Ideal.τ Cert.Kernel3Ideal.sig) → Buf (Elt Ideal) ℓ)
    (h : Cert.Pre_Kernel3Ideal_finite (hPre_finite := facts_finite) m) (c : Dev Cert.Kernel3Ideal.nD) : (Cert.Kernel3Ideal.Value.args m c).Real := by
  obtain ⟨h0, h1, h2, h3, h4⟩ := h c
  exact ⟨fun r k => real_of_bounded _ (congrFun h0 (ix3 0 r ⟨k.val, by omega⟩)), fun j => real_of_bounded _ (congrFun h1 (ix2 0 j)),
    fun g t s => real_of_bounded _ (congrFun h2 (ix4 0 g t s)), fun g t => real_of_bounded _ (congrFun h3 (ix3 0 g t)),
    fun r j => real_of_bounded _ (congrFun h4 (ix3 0 r ⟨j.val, by omega⟩))⟩

/-- Of the projection's gradient the first 1024 columns are compared. -/
theorem half_columns (a0 : FVec Ideal Cert.On_gated_half.S1x2048x1792 .f32) (a1 : FVec Ideal Cert.On_gated_half.S1x512 .f32)
    (a2 : FVec Ideal Cert.On_gated_half.S1x4x128x128 .f32) (a3 : FVec Ideal Cert.On_gated_half.S1x4x128 .f32) (a4 : FVec Ideal Cert.On_gated_half.S1x8 .f32)
    (a5 : FVec Ideal Cert.On_gated_half.S32x8 .f32) (a6 : FVec Ideal Cert.On_gated_half.S1x2048x1024 .f32) (r : Fin 2048) (k : Fin 1536)
    (h : (@Cert.On_gated_half.fn facts_half Ideal _ a0 a1 a2 a3 a4 a5 a6).1 (ix2 r k) = 1#1) : k.val < 1024 := by
  by_contra hk
  revert h
  unfold Cert.On_gated_half.fn
  dsimp only
  pointwise []
  rw [dif_neg hk]
  decide

/-! ## The comparison -/

variable (m : (ℓ : Loc Cert.Kernel3Ideal.nD Cert.Kernel3Ideal.τ Cert.Kernel3Ideal.sig) → Buf (Elt Ideal) ℓ) (c : Dev Cert.Kernel3Ideal.nD)
  (V0 : Valuation Cert.Reference3Ideal.τ Cert.Reference3Ideal.sig (Elt Ideal))
  (ha : Cert.Reference3Ideal.Value.args V0 = Cert.Kernel3Ideal.Value.args m c)
include ha

theorem same_rows (hr : (Cert.Kernel3Ideal.Value.args m c).Real) (n : Fin 16) (r : Fin 128) (k : Fin 1536) (hk : k.val < 1024) :
    rows m c (ix2 (Cert.Mixer.row n r) k) = Cert.Reference3Ideal.Value.resDz V0 (ix2 (Cert.Mixer.row n r) k) := by
  have hz := hr.z (Cert.Mixer.row n r) ⟨k.val, hk⟩
  rw [← ha] at hz
  by_cases h : k.val < 512
  · obtain ⟨g, d, hgd⟩ : ∃ (g : Fin 4) (d : Fin 128), k.val = g.val * 128 + d.val :=
      ⟨⟨k.val / 128, by omega⟩, ⟨k.val % 128, by omega⟩, by show k.val = k.val / 128 * 128 + k.val % 128; omega⟩
    have e : (⟨k.val, hk⟩ : Fin 1024) = low (lane g d) := Fin.ext hgd
    have hv := Cert.Reference3Ideal.Value.v105_low V0 n r g d
    have hd := du_real hr n r g d
    rw [← ha] at hd
    rw [← e] at hv
    rw [rows_low m c n r g d k hgd]
    refine Eq.trans ?_ (Cert.Reference3Ideal.Value.resDz_at V0 (Cert.Mixer.row n r) ⟨k.val, hk⟩ _ hv hz hd).symm
    rw [e, ha]
    rfl
  · obtain ⟨g, d, hgd⟩ : ∃ (g : Fin 4) (d : Fin 128), k.val = 512 + (g.val * 128 + d.val) :=
      ⟨⟨(k.val - 512) / 128, by omega⟩, ⟨(k.val - 512) % 128, by omega⟩, by show k.val = 512 + ((k.val - 512) / 128 * 128 + (k.val - 512) % 128); omega⟩
    have e : (⟨k.val, hk⟩ : Fin 1024) = high (lane g d) := Fin.ext hgd
    have hv := Cert.Reference3Ideal.Value.v105_high V0 n r g d
    have hd := dv_real hr n r g d
    rw [← ha] at hd
    rw [← e] at hv
    rw [rows_high m c n r g d k (by omega)]
    refine Eq.trans ?_ (Cert.Reference3Ideal.Value.resDz_at V0 (Cert.Mixer.row n r) ⟨k.val, hk⟩ _ hv hz hd).symm
    rw [e, ha]
    rfl

theorem same_dgv : (after m c 17).1.dgv = Cert.Reference3Ideal.Value.resDgv V0 := by
  refine funext fun i => ?_
  obtain ⟨g, d, rfl⟩ : ∃ (g : Fin 4) (d : Fin 128), i = (ix2 0 (lane g d) : (⟨2, ![1, 512]⟩ : Shape).Idx) := by
    have h1 : (i 1).val < 512 := (i 1).isLt
    have h0 : (i 0).val < 1 := (i 0).isLt
    exact ⟨⟨(i 1).val / 128, by omega⟩, ⟨(i 1).val % 128, by omega⟩, funext fun a => Fin.ext (match a with
      | ⟨0, _⟩ => by show (i 0).val = 0; omega
      | ⟨1, _⟩ => by show (i 1).val = (i 1).val / 128 * 128 + (i 1).val % 128; omega)⟩
  refine ((sums_last m c).1 g d).trans (Eq.trans ?_ (Cert.Reference3Ideal.Value.resDgv_at V0 g d).symm)
  rw [ha]

theorem same_dw : (after m c 17).1.dw = Cert.Reference3Ideal.Value.resDw V0 := by
  refine funext fun i => ?_
  obtain ⟨g, r, s, rfl⟩ : ∃ (g : Fin 4) (r s : Fin 128), i = (ix3 g r s : (⟨3, ![4, 128, 128]⟩ : Shape).Idx) :=
    ⟨i 0, i 1, i 2, funext fun a => match a with
      | ⟨0, _⟩ => rfl
      | ⟨1, _⟩ => rfl
      | ⟨2, _⟩ => rfl⟩
  refine ((sums_last m c).2.1 g r s).trans (Eq.trans ?_ (Cert.Reference3Ideal.Value.resDw_at V0 g r s).symm)
  rw [ha]

theorem same_db : (after m c 17).2.db = Cert.Reference3Ideal.Value.resDb V0 := by
  refine funext fun i => ?_
  obtain ⟨g, r, rfl⟩ : ∃ (g : Fin 4) (r : Fin 128), i = (ix2 g r : (⟨2, ![4, 128]⟩ : Shape).Idx) :=
    ⟨i 0, i 1, funext fun a => match a with
      | ⟨0, _⟩ => rfl
      | ⟨1, _⟩ => rfl⟩
  refine ((sums_last m c).2.2 g r).trans (Eq.trans ?_ (Cert.Reference3Ideal.Value.resDb_at V0 g r).symm)
  rw [ha]

omit ha in
/-- From finite arguments, the kernel's gradients in the gated half are those of the reference. -/
theorem gated : @Cert.algebraic_Kernel3Ideal_Reference3Ideal_on_gated_half_pre_finite Cert.Kernel3Ideal.Gen.facts Cert.Reference3Ideal.Gen.facts facts_finite facts_half := by
  intro m g m' g' hpre hagree
  have ha : ∀ c, Cert.Reference3Ideal.Value.args (StableHlo.launchContents m' c) = Cert.Kernel3Ideal.Value.args m c := fun c => by
    obtain ⟨h0, h1, h2, h3, -, -, h6⟩ := hagree c
    show Args.mk _ _ _ _ _ = Args.mk _ _ _ _ _
    rw [← h0, ← h1, ← h2, ← h3, ← h6]
  refine ⟨fun c => Cert.Reference3Ideal.Value.resDz (StableHlo.launchContents m' c), fun c => Cert.Reference3Ideal.Value.resDgv (StableHlo.launchContents m' c),
    fun c => Cert.Reference3Ideal.Value.resDw (StableHlo.launchContents m' c), fun c => Cert.Reference3Ideal.Value.resDb (StableHlo.launchContents m' c), ?_, ?_⟩
  · refine (θ_run _ _ _).mono (fun r h c => ?_) (run_results m g)
    obtain ⟨h0, h1, h2, h3, hk⟩ := h c
    refine ⟨fun i hi => ?_, fun i _ => ?_, fun i _ => ?_, fun i _ => ?_, hk⟩
    · have e0 : (i 0).val < 2048 := (i 0).isLt
      obtain ⟨n, r, k, rfl⟩ : ∃ (n : Fin 16) (r : Fin 128) (k : Fin 1536), i = (ix2 (Cert.Mixer.row n r) k : (⟨2, ![2048, 1536]⟩ : Shape).Idx) :=
        ⟨⟨(i 0).val / 128, by omega⟩, ⟨(i 0).val % 128, by omega⟩, i 1, funext fun a => Fin.ext (match a with
          | ⟨0, _⟩ => by show (i 0).val = (i 0).val / 128 * 128 + (i 0).val % 128; omega
          | ⟨1, _⟩ => rfl)⟩
      exact (congrFun h0 _).trans (same_rows m c _ (ha c) (args_real m hpre c) n r k (half_columns _ _ _ _ _ _ _ _ _ hi))
    · exact (congrFun h1 i).trans (congrFun (same_dgv m c _ (ha c)) i)
    · exact (congrFun h2 i).trans (congrFun (same_dw m c _ (ha c)) i)
    · exact (congrFun h3 i).trans (congrFun (same_db m c _ (ha c)) i)
  · refine (θ_run _ _ _).mono (fun r h c => ?_) (Cert.Reference3Ideal.Value.run m' g')
    obtain ⟨h0, h1, h2, h3, hk⟩ := h c
    exact ⟨fun i _ => congrFun h0 i, fun i _ => congrFun h1 i, fun i _ => congrFun h2 i, fun i _ => congrFun h3 i, hk⟩

end Cert.Proof.Mixer

end
-- ==== Proof.InProj.lean ====
/- The first norm and the input projection: the tiled kernel's three results are the reference's, element by element. -/
module

public import proofs.«01_k».proof.Proof.Gen.Kernel4Ideal.Value
public import proofs.«01_k».proof.Proof.Gen.Reference4Ideal.Run
public import Idealize.ShloMosaic.Lib.Pipeline.ValueKit
public import Idealize.ShloMosaic.Lib.Claim
public import proofs.«01_k».proof.Defs
public import proofs.«01_k».proof.Proof.Gen.Kernel4Ideal
public import proofs.«01_k».proof.Proof.Gen.Reference4Ideal

@[expose] public section

set_option maxRecDepth 16384

noncomputable section

open Idealize.ShloMosaic Idealize.ShloMosaic.TcCoe Idealize.SL.Sem
open Idealize.ShloMosaic.Pipeline (Dat)

namespace Cert.Reference4Ideal.Value
open Cert.Reference4Ideal Cert.Reference4Ideal.Gen

/-- The normed rows times the gain. -/
def normed (x : FVec Ideal S1x2048x1024 .f32) (g : FVec Ideal S1x1024 .f32) : FVec Ideal S1x2048x1024 .f32 :=
  mulf (mulf x (broadcastInDim S1x2048x1024 ![0, 1, 2] bcast_S1x2048x1_S1x2048x1024_0_1_2
      (Host.rsqrt (addf (Host.divf (broadcastInDim S1x2048x1 ![0, 1] bcast_S1x2048_S1x2048x1_0_1
          (Host.reduceAdd (mulf x x) (constant S_ .f32 0x00000000#32) reducesTo_S1x2048x1024_S1x2048_d2 h_S_))
        (broadcastInDim S1x2048x1 ![] bcast_S_S1x2048x1 (constant S_ .f32 0x44800000#32)))
        (broadcastInDim S1x2048x1 ![] bcast_S_S1x2048x1 (constant S_ .f32 0x358637BD#32))))))
    (broadcastInDim S1x2048x1024 ![0, 1, 2] bcast_S1x1x1024_S1x2048x1024_0_1_2
      (broadcastInDim S1x1x1024 ![2] bcast_S1024_S1x1x1024_2 (shapeCast _ g shapeCasts_S1x1024_S1024)))

/-- The projection. -/
def proj (n : FVec Ideal S1x2048x1024 .f32) (w : FVec Ideal S1x1024x1792 .f32) : FVec Ideal S1x2048x1792 .f32 :=
  Host.dotGeneral dot_S1x2048x1024_S1024x1792_S1x2048x1792_2_0_01_1_n_n none n (shapeCast _ w shapeCasts_S1x1024x1792_S1024x1792)

/-- Its columns of the gated half. -/
def gatedCols (z : FVec Ideal S1x2048x1792 .f32) : FVec Ideal S2048x1024 .f32 :=
  shapeCast _ (extractStridedSlice S1x2048x1024 ![0, 0, 0] z slices_S1x2048x1792_S1x2048x1024_0_0_0) shapeCasts_S1x2048x1024_S2048x1024

/-- Its columns of the queries, keys and values. -/
def attnCols (z : FVec Ideal S1x2048x1792 .f32) : FVec Ideal S2048x768 .bf16 :=
  truncf .bf16 (shapeCast _ (extractStridedSlice S1x2048x768 ![0, 0, 1024] z slices_S1x2048x1792_S1x2048x768_0_0_1024)
    shapeCasts_S1x2048x768_S2048x768) bitsLt_bf16_f32

/-- The normed rows as the kernel keeps them. -/
def kept (n : FVec Ideal S1x2048x1024 .f32) : FVec Ideal S2048x1024 .bf16 :=
  truncf .bf16 (shapeCast _ n shapeCasts_S1x2048x1024_S2048x1024) bitsLt_bf16_f32

theorem normed_at (x g) (r : Fin 2048) (k : Fin 1024) : normed x g (ix3 0 r k)
    = x (ix3 0 r k) * Ideal.rsqrt (Ideal.div (∑ j : Fin 1024, x (ix3 0 r j) * x (ix3 0 r j)) (Ideal.ofBits .f32 0x44800000#32)
        + Ideal.ofBits .f32 0x358637BD#32) * g (ix2 0 k) := by
  pointwise [normed]

theorem proj_at (n w) (r : Fin 2048) (j : Fin 1792) : proj n w (ix3 0 r j) = ∑ k : Fin 1024, n (ix3 0 r k) * w (ix3 0 k j) := by
  pointwise [proj]

theorem gatedCols_at (z) (r : Fin 2048) (j : Fin 1024) : gatedCols z (ix2 r j) = z (ix3 0 r (Fin.castAdd 768 j)) := by
  pointwise [gatedCols]
  rfl

theorem attnCols_at (z) (r : Fin 2048) (j : Fin 768) : attnCols z (ix2 r j) = z (ix3 0 r (Fin.natAdd 1024 j)) := by
  pointwise [attnCols]
  rfl

theorem kept_at (n) (r : Fin 2048) (k : Fin 1024) : kept n (ix2 r k) = n (ix3 0 r k) := by
  pointwise [kept]

end Cert.Reference4Ideal.Value

namespace Cert.Kernel4Ideal.Value
open Cert.Kernel4Ideal Cert.Kernel4Ideal.Gen
open Cert.Reference4Ideal.Value (normed normed_at proj proj_at gatedCols gatedCols_at attnCols attnCols_at kept kept_at)
variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] :=
  (by decide +kernel : ∀ t : Fin grid0.N, _)

/-- Row `r` of point `t`'s tile, in the whole array. -/
abbrev row (t : Fin cfg0.N) (r : Fin 512) : Fin 2048 :=
  ⟨t.val * 512 + r.val, by have h := t.isLt; have := N_0; have := r.isLt; change t.val < grid0.N at h; omega⟩

/-- The arguments, by name: the residual stream, the gain, the weights. -/
abbrev argX (c : Dev nD) : FVec Ideal S1x2048x1024 .f32 := m ((c.tc : Thread nD τ).loc main_arg0)
abbrev argG (c : Dev nD) : FVec Ideal S1x1024 .f32 := m ((c.tc : Thread nD τ).loc main_arg1)
abbrev argW (c : Dev nD) : FVec Ideal S1x1024x1792 .f32 := m ((c.tc : Thread nD τ).loc main_arg2)

theorem blk_x (c : Dev nD) (t : Fin cfg0.N) (r : Fin 512) (k : Fin 1024) : iblk m c 0 t (ix2 r k) = argX m c (ix3 0 (row t r) k) := by
  blk_point [iblk, V, idx t]

theorem blk_g (c : Dev nD) (t : Fin cfg0.N) (k : Fin 1024) : iblk m c 1 t (ix2 0 k) = argG m c (ix2 0 k) := by
  blk_point [iblk, V, idx t]

theorem blk_w (c : Dev nD) (t : Fin cfg0.N) (j : Fin 1792) (k : Fin 1024) : iblk m c 2 t (ix2 j k) = argW m c (ix3 0 k j) := by
  blk_point [iblk, V, idx t]

/-- A tile's normed rows. -/
theorem tile_normed (c : Dev nD) (t : Fin cfg0.N) (r : Fin 512) (k : Fin 1024) :
    k0_pay1 (F := Ideal) (iblk m c 0 t) (iblk m c 1 t) (ix2 r k) = normed (argX m c) (argG m c) (ix3 0 (row t r) k) := by
  have h : ∀ (a : Vec Ideal S512x1024 .f32) (g : Vec Ideal S1x1024 .f32), k0_pay1 (F := Ideal) a g (ix2 r k)
      = a (ix2 r k) * Ideal.rsqrt (Ideal.div (∑ j : Fin 1024, a (ix2 r j) * a (ix2 r j)) (Ideal.ofBits .f32 0x44800000#32)
        + Ideal.ofBits .f32 0x358637BD#32) * g (ix2 0 k) := fun a g => by pointwise [k0_pay1]
  rw [h, normed_at]
  simp only [blk_x, blk_g]

/-- A tile's projection. -/
theorem tile_proj (c : Dev nD) (t : Fin cfg0.N) (r : Fin 512) (j : Fin 1792) :
    k0_pay2 (F := Ideal) (iblk m c 0 t) (iblk m c 1 t) (iblk m c 2 t) (ix2 r j)
      = proj (normed (argX m c) (argG m c)) (argW m c) (ix3 0 (row t r) j) := by
  have h : ∀ (a : Vec Ideal S512x1024 .f32) (g : Vec Ideal S1x1024 .f32) (w : Vec Ideal S1792x1024 .bf16), k0_pay2 (F := Ideal) a g w (ix2 r j)
      = ∑ k : Fin 1024, k0_pay1 (F := Ideal) a g (ix2 r k) * w (ix2 j k) := by
    intro a g w
    unfold k0_pay2
    generalize k0_pay1 (F := Ideal) a g = n
    pointwise []
  rw [h, proj_at]
  exact Finset.sum_congr rfl fun k _ => congrArg₂ (· * ·) (tile_normed m c t r k) (blk_w m c t j k)

theorem final3 (c : Dev nD) : (dats m 0 c).arrAt 3 (cfgs 0).N = gatedCols (proj (normed (argX m c) (argG m c)) (argW m c)) := by
  refine (dats m 0 c).arrAt_eq_of_covers 3 _ (by decide +kernel) fun t hf y => ?_
  blk_simp
  rw [after0_3]
  generalize hz : proj (normed (argX m c) (argG m c)) (argW m c) = z
  have hy : gatedCols z (ix2 (row t (y 0)) (y 1)) = gatedCols z (((View.whole main_v4_0).slice (win0_3.rect t)).emb y) := by
    blk_point [idx t]
  have h : ∀ (a : Fin 512) (b : Fin 1024), k0_pay3 (F := Ideal) (iblk m c 0 t) (iblk m c 1 t) (iblk m c 2 t) (ix2 a b)
      = gatedCols z (ix2 (row t a) b) := by
    intro a b
    rw [gatedCols_at, ← hz, ← tile_proj]
    unfold k0_pay3
    generalize k0_pay2 (F := Ideal) (iblk m c 0 t) (iblk m c 1 t) (iblk m c 2 t) = u
    pointwise []
    rfl
  frame_out
  exact (congrArg _ (eq_ix2 y)).trans ((h (y 0) (y 1)).trans hy)

theorem final4 (c : Dev nD) : (dats m 0 c).arrAt 4 (cfgs 0).N = attnCols (proj (normed (argX m c) (argG m c)) (argW m c)) := by
  refine (dats m 0 c).arrAt_eq_of_covers 4 _ (by decide +kernel) fun t hf y => ?_
  blk_simp
  rw [after0_4]
  generalize hz : proj (normed (argX m c) (argG m c)) (argW m c) = z
  have hy : attnCols z (ix2 (row t (y 0)) (y 1)) = attnCols z (((View.whole main_v4_1).slice (win0_4.rect t)).emb y) := by
    blk_point [idx t]
  have h : ∀ (a : Fin 512) (b : Fin 768), k0_pay4 (F := Ideal) (iblk m c 0 t) (iblk m c 1 t) (iblk m c 2 t) (ix2 a b)
      = attnCols z (ix2 (row t a) b) := by
    intro a b
    rw [attnCols_at, ← hz, ← tile_proj]
    unfold k0_pay4
    generalize k0_pay2 (F := Ideal) (iblk m c 0 t) (iblk m c 1 t) (iblk m c 2 t) = u
    pointwise []
    rfl
  frame_out
  exact (congrArg _ (eq_ix2 y)).trans ((h (y 0) (y 1)).trans hy)

theorem final5 (c : Dev nD) : (dats m 0 c).arrAt 5 (cfgs 0).N = kept (normed (argX m c) (argG m c)) := by
  refine (dats m 0 c).arrAt_eq_of_covers 5 _ (by decide +kernel) fun t hf y => ?_
  blk_simp
  rw [after0_5]
  have hy : kept (normed (argX m c) (argG m c)) (ix2 (row t (y 0)) (y 1))
      = kept (normed (argX m c) (argG m c)) (((View.whole main_v4_2).slice (win0_5.rect t)).emb y) := by
    blk_point [idx t]
  frame_out
  exact (congrArg _ (eq_ix2 y)).trans ((tile_normed m c t (y 0) (y 1)).trans ((kept_at _ _ _).symm.trans hy))

end Cert.Kernel4Ideal.Value

namespace Cert.Proof
open Cert.Kernel4Ideal

/-- The three results of the kernel are the reference's, whatever the arguments. -/
theorem in_proj : @Cert.algebraic_Kernel4Ideal_Reference4Ideal Cert.Kernel4Ideal.Gen.facts Cert.Reference4Ideal.Gen.facts := by
  pair_intro
  · run_from Cert.Kernel4Ideal.Value.run_blocks m g
  · run_from Cert.Reference4Ideal.Value.run m' g'
    · exact (Cert.Kernel4Ideal.Value.final3 m c).symm
    · exact (Cert.Kernel4Ideal.Value.final4 m c).symm
    · exact (Cert.Kernel4Ideal.Value.final5 m c).symm

end Cert.Proof
-- ==== Proof.MixerFwd.lean ====
/- The mixer's forward kernel in the gated half: what each point stores, and the two arrays it ends in. -/
module

public import proofs.«01_k».proof.Proof.Gen.Kernel5Ideal.Frame
public import proofs.«01_k».proof.Proof.MixerStores
public import Idealize.ShloMosaic.Lib.Pipeline.ValueKit
public import Idealize.ShloMosaic.Lib.Claim
public import proofs.«01_k».proof.Proof.Gen.Kernel5Ideal

@[expose] public section

set_option maxRecDepth 16384

/-!
# The forward kernel of the mixer

A point has one chunk of 128 rows. It stores the hyperbolic tangents of all its columns, and of each group of 128 columns
the product of the gelu's first half with the normed and mixed second half. A group's stages are those that the backward
kernel recomputes (`Group`), so their values are taken from there.
-/

noncomputable section

open Idealize.ShloMosaic Idealize.ShloMosaic.TcCoe Idealize.ShloMosaic.Tactic Idealize.SL.Sem

namespace Cert.Proof.MixerFwd
open Cert.Kernel5Ideal Cert.Kernel5Ideal.Gen Cert.Mixer
open Cert.Proof.Mixer.Parts
open Cert.Proof.Mixer (cols cols_at rGv rW rB)
open Cert.Kernel3Ideal.Value (Group)

variable (m : (ℓ : Loc nD τ sig) → Buf (Elt Ideal) ℓ) (c : Dev nD)

/-- The arguments as the kernel is given them; the forward pass has no cotangent. -/
def args : Args where
  z r k := (m ((c.tc : Thread nD τ).loc main_arg0) : FVec Ideal S1x2048x1792 .f32) (ix3 0 r ⟨k.val, by omega⟩)
  gv j := (m ((c.tc : Thread nD τ).loc main_arg1) : FVec Ideal S1x512 .f32) (ix2 0 j)
  w g t s := (m ((c.tc : Thread nD τ).loc main_arg2) : FVec Ideal S1x4x128x128 .f32) (ix4 0 g t s)
  b g t := (m ((c.tc : Thread nD τ).loc main_arg3) : FVec Ideal S1x4x128 .f32) (ix3 0 g t)
  ct _ _ := 0

/-! ## The blocks a point reads -/

theorem arr_zuv : V m c main_v2 = shapeCast S2048x1024 (extractStridedSlice S1x2048x1024 ![0, 0, 0] (m ((c.tc : Thread nD τ).loc main_arg0) : FVec Ideal S1x2048x1792 .f32) slices_S1x2048x1792_S1x2048x1024_0_0_0) shapeCasts_S1x2048x1024_S2048x1024 := by
  sl_kernel_rfl

theorem arr_w : V m c main_v6 = shapeCast S4x128x128 (m ((c.tc : Thread nD τ).loc main_arg2) : FVec Ideal S1x4x128x128 .f32) shapeCasts_S1x4x128x128_S4x128x128 := by
  sl_kernel_rfl

theorem arr_b : V m c main_v0 = shapeCast S4x128x1 (m ((c.tc : Thread nD τ).loc main_arg3) : FVec Ideal S1x4x128 .f32) shapeCasts_S1x4x128_S4x128x1 := by
  sl_kernel_rfl

theorem idx : ∀ t : Fin cfg0.N, win0_0.index t = ![t.val, 0] ∧ win0_4.index t = ![0, 0] ∧ win0_5.index t = ![0, 0, 0]
    ∧ win0_6.index t = ![0, 0, 0] :=
  (by decide +kernel : ∀ t : Fin grid0.N, _)

theorem zuv_at (r : Fin 2048) (k : Fin 1024) : (V m c main_v2 : FVec Ideal S2048x1024 .f32) (ix2 r k) = (args m c).z r k := by
  rw [arr_zuv]
  pointwise []
  rfl

theorem w_at (g : Fin 4) (r s : Fin 128) : (V m c main_v6 : FVec Ideal S4x128x128 .f32) (ix3 g r s) = (args m c).w g r s := by
  rw [arr_w]
  exact Cert.Kernel3Ideal.Value.drop_w g r s

theorem b_at (g : Fin 4) (r : Fin 128) : (V m c main_v0 : FVec Ideal S4x128x1 .f32) (ix3 g r 0) = (args m c).b g r := by
  rw [arr_b]
  exact Cert.Kernel3Ideal.Value.drop_b g r

theorem blk_zuv (t : Fin cfg0.N) (n : Fin 16) (hn : t.val = n.val) (r : Fin 128) (k : Fin 1024) : iblk m c 0 t (ix2 r k) = (args m c).z (row n r) k := by
  rw [← zuv_at]
  show (V m c main_v2 : FVec Ideal S2048x1024 .f32) ((win0_0.blk t).view.emb (ix2 r k)) = _
  refine congrArg (V m c main_v2 : FVec Ideal S2048x1024 .f32) (funext fun a => Fin.ext ?_)
  have h := (idx t).1
  rw [hn] at h
  match a with
  | ⟨0, _⟩ => show win0_0.index t 0 * 128 + 1 * r.val = n.val * 128 + r.val; rw [h]; show n.val * 128 + 1 * r.val = _; omega
  | ⟨1, _⟩ => show win0_0.index t 1 * 1024 + 1 * k.val = k.val; rw [h]; show 0 * 1024 + 1 * k.val = _; omega

theorem blk_gv (t : Fin cfg0.N) (j : Fin 512) : iblk m c 4 t (ix2 0 j) = (args m c).gv j := by
  blk_point [iblk, V, idx t, args]

theorem blk_w (t : Fin cfg0.N) (g : Fin 4) (r s : Fin 128) : iblk m c 5 t (ix3 g r s) = (args m c).w g r s := by
  rw [← w_at]
  show (V m c main_v6 : FVec Ideal S4x128x128 .f32) ((win0_5.blk t).view.emb (ix3 g r s)) = _
  refine congrArg (V m c main_v6 : FVec Ideal S4x128x128 .f32) (funext fun a => Fin.ext ?_)
  have h := (idx t).2.2.1
  match a with
  | ⟨0, _⟩ => show win0_5.index t 0 * 4 + 1 * g.val = g.val; rw [h]; show 0 * 4 + 1 * g.val = _; omega
  | ⟨1, _⟩ => show win0_5.index t 1 * 128 + 1 * r.val = r.val; rw [h]; show 0 * 128 + 1 * r.val = _; omega
  | ⟨2, _⟩ => show win0_5.index t 2 * 128 + 1 * s.val = s.val; rw [h]; show 0 * 128 + 1 * s.val = _; omega

theorem blk_b (t : Fin cfg0.N) (g : Fin 4) (r : Fin 128) : iblk m c 6 t (ix3 g r 0) = (args m c).b g r := by
  rw [← b_at]
  show (V m c main_v0 : FVec Ideal S4x128x1 .f32) ((win0_6.blk t).view.emb (ix3 g r 0)) = _
  refine congrArg (V m c main_v0 : FVec Ideal S4x128x1 .f32) (funext fun a => Fin.ext ?_)
  have h := (idx t).2.2.2
  match a with
  | ⟨0, _⟩ => show win0_6.index t 0 * 4 + 1 * g.val = g.val; rw [h]; show 0 * 4 + 1 * g.val = _; omega
  | ⟨1, _⟩ => show win0_6.index t 1 * 128 + 1 * r.val = r.val; rw [h]; show 0 * 128 + 1 * r.val = _; omega
  | ⟨2, _⟩ => show win0_6.index t 2 * 1 + 1 * 0 = 0; rw [h]; rfl

/-! ## A group at a point -/

variable (t : Fin cfg0.N)

/-- The columns a point loads: all of them, and the two halves. -/
def zAll : FVec Ideal S128x1024 .f32 := View.readAt (Elt Ideal) (ms0_0 t).view (Rect.unit (s := S128x1024) ![0, 0] S128x1024.size inb_S128x1024_S128x1024_0_0).toLoadRect ((hs0_0 t).unread (iblk m c 0 t))
@[inherit_doc zAll] def zLow : FVec Ideal S128x512 .f32 := View.readAt (Elt Ideal) (ms0_0 t).view (Rect.unit (s := S128x1024) ![0, 0] S128x512.size inb_S128x1024_S128x512_0_0).toLoadRect ((hs0_0 t).unread (iblk m c 0 t))
@[inherit_doc zAll] def zHigh : FVec Ideal S128x512 .f32 := View.readAt (Elt Ideal) (ms0_0 t).view (Rect.unit (s := S128x1024) ![0, 512] S128x512.size inb_S128x1024_S128x512_0_512).toLoadRect ((hs0_0 t).unread (iblk m c 0 t))

/-- Group `g` as the body has it. The derivatives and the cotangent belong to the backward pass and are not used. -/
def group (g : Fin 4) : Group where
  v := cols g (k0_pay82 (zAll m c t) (zHigh m c t))
  u := cols g (k0_pay81 (zAll m c t) (zLow m c t))
  slopeLow := fun q => slope (iblk m c 0 t (ix2 (q 0) (low (lane g (q 1)))))
  slopeHigh := fun q => slope (iblk m c 0 t (ix2 (q 0) (high (lane g (q 1)))))
  ct := fun _ => (0 : EReal)
  gv := View.readAt (Elt Ideal) (ms0_4 t).view (rGv g).toLoadRect ((hs0_4 t).unread (iblk m c 4 t))
  w := View.readAt (Elt Ideal) (ms0_5 t).view (rW g).toLoadRect ((hs0_5 t).unread (iblk m c 5 t))
  b := View.readAt (Elt Ideal) (ms0_6 t).view (rB g).toLoadRect ((hs0_6 t).unread (iblk m c 6 t))

/-- What the body stores for the group. -/
def store (g : Fin 4) : FVec Ideal S128x128 .bf16 := truncf .bf16 (mulf (group m c t g).u (group m c t g).mixed) bitsLt_bf16_f32

/-- The named factor of the cube is the reference's quotient. -/
theorem named_cubic : (Named.named κ "gelu_a" 0x3D372713#32 : Ideal .f32) = cubic := by
  rw [cubic_eq]
  exact congrArg (fun r : ℝ => (r : EReal)) (by norm_num)

section Values
variable {t} {n : Fin 16} (hn : t.val = n.val)
include hn

theorem zAll_at (s : Fin 128) (k : Fin 1024) : zAll m c t (ix2 s k) = (args m c).z (row n s) k := by
  rw [← blk_zuv m c t n hn]
  exact load_at (ms0_0 t) (hs0_0 t) _ _ _ _ fun a => match a with
    | ⟨0, _⟩ => (Nat.zero_add _).symm
    | ⟨1, _⟩ => (Nat.zero_add _).symm
theorem zLow_at (s : Fin 128) (j : Fin 512) : zLow m c t (ix2 s j) = (args m c).z (row n s) (low j) := by
  rw [← blk_zuv m c t n hn]
  exact load_at (ms0_0 t) (hs0_0 t) _ _ _ _ fun a => match a with
    | ⟨0, _⟩ => (Nat.zero_add _).symm
    | ⟨1, _⟩ => (Nat.zero_add _).symm
theorem zHigh_at (s : Fin 128) (j : Fin 512) : zHigh m c t (ix2 s j) = (args m c).z (row n s) (high j) := by
  rw [← blk_zuv m c t n hn]
  exact load_at (ms0_0 t) (hs0_0 t) _ _ _ _ fun a => match a with
    | ⟨0, _⟩ => (Nat.zero_add _).symm
    | ⟨1, _⟩ => rfl

theorem tanh_at (s : Fin 128) (k : Fin 1024) : k0_pay80 (F := Ideal) (zAll m c t) (ix2 s k) = th ((args m c).z (row n s) k) := by
  have e : k0_pay80 (F := Ideal) (zAll m c t) (ix2 s k) = Ideal.tanh (Ideal.ofBits .f32 0x3F4C422A#32 * (zAll m c t (ix2 s k)
      + (Named.named κ "gelu_a" 0x3D372713#32 : Ideal .f32) * (zAll m c t (ix2 s k) * zAll m c t (ix2 s k) * zAll m c t (ix2 s k)))) := by
    generalize zAll m c t = p
    pointwise [k0_pay80]
  rw [e, zAll_at m c hn, named_cubic, Cert.Kernel3Ideal.Value.bits_root]
  rfl

theorem low_at (s : Fin 128) (j : Fin 512) : k0_pay81 (F := Ideal) (zAll m c t) (zLow m c t) (ix2 s j) = Mixer.u (args m c) (row n s) j := by
  have e : k0_pay81 (F := Ideal) (zAll m c t) (zLow m c t) (ix2 s j)
      = zLow m c t (ix2 s j) * (Ideal.ofBits .f32 0x3F000000#32 * (1 + k0_pay80 (F := Ideal) (zAll m c t) (ix2 s (low j)))) := by
    unfold k0_pay81
    generalize k0_pay80 (F := Ideal) (zAll m c t) = p
    generalize zLow m c t = q
    pointwise []
  rw [e, zLow_at m c hn, tanh_at m c hn, Cert.Proof.Mixer.bits_half]
  rfl

theorem high_at (s : Fin 128) (j : Fin 512) : k0_pay82 (F := Ideal) (zAll m c t) (zHigh m c t) (ix2 s j) = Mixer.v (args m c) (row n s) j := by
  have e : k0_pay82 (F := Ideal) (zAll m c t) (zHigh m c t) (ix2 s j)
      = zHigh m c t (ix2 s j) * (Ideal.ofBits .f32 0x3F000000#32 * (1 + k0_pay80 (F := Ideal) (zAll m c t) (ix2 s (high j)))) := by
    unfold k0_pay82
    generalize k0_pay80 (F := Ideal) (zAll m c t) = p
    generalize zHigh m c t = q
    pointwise []
  rw [e, zHigh_at m c hn, tanh_at m c hn, Cert.Proof.Mixer.bits_half]
  rfl

theorem group_of (g : Fin 4) : (group m c t g).Of (args m c) n g where
  v s d := (cols_at g _ s d).trans (high_at m c hn s (lane g d))
  u s d := (cols_at g _ s d).trans (low_at m c hn s (lane g d))
  slopeLow s d := congrArg slope (blk_zuv m c t n hn s (low (lane g d)))
  slopeHigh s d := congrArg slope (blk_zuv m c t n hn s (high (lane g d)))
  ct s d := rfl
  gv d := by
    rw [← blk_gv m c t]
    exact load_at (ms0_4 t) (hs0_4 t) _ _ _ _ fun a => match a with
      | ⟨0, _⟩ => rfl
      | ⟨1, _⟩ => rfl
  w s d := by
    rw [← blk_w m c t]
    exact load_at (ms0_5 t) (hs0_5 t) _ _ _ _ fun a => match a with
      | ⟨0, _⟩ => rfl
      | ⟨1, _⟩ => (Nat.zero_add _).symm
      | ⟨2, _⟩ => (Nat.zero_add _).symm
  b s := by
    rw [← blk_b m c t]
    exact load_at (ms0_6 t) (hs0_6 t) _ _ _ _ fun a => match a with
      | ⟨0, _⟩ => rfl
      | ⟨1, _⟩ => (Nat.zero_add _).symm
      | ⟨2, _⟩ => rfl

theorem store_at (g : Fin 4) (s d : Fin 128) : store m c t g (ix2 s d) = Mixer.u (args m c) (row n s) (lane g d) * Mixer.sv (args m c) n s g d := by
  have h := group_of m c hn g
  have e : store m c t g (ix2 s d) = (group m c t g).u (ix2 s d) * (group m c t g).mixed (ix2 s d) := by
    unfold store
    generalize (group m c t g).u = p
    generalize (group m c t g).mixed = q
    pointwise []
  rw [e, h.u, Group.mixed_at h]

end Values

/-! ## The stores -/

/-- A list of stores, the last of them set apart. -/
theorem split_read {sig : RefSig} {κ : Kind} {sp : Space} {s : Shape} {e : EltTy} {Val : EltTy → Type} (v : View sig κ sp s e) (f : v.ty.Contents Val)
    (k : ℕ) (L M : List (View.Piece Val s e)) (rs : List (Rect s)) (h : L.drop k = M) (h' : (L.take k).map (·.1) = rs) :
    ∃ A : List (View.Piece Val s e), v.read Val (v.writes Val f L) = v.read Val (v.writes Val f (A ++ M)) ∧ A.map (·.1) = rs :=
  ⟨L.take k, by rw [← h, List.take_append_drop], h'⟩

theorem inb_mix : ∀ g : Fin 4, ∀ a, (![0, g.val * 128] : Fin 2 → ℕ) a + S128x128.size a ≤ S128x1024.size a := by decide
theorem inb_attn : ∀ k : Fin 8, ∀ a, (![0, 512 + k.val * 64] : Fin 2 → ℕ) a + S128x64.size a ≤ S128x1024.size a := by decide
/-- Where a group is stored, and where a head of the attention is. -/
abbrev rMix (g : Fin 4) : Rect S128x1024 := Rect.unit ![0, g.val * 128] S128x128.size (inb_mix g)
@[inherit_doc rMix] abbrev rAttn (k : Fin 8) : Rect S128x1024 := Rect.unit ![0, 512 + k.val * 64] S128x64.size (inb_attn k)

abbrev heads : List (Rect S128x1024) := [rAttn 7, rAttn 6, rAttn 5, rAttn 4, rAttn 3, rAttn 2, rAttn 1, rAttn 0]

theorem stores_mix : ∃ A : List (View.Piece (Elt Ideal) S128x1024 .bf16),
    (outsAt0 m c t.val t.isLt).1 = VO0_10.read (Elt Ideal) (VO0_10.writes (Elt Ideal) VO0_10.junk (A ++ parts rMix (store m c t) [])) ∧ A.map (·.1) = heads := by
  by_cases h0 : t.val % 16 = 0
  · rw [outsAt0_A m c t h0]
    unfold out0_A_10
    dsimp only
    exact split_read _ _ 8 _ _ _ (by sl_kernel_rfl) (by sl_kernel_rfl)
  · rw [outsAt0_B m c t h0]
    unfold out0_B_10
    dsimp only
    exact split_read _ _ 8 _ _ _ (by sl_kernel_rfl) (by sl_kernel_rfl)

theorem zAll_eq : zAll m c t = iblk m c 0 t := by
  refine funext fun x => load_at (ms0_0 t) (hs0_0 t) _ _ _ _ fun a => ?_
  match a with
  | ⟨0, _⟩ => exact (Nat.zero_add _).symm
  | ⟨1, _⟩ => exact (Nat.zero_add _).symm

theorem stores_tanh : (outsAt0 m c t.val t.isLt).2.1 = k0_pay80 (F := Ideal) (zAll m c t) := by
  rw [zAll_eq]
  by_cases h0 : t.val % 16 = 0
  · rw [outsAt0_A m c t h0]
    frame_out
  · rw [outsAt0_B m c t h0]
    frame_out

theorem read_past {sig : RefSig} {κ : Kind} {sp : Space} {s : Shape} {e : EltTy} {Val : EltTy → Type} (v : View sig κ sp s e) (f : v.ty.Contents Val)
    (M : List (View.Piece Val s e)) (y : s.Idx) : ∀ A : List (View.Piece Val s e), (∀ r ∈ A.map (·.1), y ∉ r.set) →
      v.read Val (v.writes Val f (A ++ M)) y = v.read Val (v.writes Val f M) y
  | [], _ => rfl
  | q :: A, hA => by
    have h : y ∉ Finset.univ.map q.1.emb := by rw [Rect.map_emb_univ]; exact hA q.1 (.head _)
    rw [List.cons_append, View.writes_cons, View.read_slice_write_of_not_mem q.1 _ _ _ h]
    exact read_past v f M y A fun r hr => hA r (.tail _ hr)

theorem rMix_disjoint : ∀ g g', g ≠ g' → Disjoint (rMix g).set (rMix g').set := by
  intro g g' h
  refine Finset.disjoint_left.mpr fun y hy hy' => ?_
  have h1 := (Rect.mem_set_unit.mp hy) 1
  have h2 := (Rect.mem_set_unit.mp hy') 1
  change g.val * 128 ≤ (y 1).val ∧ (y 1).val < g.val * 128 + 128 at h1
  change g'.val * 128 ≤ (y 1).val ∧ (y 1).val < g'.val * 128 + 128 at h2
  exact h (Fin.ext (by omega))

theorem rMix_emb (g : Fin 4) (s d : Fin 128) : (rMix g).emb (ix2 s d) = ix2 s (low (lane g d)) := by
  refine funext fun a => Fin.ext ?_
  match a with
  | ⟨0, _⟩ => show 0 + 1 * s.val = s.val; omega
  | ⟨1, _⟩ => show g.val * 128 + 1 * d.val = g.val * 128 + d.val; omega

theorem outs_mix {n : Fin 16} (hn : t.val = n.val) (g : Fin 4) (s d : Fin 128) : (outsAt0 m c t.val t.isLt).1 (ix2 s (low (lane g d)))
    = Mixer.u (args m c) (row n s) (lane g d) * Mixer.sv (args m c) n s g d := by
  obtain ⟨A, hA, hr⟩ := stores_mix m c t
  have past : ∀ k : Fin 8, (ix2 s (low (lane g d)) : S128x1024.Idx) ∉ (rAttn k).set := fun k h => by
    have h1 := (Rect.mem_set_unit.mp h) 1
    change 512 + k.val * 64 ≤ g.val * 128 + d.val ∧ g.val * 128 + d.val < 512 + k.val * 64 + 64 at h1
    omega
  rw [hA, read_past VO0_10 _ _ _ A (by
    rw [hr]
    intro r h
    simp only [heads, List.mem_cons, List.not_mem_nil, or_false] at h
    rcases h with rfl | rfl | rfl | rfl | rfl | rfl | rfl | rfl <;> exact past _), ← rMix_emb]
  exact (read_parts VO0_10 _ rMix rMix_disjoint _ [] g (ix2 s d)).trans (store_at m c hn g s d)

/-! ## The arrays -/

/-- The point that has row `r`, and an array of the points' blocks. -/
abbrev point (n : Fin 16) : Fin cfg0.N := ⟨n.val, by have := N_0; have := n.isLt; show n.val < grid0.N; omega⟩
def tiled (f : Fin cfg0.N → FVec Ideal S128x1024 .f32) : FVec Ideal S2048x1024 .f32 := fun i =>
  f (point ⟨(i 0).val / 128, by have h : (i 0).val < 2048 := (i 0).isLt; omega⟩) (ix2 ⟨(i 0).val % 128, by omega⟩ (i 1))

theorem tiled_of (f : Fin cfg0.N → FVec Ideal S128x1024 .f32) (i : S2048x1024.Idx) (y : S128x1024.Idx)
    (h0 : (i 0).val = t.val * 128 + (y 0).val) (h1 : (i 1).val = (y 1).val) : tiled f i = f t y := by
  have hy : (y 0).val < 128 := (y 0).isLt
  unfold tiled
  have e : ∀ h, point ⟨(i 0).val / 128, h⟩ = t := fun h => Fin.ext (by show (i 0).val / 128 = t.val; omega)
  rw [e]
  refine congrArg (f t) (funext fun a => Fin.ext ?_)
  match a with
  | ⟨0, _⟩ => show (i 0).val % 128 = (y 0).val; omega
  | ⟨1, _⟩ => exact h1

/-- What the kernel's first two results end in. -/
def mixArr : FVec Ideal S2048x1024 .bf16 := tiled fun t => (outsAt0 m c t.val t.isLt).1
@[inherit_doc mixArr] def tanhArr : FVec Ideal S2048x1024 .f32 := tiled fun t => (outsAt0 m c t.val t.isLt).2.1

theorem idx_out : ∀ t : Fin cfg0.N, win0_10.index t = ![t.val, 0] ∧ win0_11.index t = ![t.val, 0] :=
  (by decide +kernel : ∀ t : Fin grid0.N, _)

theorem final_mix : (dats m 0 c).arrAt 10 cfg0.N = mixArr m c := by
  refine (dats m 0 c).arrAt_eq_of_covers 10 _ (by decide +kernel) fun t hf y => ?_
  blk_simp
  rw [after0_10]
  refine (tiled_of t (fun t => (outsAt0 m c t.val t.isLt).1) _ y ?_ ?_).symm
  · show win0_10.index t 0 * 128 + 1 * (y 0).val = _
    rw [(idx_out t).1]
    show t.val * 128 + 1 * (y 0).val = _
    omega
  · show win0_10.index t 1 * 1024 + 1 * (y 1).val = _
    rw [(idx_out t).1]
    show 0 * 1024 + 1 * (y 1).val = _
    omega

theorem final_tanh : (dats m 0 c).arrAt 11 cfg0.N = tanhArr m c := by
  refine (dats m 0 c).arrAt_eq_of_covers 11 _ (by decide +kernel) fun t hf y => ?_
  blk_simp
  rw [after0_11]
  refine (tiled_of t (fun t => (outsAt0 m c t.val t.isLt).2.1) _ y ?_ ?_).symm
  · show win0_11.index t 0 * 128 + 1 * (y 0).val = _
    rw [(idx_out t).2]
    show t.val * 128 + 1 * (y 0).val = _
    omega
  · show win0_11.index t 1 * 1024 + 1 * (y 1).val = _
    rw [(idx_out t).2]
    show 0 * 1024 + 1 * (y 1).val = _
    omega

theorem mixArr_at (n : Fin 16) (s : Fin 128) (g : Fin 4) (d : Fin 128) : mixArr m c (ix2 (row n s) (low (lane g d)))
    = Mixer.u (args m c) (row n s) (lane g d) * Mixer.sv (args m c) n s g d :=
  (tiled_of (point n) (fun t => (outsAt0 m c t.val t.isLt).1) _ (ix2 s (low (lane g d))) rfl rfl).trans (outs_mix m c (point n) rfl g s d)

theorem tanhArr_at (n : Fin 16) (s : Fin 128) (k : Fin 1024) : tanhArr m c (ix2 (row n s) k) = th ((args m c).z (row n s) k) :=
  (tiled_of (point n) (fun t => (outsAt0 m c t.val t.isLt).2.1) _ (ix2 s k) rfl rfl).trans
    ((congrFun (stores_tanh m c (point n)) (ix2 s k)).trans (tanh_at m c (t := point n) rfl s k))

end Cert.Proof.MixerFwd

end
-- ==== Proof.MixerFwdPair.lean ====
/- The mixer's forward kernel beside its reference, in the gated half. -/
module

public import proofs.«01_k».proof.Defs
public import proofs.«01_k».proof.Proof.MixerFwd
public import proofs.«01_k».proof.Proof.MixerRef
public import proofs.«01_k».proof.Proof.Gen.Reference5Ideal.Run
public import Idealize.ShloMosaic.Lib.Claim
public import proofs.«01_k».proof.Proof.Gen.Reference5Ideal

@[expose] public section

set_option maxRecDepth 16384

noncomputable section

open Idealize.ShloMosaic Idealize.ShloMosaic.TcCoe Idealize.ShloMosaic.Tactic Idealize.SL.Sem

namespace Cert.Reference5Ideal.Value
open Cert.Reference5Ideal Cert.Reference5Ideal.Gen Cert.Mixer
open Cert.Reference3Ideal.Value (bits_0 bits_half bits_128 bits_root bits_44715 bits_million below chunk_of place_of)

variable (V0 : Valuation τ sig (Elt Ideal))

/-! ## The reference, element by element -/

/-- The arguments as the reference is given them. -/
def args : Args where
  z r k := (V0 (Proc.devRef .tc main_arg0) : FVec Ideal S1x2048x1792 .f32) (ix3 0 r ⟨k.val, by omega⟩)
  gv j := (V0 (Proc.devRef .tc main_arg1) : FVec Ideal S1x512 .f32) (ix2 0 j)
  w g t s := (V0 (Proc.devRef .tc main_arg2) : FVec Ideal S1x4x128x128 .f32) (ix4 0 g t s)
  b g t := (V0 (Proc.devRef .tc main_arg3) : FVec Ideal S1x4x128 .f32) (ix3 0 g t)
  ct _ _ := 0

/-- The stages: the norm's factor, the normed rows, the lower triangle, the spatial weights in it, the mixed rows, the gated half. -/
def scaled : FVec Ideal S1x2048x4x1 .f32 := Host.rsqrt (addf (Host.divf (broadcastInDim S1x2048x4x1 ![0, 1, 2] bcast_S1x2048x4_S1x2048x4x1_0_1_2 (Host.reduceAdd (mulf (res_main_v23 V0) (res_main_v23 V0)) (constant S_ .f32 0x00000000#32) reducesTo_S1x2048x4x128_S1x2048x4_d3 h_S_)) (broadcastInDim S1x2048x4x1 ![] bcast_S_S1x2048x4x1 (constant S_ .f32 0x43000000#32))) (broadcastInDim S1x2048x4x1 ![] bcast_S_S1x2048x4x1 (constant S_ .f32 0x358637BD#32)))
@[inherit_doc scaled] def normed : FVec Ideal S1x2048x4x128 .f32 := mulf (mulf (res_main_v23 V0) (broadcastInDim S1x2048x4x128 ![0, 1, 2, 3] bcast_S1x2048x4x1_S1x2048x4x128_0_1_2_3 (scaled V0))) (broadcastInDim S1x2048x4x128 ![0, 1, 2, 3] bcast_S1x1x4x128_S1x2048x4x128_0_1_2_3 (broadcastInDim S1x1x4x128 ![2, 3] bcast_S4x128_S1x1x4x128_2_3 (shapeCast _ (shapeCast _ (V0 (Proc.devRef .tc main_arg1)) shapeCasts_S1x512_S512) shapeCasts_S512_S4x128)))
@[inherit_doc scaled] def triangle : IVec S4x128x128 1 := broadcastInDim S4x128x128 ![0, 1, 2] bcast_S1x128x128_S4x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))
@[inherit_doc scaled] def lower : FVec Ideal S4x128x128 .f32 := select triangle (shapeCast _ (V0 (Proc.devRef .tc main_arg2)) shapeCasts_S1x4x128x128_S4x128x128) (broadcastInDim S4x128x128 ![] bcast_S_S4x128x128 (sitofp .f32 (constantI S_ 32 0#32)))
@[inherit_doc scaled] def mixed : FVec Ideal S1x2048x512 .f32 := shapeCast _ (addf (transpose S1x16x128x4x128 [1, 2, 4, 0, 3] (Host.dotGeneral dot_S1x16x128x4x128_S4x128x128_S4x1x16x128x128_2_2_014_1_3_0 none (shapeCast _ (normed V0) shapeCasts_S1x2048x4x128_S1x16x128x4x128) (lower V0)) transposes_S4x1x16x128x128_S1x16x128x4x128_1_2_4_0_3) (broadcastInDim S1x16x128x4x128 ![0, 1, 2, 3, 4] bcast_S1x1x128x4x1_S1x16x128x4x128_0_1_2_3_4 (broadcastInDim S1x1x128x4x1 ![2, 3, 4] bcast_S128x4x1_S1x1x128x4x1_2_3_4 (broadcastInDim S128x4x1 ![0, 1] bcast_S128x4_S128x4x1_0_1 (transpose S128x4 [1, 0] (shapeCast _ (V0 (Proc.devRef .tc main_arg3)) shapeCasts_S1x4x128_S4x128) transposes_S4x128_S128x4_1_0))))) shapeCasts_S1x16x128x4x128_S1x2048x512
@[inherit_doc scaled] def gated : FVec Ideal S1x2048x512 .f32 := mulf (extractStridedSlice S1x2048x512 ![0, 0, 0] (res_main_v17 V0) slices_S1x2048x1024_S1x2048x512_0_0_0) (mixed V0)

/-- The two halves side by side, as the kernel keeps them. -/
def joined (a b : FVec Ideal S1x2048x512 .f32) : FVec Ideal S2048x1024 .bf16 :=
  truncf .bf16 (shapeCast _ (concatenate S1x2048x1024 2 [⟨S1x2048x512, a⟩, ⟨S1x2048x512, b⟩] concatenates_S1x2048x512_S1x2048x512_S1x2048x1024_d2) shapeCasts_S1x2048x1024_S2048x1024) bitsLt_bf16_f32

/-- The saved hyperbolic tangents. -/
def saved : FVec Ideal S2048x1024 .f32 := Host.tanh (mulf (broadcastInDim S2048x1024 ![] bcast_S_S2048x1024 (constant S_ .f32 0x3F4C422A#32)) (addf (res_main_v166 V0) (mulf (broadcastInDim S2048x1024 ![] bcast_S_S2048x1024 (Host.divf (constant S_ .f32 0x472EAB00#32) (constant S_ .f32 0x49742400#32))) (mulf (mulf (res_main_v166 V0) (res_main_v166 V0)) (res_main_v166 V0)))))

theorem v3_at (r : Fin 2048) (k : Fin 1024) : (res_main_v3 V0 : FVec Ideal S1x2048x1024 .f32) (ix3 0 r k) = (args V0).z r k := by
  pointwise [res_main_v3, args]

theorem v17_at (r : Fin 2048) (k : Fin 1024) : (res_main_v17 V0 : FVec Ideal S1x2048x1024 .f32) (ix3 0 r k) = gelu ((args V0).z r k) := by
  pointwise [res_main_v17]
  rw [v3_at, bits_half, bits_root, bits_44715, bits_million]
  rfl

theorem v23_at (r : Fin 2048) (g : Fin 4) (d : Fin 128) : (res_main_v23 V0 : FVec Ideal S1x2048x4x128 .f32) (ix4 0 r g d) = v (args V0) r (lane g d) := by
  pointwise [res_main_v23]
  rw [v17_at]
  rfl

theorem scaled_at (r : Fin 2048) (g : Fin 4) : scaled V0 (ix4 0 r g 0) = scale (args V0) r g := by
  pointwise [scaled]
  simp only [v23_at, bits_128, RmsGrad.bits_eps, bits_0, zero_add]
  rfl

theorem normed_at (r : Fin 2048) (g : Fin 4) (d : Fin 128) : normed V0 (ix4 0 r g d) = vn (args V0) r g d := by
  pointwise [normed]
  rw [v23_at, scaled_at]
  rfl

theorem triangle_at (g : Fin 4) (t s : Fin 128) : triangle (ix3 g t s) = if s ≤ t then 1#1 else 0#1 := by
  pointwise [triangle]
  rw [below]
  split <;> rfl

theorem lower_at (g : Fin 4) (t s : Fin 128) : lower V0 (ix3 g t s) = wt (args V0) g t s := by
  pointwise [lower]
  rw [triangle_at]
  unfold wt
  split
  · rfl
  · show (((0#32 : BitVec 32).toInt : ℝ) : EReal) = 0
    simp

theorem row_of (n : Fin 16) (t s : Fin 128) (h) : (⟨(n.val * 128 + t.val) / 128 * 128 + s.val, h⟩ : Fin 2048) = row n s := Fin.ext (by simp only; omega)

theorem mixed_at (n : Fin 16) (t : Fin 128) (g : Fin 4) (d : Fin 128) : mixed V0 (ix3 0 (row n t) (lane g d)) = sv (args V0) n t g d := by
  pointwise [mixed]
  simp only [row_of, chunk_of, place_of, normed_at, lower_at]
  rfl

theorem gated_at (n : Fin 16) (t : Fin 128) (g : Fin 4) (d : Fin 128) : gated V0 (ix3 0 (row n t) (lane g d))
    = u (args V0) (row n t) (lane g d) * sv (args V0) n t g d := by
  pointwise [gated]
  rw [v17_at, mixed_at]
  rfl

theorem joined_at (a b : FVec Ideal S1x2048x512 .f32) (r : Fin 2048) (j : Fin 512) : joined a b (ix2 r (low j)) = a (ix3 0 r j) := by
  pointwise [joined]

theorem saved_at (r : Fin 2048) (k : Fin 1024) : saved V0 (ix2 r k) = th ((args V0).z r k) := by
  pointwise [saved, res_main_v166]
  rw [bits_root, bits_44715, bits_million]
  rfl

end Cert.Reference5Ideal.Value

namespace Cert.Proof.MixerFwd
open Cert.Mixer

/-! ## The part of the results that is compared -/

theorem facts_forward : Cert.On_gated_forward.Facts where
  bcast_S_S2048x512 := by decide
  concatenates_S2048x512_S2048x512_S2048x1024_d1 := by decide
  bcast_S_S2048x1024 := by decide
  bcast_S_S16x2x512x256 := by decide
  bcast_S_S16x2x512x128 := by decide

section Compared
variable (a0 : FVec Ideal Cert.On_gated_forward.S1x2048x1792 .f32) (a1 : FVec Ideal Cert.On_gated_forward.S1x512 .f32)
  (a2 : FVec Ideal Cert.On_gated_forward.S1x4x128x128 .f32) (a3 : FVec Ideal Cert.On_gated_forward.S1x4x128 .f32)
  (a4 : FVec Ideal Cert.On_gated_forward.S1x8 .f32) (a5 : FVec Ideal Cert.On_gated_forward.S32x8 .f32)

/-- Of the mixed columns the first 512 are compared. -/
theorem half_columns (r : Fin 2048) (k : Fin 1024)
    (h : (@Cert.On_gated_forward.fn facts_forward Ideal _ a0 a1 a2 a3 a4 a5).1 (ix2 r k) = 1#1) : k.val < 512 := by
  by_contra hk
  revert h
  unfold Cert.On_gated_forward.fn
  dsimp only
  pointwise []
  rw [dif_neg hk]
  decide

/-- Of what the attention saves nothing is. -/
theorem no_probs (i) (h : (@Cert.On_gated_forward.fn facts_forward Ideal _ a0 a1 a2 a3 a4 a5).2.2.1 i = 1#1) : False :=
  absurd (show (0#1 : BitVec 1) = 1#1 from h) (by decide)
@[inherit_doc no_probs] theorem no_sinks (i) (h : (@Cert.On_gated_forward.fn facts_forward Ideal _ a0 a1 a2 a3 a4 a5).2.2.2 i = 1#1) : False :=
  absurd (show (0#1 : BitVec 1) = 1#1 from h) (by decide)

end Compared

/-! ## The comparison -/

theorem in_rows (i : (⟨2, ![2048, 1024]⟩ : Shape).Idx) : ∃ (n : Fin 16) (s : Fin 128) (k : Fin 1024), i = ix2 (row n s) k := by
  have e0 : (i 0).val < 2048 := (i 0).isLt
  exact ⟨⟨(i 0).val / 128, by omega⟩, ⟨(i 0).val % 128, by omega⟩, i 1, funext fun a => Fin.ext (match a with
    | ⟨0, _⟩ => by show (i 0).val = (i 0).val / 128 * 128 + (i 0).val % 128; omega
    | ⟨1, _⟩ => rfl)⟩

open Cert.Kernel5Ideal Cert.Kernel5Ideal.Gen in
theorem run_results (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v8_0) = mixArr m c
      ∧ r.2.mem ((c.tc : Thread nD τ).loc main_v8_1) = tanhArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.1 c).1 10).trans (final_mix m c), ((h.1 c).1 11).trans (final_tanh m c), h.2 c⟩)
    (θ_run_and (run_main m ρ) (unchanged m ρ))

/-- The kernel's mixed columns of the gated half and its saved hyperbolic tangents are those of the reference, whatever
the arguments. -/
theorem forward : @Cert.algebraic_Kernel5Ideal_Reference5Ideal_on_gated_forward Cert.Kernel5Ideal.Gen.facts Cert.Reference5Ideal.Gen.facts facts_forward := by
  intro m g m' g' _ hagree
  have ha : ∀ c, Cert.Reference5Ideal.Value.args (StableHlo.launchContents m' c) = args m c := fun c => by
    obtain ⟨h0, h1, h2, h3, -, -⟩ := hagree c
    show Args.mk _ _ _ _ _ = Args.mk _ _ _ _ _
    rw [← h0, ← h1, ← h2, ← h3]
  refine ⟨fun c => mixArr m c, fun c => tanhArr m c, fun _ => fun _ => (0 : EReal), fun _ => fun _ => (0 : EReal), ?_, ?_⟩
  · refine (θ_run _ _ _).mono (fun r h c => ?_) (run_results m g)
    obtain ⟨h0, h1, hk⟩ := h c
    exact ⟨fun i _ => congrFun h0 i, fun i _ => congrFun h1 i, fun i hi => (no_probs _ _ _ _ _ _ _ hi).elim, fun i hi => (no_sinks _ _ _ _ _ _ _ hi).elim, hk⟩
  · refine (θ_run _ _ _).mono (fun r h c => ?_) (Cert.Reference5Ideal.Value.run m' g')
    obtain ⟨h0, h1, -, -, hk⟩ := h c
    refine ⟨fun i hi => ?_, fun i _ => ?_, fun i hi => (no_probs _ _ _ _ _ _ _ hi).elim, fun i hi => (no_sinks _ _ _ _ _ _ _ hi).elim, hk⟩
    · obtain ⟨n, s, k, rfl⟩ := in_rows i
      have hlt := half_columns _ _ _ _ _ _ _ _ hi
      obtain ⟨d, e, rfl⟩ : ∃ (d : Fin 4) (e : Fin 128), k = low (lane d e) :=
        ⟨⟨k.val / 128, by omega⟩, ⟨k.val % 128, by omega⟩, Fin.ext (by show k.val = k.val / 128 * 128 + k.val % 128; omega)⟩
      refine (congrFun h0 _).trans ((Cert.Reference5Ideal.Value.joined_at (Cert.Reference5Ideal.Value.gated (StableHlo.launchContents m' c)) _ _ _).trans ?_)
      exact (Cert.Reference5Ideal.Value.gated_at _ n s d e).trans ((congrArg (fun a : Args => u a (row n s) (lane d e) * sv a n s d e) (ha c)).trans (mixArr_at m c n s d e).symm)
    · obtain ⟨n, s, k, rfl⟩ := in_rows i
      refine (congrFun h1 _).trans ((Cert.Reference5Ideal.Value.saved_at (StableHlo.launchContents m' c) (row n s) k).trans ?_)
      exact (congrArg (fun a : Args => th (a.z (row n s) k)) (ha c)).trans (tanhArr_at m c n s k).symm

end Cert.Proof.MixerFwd

end
-- ==== Proof.WeightGrads.lean ====
/- The weights' gradients that are plain products: the second feed-forward weight's, and the input projection's. -/
module

public import proofs.«01_k».proof.Proof.Gen.Kernel6Ideal.Value
public import proofs.«01_k».proof.Proof.Gen.Reference6Ideal.Run
public import proofs.«01_k».proof.Proof.Gen.Kernel7Ideal.Value
public import proofs.«01_k».proof.Proof.Gen.Reference7Ideal.Run
public import Idealize.ShloMosaic.Lib.Pipeline.ValueKit
public import Idealize.ShloMosaic.Lib.Claim
public import proofs.«01_k».proof.Defs
public import proofs.«01_k».proof.Proof.Gen.Kernel6Ideal
public import proofs.«01_k».proof.Proof.Gen.Reference6Ideal
public import proofs.«01_k».proof.Proof.Gen.Kernel7Ideal
public import proofs.«01_k».proof.Proof.Gen.Reference7Ideal

@[expose] public section

set_option maxRecDepth 16384

/-!
# Two products over the tokens

Each kernel cuts the weight's gradient into tiles of rows, one a grid point, and every tile is a whole sum over the 2048
tokens. The second kernel's tiles come from two arrays: the first six from the main columns, the last from the keys and
values.
-/

noncomputable section

open Idealize.ShloMosaic Idealize.ShloMosaic.TcCoe Idealize.SL.Sem
open Idealize.ShloMosaic.Pipeline (Dat)

/-! ## The second feed-forward weight -/

namespace Cert.Reference6Ideal.Value
open Cert.Reference6Ideal Cert.Reference6Ideal.Gen

/-- The gradient: over the tokens, the activation times the cotangent. -/
def grad (a : FVec Ideal S1x2048x4096 .f32) (d : FVec Ideal S1x2048x1024 .f32) : FVec Ideal S4096x1024 .f32 :=
  transpose S4096x1024 [1, 0] (Host.dotGeneral (φ₁ := .f32) (φ₂ := .f32) dot_S1x2048x1024_S1x2048x4096_S1024x4096_01_01_2_2_n_n none d a) transposes_S1024x4096_S4096x1024_1_0

theorem grad_at (a d) (r : Fin 4096) (j : Fin 1024) : grad a d (ix2 r j) = ∑ s : Fin 2048, d (ix3 0 s j) * a (ix3 0 s r) := by
  pointwise [grad]
  rw [Fintype.sum_unique]
  rfl

end Cert.Reference6Ideal.Value

namespace Cert.Kernel6Ideal.Value
open Cert.Kernel6Ideal Cert.Kernel6Ideal.Gen
open Cert.Reference6Ideal.Value (grad grad_at)
variable (m : (ℓ : Loc nD τ sig) → Buf (Elt Ideal) ℓ)

theorem idx : ∀ t : Fin cfg0.N, win0_0.index t = ![0, t.val] ∧ win0_1.index t = ![0, 0] ∧ win0_2.index t = ![t.val, 0] :=
  (by decide +kernel : ∀ t : Fin grid0.N, _)

/-- Column `r` of point `t`'s tile of the activation, in the whole array. -/
abbrev row (t : Fin cfg0.N) (r : Fin 1024) : Fin 4096 :=
  ⟨t.val * 1024 + r.val, by have h := t.isLt; have := N_0; have := r.isLt; change t.val < grid0.N at h; omega⟩

/-- The arguments: the activation and the cotangent. -/
abbrev argA (c : Dev nD) : FVec Ideal S1x2048x4096 .f32 := m ((c.tc : Thread nD τ).loc main_arg0)
abbrev argD (c : Dev nD) : FVec Ideal S1x2048x1024 .f32 := m ((c.tc : Thread nD τ).loc main_arg1)

theorem blk_a (c : Dev nD) (t : Fin cfg0.N) (s : Fin 2048) (r : Fin 1024) : iblk m c 0 t (ix2 s r) = argA m c (ix3 0 s (row t r)) := by
  blk_point [iblk, V, idx t]

theorem blk_d (c : Dev nD) (t : Fin cfg0.N) (s : Fin 2048) (j : Fin 1024) : iblk m c 1 t (ix2 s j) = argD m c (ix3 0 s j) := by
  blk_point [iblk, V, idx t]

/-- A tile: the transposed block of the activation, kept in the scratch, times the cotangent. -/
theorem tile_at (a : Vec Ideal S2048x1024 .bf16) (d : Vec Ideal S2048x1024 .bf16) (r j : Fin 1024) :
    k0_pay2 (F := Ideal) (k0_pay1 (F := Ideal) a) d (ix2 r j) = ∑ s : Fin 2048, a (ix2 s r) * d (ix2 s j) := by
  have h : ∀ (r : Fin 1024) (s : Fin 2048), k0_pay1 (F := Ideal) a (ix2 r s) = a (ix2 s r) := fun r s => by pointwise [k0_pay1]
  have h2 : ∀ (u : Vec Ideal S1024x2048 .bf16), k0_pay2 (F := Ideal) u d (ix2 r j) = ∑ s : Fin 2048, u (ix2 r s) * d (ix2 s j) := fun u => by
    pointwise [k0_pay2]
  rw [h2]
  simp only [h]

theorem final (c : Dev nD) : (dats m 0 c).arrAt 2 (cfgs 0).N = grad (argA m c) (argD m c) := by
  refine (dats m 0 c).arrAt_eq_of_covers 2 _ (by decide +kernel) fun t hf y => ?_
  blk_simp
  rw [after0_2]
  have hy : grad (argA m c) (argD m c) (ix2 (row t (y 0)) (y 1))
      = grad (argA m c) (argD m c) (((View.whole main_v4).slice (win0_2.rect t)).emb y) := by
    blk_point [idx t]
  have h : ∀ r j : Fin 1024, k0_pay2 (F := Ideal) (k0_pay1 (F := Ideal) (iblk m c 0 t)) (iblk m c 1 t) (ix2 r j)
      = grad (argA m c) (argD m c) (ix2 (row t r) j) := by
    intro r j
    rw [tile_at, grad_at]
    exact Finset.sum_congr rfl fun s _ => by rw [blk_a, blk_d, mul_comm]
  unfold outsAt0
  frame_out
  exact (congrArg _ (eq_ix2 y)).trans ((h (y 0) (y 1)).trans hy)

end Cert.Kernel6Ideal.Value

/-! ## The input projection's weight -/

namespace Cert.Reference7Ideal.Value
open Cert.Reference7Ideal Cert.Reference7Ideal.Gen

/-- The gradient, transposed: over the tokens, the cotangent times the normed rows. -/
def grad (n : FVec Ideal S1x2048x1024 .f32) (d : FVec Ideal S1x2048x1792 .f32) : FVec Ideal S1792x1024 .f32 :=
  transpose S1792x1024 [1, 0] (transpose S1024x1792 [1, 0]
    (Host.dotGeneral (φ₁ := .f32) (φ₂ := .f32) dot_S1x2048x1792_S1x2048x1024_S1792x1024_01_01_2_2_n_n none d n)
    transposes_S1792x1024_S1024x1792_1_0) transposes_S1024x1792_S1792x1024_1_0

theorem grad_at (n d) (r : Fin 1792) (j : Fin 1024) : grad n d (ix2 r j) = ∑ s : Fin 2048, d (ix3 0 s r) * n (ix3 0 s j) := by
  pointwise [grad]
  rw [Fintype.sum_unique]
  rfl

end Cert.Reference7Ideal.Value

namespace Cert.Kernel7Ideal.Value
open Cert.Kernel7Ideal Cert.Kernel7Ideal.Gen
open Cert.Reference7Ideal.Value (grad grad_at)
variable (m : (ℓ : Loc nD τ sig) → Buf (Elt Ideal) ℓ)

theorem idx : ∀ t : Fin cfg0.N, win0_0.index t = ![0, min t.val 5] ∧ win0_1.index t = ![0, 0] ∧ win0_2.index t = ![0, 0]
    ∧ win0_3.index t = ![t.val, 0] :=
  (by decide +kernel : ∀ t : Fin grid0.N, _)

/-- Row `r` of point `t`'s tile of the gradient, in the whole array. -/
abbrev row (t : Fin cfg0.N) (r : Fin 256) : Fin 1792 :=
  ⟨t.val * 256 + r.val, by have h := t.isLt; have := N_0; have := r.isLt; change t.val < grid0.N at h; omega⟩

/-- The arguments: the normed rows and the cotangent. -/
abbrev argN (c : Dev nD) : FVec Ideal S1x2048x1024 .f32 := m ((c.tc : Thread nD τ).loc main_arg0)
abbrev argD (c : Dev nD) : FVec Ideal S1x2048x1792 .f32 := m ((c.tc : Thread nD τ).loc main_arg1)

theorem blk_main (c : Dev nD) (t : Fin cfg0.N) (h0 : t.val < 6) (s : Fin 2048) (r : Fin 256) :
    iblk m c 0 t (ix2 s r) = argD m c (ix3 0 s (row t r)) := by
  have h : min t.val 5 = t.val := by omega
  have hi := (idx t).1
  rw [h] at hi
  blk_point [iblk, V, hi]

theorem blk_kv (c : Dev nD) (t : Fin cfg0.N) (h0 : ¬ t.val < 6) (s : Fin 2048) (r : Fin 256) :
    iblk m c 1 t (ix2 s r) = argD m c (ix3 0 s (row t r)) := by
  have h6 : t.val = 6 := by have h := t.isLt; have := N_0; change t.val < grid0.N at h; omega
  have hr : row t r = (⟨1536 + r.val, by have := r.isLt; omega⟩ : Fin 1792) := Fin.ext (by show t.val * 256 + r.val = 1536 + r.val; omega)
  rw [hr]
  blk_point [iblk, V, idx t]

theorem blk_n (c : Dev nD) (t : Fin cfg0.N) (s : Fin 2048) (j : Fin 1024) : iblk m c 2 t (ix2 s j) = argN m c (ix3 0 s j) := by
  blk_point [iblk, V, idx t]

theorem main_at (d : Vec Ideal S2048x256 .bf16) (n : Vec Ideal S2048x1024 .bf16) (r : Fin 256) (j : Fin 1024) :
    k0_pay1 (F := Ideal) d n (ix2 r j) = ∑ s : Fin 2048, d (ix2 s r) * n (ix2 s j) := by
  pointwise [k0_pay1]

/-- The last tile is computed as the others are. -/
theorem kv_at (d : Vec Ideal S2048x256 .bf16) (n : Vec Ideal S2048x1024 .bf16) (r : Fin 256) (j : Fin 1024) :
    k0_pay2 (F := Ideal) d n (ix2 r j) = ∑ s : Fin 2048, d (ix2 s r) * n (ix2 s j) := main_at d n r j

theorem final (c : Dev nD) : (dats m 0 c).arrAt 3 (cfgs 0).N = grad (argN m c) (argD m c) := by
  refine (dats m 0 c).arrAt_eq_of_covers 3 _ (by decide +kernel) fun t hf y => ?_
  blk_simp
  rw [after0_3]
  have hy : grad (argN m c) (argD m c) (ix2 (row t (y 0)) (y 1))
      = grad (argN m c) (argD m c) (((View.whole main_v6).slice (win0_3.rect t)).emb y) := by
    blk_point [idx t]
  have hN : t.val < 7 := by have h := t.isLt; have := N_0; change t.val < grid0.N at h; omega
  rcases lt_or_ge t.val 6 with h0 | h0
  · have h : ∀ (r : Fin 256) (j : Fin 1024), k0_pay1 (F := Ideal) (iblk m c 0 t) (iblk m c 2 t) (ix2 r j)
        = grad (argN m c) (argD m c) (ix2 (row t r) j) := by
      intro r j
      rw [main_at, grad_at]
      exact Finset.sum_congr rfl fun s _ => by rw [blk_main m c t h0, blk_n]
    rw [outsAt0_A m c t h0 (by omega)]
    frame_out
    exact (congrArg _ (eq_ix2 y)).trans ((h (y 0) (y 1)).trans hy)
  · have h : ∀ (r : Fin 256) (j : Fin 1024), k0_pay2 (F := Ideal) (iblk m c 1 t) (iblk m c 2 t) (ix2 r j)
        = grad (argN m c) (argD m c) (ix2 (row t r) j) := by
      intro r j
      rw [kv_at, grad_at]
      exact Finset.sum_congr rfl fun s _ => by rw [blk_kv m c t (by omega), blk_n]
    rw [outsAt0_B m c t (by omega) (by omega)]
    frame_out
    exact (congrArg _ (eq_ix2 y)).trans ((h (y 0) (y 1)).trans hy)

end Cert.Kernel7Ideal.Value

namespace Cert.Proof

/-- The gradient of the second feed-forward weight is the reference's, whatever the arguments. -/
theorem wgrad_ff2 : @Cert.algebraic_Kernel6Ideal_Reference6Ideal Cert.Kernel6Ideal.Gen.facts Cert.Reference6Ideal.Gen.facts := by
  pair_intro
  · run_from Cert.Kernel6Ideal.Value.run_blocks m g
  · run_from Cert.Reference6Ideal.Value.run m' g'
    · exact (Cert.Kernel6Ideal.Value.final m c).symm

/-- The gradient of the input projection's weight is the reference's, whatever the arguments. -/
theorem wgrad_in : @Cert.algebraic_Kernel7Ideal_Reference7Ideal Cert.Kernel7Ideal.Gen.facts Cert.Reference7Ideal.Gen.facts := by
  pair_intro
  · run_from Cert.Kernel7Ideal.Value.run_blocks m g
  · run_from Cert.Reference7Ideal.Value.run m' g'
    · exact (Cert.Kernel7Ideal.Value.final m c).symm

end Cert.Proof
-- ==== Proof.AdamW.lean ====
/- The optimiser's step of one weight: the tiled kernel's four results are the reference's, element by element. -/
module

public import proofs.«01_k».proof.Proof.Gen.Kernel8Ideal.Value
public import proofs.«01_k».proof.Proof.Gen.Reference8Ideal.Run
public import Idealize.ShloMosaic.Lib.Pipeline.ValueKit
public import Idealize.ShloMosaic.Lib.Claim
public import proofs.«01_k».proof.Defs
public import proofs.«01_k».proof.Proof.Gen.Kernel8Ideal
public import proofs.«01_k».proof.Proof.Gen.Reference8Ideal

@[expose] public section

set_option maxRecDepth 16384

/-!
# AdamW of one device's rows of a weight

The gradient is the chip's own part and the three received, added one after the other in the kernel and as a sum of three
in the reference. Past it both sides are the same expression of the gradient, the weight and the two moments, written
once here for one element.
-/

noncomputable section

open Idealize.ShloMosaic Idealize.ShloMosaic.TcCoe Idealize.SL.Sem
open Idealize.ShloMosaic.Pipeline (Dat)

namespace Cert.AdamW

/-- An f32 literal's ideal value. -/
abbrev lit (b : BitVec 32) : EReal := Ideal.ofBits .f32 b

/-- The first moment. -/
def mom (m g : EReal) : EReal := lit 0x3F666666#32 * m + lit 0x3DCCCCCD#32 * g

/-- The second moment. -/
def vel (v g : EReal) : EReal := lit 0x3F7FBE77#32 * v + lit 0x3A83126F#32 * (g * g)

/-- The change of the weight. -/
def delta (w g m v : EReal) : EReal :=
  lit 0xBA83126F#32 * (Ideal.div (Ideal.div (mom m g) (lit 0x3F26BD02#32))
    (Ideal.sqrt (Ideal.div (vel v g) (lit 0x3C231ACC#32)) + lit 0x322BCC77#32) + lit 0x3C23D70A#32 * w)

end Cert.AdamW

namespace Cert.Reference8Ideal.Value
open Cert.Reference8Ideal Cert.Reference8Ideal.Gen

/-- The gradient. -/
def grad (p : FVec Ideal S1024x512 .f32) (q : FVec Ideal S3x1024x512 .f32) : FVec Ideal S1024x512 .f32 :=
  addf p (Host.reduceAdd q (constant S_ .f32 0x00000000#32) reducesTo_S3x1024x512_S1024x512_d0 h_S_)

/-- A literal, everywhere. -/
def all (b : BitVec 32) : FVec Ideal S1024x512 .f32 := broadcastInDim S1024x512 ![] bcast_S_S1024x512 (constant S_ .f32 b)

/-- The moments and the change, of the gradient. -/
def mom (m : FVec Ideal S1x1024x512 .f32) (g : FVec Ideal S1024x512 .f32) : FVec Ideal S1024x512 .f32 :=
  addf (mulf (all 0x3F666666#32) (shapeCast _ m shapeCasts_S1x1024x512_S1024x512)) (mulf (all 0x3DCCCCCD#32) g)

def vel (v : FVec Ideal S1x1024x512 .f32) (g : FVec Ideal S1024x512 .f32) : FVec Ideal S1024x512 .f32 :=
  addf (mulf (all 0x3F7FBE77#32) (shapeCast _ v shapeCasts_S1x1024x512_S1024x512)) (mulf (all 0x3A83126F#32) (mulf g g))

def delta (w : FVec Ideal S1x1024x512 .f32) (mo ve : FVec Ideal S1024x512 .f32) : FVec Ideal S1024x512 .f32 :=
  mulf (all 0xBA83126F#32) (addf (Host.divf (Host.divf mo (all 0x3F26BD02#32))
    (addf (Host.sqrt (Host.divf ve (all 0x3C231ACC#32))) (all 0x322BCC77#32)))
    (mulf (all 0x3C23D70A#32) (shapeCast _ w shapeCasts_S1x1024x512_S1024x512)))

theorem grad_at (p q) (r : Fin 1024) (j : Fin 512) : grad p q (ix2 r j) = p (ix2 r j) + ∑ k : Fin 3, q (ix3 k r j) := by
  pointwise [grad]

theorem mom_at (m g) (r : Fin 1024) (j : Fin 512) : mom m g (ix2 r j) = AdamW.mom (m (ix3 0 r j)) (g (ix2 r j)) := by
  pointwise [mom, all, AdamW.mom]

theorem vel_at (v g) (r : Fin 1024) (j : Fin 512) : vel v g (ix2 r j) = AdamW.vel (v (ix3 0 r j)) (g (ix2 r j)) := by
  pointwise [vel, all, AdamW.vel]

theorem delta_at (w m v g) (r : Fin 1024) (j : Fin 512) : delta w (mom m g) (vel v g) (ix2 r j)
    = AdamW.delta (w (ix3 0 r j)) (g (ix2 r j)) (m (ix3 0 r j)) (v (ix3 0 r j)) := by
  rw [AdamW.delta, ← mom_at, ← vel_at]
  generalize mom m g = a
  generalize vel v g = b
  pointwise [delta, all]

end Cert.Reference8Ideal.Value

namespace Cert.Kernel8Ideal.Value
open Cert.Kernel8Ideal Cert.Kernel8Ideal.Gen
open Cert.Reference8Ideal.Value (grad grad_at mom mom_at vel vel_at delta delta_at)
variable (m : (ℓ : Loc nD τ sig) → Buf (Elt Ideal) ℓ)

theorem idx : ∀ t : Fin cfg0.N, win0_0.index t = ![t.val, 0] ∧ win0_1.index t = ![0, t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

/-- Row `r` of point `t`'s tile, in the whole array. -/
abbrev row (t : Fin cfg0.N) (r : Fin 512) : Fin 1024 :=
  ⟨t.val * 512 + r.val, by have h := t.isLt; have := N_0; have := r.isLt; change t.val < grid0.N at h; omega⟩

/-- The arguments: the own part, the parts received, the weight, the moments. -/
abbrev argP (c : Dev nD) : FVec Ideal S1024x512 .f32 := m ((c.tc : Thread nD τ).loc main_arg0)
abbrev argQ (c : Dev nD) : FVec Ideal S3x1024x512 .f32 := m ((c.tc : Thread nD τ).loc main_arg1)
abbrev argW (c : Dev nD) : FVec Ideal S1x1024x512 .f32 := m ((c.tc : Thread nD τ).loc main_arg2)
abbrev argM (c : Dev nD) : FVec Ideal S1x1024x512 .f32 := m ((c.tc : Thread nD τ).loc main_arg3)
abbrev argV (c : Dev nD) : FVec Ideal S1x1024x512 .f32 := m ((c.tc : Thread nD τ).loc main_arg4)

variable (c : Dev nD) (t : Fin cfg0.N) (r : Fin 512) (j : Fin 512)

theorem blk_p : iblk m c 0 t (ix2 r j) = argP m c (ix2 (row t r) j) := by
  blk_point [iblk, V, idx t]

theorem blk_q (k : Fin 3) : iblk m c 1 t (ix3 k r j) = argQ m c (ix3 k (row t r) j) := by
  blk_point [iblk, V, idx t]

theorem blk_w : iblk m c 2 t (ix2 r j) = argW m c (ix3 0 (row t r) j) := by
  blk_point [iblk, V, idx t]

theorem blk_m : iblk m c 3 t (ix2 r j) = argM m c (ix3 0 (row t r) j) := by
  blk_point [iblk, V, idx t]

theorem blk_v : iblk m c 4 t (ix2 r j) = argV m c (ix3 0 (row t r) j) := by
  blk_point [iblk, V, idx t]

/-! ## A tile -/

/-- The three received parts, as the kernel loads them. -/
abbrev part (q : Vec Ideal S3x512x512 .bf16) : Fin 3 → Vec Ideal S1x512x512 .bf16 := ![View.ld q r0_1, View.ld q r0_2, View.ld q r0_3]

theorem part_at (q : Vec Ideal S3x512x512 .bf16) (k : Fin 3) : part q k (ix3 0 r j) = q (ix3 k r j) := by
  fin_cases k <;> (refine congrArg q (funext fun a => Fin.ext ?_); fin_cases a <;> simp [r0_1, r0_2, r0_3] <;> rfl)

/-- The gradient of a tile. -/
abbrev tileG : FVec Ideal S512x512 .f32 :=
  k0_pay2 (F := Ideal) (iblk m c 0 t) (part (iblk m c 1 t) 0) (part (iblk m c 1 t) 1) (part (iblk m c 1 t) 2)

theorem tileG_at : tileG m c t (ix2 r j) = grad (argP m c) (argQ m c) (ix2 (row t r) j) := by
  have h : ∀ (p : Vec Ideal S512x512 .f32) (a b d : Vec Ideal S1x512x512 .bf16), k0_pay2 (F := Ideal) p a b d (ix2 r j)
      = p (ix2 r j) + a (ix3 0 r j) + b (ix3 0 r j) + d (ix3 0 r j) := fun p a b d => by pointwise [k0_pay2]
  rw [tileG, h, part_at, part_at, part_at, blk_p, blk_q, blk_q, blk_q, grad_at, Fin.sum_univ_three, ← add_assoc, ← add_assoc]

/-- What the tile stores of the moments and the change. -/
abbrev tileM : FVec Ideal S512x512 .f32 :=
  k0_pay4 (F := Ideal) (iblk m c 0 t) (part (iblk m c 1 t) 0) (part (iblk m c 1 t) 1) (part (iblk m c 1 t) 2) (iblk m c 3 t)
abbrev tileV : FVec Ideal S512x512 .f32 :=
  k0_pay5 (F := Ideal) (iblk m c 0 t) (part (iblk m c 1 t) 0) (part (iblk m c 1 t) 1) (part (iblk m c 1 t) 2) (iblk m c 4 t)
abbrev tileH : FVec Ideal S512x512 .f32 :=
  k0_pay6 (F := Ideal) (iblk m c 0 t) (part (iblk m c 1 t) 0) (part (iblk m c 1 t) 1) (part (iblk m c 1 t) 2) (iblk m c 3 t)

theorem tileM_at : tileM m c t (ix2 r j) = mom (argM m c) (grad (argP m c) (argQ m c)) (ix2 (row t r) j) := by
  rw [mom_at, ← tileG_at, ← blk_m]
  unfold tileM k0_pay4
  pointwise [AdamW.mom]
  rfl

theorem tileV_at : tileV m c t (ix2 r j) = vel (argV m c) (grad (argP m c) (argQ m c)) (ix2 (row t r) j) := by
  rw [vel_at, ← tileG_at, ← blk_v]
  unfold tileV k0_pay5
  pointwise [AdamW.vel]
  rfl

theorem tileH_at : tileH m c t (ix2 r j) = Ideal.div (tileM m c t (ix2 r j)) (AdamW.lit 0x3F26BD02#32) := by
  unfold tileH k0_pay6
  pointwise []
  rfl

theorem tileD_at : k0_pay1 (F := Ideal) (k0_pay3 (F := Ideal) (iblk m c 2 t)) (tileV m c t) (tileH m c t) (Scalar.ofBits .f32 0x3C231ACC#32) (ix2 r j)
    = delta (argW m c) (mom (argM m c) (grad (argP m c) (argQ m c))) (vel (argV m c) (grad (argP m c) (argQ m c))) (ix2 (row t r) j) := by
  have h : ∀ (w v h : FVec Ideal S512x512 .f32), k0_pay1 (F := Ideal) (k0_pay3 (F := Ideal) w) v h (Scalar.ofBits .f32 0x3C231ACC#32) (ix2 r j)
      = AdamW.lit 0xBA83126F#32 * (Ideal.div (h (ix2 r j)) (Ideal.sqrt (Ideal.div (v (ix2 r j)) (AdamW.lit 0x3C231ACC#32)) + AdamW.lit 0x322BCC77#32)
        + AdamW.lit 0x3C23D70A#32 * w (ix2 r j)) := fun w v h => by pointwise [k0_pay1, k0_pay3]
  rw [h, tileH_at, tileM_at, tileV_at, delta_at, AdamW.delta, ← mom_at, ← vel_at, blk_w]

/-! ## The arrays -/

theorem final5 : (dats m 0 c).arrAt 5 (cfgs 0).N = grad (argP m c) (argQ m c) := by
  refine (dats m 0 c).arrAt_eq_of_covers 5 _ (by decide +kernel) fun t hf y => ?_
  blk_simp
  rw [after0_5]
  generalize hG : grad (argP m c) (argQ m c) = G
  have hy : G (ix2 (row t (y 0)) (y 1)) = G (((View.whole main_v4_0).slice (win0_5.rect t)).emb y) := by blk_point [idx t]
  refine Eq.trans ?_ ((tileG_at m c t (y 0) (y 1)).trans ((congrFun hG _).trans hy))
  unfold_out out0_5
  frame_out
  exact congrArg _ (eq_ix2 y)

theorem final6 : (dats m 0 c).arrAt 6 (cfgs 0).N
    = delta (argW m c) (mom (argM m c) (grad (argP m c) (argQ m c))) (vel (argV m c) (grad (argP m c) (argQ m c))) := by
  refine (dats m 0 c).arrAt_eq_of_covers 6 _ (by decide +kernel) fun t hf y => ?_
  blk_simp
  rw [after0_6]
  generalize hG : delta (argW m c) (mom (argM m c) (grad (argP m c) (argQ m c))) (vel (argV m c) (grad (argP m c) (argQ m c))) = G
  have hy : G (ix2 (row t (y 0)) (y 1)) = G (((View.whole main_v4_1).slice (win0_6.rect t)).emb y) := by blk_point [idx t]
  refine Eq.trans ?_ ((tileD_at m c t (y 0) (y 1)).trans ((congrFun hG _).trans hy))
  unfold_out out0_6
  frame_out
  exact congrArg _ (eq_ix2 y)

theorem final7 : (dats m 0 c).arrAt 7 (cfgs 0).N = mom (argM m c) (grad (argP m c) (argQ m c)) := by
  refine (dats m 0 c).arrAt_eq_of_covers 7 _ (by decide +kernel) fun t hf y => ?_
  blk_simp
  rw [after0_7]
  generalize hG : mom (argM m c) (grad (argP m c) (argQ m c)) = G
  have hy : G (ix2 (row t (y 0)) (y 1)) = G (((View.whole main_v4_2).slice (win0_7.rect t)).emb y) := by blk_point [idx t]
  refine Eq.trans ?_ ((tileM_at m c t (y 0) (y 1)).trans ((congrFun hG _).trans hy))
  unfold_out out0_7
  frame_out
  exact congrArg _ (eq_ix2 y)

theorem final8 : (dats m 0 c).arrAt 8 (cfgs 0).N = vel (argV m c) (grad (argP m c) (argQ m c)) := by
  refine (dats m 0 c).arrAt_eq_of_covers 8 _ (by decide +kernel) fun t hf y => ?_
  blk_simp
  rw [after0_8]
  generalize hG : vel (argV m c) (grad (argP m c) (argQ m c)) = G
  have hy : G (ix2 (row t (y 0)) (y 1)) = G (((View.whole main_v4_3).slice (win0_8.rect t)).emb y) := by blk_point [idx t]
  refine Eq.trans ?_ ((tileV_at m c t (y 0) (y 1)).trans ((congrFun hG _).trans hy))
  unfold_out out0_8
  frame_out
  exact congrArg _ (eq_ix2 y)

end Cert.Kernel8Ideal.Value

namespace Cert.Proof

/-- The gradient, the change of the weight and the two moments are the reference's, whatever the arguments. -/
theorem final_adamw : @Cert.algebraic_Kernel8Ideal_Reference8Ideal Cert.Kernel8Ideal.Gen.facts Cert.Reference8Ideal.Gen.facts := by
  pair_intro
  · run_from Cert.Kernel8Ideal.Value.run_blocks m g
  · run_from Cert.Reference8Ideal.Value.run m' g'
    · exact (Cert.Kernel8Ideal.Value.final5 m c).symm
    · exact (Cert.Kernel8Ideal.Value.final6 m c).symm
    · exact (Cert.Kernel8Ideal.Value.final7 m c).symm
    · exact (Cert.Kernel8Ideal.Value.final8 m c).symm

end Cert.Proof
-- ==== Proof.SwapSum.lean ====
/- The sum of two sibling devices' parts of a gradient: the kernel picks the four blocks by a table; its two results are the reference's. -/
module

public import proofs.«01_k».proof.Proof.Gen.Kernel9.Frame
public import proofs.«01_k».proof.Proof.Gen.Kernel9Ideal.Frame
public import proofs.«01_k».proof.Proof.Gen.Reference9Ideal.Run
public import Idealize.ShloMosaic.Lib.Pipeline.ValueKit
public import Idealize.ShloMosaic.Lib.Claim
public import proofs.«01_k».proof.Defs
public import proofs.«01_k».proof.Proof.Gen.Kernel9
public import proofs.«01_k».proof.Proof.Gen.Kernel9Ideal
public import proofs.«01_k».proof.Proof.Gen.Reference9Ideal

@[expose] public section

set_option maxRecDepth 16384

/-!
# The sum of sibling parts

A table of four block numbers, written by the host, places the kernel's first four windows. With the table's words known
every window lies inside its array, and each tile of the two results is a sum of two tiles.
-/

noncomputable section

open Idealize.ShloMosaic Idealize.ShloMosaic.TcCoe Idealize.SL.Sem
open Idealize.ShloMosaic.Pipeline (Dat)

namespace Cert.Reference9Ideal.Value
open Cert.Reference9Ideal Cert.Reference9Ideal.Gen

/-- The four sums, one below the other. -/
def sums (g : FVec Ideal S8x512x1024 .f32) (l : FVec Ideal S4x512x1024 .f32) : FVec Ideal S4x512x1024 .f32 :=
  concatenate S4x512x1024 0
    [⟨S1x512x1024, broadcastInDim S1x512x1024 ![1, 2] bcast_S512x1024_S1x512x1024_1_2 (addf
        (shapeCast _ (extractStridedSlice S1x512x1024 ![0, 0, 0] g slices_S8x512x1024_S1x512x1024_0_0_0) shapeCasts_S1x512x1024_S512x1024)
        (shapeCast _ (extractStridedSlice S1x512x1024 ![0, 0, 0] l slices_S4x512x1024_S1x512x1024_0_0_0) shapeCasts_S1x512x1024_S512x1024))⟩,
     ⟨S1x512x1024, broadcastInDim S1x512x1024 ![1, 2] bcast_S512x1024_S1x512x1024_1_2 (addf
        (shapeCast _ (extractStridedSlice S1x512x1024 ![4, 0, 0] g slices_S8x512x1024_S1x512x1024_4_0_0) shapeCasts_S1x512x1024_S512x1024)
        (shapeCast _ (extractStridedSlice S1x512x1024 ![1, 0, 0] l slices_S4x512x1024_S1x512x1024_1_0_0) shapeCasts_S1x512x1024_S512x1024))⟩,
     ⟨S1x512x1024, broadcastInDim S1x512x1024 ![1, 2] bcast_S512x1024_S1x512x1024_1_2 (addf
        (shapeCast _ (extractStridedSlice S1x512x1024 ![2, 0, 0] g slices_S8x512x1024_S1x512x1024_2_0_0) shapeCasts_S1x512x1024_S512x1024)
        (shapeCast _ (extractStridedSlice S1x512x1024 ![2, 0, 0] l slices_S4x512x1024_S1x512x1024_2_0_0) shapeCasts_S1x512x1024_S512x1024))⟩,
     ⟨S1x512x1024, broadcastInDim S1x512x1024 ![1, 2] bcast_S512x1024_S1x512x1024_1_2 (addf
        (shapeCast _ (extractStridedSlice S1x512x1024 ![6, 0, 0] g slices_S8x512x1024_S1x512x1024_6_0_0) shapeCasts_S1x512x1024_S512x1024)
        (shapeCast _ (extractStridedSlice S1x512x1024 ![3, 0, 0] l slices_S4x512x1024_S1x512x1024_3_0_0) shapeCasts_S1x512x1024_S512x1024))⟩]
    concatenates_S1x512x1024_S1x512x1024_S1x512x1024_S1x512x1024_S4x512x1024_d0

/-- The chip's own sum, and the three the other chips get. -/
def own (g : FVec Ideal S8x512x1024 .f32) (l : FVec Ideal S4x512x1024 .f32) : FVec Ideal S512x1024 .f32 :=
  shapeCast _ (extractStridedSlice S1x512x1024 ![0, 0, 0] (sums g l) slices_S4x512x1024_S1x512x1024_0_0_0) shapeCasts_S1x512x1024_S512x1024

def sent (g : FVec Ideal S8x512x1024 .f32) (l : FVec Ideal S4x512x1024 .f32) : FVec Ideal S3x512x1024 .bf16 :=
  truncf .bf16 (extractStridedSlice S3x512x1024 ![1, 0, 0] (sums g l) slices_S4x512x1024_S3x512x1024_1_0_0) bitsLt_bf16_f32

variable (g : FVec Ideal S8x512x1024 .f32) (l : FVec Ideal S4x512x1024 .f32) (r : Fin 512) (j : Fin 1024)

theorem own_at : own g l (ix2 r j) = g (ix3 0 r j) + l (ix3 0 r j) := by
  pointwise [own, sums]

theorem sent_at (k : Fin 3) : sent g l (ix3 k r j) = g (ix3 (![4, 2, 6] k) r j) + l (ix3 k.succ r j) := by
  fin_cases k <;> (pointwise [sent, sums]; rfl)

/-- A run of the reference: its results by those names. -/
theorem run_sums (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v26)
        = own (m ((c.tc : Thread nD τ).loc main_arg0)) (m ((c.tc : Thread nD τ).loc main_arg1))
      ∧ r.2.mem ((c.tc : Thread nD τ).loc main_v28)
        = sent (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  run m ρ

end Cert.Reference9Ideal.Value

namespace Cert.Kernel9.Value
open Cert.Kernel9 Cert.Kernel9.Gen

/-- The table the host writes. -/
def table : pre0.Contents (Elt Bits) := fun | ⟨0, _⟩ => fun i => lit0 (S4.rowMajor i) | ⟨_ + 1, h⟩ => absurd h (by simp)

theorem tbl_eq (m : (ℓ : Loc nD τ sig) → Buf (Elt Bits) ℓ) : tbl m = table := by
  funext j x
  match j with
  | ⟨0, _⟩ => rfl

theorem ok (m : (ℓ : Loc nD τ sig) → Buf (Elt Bits) ℓ) : Ok m := by
  unfold Ok; rw [tbl_eq]; decide +kernel

end Cert.Kernel9.Value

namespace Cert.Kernel9Ideal.Value
open Cert.Kernel9Ideal Cert.Kernel9Ideal.Gen

/-- The table the host writes. -/
def table : pre0.Contents (Elt Ideal) := fun | ⟨0, _⟩ => fun i => lit0 (S4.rowMajor i) | ⟨_ + 1, h⟩ => absurd h (by simp)

theorem okT : ok0 table := by decide +kernel

variable (m : (ℓ : Loc nD τ sig) → Buf (Elt Ideal) ℓ)

theorem tbl_eq : tbl m = table := by
  funext j x
  match j with
  | ⟨0, _⟩ => rfl

theorem ok : Ok m := by
  unfold Ok; rw [tbl_eq]; exact okT

/-- The pipeline at that table. -/
abbrev cfgT := cfg0 (F := Ideal) ⟨table, okT⟩

theorem idx : ∀ t : Fin grid0.N, (cfgT.win 0).index t = ![0, t.val, 0] ∧ (cfgT.win 1).index t = ![4, t.val, 0]
    ∧ (cfgT.win 2).index t = ![2, t.val, 0] ∧ (cfgT.win 3).index t = ![6, t.val, 0] ∧ (cfgT.win 4).index t = ![0, t.val, 0]
    ∧ (cfgT.win 5).index t = ![t.val, 0] ∧ (cfgT.win 6).index t = ![0, t.val, 0] := by
  decide +kernel

theorem covers5 : ((cfgM m (ok m)).win 5).Covers := (by decide +kernel : (cfgT.win 5).Covers)
theorem covers6 : ((cfgM m (ok m)).win 6).Covers := (by decide +kernel : (cfgT.win 6).Covers)

theorem idxM (t : Fin grid0.N) : ((cfgM m (ok m)).win 0).index t = ![0, t.val, 0] ∧ ((cfgM m (ok m)).win 1).index t = ![4, t.val, 0]
    ∧ ((cfgM m (ok m)).win 2).index t = ![2, t.val, 0] ∧ ((cfgM m (ok m)).win 3).index t = ![6, t.val, 0]
    ∧ ((cfgM m (ok m)).win 4).index t = ![0, t.val, 0]
    ∧ ((cfgM m (ok m)).win 5).index t = ![t.val, 0] ∧ ((cfgM m (ok m)).win 6).index t = ![0, t.val, 0] := by
  have h : adm m (ok m) = ⟨table, okT⟩ := Subtype.ext (tbl_eq m)
  unfold cfgM; rw [h]; exact idx t

/-- The arguments: the gradient by devices, the sibling's parts. -/
abbrev argG (c : Dev nD) : FVec Ideal S8x512x1024 .f32 := m ((c.tc : Thread nD τ).loc main_arg0)
abbrev argL (c : Dev nD) : FVec Ideal S4x512x1024 .f32 := m ((c.tc : Thread nD τ).loc main_arg1)

/-- Row `r` of point `t`'s tile, in the whole array. -/
abbrev row (t : Fin grid0.N) (r : Fin 256) : Fin 512 :=
  ⟨t.val * 256 + r.val, by have h := t.isLt; have := N_0; have := r.isLt; omega⟩

variable (c : Dev nD) (t : Fin grid0.N) (r : Fin 256) (j : Fin 1024)

theorem blk_g0 : iblk m (ok m) c 0 t (ix3 0 r j) = argG m c (ix3 0 (row t r) j) := by
  blk_point [iblk, V, idxM m t]

theorem blk_g1 : iblk m (ok m) c 1 t (ix3 0 r j) = argG m c (ix3 4 (row t r) j) := by
  blk_point [iblk, V, idxM m t]

theorem blk_g2 : iblk m (ok m) c 2 t (ix3 0 r j) = argG m c (ix3 2 (row t r) j) := by
  blk_point [iblk, V, idxM m t]

theorem blk_g3 : iblk m (ok m) c 3 t (ix3 0 r j) = argG m c (ix3 6 (row t r) j) := by
  blk_point [iblk, V, idxM m t]

theorem blk_l (k : Fin 4) : iblk m (ok m) c 4 t (ix3 k r j) = argL m c (ix3 k (row t r) j) := by
  blk_point [iblk, V, idxM m t]

/-- A part of the block of the sibling's parts. -/
theorem part_at (q : Vec Ideal S4x256x1024 .f32) (off : Fin 3 → Nat) (inb) (k : Fin 4) (h : off = ![k.val, 0, 0]) (r : Fin 256) (j : Fin 1024) :
    View.ld q (Rect.unit (s := S4x256x1024) off ![1, 256, 1024] inb) (ix3 0 r j) = q (ix3 k r j) := by
  subst h
  refine View.ld_unit_apply_of q _ _ inb _ _ fun a => ?_
  fin_cases a <;> simp

/-- What the tile stores: the sum of its two tiles. -/
theorem pay2_at (a b : Vec Ideal S1x256x1024 .f32) (r : Fin 256) (j : Fin 1024) :
    k0_pay2 (F := Ideal) a b (ix2 r j) = a (ix3 0 r j) + b (ix3 0 r j) := by
  pointwise [k0_pay2]

theorem pay3_at (a b : Vec Ideal S1x256x1024 .f32) (r : Fin 256) (j : Fin 1024) :
    k0_pay3 (F := Ideal) a b (ix3 0 r j) = a (ix3 0 r j) + b (ix3 0 r j) := by
  pointwise [k0_pay3]

theorem pay4_at (a b : Vec Ideal S1x256x1024 .f32) (r : Fin 256) (j : Fin 1024) :
    k0_pay4 (F := Ideal) a b (ix3 0 r j) = a (ix3 0 r j) + b (ix3 0 r j) := by
  pointwise [k0_pay4]

theorem pay1_at (a b : Vec Ideal S1x256x1024 .f32) (r : Fin 256) (j : Fin 1024) :
    k0_pay1 (F := Ideal) (k0_pay5 (F := Ideal) a) b (ix3 0 r j) = a (ix3 0 r j) + b (ix3 0 r j) := by
  pointwise [k0_pay1, k0_pay5]

theorem idxP (t : Fin grid0.N) : (pcfg0.win (adm m (ok m)) 5).index t = ![t.val, 0] ∧ (pcfg0.win (adm m (ok m)) 6).index t = ![0, t.val, 0] :=
  ⟨(idxM m t).2.2.2.2.2.1, (idxM m t).2.2.2.2.2.2⟩

/-- Where an element of a result's block lies. -/
theorem emb5 (G : S512x1024.Idx → EReal) (y : S256x1024.Idx) :
    G (ix2 (row t (y 0)) (y 1)) = G (((spec0 5).arr.view.slice ((pcfg0.win (adm m (ok m)) 5).rect t)).emb y) := by
  blk_point [idxP m t]

theorem emb6 (G : S3x512x1024.Idx → EReal) (y : S3x256x1024.Idx) :
    G (ix3 (y 0) (row t (y 1)) (y 2)) = G (((spec0 6).arr.view.slice ((pcfg0.win (adm m (ok m)) 6).rect t)).emb y) := by
  blk_point [idxP m t]

/-- One of the three sums sent, at the place its tile gives it. -/
theorem sent_place (k : Fin 3) (b : Fin 8) (hb : b = ![4, 2, 6] k) (k' : Fin 4) (hk : k' = k.succ) (x : S1x256x1024.Idx) (y : S3x256x1024.Idx)
    (h0 : (y 0).val = k.val + (x 0).val) (h1 : (y 1).val = (x 1).val) (h2 : (y 2).val = (x 2).val) :
    argG m c (ix3 b (row t (x 1)) (x 2)) + argL m c (ix3 k' (row t (x 1)) (x 2))
      = Reference9Ideal.Value.sent (argG m c) (argL m c) (ix3 (y 0) (row t (y 1)) (y 2)) := by
  subst hb; subst hk
  have e0 : y 0 = k := Fin.ext (h0.trans (by have := (x 0).isLt; change (x 0).val < 1 at this; omega))
  have e1 : y 1 = x 1 := Fin.ext h1
  have e2 : y 2 = x 2 := Fin.ext h2
  rw [e0, e1, e2]
  exact (Reference9Ideal.Value.sent_at _ _ (row t (x 1)) (x 2) k).symm

/-- An index of a block of one row of tiles. -/
theorem eq_tile (x : S1x256x1024.Idx) : x = ix3 0 (x 1) (x 2) := by
  have e0 : x 0 = (0 : Fin 1) := Subsingleton.elim (α := Fin 1) _ _
  exact (eq_ix3 x).trans (congrArg (fun k : Fin 1 => ix3 k (x 1) (x 2)) e0)

theorem final5 : (dats m (ok m) 0 c).arrAt 5 (cfgM m (ok m)).N = Reference9Ideal.Value.own (argG m c) (argL m c) := by
  refine (dats m (ok m) 0 c).arrAt_eq_of_covers 5 _ (covers5 m) fun t hf (y : S256x1024.Idx) => ?_
  blk_simp
  rw [after0_5]
  unfold outsAt0
  dsimp only
  unfold out0_A_5
  frame_out
  refine Eq.trans ?_ (emb5 m t (Reference9Ideal.Value.own (argG m c) (argL m c)) y)
  refine (congrArg _ (eq_ix2 y)).trans ((pay2_at _ _ (y 0) (y 1)).trans (Eq.trans (congrArg₂ (· + ·) ?_ ?_)
    (Reference9Ideal.Value.own_at _ _ (row t (y 0)) (y 1)).symm))
  · exact (congrFun ((hs0_0 m _ t).read_unread _) _).trans (blk_g0 m c t (y 0) (y 1))
  · exact (part_at _ _ _ 0 rfl (y 0) (y 1)).trans ((congrFun ((hs0_4 m _ t).read_unread _) _).trans (blk_l m c t (y 0) (y 1) 0))

theorem final6 : (dats m (ok m) 0 c).arrAt 6 (cfgM m (ok m)).N = Reference9Ideal.Value.sent (argG m c) (argL m c) := by
  refine (dats m (ok m) 0 c).arrAt_eq_of_covers 6 _ (covers6 m) fun t hf (y : S3x256x1024.Idx) => ?_
  blk_simp
  rw [after0_6]
  unfold outsAt0
  dsimp only
  unfold out0_A_6
  frame_out
  refine Eq.trans ?_ (emb6 m t (Reference9Ideal.Value.sent (argG m c) (argL m c)) y)
  canon_tiles x h
  · refine (congrArg _ (eq_tile x)).trans ((pay1_at _ _ (x 1) (x 2)).trans (Eq.trans (congrArg₂ (· + ·) ?_ ?_)
      (sent_place m c t 2 6 rfl 3 rfl x y h0 h1 h2)))
    · exact (congrFun ((hs0_3 m _ t).read_unread _) _).trans (blk_g3 m c t (x 1) (x 2))
    · exact (part_at _ _ _ 3 rfl (x 1) (x 2)).trans ((congrFun ((hs0_4 m _ t).read_unread _) _).trans (blk_l m c t (x 1) (x 2) 3))
  · refine (congrArg _ (eq_tile x)).trans ((pay4_at _ _ (x 1) (x 2)).trans (Eq.trans (congrArg₂ (· + ·) ?_ ?_)
      (sent_place m c t 1 2 rfl 2 rfl x y h0 h1 h2)))
    · exact (congrFun ((hs0_2 m _ t).read_unread _) _).trans (blk_g2 m c t (x 1) (x 2))
    · exact (part_at _ _ _ 2 rfl (x 1) (x 2)).trans ((congrFun ((hs0_4 m _ t).read_unread _) _).trans (blk_l m c t (x 1) (x 2) 2))
  · refine (congrArg _ (eq_tile x)).trans ((pay3_at _ _ (x 1) (x 2)).trans (Eq.trans (congrArg₂ (· + ·) ?_ ?_)
      (sent_place m c t 0 4 rfl 1 rfl x y (h0.trans (Nat.zero_add _).symm) h1 h2)))
    · exact (congrFun ((hs0_1 m _ t).read_unread _) _).trans (blk_g1 m c t (x 1) (x 2))
    · exact (part_at _ _ _ 1 rfl (x 1) (x 2)).trans ((congrFun ((hs0_4 m _ t).read_unread _) _).trans (blk_l m c t (x 1) (x 2) 1))

/-- A run of the call: its results are the reference's own sum and the sums sent, the two arguments are kept. -/
theorem run_blocks (g) : θ_run defs (onTc (τ := τ) (main (F := Ideal))) ⟨m, fun _ => 0, g⟩ fun r => ∀ c : Dev nD,
    r.2.mem ((c.tc : Thread nD τ).loc main_v0_0) = Reference9Ideal.Value.own (argG m c) (argL m c)
    ∧ r.2.mem ((c.tc : Thread nD τ).loc main_v0_1) = Reference9Ideal.Value.sent (argG m c) (argL m c)
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨((h c).1 5).trans (final5 m c), ((h c).1 6).trans (final6 m c),
    ((h c).1 3).trans (((dats m (ok m) 0 c).arrAt_in 3 rfl _).trans ((A_eq m (ok m) c 3).trans (V_main_arg0 m c))),
    ((h c).1 4).trans (((dats m (ok m) 0 c).arrAt_in 4 rfl _).trans ((A_eq m (ok m) c 4).trans (V_main_arg1 m c)))⟩)
    (run_main m g (ok m))

end Cert.Kernel9Ideal.Value

namespace Cert.Proof

/-- The chip's own sum and the three sums sent are the reference's, whatever the arguments. -/
theorem swap_sum : @Cert.algebraic_Kernel9Ideal_Reference9Ideal Cert.Kernel9Ideal.Gen.facts Cert.Reference9Ideal.Gen.facts := by
  pair_intro
  · run_from Cert.Kernel9Ideal.Value.run_blocks m g
  · refine (θ_run _ _ _).mono (fun r h c => ?_) (Cert.Reference9Ideal.Value.run_sums m' g')
    obtain ⟨h0, h1⟩ := hagree c
    exact ⟨(h c).1.trans (congrArg₂ Cert.Reference9Ideal.Value.own h0 h1),
      (h c).2.1.trans (congrArg₂ Cert.Reference9Ideal.Value.sent h0 h1), (h c).2.2⟩

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.InBwd
public import proofs.«01_k».proof.Proof.Tail
public import proofs.«01_k».proof.Proof.MixerBits
public import proofs.«01_k».proof.Proof.MixerPair
public import proofs.«01_k».proof.Proof.InProj
public import proofs.«01_k».proof.Proof.MixerFwdPair
public import proofs.«01_k».proof.Proof.WeightGrads
public import proofs.«01_k».proof.Proof.AdamW
public import proofs.«01_k».proof.Proof.SwapSum
public import Idealize.ShloMosaic.Adequacy
public import Idealize.ShloMosaic.Init

@[expose] public section

noncomputable section

namespace Cert.Proof

open Idealize.ShloMosaic Idealize.SL.Sem Cert.Kernel

/-- The two results of the kernel are the reference's, whatever the arguments. -/
theorem in_bwd : @Cert.algebraic_KernelIdeal_ReferenceIdeal Cert.KernelIdeal.Gen.facts Cert.ReferenceIdeal.Gen.facts := by
  pair_intro
  · run_from Cert.KernelIdeal.Value.run_blocks m g
  · run_from Cert.ReferenceIdeal.Value.run m' g'
    · obtain ⟨h0, h1, h2, h3, h4⟩ := hagree c
      rw [Cert.KernelIdeal.Value.final6]
      unfold Cert.ReferenceIdeal.Value.res_main_v46
      rw [h0, h1, h2, h3, h4]
      rfl
    · exact (Cert.KernelIdeal.Value.final7 m c).symm

/-- The mixer's reference runs and keeps its arguments. -/
theorem mixer_reference : @Cert.quiescent_Reference3Ideal Cert.Reference3Ideal.Gen.facts := fun m ρ _ =>
  (θ_run _ _ _).mono (fun r h => ⟨fun c => (h c).2.2.2.2, Idealize.ShloMosaic.sem_eq_zero_of_no_sems (by decide) r.2⟩)
    (Cert.Reference3Ideal.Value.run m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Proof.Mixer.facts_finite, Cert.Proof.Mixer.facts_half, Cert.Proof.MixerFwd.facts_forward,
  fun m ρ _ => Cert.Kernel.Gen.frame m ρ, fun m ρ _ => Cert.KernelIdeal.Gen.frame m ρ, fun m ρ _ =>
    (θ_run _ _ _).mono (fun r h => ⟨fun c => (h c).2.2, Idealize.ShloMosaic.sem_eq_zero_of_no_sems (by decide) r.2⟩)
      (Cert.ReferenceIdeal.Value.run m ρ),
  fun m ρ _ => Cert.Kernel2.Gen.frame m ρ, fun m ρ _ => Cert.Kernel2Ideal.Gen.frame m ρ, fun m ρ _ =>
    (θ_run _ _ _).mono (fun r h => ⟨fun c => (h c).2.2.2.2.2.2.2.2.2.2, Idealize.ShloMosaic.sem_eq_zero_of_no_sems (by decide) r.2⟩)
      (Cert.Reference2Ideal.Value.run m ρ),
  Cert.Proof.Mixer.frame_written, fun m ρ _ => Cert.Proof.Mixer.frame m ρ, fun m ρ _ => Cert.Proof.Mixer.frame m ρ,
  mixer_reference, fun m ρ _ => mixer_reference m ρ trivial,
  fun m ρ _ => Cert.Kernel4.Gen.frame m ρ, fun m ρ _ => Cert.Kernel4Ideal.Gen.frame m ρ, fun m ρ _ =>
    (θ_run _ _ _).mono (fun r h => ⟨fun c => (h c).2.2.2, Idealize.ShloMosaic.sem_eq_zero_of_no_sems (by decide) r.2⟩)
      (Cert.Reference4Ideal.Value.run m ρ),
  fun m ρ _ => Cert.Kernel5.Gen.frame m ρ, fun m ρ _ => Cert.Kernel5Ideal.Gen.frame m ρ, fun m ρ _ =>
    (θ_run _ _ _).mono (fun r h => ⟨fun c => (h c).2.2.2.2, Idealize.ShloMosaic.sem_eq_zero_of_no_sems (by decide) r.2⟩)
      (Cert.Reference5Ideal.Value.run m ρ),
  fun m ρ _ => Cert.Kernel6.Gen.frame m ρ, fun m ρ _ => Cert.Kernel6Ideal.Gen.frame m ρ, fun m ρ _ =>
    (θ_run _ _ _).mono (fun r h => ⟨fun c => (h c).2, Idealize.ShloMosaic.sem_eq_zero_of_no_sems (by decide) r.2⟩)
      (Cert.Reference6Ideal.Value.run m ρ),
  fun m ρ _ => Cert.Kernel7.Gen.frame m ρ, fun m ρ _ => Cert.Kernel7Ideal.Gen.frame m ρ, fun m ρ _ =>
    (θ_run _ _ _).mono (fun r h => ⟨fun c => (h c).2, Idealize.ShloMosaic.sem_eq_zero_of_no_sems (by decide) r.2⟩)
      (Cert.Reference7Ideal.Value.run m ρ),
  fun m ρ _ => Cert.Kernel8.Gen.frame m ρ, fun m ρ _ => Cert.Kernel8Ideal.Gen.frame m ρ, fun m ρ _ =>
    (θ_run _ _ _).mono (fun r h => ⟨fun c => (h c).2.2.2.2, Idealize.ShloMosaic.sem_eq_zero_of_no_sems (by decide) r.2⟩)
      (Cert.Reference8Ideal.Value.run m ρ),
  fun m ρ _ => Cert.Kernel9.Gen.frame m ρ (Cert.Kernel9.Value.ok m),
  fun m ρ _ => Cert.Kernel9Ideal.Gen.frame m ρ (Cert.Kernel9Ideal.Value.ok m), fun m ρ _ =>
    (θ_run _ _ _).mono (fun r h => ⟨fun c => (h c).2.2, Idealize.ShloMosaic.sem_eq_zero_of_no_sems (by decide) r.2⟩)
      (Cert.Reference9Ideal.Value.run m ρ),
  trivial, in_bwd, trivial, tail,
  IdealRules.named_const.statement Cert.Kernel3Ideal.κ "gelu_3a" .f32 0x3E095D4F#32 ((26829 / 200000 : ℝ) : EReal) rfl,
  Cert.Proof.Mixer.gated, trivial, in_proj,
  ⟨IdealRules.named_const.statement Cert.Kernel5Ideal.κ "gelu_a" .f32 0x3D372713#32 ((8943 / 200000 : ℝ) : EReal) rfl,
    IdealRules.named_const.statement Cert.Kernel5Ideal.κ "mask" .f32 0xF149F2CA#32 ⊥ rfl⟩,
  Cert.Proof.MixerFwd.forward, trivial, wgrad_ff2, trivial, wgrad_in, trivial, final_adamw, trivial, swap_sum⟩

end Cert.Proof

end
